-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_connectivity [hPre_connectivity : Cert.Pre_connectivity.Facts] (m : (ℓ : Loc Cert.KernelIdeal.nD Cert.KernelIdeal.τ Cert.KernelIdeal.sig) → Buf (Elt Ideal) ℓ) : Prop :=
  ∀ c : Dev Cert.KernelIdeal.nD,
    (Cert.Pre_connectivity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_connectivity [hPre_connectivity : Cert.Pre_connectivity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_connectivity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_connectivity [hKernelIdeal : Cert.KernelIdeal.Facts] [hPre_connectivity : Cert.Pre_connectivity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_connectivity m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_connectivity [hReferenceIdeal : Cert.ReferenceIdeal.Facts] [hPre_connectivity : Cert.Pre_connectivity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_connectivity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_connectivity [hKernelIdeal : Cert.KernelIdeal.Facts] [hReferenceIdeal : Cert.ReferenceIdeal.Facts] [hPre_connectivity : Cert.Pre_connectivity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_connectivity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts) (hPre_connectivity : Cert.Pre_connectivity.Facts),
    quiescent_Kernel (hKernel := hKernel) (hPre_in_range := hPre_in_range)
    ∧ quiescent_KernelIdeal (hKernelIdeal := hKernelIdeal) (hPre_in_range := hPre_in_range)
    ∧ quiescent_KernelIdeal_pre_connectivity (hKernelIdeal := hKernelIdeal) (hPre_connectivity := hPre_connectivity)
    ∧ quiescent_ReferenceIdeal (hReferenceIdeal := hReferenceIdeal)
    ∧ quiescent_ReferenceIdeal_pre_connectivity (hReferenceIdeal := hReferenceIdeal) (hPre_connectivity := hPre_connectivity)
    ∧ preserves_Kernel_KernelIdeal
    ∧ algebraic_KernelIdeal_ReferenceIdeal_pre_connectivity (hKernelIdeal := hKernelIdeal) (hReferenceIdeal := hReferenceIdeal) (hPre_connectivity := hPre_connectivity)
-- ==== Pre_connectivity.lean ====
abbrev S64x512 : Shape := ⟨2, ![64, 512]⟩
abbrev S800000 : Shape := ⟨1, ![800000]⟩
abbrev S200000 : Shape := ⟨1, ![200000]⟩
abbrev S50000 : Shape := ⟨1, ![50000]⟩
abbrev S12500 : Shape := ⟨1, ![12500]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S200000 : S_.BroadcastsInDim S200000 (![] : Fin 0 → Fin S200000.rank)
  reducesTo_S200000_S_d0 : S200000.ReducesTo [0] S_
  bcast_S_S50000 : S_.BroadcastsInDim S50000 (![] : Fin 0 → Fin S50000.rank)
  reducesTo_S50000_S_d0 : S50000.ReducesTo [0] S_
  bcast_S_S12500 : S_.BroadcastsInDim S12500 (![] : Fin 0 → Fin S12500.rank)
  reducesTo_S12500_S_d0 : S12500.ReducesTo [0] S_

variable [Facts]

def fn_part2 {F : FTy → Type} [FloatOps F] (main_arg8 : FVec F S50000 .f32) (main_arg10 : FVec F S50000 .f32) (main_arg12 : FVec F S12500 .f32) (main_v33 : IVec S_ 1) (main_v34 : IVec S50000 1) : IVec S_ 1 :=
  let main_c_12 : IVec S_ 1 := constantI S_ 1 1#1
  let main_v35 : IVec S_ 1 := (fun x v => Host.reduce IntOp.andi x v reducesTo_S50000_S_d0 h_S_) main_v34 main_c_12
  let main_v36 : IVec S_ 1 := andi main_v33 main_v35
  let main_cst : FVec F S_ .f32 := constant S_ .f32 0x00000000#32
  let main_v37 : FVec F S50000 .f32 := broadcastInDim S50000 ![] bcast_S_S50000 main_cst
  let main_v38 : IVec S50000 1 := cmpf .oeq main_arg8 main_v37
  let main_c_13 : IVec S_ 1 := constantI S_ 1 1#1
  let main_v39 : IVec S_ 1 := (fun x v => Host.reduce IntOp.andi x v reducesTo_S50000_S_d0 h_S_) main_v38 main_c_13
  let main_v40 : IVec S_ 1 := andi main_v36 main_v39
  let main_cst_14 : FVec F S_ .f32 := constant S_ .f32 0x00000000#32
  let main_v41 : FVec F S50000 .f32 := broadcastInDim S50000 ![] bcast_S_S50000 main_cst_14
  let main_v42 : IVec S50000 1 := cmpf .oeq main_arg10 main_v41
  let main_c_15 : IVec S_ 1 := constantI S_ 1 1#1
  let main_v43 : IVec S_ 1 := (fun x v => Host.reduce IntOp.andi x v reducesTo_S50000_S_d0 h_S_) main_v42 main_c_15
  let main_v44 : IVec S_ 1 := andi main_v40 main_v43
  let main_cst_16 : FVec F S_ .f32 := constant S_ .f32 0x00000000#32
  let main_v45 : FVec F S12500 .f32 := broadcastInDim S12500 ![] bcast_S_S12500 main_cst_16
  let main_v46 : IVec S12500 1 := cmpf .oeq main_arg12 main_v45
  let main_c_17 : IVec S_ 1 := constantI S_ 1 1#1
  let main_v47 : IVec S_ 1 := (fun x v => Host.reduce IntOp.andi x v reducesTo_S12500_S_d0 h_S_) main_v46 main_c_17
  let main_v48 : IVec S_ 1 := andi main_v44 main_v47
  main_v48

def fn_part1 {F : FTy → Type} [FloatOps F] (main_arg4 : IVec S200000 32) (main_arg5 : IVec S50000 32) (main_arg6 : IVec S50000 32) (main_arg8 : FVec F S50000 .f32) (main_arg10 : FVec F S50000 .f32) (main_arg12 : FVec F S12500 .f32) (main_v1 : IVec S200000 32) (main_v2 : IVec S50000 32) (main_v13 : IVec S_ 1) (main_v16 : IVec S200000 1) (main_c_5 : IVec S_ 1) : IVec S_ 1 :=
  let main_v17 : IVec S_ 1 := (fun x v => Host.reduce IntOp.andi x v reducesTo_S200000_S_d0 h_S_) main_v16 main_c_5
  let main_v18 : IVec S_ 1 := andi main_v13 main_v17
  let main_c_6 : IVec S_ 32 := constantI S_ 32 16#32
  let main_v19 : IVec S200000 32 := broadcastInDim S200000 ![] bcast_S_S200000 main_c_6
  let main_v20 : IVec S200000 32 := Host.divsi main_v1 main_v19
  let main_c_7 : IVec S_ 32 := constantI S_ 32 4#32
  let main_v21 : IVec S200000 32 := broadcastInDim S200000 ![] bcast_S_S200000 main_c_7
  let main_v22 : IVec S200000 32 := muli main_v20 main_v21
  let main_c_8 : IVec S_ 32 := constantI S_ 32 4#32
  let main_v23 : IVec S200000 32 := broadcastInDim S200000 ![] bcast_S_S200000 main_c_8
  let main_v24 : IVec S200000 32 := Host.remsi main_v1 main_v23
  let main_v25 : IVec S200000 32 := addi main_v22 main_v24
  let main_v26 : IVec S200000 1 := cmpi .eq main_arg4 main_v25
  let main_c_9 : IVec S_ 1 := constantI S_ 1 1#1
  let main_v27 : IVec S_ 1 := (fun x v => Host.reduce IntOp.andi x v reducesTo_S200000_S_d0 h_S_) main_v26 main_c_9
  let main_v28 : IVec S_ 1 := andi main_v18 main_v27
  let main_c_10 : IVec S_ 32 := constantI S_ 32 4#32
  let main_v29 : IVec S50000 32 := broadcastInDim S50000 ![] bcast_S_S50000 main_c_10
  let main_v30 : IVec S50000 32 := Host.divsi main_v2 main_v29
  let main_v31 : IVec S50000 1 := cmpi .eq main_arg5 main_v30
  let main_c_11 : IVec S_ 1 := constantI S_ 1 1#1
  let main_v32 : IVec S_ 1 := (fun x v => Host.reduce IntOp.andi x v reducesTo_S50000_S_d0 h_S_) main_v31 main_c_11
  let main_v33 : IVec S_ 1 := andi main_v28 main_v32
  let main_v34 : IVec S50000 1 := cmpi .eq main_arg6 main_v2
  fn_part2 (F := F) main_arg8 main_arg10 main_arg12 main_v33 main_v34

def fn {F : FTy → Type} [FloatOps F] (main_arg0 : FVec F S64x512 .f32) (main_arg1 : IVec S800000 32) (main_arg2 : IVec S800000 32) (main_arg3 : IVec S200000 32) (main_arg4 : IVec S200000 32) (main_arg5 : IVec S50000 32) (main_arg6 : IVec S50000 32) (main_arg7 : FVec F S800000 .f32) (main_arg8 : FVec F S50000 .f32) (main_arg9 : FVec F S200000 .f32) (main_arg10 : FVec F S50000 .f32) (main_arg11 : FVec F S50000 .f32) (main_arg12 : FVec F S12500 .f32) : IVec S_ 1 :=
  let main_v0 : IVec S800000 32 := iotaInDim S800000 32 0
  let main_v1 : IVec S200000 32 := iotaInDim S200000 32 0
  let main_v2 : IVec S50000 32 := iotaInDim S50000 32 0
  let main_c : IVec S_ 32 := constantI S_ 32 16#32
  let main_v3 : IVec S800000 32 := broadcastInDim S800000 ![] bcast_S_S800000 main_c
  let main_v4 : IVec S800000 32 := Host.divsi main_v0 main_v3
  let main_v5 : IVec S800000 1 := cmpi .eq main_arg1 main_v4
  let main_c_0 : IVec S_ 1 := constantI S_ 1 1#1
  let main_v6 : IVec S_ 1 := (fun x v => Host.reduce IntOp.andi x v reducesTo_S800000_S_d0 h_S_) main_v5 main_c_0
  let main_c_1 : IVec S_ 32 := constantI S_ 32 0#32
  let main_v7 : IVec S800000 32 := broadcastInDim S800000 ![] bcast_S_S800000 main_c_1
  let main_v8 : IVec S800000 1 := cmpi .sge main_arg2 main_v7
  let main_c_2 : IVec S_ 32 := constantI S_ 32 512#32
  let main_v9 : IVec S800000 32 := broadcastInDim S800000 ![] bcast_S_S800000 main_c_2
  let main_v10 : IVec S800000 1 := cmpi .slt main_arg2 main_v9
  let main_v11 : IVec S800000 1 := andi main_v8 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v6 main_v12
  let main_c_4 : IVec S_ 32 := constantI S_ 32 4#32
  let main_v14 : IVec S200000 32 := broadcastInDim S200000 ![] bcast_S_S200000 main_c_4
  let main_v15 : IVec S200000 32 := Host.divsi main_v1 main_v14
  let main_v16 : IVec S200000 1 := cmpi .eq main_arg3 main_v15
  let main_c_5 : IVec S_ 1 := constantI S_ 1 1#1
  fn_part1 (F := F) main_arg4 main_arg5 main_arg6 main_arg8 main_arg10 main_arg12 main_v1 main_v2 main_v13 main_v16 main_c_5
-- ==== Pre_in_range.lean ====
abbrev S64x512 : Shape := ⟨2, ![64, 512]⟩
abbrev S800000 : Shape := ⟨1, ![800000]⟩
abbrev S200000 : Shape := ⟨1, ![200000]⟩
abbrev S50000 : Shape := ⟨1, ![50000]⟩
abbrev S12500 : Shape := ⟨1, ![12500]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel

variable [Facts]

def fn {F : FTy → Type} [FloatOps F] (main_arg0 : FVec F S64x512 .f32) (main_arg1 : IVec S800000 32) (main_arg2 : IVec S800000 32) (main_arg3 : IVec S200000 32) (main_arg4 : IVec S200000 32) (main_arg5 : IVec S50000 32) (main_arg6 : IVec S50000 32) (main_arg7 : FVec F S800000 .f32) (main_arg8 : FVec F S50000 .f32) (main_arg9 : FVec F S200000 .f32) (main_arg10 : FVec F S50000 .f32) (main_arg11 : FVec F S50000 .f32) (main_arg12 : FVec F S12500 .f32) : IVec S_ 1 :=
  let main_c : IVec S_ 32 := constantI S_ 32 0#32
  let main_v0 : IVec S800000 32 := broadcastInDim S800000 ![] bcast_S_S800000 main_c
  let main_v1 : IVec S800000 1 := cmpi .sge main_arg2 main_v0
  let main_c_0 : IVec S_ 32 := constantI S_ 32 512#32
  let main_v2 : IVec S800000 32 := broadcastInDim S800000 ![] bcast_S_S800000 main_c_0
  let main_v3 : IVec S800000 1 := cmpi .slt main_arg2 main_v2
  let main_v4 : IVec S800000 1 := andi main_v1 main_v3
  let main_c_1 : IVec S_ 1 := constantI S_ 1 1#1
  let main_v5 : IVec S_ 1 := (fun x v => Host.reduce IntOp.andi x v reducesTo_S800000_S_d0 h_S_) main_v4 main_c_1
  main_v5
-- ==== Kernel.lean ====
abbrev S64x512 : Shape := ⟨2, ![64, 512]⟩
abbrev S800000 : Shape := ⟨1, ![800000]⟩
abbrev S200000 : Shape := ⟨1, ![200000]⟩
abbrev S50000 : Shape := ⟨1, ![50000]⟩
abbrev S12500 : Shape := ⟨1, ![12500]⟩
abbrev S512x64 : Shape := ⟨2, ![512, 64]⟩
abbrev S_ : Shape := ⟨0, ![]⟩
abbrev S50016 : Shape := ⟨1, ![50016]⟩
abbrev S12500x64 : Shape := ⟨2, ![12500, 64]⟩
abbrev S25088 : Shape := ⟨1, ![25088]⟩
abbrev S6288 : Shape := ⟨1, ![6288]⟩
abbrev S1584 : Shape := ⟨1, ![1584]⟩
abbrev S393x64 : Shape := ⟨2, ![393, 64]⟩
abbrev S2x16x16 : Shape := ⟨3, ![2, 16, 16]⟩
abbrev S12544 : Shape := ⟨1, ![12544]⟩
abbrev S6272 : Shape := ⟨1, ![6272]⟩
abbrev S1x1x16 : Shape := ⟨3, ![1, 1, 16]⟩
abbrev S16 : Shape := ⟨1, ![16]⟩
abbrev S1 : Shape := ⟨1, ![1]⟩
abbrev S1x16 : Shape := ⟨2, ![1, 16]⟩
abbrev S392x64 : Shape := ⟨2, ![392, 64]⟩
abbrev S64x12500 : Shape := ⟨2, ![64, 12500]⟩

abbrev nBuf : Table → Nat
  | .hbm => 19
  | .local .scVector .vmem => 7
  | _ => 0

abbrev bufTy : (tb : Table) → Fin (nBuf tb) → BufTy
  | .hbm, ⟨0, _⟩ => ⟨S64x512, .f32⟩
  | .hbm, ⟨1, _⟩ => ⟨S800000, .i32⟩
  | .hbm, ⟨2, _⟩ => ⟨S800000, .i32⟩
  | .hbm, ⟨3, _⟩ => ⟨S200000, .i32⟩
  | .hbm, ⟨4, _⟩ => ⟨S200000, .i32⟩
  | .hbm, ⟨5, _⟩ => ⟨S50000, .i32⟩
  | .hbm, ⟨6, _⟩ => ⟨S50000, .i32⟩
  | .hbm, ⟨7, _⟩ => ⟨S800000, .f32⟩
  | .hbm, ⟨8, _⟩ => ⟨S50000, .f32⟩
  | .hbm, ⟨9, _⟩ => ⟨S200000, .f32⟩
  | .hbm, ⟨10, _⟩ => ⟨S50000, .f32⟩
  | .hbm, ⟨11, _⟩ => ⟨S50000, .f32⟩
  | .hbm, ⟨12, _⟩ => ⟨S12500, .f32⟩
  | .hbm, ⟨13, _⟩ => ⟨S512x64, .f32⟩
  | .hbm, ⟨14, _⟩ => ⟨S_, .i32⟩
  | .hbm, ⟨15, _⟩ => ⟨S_, .f32⟩
  | .hbm, ⟨16, _⟩ => ⟨S50016, .f32⟩
  | .hbm, ⟨17, _⟩ => ⟨S12500x64, .f32⟩
  | .hbm, ⟨18, _⟩ => ⟨S64x12500, .f32⟩
  | .local .scVector .vmem, ⟨0, _⟩ => ⟨S512x64, .f32⟩
  | .local .scVector .vmem, ⟨1, _⟩ => ⟨S25088, .i32⟩
  | .local .scVector .vmem, ⟨2, _⟩ => ⟨S25088, .f32⟩
  | .local .scVector .vmem, ⟨3, _⟩ => ⟨S6288, .f32⟩
  | .local .scVector .vmem, ⟨4, _⟩ => ⟨S1584, .f32⟩
  | .local .scVector .vmem, ⟨5, _⟩ => ⟨S393x64, .f32⟩
  | .local .scVector .vmem, ⟨6, _⟩ => ⟨S2x16x16, .f32⟩
  | _, _ => ⟨S64x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v0_scv : Ref sig .scVector := ⟨.hbm, 13, rfl⟩
abbrev main_arg2_scv : Ref sig .scVector := ⟨.hbm, 2, rfl⟩
abbrev main_arg7_scv : Ref sig .scVector := ⟨.hbm, 7, rfl⟩
abbrev main_arg9_scv : Ref sig .scVector := ⟨.hbm, 9, rfl⟩
abbrev main_v1_scv : Ref sig .scVector := ⟨.hbm, 16, rfl⟩
abbrev main_v2_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6250_i32 : BitVec 32 := 6250#32
  let v2 : BitVec 32 := Scalar.muli v1 c6250_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v20 : BitVec 32 := Scalar.muli c2_i32_4 v19
  let c4_i32 : BitVec 32 := 4#32
  let v21 : BitVec 32 := Scalar.muli v20 c4_i32
  let c16_i32 : BitVec 32 := 16#32
  let v22 : BitVec 32 := Scalar.muli v21 c16_i32
  ![v22.toNat]
def k0_off2 (i : grid0.Coords) : Fin 1 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6250_i32 : BitVec 32 := 6250#32
  let v2 : BitVec 32 := Scalar.muli v1 c6250_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v20 : BitVec 32 := Scalar.muli c2_i32_4 v19
  let c4_i32_9 : BitVec 32 := 4#32
  let v31 : BitVec 32 := Scalar.muli v20 c4_i32_9
  let c4_i32_10 : BitVec 32 := 4#32
  let v32 : BitVec 32 := Scalar.muli v31 c4_i32_10
  ![v32.toNat]
def k0_off3 (i : grid0.Coords) : Fin 1 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6250_i32 : BitVec 32 := 6250#32
  let v2 : BitVec 32 := Scalar.muli v1 c6250_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v20 : BitVec 32 := Scalar.muli c2_i32_4 v19
  let c4_i32 : BitVec 32 := 4#32
  let v21 : BitVec 32 := Scalar.muli v20 c4_i32
  ![v21.toNat]
def k0_off4 (i : grid0.Coords) : Fin 1 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6250_i32 : BitVec 32 := 6250#32
  let v2 : BitVec 32 := Scalar.muli v1 c6250_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v20 : BitVec 32 := Scalar.muli c2_i32_4 v19
  let c4_i32 : BitVec 32 := 4#32
  let v21 : BitVec 32 := Scalar.muli v20 c4_i32
  let c16_i32 : BitVec 32 := 16#32
  let v22 : BitVec 32 := Scalar.muli v21 c16_i32
  let c12544_i32 : BitVec 32 := 12544#32
  let v39 : BitVec 32 := Scalar.addi v22 c12544_i32
  ![v39.toNat]
@[reducible] def k0_t1_loop : Scf.Loop 32 :=
  let c0_i32_25 : BitVec 32 := 0#32
  let c196_i32 : BitVec 32 := 196#32
  let v63 : BitVec 32 := Scalar.addi c0_i32_25 c196_i32
  let c1_i32_26 : BitVec 32 := 1#32
  ⟨c0_i32_25, v63, c1_i32_26⟩
def k0_off5 (k0_t1 : Fin k0_t1_loop.trips) : Fin 3 → Nat :=
  let c1_i32_108 : BitVec 32 := 1#32
  let c0_i32_25 : BitVec 32 := 0#32
  let c1_i32_26 : BitVec 32 := 1#32
  let arg20 : BitVec 32 := Scf.iv c0_i32_25 c1_i32_26 k0_t1
  let c1_i32_107 : BitVec 32 := 1#32
  let v503 : BitVec 32 := Scalar.andi arg20 c1_i32_107
  let v504 : BitVec 32 := Scalar.subi c1_i32_108 v503
  let v505 : Index := Scalar.indexCast v504
  let c0_i32_109 : BitVec 32 := 0#32
  let v506 : Index := Scalar.indexCast c0_i32_109
  let c0_110 : Index := 0#32
  ![v505.toNat, 0, 0]
def k0_off6 (k0_t1 : Fin k0_t1_loop.trips) : Fin 3 → Nat :=
  let c1_i32_112 : BitVec 32 := 1#32
  let c0_i32_25 : BitVec 32 := 0#32
  let c1_i32_26 : BitVec 32 := 1#32
  let arg20 : BitVec 32 := Scf.iv c0_i32_25 c1_i32_26 k0_t1
  let c1_i32_111 : BitVec 32 := 1#32
  let v509 : BitVec 32 := Scalar.andi arg20 c1_i32_111
  let v510 : BitVec 32 := Scalar.subi c1_i32_112 v509
  let v511 : Index := Scalar.indexCast v510
  let c1_i32_113 : BitVec 32 := 1#32
  let v512 : Index := Scalar.indexCast c1_i32_113
  let c0_114 : Index := 0#32
  ![v511.toNat, 1, 0]
def k0_off7 (k0_t1 : Fin k0_t1_loop.trips) : Fin 3 → Nat :=
  let c1_i32_116 : BitVec 32 := 1#32
  let c0_i32_25 : BitVec 32 := 0#32
  let c1_i32_26 : BitVec 32 := 1#32
  let arg20 : BitVec 32 := Scf.iv c0_i32_25 c1_i32_26 k0_t1
  let c1_i32_115 : BitVec 32 := 1#32
  let v515 : BitVec 32 := Scalar.andi arg20 c1_i32_115
  let v516 : BitVec 32 := Scalar.subi c1_i32_116 v515
  let v517 : Index := Scalar.indexCast v516
  let c2_i32_117 : BitVec 32 := 2#32
  let v518 : Index := Scalar.indexCast c2_i32_117
  let c0_118 : Index := 0#32
  ![v517.toNat, 2, 0]
def k0_off8 (k0_t1 : Fin k0_t1_loop.trips) : Fin 3 → Nat :=
  let c1_i32_120 : BitVec 32 := 1#32
  let c0_i32_25 : BitVec 32 := 0#32
  let c1_i32_26 : BitVec 32 := 1#32
  let arg20 : BitVec 32 := Scf.iv c0_i32_25 c1_i32_26 k0_t1
  let c1_i32_119 : BitVec 32 := 1#32
  let v521 : BitVec 32 := Scalar.andi arg20 c1_i32_119
  let v522 : BitVec 32 := Scalar.subi c1_i32_120 v521
  let v523 : Index := Scalar.indexCast v522
  let c3_i32_121 : BitVec 32 := 3#32
  let v524 : Index := Scalar.indexCast c3_i32_121
  let c0_122 : Index := 0#32
  ![v523.toNat, 3, 0]
def k0_off9 (k0_t1 : Fin k0_t1_loop.trips) : Fin 3 → Nat :=
  let c1_i32_124 : BitVec 32 := 1#32
  let c0_i32_25 : BitVec 32 := 0#32
  let c1_i32_26 : BitVec 32 := 1#32
  let arg20 : BitVec 32 := Scf.iv c0_i32_25 c1_i32_26 k0_t1
  let c1_i32_123 : BitVec 32 := 1#32
  let v527 : BitVec 32 := Scalar.andi arg20 c1_i32_123
  let v528 : BitVec 32 := Scalar.subi c1_i32_124 v527
  let v529 : Index := Scalar.indexCast v528
  let c4_i32_125 : BitVec 32 := 4#32
  let v530 : Index := Scalar.indexCast c4_i32_125
  let c0_126 : Index := 0#32
  ![v529.toNat, 4, 0]
def k0_off10 (k0_t1 : Fin k0_t1_loop.trips) : Fin 3 → Nat :=
  let c1_i32_128 : BitVec 32 := 1#32
  let c0_i32_25 : BitVec 32 := 0#32
  let c1_i32_26 : BitVec 32 := 1#32
  let arg20 : BitVec 32 := Scf.iv c0_i32_25 c1_i32_26 k0_t1
  let c1_i32_127 : BitVec 32 := 1#32
  let v533 : BitVec 32 := Scalar.andi arg20 c1_i32_127
  let v534 : BitVec 32 := Scalar.subi c1_i32_128 v533
  let v535 : Index := Scalar.indexCast v534
  let c5_i32_129 : BitVec 32 := 5#32
  let v536 : Index := Scalar.indexCast c5_i32_129
  let c0_130 : Index := 0#32
  ![v535.toNat, 5, 0]
def k0_off11 (k0_t1 : Fin k0_t1_loop.trips) : Fin 3 → Nat :=
  let c1_i32_132 : BitVec 32 := 1#32
  let c0_i32_25 : BitVec 32 := 0#32
  let c1_i32_26 : BitVec 32 := 1#32
  let arg20 : BitVec 32 := Scf.iv c0_i32_25 c1_i32_26 k0_t1
  let c1_i32_131 : BitVec 32 := 1#32
  let v539 : BitVec 32 := Scalar.andi arg20 c1_i32_131
  let v540 : BitVec 32 := Scalar.subi c1_i32_132 v539
  let v541 : Index := Scalar.indexCast v540
  let c6_i32_133 : BitVec 32 := 6#32
  let v542 : Index := Scalar.indexCast c6_i32_133
  let c0_134 : Index := 0#32
  ![v541.toNat, 6, 0]
def k0_off12 (k0_t1 : Fin k0_t1_loop.trips) : Fin 3 → Nat :=
  let c1_i32_136 : BitVec 32 := 1#32
  let c0_i32_25 : BitVec 32 := 0#32
  let c1_i32_26 : BitVec 32 := 1#32
  let arg20 : BitVec 32 := Scf.iv c0_i32_25 c1_i32_26 k0_t1
  let c1_i32_135 : BitVec 32 := 1#32
  let v545 : BitVec 32 := Scalar.andi arg20 c1_i32_135
  let v546 : BitVec 32 := Scalar.subi c1_i32_136 v545
  let v547 : Index := Scalar.indexCast v546
  let c7_i32_137 : BitVec 32 := 7#32
  let v548 : Index := Scalar.indexCast c7_i32_137
  let c0_138 : Index := 0#32
  ![v547.toNat, 7, 0]
def k0_off13 (k0_t1 : Fin k0_t1_loop.trips) : Fin 3 → Nat :=
  let c1_i32_140 : BitVec 32 := 1#32
  let c0_i32_25 : BitVec 32 := 0#32
  let c1_i32_26 : BitVec 32 := 1#32
  let arg20 : BitVec 32 := Scf.iv c0_i32_25 c1_i32_26 k0_t1
  let c1_i32_139 : BitVec 32 := 1#32
  let v551 : BitVec 32 := Scalar.andi arg20 c1_i32_139
  let v552 : BitVec 32 := Scalar.subi c1_i32_140 v551
  let v553 : Index := Scalar.indexCast v552
  let c8_i32_141 : BitVec 32 := 8#32
  let v554 : Index := Scalar.indexCast c8_i32_141
  let c0_142 : Index := 0#32
  ![v553.toNat, 8, 0]
def k0_off14 (k0_t1 : Fin k0_t1_loop.trips) : Fin 3 → Nat :=
  let c1_i32_144 : BitVec 32 := 1#32
  let c0_i32_25 : BitVec 32 := 0#32
  let c1_i32_26 : BitVec 32 := 1#32
  let arg20 : BitVec 32 := Scf.iv c0_i32_25 c1_i32_26 k0_t1
  let c1_i32_143 : BitVec 32 := 1#32
  let v557 : BitVec 32 := Scalar.andi arg20 c1_i32_143
  let v558 : BitVec 32 := Scalar.subi c1_i32_144 v557
  let v559 : Index := Scalar.indexCast v558
  let c9_i32_145 : BitVec 32 := 9#32
  let v560 : Index := Scalar.indexCast c9_i32_145
  let c0_146 : Index := 0#32
  ![v559.toNat, 9, 0]
def k0_off15 (k0_t1 : Fin k0_t1_loop.trips) : Fin 3 → Nat :=
  let c1_i32_148 : BitVec 32 := 1#32
  let c0_i32_25 : BitVec 32 := 0#32
  let c1_i32_26 : BitVec 32 := 1#32
  let arg20 : BitVec 32 := Scf.iv c0_i32_25 c1_i32_26 k0_t1
  let c1_i32_147 : BitVec 32 := 1#32
  let v563 : BitVec 32 := Scalar.andi arg20 c1_i32_147
  let v564 : BitVec 32 := Scalar.subi c1_i32_148 v563
  let v565 : Index := Scalar.indexCast v564
  let c10_i32_149 : BitVec 32 := 10#32
  let v566 : Index := Scalar.indexCast c10_i32_149
  let c0_150 : Index := 0#32
  ![v565.toNat, 10, 0]
def k0_off16 (k0_t1 : Fin k0_t1_loop.trips) : Fin 3 → Nat :=
  let c1_i32_152 : BitVec 32 := 1#32
  let c0_i32_25 : BitVec 32 := 0#32
  let c1_i32_26 : BitVec 32 := 1#32
  let arg20 : BitVec 32 := Scf.iv c0_i32_25 c1_i32_26 k0_t1
  let c1_i32_151 : BitVec 32 := 1#32
  let v569 : BitVec 32 := Scalar.andi arg20 c1_i32_151
  let v570 : BitVec 32 := Scalar.subi c1_i32_152 v569
  let v571 : Index := Scalar.indexCast v570
  let c11_i32_153 : BitVec 32 := 11#32
  let v572 : Index := Scalar.indexCast c11_i32_153
  let c0_154 : Index := 0#32
  ![v571.toNat, 11, 0]
def k0_off17 (k0_t1 : Fin k0_t1_loop.trips) : Fin 3 → Nat :=
  let c1_i32_156 : BitVec 32 := 1#32
  let c0_i32_25 : BitVec 32 := 0#32
  let c1_i32_26 : BitVec 32 := 1#32
  let arg20 : BitVec 32 := Scf.iv c0_i32_25 c1_i32_26 k0_t1
  let c1_i32_155 : BitVec 32 := 1#32
  let v575 : BitVec 32 := Scalar.andi arg20 c1_i32_155
  let v576 : BitVec 32 := Scalar.subi c1_i32_156 v575
  let v577 : Index := Scalar.indexCast v576
  let c12_i32_157 : BitVec 32 := 12#32
  let v578 : Index := Scalar.indexCast c12_i32_157
  let c0_158 : Index := 0#32
  ![v577.toNat, 12, 0]
def k0_off18 (k0_t1 : Fin k0_t1_loop.trips) : Fin 3 → Nat :=
  let c1_i32_160 : BitVec 32 := 1#32
  let c0_i32_25 : BitVec 32 := 0#32
  let c1_i32_26 : BitVec 32 := 1#32
  let arg20 : BitVec 32 := Scf.iv c0_i32_25 c1_i32_26 k0_t1
  let c1_i32_159 : BitVec 32 := 1#32
  let v581 : BitVec 32 := Scalar.andi arg20 c1_i32_159
  let v582 : BitVec 32 := Scalar.subi c1_i32_160 v581
  let v583 : Index := Scalar.indexCast v582
  let c13_i32_161 : BitVec 32 := 13#32
  let v584 : Index := Scalar.indexCast c13_i32_161
  let c0_162 : Index := 0#32
  ![v583.toNat, 13, 0]
def k0_off19 (k0_t1 : Fin k0_t1_loop.trips) : Fin 3 → Nat :=
  let c1_i32_164 : BitVec 32 := 1#32
  let c0_i32_25 : BitVec 32 := 0#32
  let c1_i32_26 : BitVec 32 := 1#32
  let arg20 : BitVec 32 := Scf.iv c0_i32_25 c1_i32_26 k0_t1
  let c1_i32_163 : BitVec 32 := 1#32
  let v587 : BitVec 32 := Scalar.andi arg20 c1_i32_163
  let v588 : BitVec 32 := Scalar.subi c1_i32_164 v587
  let v589 : Index := Scalar.indexCast v588
  let c14_i32_165 : BitVec 32 := 14#32
  let v590 : Index := Scalar.indexCast c14_i32_165
  let c0_166 : Index := 0#32
  ![v589.toNat, 14, 0]
def k0_off20 (k0_t1 : Fin k0_t1_loop.trips) : Fin 3 → Nat :=
  let c1_i32_168 : BitVec 32 := 1#32
  let c0_i32_25 : BitVec 32 := 0#32
  let c1_i32_26 : BitVec 32 := 1#32
  let arg20 : BitVec 32 := Scf.iv c0_i32_25 c1_i32_26 k0_t1
  let c1_i32_167 : BitVec 32 := 1#32
  let v593 : BitVec 32 := Scalar.andi arg20 c1_i32_167
  let v594 : BitVec 32 := Scalar.subi c1_i32_168 v593
  let v595 : Index := Scalar.indexCast v594
  let c15_i32_169 : BitVec 32 := 15#32
  let v596 : Index := Scalar.indexCast c15_i32_169
  let c0_170 : Index := 0#32
  ![v595.toNat, 15, 0]
def k0_off21 (k0_t1 : Fin k0_t1_loop.trips) : Fin 1 → Nat :=
  let c0_i32_25 : BitVec 32 := 0#32
  let c1_i32_26 : BitVec 32 := 1#32
  let arg20 : BitVec 32 := Scf.iv c0_i32_25 c1_i32_26 k0_t1
  let c16_i32_171 : BitVec 32 := 16#32
  let v599 : BitVec 32 := Scalar.muli arg20 c16_i32_171
  let v600 : Index := Scalar.indexCast v599
  ![v600.toNat]
def k0_off22 (k0_t1 : Fin k0_t1_loop.trips) : Fin 1 → Nat :=
  let c0_i32_25 : BitVec 32 := 0#32
  let c1_i32_26 : BitVec 32 := 1#32
  let arg20 : BitVec 32 := Scf.iv c0_i32_25 c1_i32_26 k0_t1
  let c4_i32_172 : BitVec 32 := 4#32
  let v603 : BitVec 32 := Scalar.muli arg20 c4_i32_172
  let v604 : Index := Scalar.indexCast v603
  ![v604.toNat]
def k0_off23 (k0_t1 : Fin k0_t1_loop.trips) : Fin 2 → Nat :=
  let c0_i32_25 : BitVec 32 := 0#32
  let c1_i32_26 : BitVec 32 := 1#32
  let arg20 : BitVec 32 := Scf.iv c0_i32_25 c1_i32_26 k0_t1
  let v915 : Index := Scalar.indexCast arg20
  let c0_189 : Index := 0#32
  ![v915.toNat, 0]
def k0_off24 (k0_t1 : Fin k0_t1_loop.trips) : Fin 2 → Nat :=
  let c0_i32_25 : BitVec 32 := 0#32
  let c1_i32_26 : BitVec 32 := 1#32
  let arg20 : BitVec 32 := Scf.iv c0_i32_25 c1_i32_26 k0_t1
  let v919 : Index := Scalar.indexCast arg20
  let c16_190 : Index := 16#32
  ![v919.toNat, 16]
def k0_off25 (k0_t1 : Fin k0_t1_loop.trips) : Fin 2 → Nat :=
  let c0_i32_25 : BitVec 32 := 0#32
  let c1_i32_26 : BitVec 32 := 1#32
  let arg20 : BitVec 32 := Scf.iv c0_i32_25 c1_i32_26 k0_t1
  let v923 : Index := Scalar.indexCast arg20
  let c32_191 : Index := 32#32
  ![v923.toNat, 32]
def k0_off26 (k0_t1 : Fin k0_t1_loop.trips) : Fin 2 → Nat :=
  let c0_i32_25 : BitVec 32 := 0#32
  let c1_i32_26 : BitVec 32 := 1#32
  let arg20 : BitVec 32 := Scf.iv c0_i32_25 c1_i32_26 k0_t1
  let v927 : Index := Scalar.indexCast arg20
  let c48_192 : Index := 48#32
  ![v927.toNat, 48]
def k0_off27 (k0_t1 : Fin k0_t1_loop.trips) : Fin 1 → Nat :=
  let c0_i32_25 : BitVec 32 := 0#32
  let c1_i32_26 : BitVec 32 := 1#32
  let arg20 : BitVec 32 := Scf.iv c0_i32_25 c1_i32_26 k0_t1
  let c4_i32_193 : BitVec 32 := 4#32
  let v931 : BitVec 32 := Scalar.muli arg20 c4_i32_193
  let c0_i32_194 : BitVec 32 := 0#32
  let v932 : BitVec 32 := Scalar.addi v931 c0_i32_194
  let c16_i32_195 : BitVec 32 := 16#32
  let v933 : BitVec 32 := Scalar.muli v932 c16_i32_195
  let v934 : Index := Scalar.indexCast v933
  ![v934.toNat]
def k0_off28 (v941 : BitVec 32) : Fin 2 → Nat :=
  let v944 : Index := Scalar.indexCast v941
  let c0_196 : Index := 0#32
  ![v944.toNat, 0]

def k0_off29 (v941 : BitVec 32) : Fin 2 → Nat :=
  let v949 : Index := Scalar.indexCast v941
  let c16_197 : Index := 16#32
  ![v949.toNat, 16]
def k0_off30 (v941 : BitVec 32) : Fin 2 → Nat :=
  let v954 : Index := Scalar.indexCast v941
  let c32_198 : Index := 32#32
  ![v954.toNat, 32]
def k0_off31 (v941 : BitVec 32) : Fin 2 → Nat :=
  let v959 : Index := Scalar.indexCast v941
  let c48_199 : Index := 48#32
  ![v959.toNat, 48]

def k0_chk1 (v941 : BitVec 32) : Prop :=
  (∀ a, (k0_off28 v941) a + S1x16.size a ≤ S512x64.size a) ∧
  (∀ a, (k0_off29 v941) a + S1x16.size a ≤ S512x64.size a) ∧
  (∀ a, (k0_off30 v941) a + S1x16.size a ≤ S512x64.size a) ∧
  (∀ a, (k0_off31 v941) a + S1x16.size a ≤ S512x64.size a)
theorem k0_off28_inb : ∀ (v941 : BitVec 32) (k0_hw1 : k0_chk1 v941), ∀ a, (k0_off28 v941) a + S1x16.size a ≤ S512x64.size a := fun v941 k0_hw1 => k0_hw1.1
theorem k0_off29_inb : ∀ (v941 : BitVec 32) (k0_hw1 : k0_chk1 v941), ∀ a, (k0_off29 v941) a + S1x16.size a ≤ S512x64.size a := fun v941 k0_hw1 => k0_hw1.2.1
theorem k0_off30_inb : ∀ (v941 : BitVec 32) (k0_hw1 : k0_chk1 v941), ∀ a, (k0_off30 v941) a + S1x16.size a ≤ S512x64.size a := fun v941 k0_hw1 => k0_hw1.2.2.1
theorem k0_off31_inb : ∀ (v941 : BitVec 32) (k0_hw1 : k0_chk1 v941), ∀ a, (k0_off31 v941) a + S1x16.size a ≤ S512x64.size a := fun v941 k0_hw1 => k0_hw1.2.2.2

def k0_off32 (v965 : BitVec 32) : Fin 2 → Nat :=
  let v968 : Index := Scalar.indexCast v965
  let c0_200 : Index := 0#32
  ![v968.toNat, 0]

def k0_off33 (v965 : BitVec 32) : Fin 2 → Nat :=
  let v973 : Index := Scalar.indexCast v965
  let c16_201 : Index := 16#32
  ![v973.toNat, 16]
def k0_off34 (v965 : BitVec 32) : Fin 2 → Nat :=
  let v978 : Index := Scalar.indexCast v965
  let c32_202 : Index := 32#32
  ![v978.toNat, 32]
def k0_off35 (v965 : BitVec 32) : Fin 2 → Nat :=
  let v983 : Index := Scalar.indexCast v965
  let c48_203 : Index := 48#32
  ![v983.toNat, 48]

def k0_chk2 (v965 : BitVec 32) : Prop :=
  (∀ a, (k0_off32 v965) a + S1x16.size a ≤ S512x64.size a) ∧
  (∀ a, (k0_off33 v965) a + S1x16.size a ≤ S512x64.size a) ∧
  (∀ a, (k0_off34 v965) a + S1x16.size a ≤ S512x64.size a) ∧
  (∀ a, (k0_off35 v965) a + S1x16.size a ≤ S512x64.size a)
theorem k0_off32_inb : ∀ (v965 : BitVec 32) (k0_hw2 : k0_chk2 v965), ∀ a, (k0_off32 v965) a + S1x16.size a ≤ S512x64.size a := fun v965 k0_hw2 => k0_hw2.1
theorem k0_off33_inb : ∀ (v965 : BitVec 32) (k0_hw2 : k0_chk2 v965), ∀ a, (k0_off33 v965) a + S1x16.size a ≤ S512x64.size a := fun v965 k0_hw2 => k0_hw2.2.1
theorem k0_off34_inb : ∀ (v965 : BitVec 32) (k0_hw2 : k0_chk2 v965), ∀ a, (k0_off34 v965) a + S1x16.size a ≤ S512x64.size a := fun v965 k0_hw2 => k0_hw2.2.2.1
theorem k0_off35_inb : ∀ (v965 : BitVec 32) (k0_hw2 : k0_chk2 v965), ∀ a, (k0_off35 v965) a + S1x16.size a ≤ S512x64.size a := fun v965 k0_hw2 => k0_hw2.2.2.2

def k0_off36 (v989 : BitVec 32) : Fin 2 → Nat :=
  let v992 : Index := Scalar.indexCast v989
  let c0_204 : Index := 0#32
  ![v992.toNat, 0]

def k0_off37 (v989 : BitVec 32) : Fin 2 → Nat :=
  let v998 : Index := Scalar.indexCast v989
  let c16_205 : Index := 16#32
  ![v998.toNat, 16]
def k0_off38 (v989 : BitVec 32) : Fin 2 → Nat :=
  let v1004 : Index := Scalar.indexCast v989
  let c32_206 : Index := 32#32
  ![v1004.toNat, 32]
def k0_off39 (v989 : BitVec 32) : Fin 2 → Nat :=
  let v1010 : Index := Scalar.indexCast v989
  let c48_207 : Index := 48#32
  ![v1010.toNat, 48]

def k0_chk3 (v989 : BitVec 32) : Prop :=
  (∀ a, (k0_off36 v989) a + S1x16.size a ≤ S512x64.size a) ∧
  (∀ a, (k0_off37 v989) a + S1x16.size a ≤ S512x64.size a) ∧
  (∀ a, (k0_off38 v989) a + S1x16.size a ≤ S512x64.size a) ∧
  (∀ a, (k0_off39 v989) a + S1x16.size a ≤ S512x64.size a)
theorem k0_off36_inb : ∀ (v989 : BitVec 32) (k0_hw3 : k0_chk3 v989), ∀ a, (k0_off36 v989) a + S1x16.size a ≤ S512x64.size a := fun v989 k0_hw3 => k0_hw3.1
theorem k0_off37_inb : ∀ (v989 : BitVec 32) (k0_hw3 : k0_chk3 v989), ∀ a, (k0_off37 v989) a + S1x16.size a ≤ S512x64.size a := fun v989 k0_hw3 => k0_hw3.2.1
theorem k0_off38_inb : ∀ (v989 : BitVec 32) (k0_hw3 : k0_chk3 v989), ∀ a, (k0_off38 v989) a + S1x16.size a ≤ S512x64.size a := fun v989 k0_hw3 => k0_hw3.2.2.1
theorem k0_off39_inb : ∀ (v989 : BitVec 32) (k0_hw3 : k0_chk3 v989), ∀ a, (k0_off39 v989) a + S1x16.size a ≤ S512x64.size a := fun v989 k0_hw3 => k0_hw3.2.2.2

def k0_off40 (v1017 : BitVec 32) : Fin 2 → Nat :=
  let v1020 : Index := Scalar.indexCast v1017
  let c0_208 : Index := 0#32
  ![v1020.toNat, 0]

def k0_off41 (v1017 : BitVec 32) : Fin 2 → Nat :=
  let v1026 : Index := Scalar.indexCast v1017
  let c16_209 : Index := 16#32
  ![v1026.toNat, 16]
def k0_off42 (v1017 : BitVec 32) : Fin 2 → Nat :=
  let v1032 : Index := Scalar.indexCast v1017
  let c32_210 : Index := 32#32
  ![v1032.toNat, 32]
def k0_off43 (v1017 : BitVec 32) : Fin 2 → Nat :=
  let v1038 : Index := Scalar.indexCast v1017
  let c48_211 : Index := 48#32
  ![v1038.toNat, 48]

def k0_chk4 (v1017 : BitVec 32) : Prop :=
  (∀ a, (k0_off40 v1017) a + S1x16.size a ≤ S512x64.size a) ∧
  (∀ a, (k0_off41 v1017) a + S1x16.size a ≤ S512x64.size a) ∧
  (∀ a, (k0_off42 v1017) a + S1x16.size a ≤ S512x64.size a) ∧
  (∀ a, (k0_off43 v1017) a + S1x16.size a ≤ S512x64.size a)
theorem k0_off40_inb : ∀ (v1017 : BitVec 32) (k0_hw4 : k0_chk4 v1017), ∀ a, (k0_off40 v1017) a + S1x16.size a ≤ S512x64.size a := fun v1017 k0_hw4 => k0_hw4.1
theorem k0_off41_inb : ∀ (v1017 : BitVec 32) (k0_hw4 : k0_chk4 v1017), ∀ a, (k0_off41 v1017) a + S1x16.size a ≤ S512x64.size a := fun v1017 k0_hw4 => k0_hw4.2.1
theorem k0_off42_inb : ∀ (v1017 : BitVec 32) (k0_hw4 : k0_chk4 v1017), ∀ a, (k0_off42 v1017) a + S1x16.size a ≤ S512x64.size a := fun v1017 k0_hw4 => k0_hw4.2.2.1
theorem k0_off43_inb : ∀ (v1017 : BitVec 32) (k0_hw4 : k0_chk4 v1017), ∀ a, (k0_off43 v1017) a + S1x16.size a ≤ S512x64.size a := fun v1017 k0_hw4 => k0_hw4.2.2.2

def k0_off44 (v1045 : BitVec 32) : Fin 2 → Nat :=
  let v1048 : Index := Scalar.indexCast v1045
  let c0_212 : Index := 0#32
  ![v1048.toNat, 0]

def k0_off45 (v1045 : BitVec 32) : Fin 2 → Nat :=
  let v1054 : Index := Scalar.indexCast v1045
  let c16_213 : Index := 16#32
  ![v1054.toNat, 16]
def k0_off46 (v1045 : BitVec 32) : Fin 2 → Nat :=
  let v1060 : Index := Scalar.indexCast v1045
  let c32_214 : Index := 32#32
  ![v1060.toNat, 32]
def k0_off47 (v1045 : BitVec 32) : Fin 2 → Nat :=
  let v1066 : Index := Scalar.indexCast v1045
  let c48_215 : Index := 48#32
  ![v1066.toNat, 48]

def k0_chk5 (v1045 : BitVec 32) : Prop :=
  (∀ a, (k0_off44 v1045) a + S1x16.size a ≤ S512x64.size a) ∧
  (∀ a, (k0_off45 v1045) a + S1x16.size a ≤ S512x64.size a) ∧
  (∀ a, (k0_off46 v1045) a + S1x16.size a ≤ S512x64.size a) ∧
  (∀ a, (k0_off47 v1045) a + S1x16.size a ≤ S512x64.size a)
theorem k0_off44_inb : ∀ (v1045 : BitVec 32) (k0_hw5 : k0_chk5 v1045), ∀ a, (k0_off44 v1045) a + S1x16.size a ≤ S512x64.size a := fun v1045 k0_hw5 => k0_hw5.1
theorem k0_off45_inb : ∀ (v1045 : BitVec 32) (k0_hw5 : k0_chk5 v1045), ∀ a, (k0_off45 v1045) a + S1x16.size a ≤ S512x64.size a := fun v1045 k0_hw5 => k0_hw5.2.1
theorem k0_off46_inb : ∀ (v1045 : BitVec 32) (k0_hw5 : k0_chk5 v1045), ∀ a, (k0_off46 v1045) a + S1x16.size a ≤ S512x64.size a := fun v1045 k0_hw5 => k0_hw5.2.2.1
theorem k0_off47_inb : ∀ (v1045 : BitVec 32) (k0_hw5 : k0_chk5 v1045), ∀ a, (k0_off47 v1045) a + S1x16.size a ≤ S512x64.size a := fun v1045 k0_hw5 => k0_hw5.2.2.2

def k0_off48 (v1073 : BitVec 32) : Fin 2 → Nat :=
  let v1076 : Index := Scalar.indexCast v1073
  let c0_216 : Index := 0#32
  ![v1076.toNat, 0]

def k0_off49 (v1073 : BitVec 32) : Fin 2 → Nat :=
  let v1082 : Index := Scalar.indexCast v1073
  let c16_217 : Index := 16#32
  ![v1082.toNat, 16]
def k0_off50 (v1073 : BitVec 32) : Fin 2 → Nat :=
  let v1088 : Index := Scalar.indexCast v1073
  let c32_218 : Index := 32#32
  ![v1088.toNat, 32]
def k0_off51 (v1073 : BitVec 32) : Fin 2 → Nat :=
  let v1094 : Index := Scalar.indexCast v1073
  let c48_219 : Index := 48#32
  ![v1094.toNat, 48]

def k0_chk6 (v1073 : BitVec 32) : Prop :=
  (∀ a, (k0_off48 v1073) a + S1x16.size a ≤ S512x64.size a) ∧
  (∀ a, (k0_off49 v1073) a + S1x16.size a ≤ S512x64.size a) ∧
  (∀ a, (k0_off50 v1073) a + S1x16.size a ≤ S512x64.size a) ∧
  (∀ a, (k0_off51 v1073) a + S1x16.size a ≤ S512x64.size a)
theorem k0_off48_inb : ∀ (v1073 : BitVec 32) (k0_hw6 : k0_chk6 v1073), ∀ a, (k0_off48 v1073) a + S1x16.size a ≤ S512x64.size a := fun v1073 k0_hw6 => k0_hw6.1
theorem k0_off49_inb : ∀ (v1073 : BitVec 32) (k0_hw6 : k0_chk6 v1073), ∀ a, (k0_off49 v1073) a + S1x16.size a ≤ S512x64.size a := fun v1073 k0_hw6 => k0_hw6.2.1
theorem k0_off50_inb : ∀ (v1073 : BitVec 32) (k0_hw6 : k0_chk6 v1073), ∀ a, (k0_off50 v1073) a + S1x16.size a ≤ S512x64.size a := fun v1073 k0_hw6 => k0_hw6.2.2.1
theorem k0_off51_inb : ∀ (v1073 : BitVec 32) (k0_hw6 : k0_chk6 v1073), ∀ a, (k0_off51 v1073) a + S1x16.size a ≤ S512x64.size a := fun v1073 k0_hw6 => k0_hw6.2.2.2

def k0_off52 (v1101 : BitVec 32) : Fin 2 → Nat :=
  let v1104 : Index := Scalar.indexCast v1101
  let c0_220 : Index := 0#32
  ![v1104.toNat, 0]

def k0_off53 (v1101 : BitVec 32) : Fin 2 → Nat :=
  let v1110 : Index := Scalar.indexCast v1101
  let c16_221 : Index := 16#32
  ![v1110.toNat, 16]
def k0_off54 (v1101 : BitVec 32) : Fin 2 → Nat :=
  let v1116 : Index := Scalar.indexCast v1101
  let c32_222 : Index := 32#32
  ![v1116.toNat, 32]
def k0_off55 (v1101 : BitVec 32) : Fin 2 → Nat :=
  let v1122 : Index := Scalar.indexCast v1101
  let c48_223 : Index := 48#32
  ![v1122.toNat, 48]

def k0_chk7 (v1101 : BitVec 32) : Prop :=
  (∀ a, (k0_off52 v1101) a + S1x16.size a ≤ S512x64.size a) ∧
  (∀ a, (k0_off53 v1101) a + S1x16.size a ≤ S512x64.size a) ∧
  (∀ a, (k0_off54 v1101) a + S1x16.size a ≤ S512x64.size a) ∧
  (∀ a, (k0_off55 v1101) a + S1x16.size a ≤ S512x64.size a)
theorem k0_off52_inb : ∀ (v1101 : BitVec 32) (k0_hw7 : k0_chk7 v1101), ∀ a, (k0_off52 v1101) a + S1x16.size a ≤ S512x64.size a := fun v1101 k0_hw7 => k0_hw7.1
theorem k0_off53_inb : ∀ (v1101 : BitVec 32) (k0_hw7 : k0_chk7 v1101), ∀ a, (k0_off53 v1101) a + S1x16.size a ≤ S512x64.size a := fun v1101 k0_hw7 => k0_hw7.2.1
theorem k0_off54_inb : ∀ (v1101 : BitVec 32) (k0_hw7 : k0_chk7 v1101), ∀ a, (k0_off54 v1101) a + S1x16.size a ≤ S512x64.size a := fun v1101 k0_hw7 => k0_hw7.2.2.1
theorem k0_off55_inb : ∀ (v1101 : BitVec 32) (k0_hw7 : k0_chk7 v1101), ∀ a, (k0_off55 v1101) a + S1x16.size a ≤ S512x64.size a := fun v1101 k0_hw7 => k0_hw7.2.2.2

def k0_off56 (v1129 : BitVec 32) : Fin 2 → Nat :=
  let v1132 : Index := Scalar.indexCast v1129
  let c0_224 : Index := 0#32
  ![v1132.toNat, 0]

def k0_off57 (v1129 : BitVec 32) : Fin 2 → Nat :=
  let v1138 : Index := Scalar.indexCast v1129
  let c16_225 : Index := 16#32
  ![v1138.toNat, 16]
def k0_off58 (v1129 : BitVec 32) : Fin 2 → Nat :=
  let v1144 : Index := Scalar.indexCast v1129
  let c32_226 : Index := 32#32
  ![v1144.toNat, 32]
def k0_off59 (v1129 : BitVec 32) : Fin 2 → Nat :=
  let v1150 : Index := Scalar.indexCast v1129
  let c48_227 : Index := 48#32
  ![v1150.toNat, 48]

def k0_chk8 (v1129 : BitVec 32) : Prop :=
  (∀ a, (k0_off56 v1129) a + S1x16.size a ≤ S512x64.size a) ∧
  (∀ a, (k0_off57 v1129) a + S1x16.size a ≤ S512x64.size a) ∧
  (∀ a, (k0_off58 v1129) a + S1x16.size a ≤ S512x64.size a) ∧
  (∀ a, (k0_off59 v1129) a + S1x16.size a ≤ S512x64.size a)
theorem k0_off56_inb : ∀ (v1129 : BitVec 32) (k0_hw8 : k0_chk8 v1129), ∀ a, (k0_off56 v1129) a + S1x16.size a ≤ S512x64.size a := fun v1129 k0_hw8 => k0_hw8.1
theorem k0_off57_inb : ∀ (v1129 : BitVec 32) (k0_hw8 : k0_chk8 v1129), ∀ a, (k0_off57 v1129) a + S1x16.size a ≤ S512x64.size a := fun v1129 k0_hw8 => k0_hw8.2.1
theorem k0_off58_inb : ∀ (v1129 : BitVec 32) (k0_hw8 : k0_chk8 v1129), ∀ a, (k0_off58 v1129) a + S1x16.size a ≤ S512x64.size a := fun v1129 k0_hw8 => k0_hw8.2.2.1
theorem k0_off59_inb : ∀ (v1129 : BitVec 32) (k0_hw8 : k0_chk8 v1129), ∀ a, (k0_off59 v1129) a + S1x16.size a ≤ S512x64.size a := fun v1129 k0_hw8 => k0_hw8.2.2.2

def k0_off60 (v1157 : BitVec 32) : Fin 2 → Nat :=
  let v1160 : Index := Scalar.indexCast v1157
  let c0_228 : Index := 0#32
  ![v1160.toNat, 0]

def k0_off61 (v1157 : BitVec 32) : Fin 2 → Nat :=
  let v1166 : Index := Scalar.indexCast v1157
  let c16_229 : Index := 16#32
  ![v1166.toNat, 16]
def k0_off62 (v1157 : BitVec 32) : Fin 2 → Nat :=
  let v1172 : Index := Scalar.indexCast v1157
  let c32_230 : Index := 32#32
  ![v1172.toNat, 32]
def k0_off63 (v1157 : BitVec 32) : Fin 2 → Nat :=
  let v1178 : Index := Scalar.indexCast v1157
  let c48_231 : Index := 48#32
  ![v1178.toNat, 48]

def k0_chk9 (v1157 : BitVec 32) : Prop :=
  (∀ a, (k0_off60 v1157) a + S1x16.size a ≤ S512x64.size a) ∧
  (∀ a, (k0_off61 v1157) a + S1x16.size a ≤ S512x64.size a) ∧
  (∀ a, (k0_off62 v1157) a + S1x16.size a ≤ S512x64.size a) ∧
  (∀ a, (k0_off63 v1157) a + S1x16.size a ≤ S512x64.size a)
theorem k0_off60_inb : ∀ (v1157 : BitVec 32) (k0_hw9 : k0_chk9 v1157), ∀ a, (k0_off60 v1157) a + S1x16.size a ≤ S512x64.size a := fun v1157 k0_hw9 => k0_hw9.1
theorem k0_off61_inb : ∀ (v1157 : BitVec 32) (k0_hw9 : k0_chk9 v1157), ∀ a, (k0_off61 v1157) a + S1x16.size a ≤ S512x64.size a := fun v1157 k0_hw9 => k0_hw9.2.1
theorem k0_off62_inb : ∀ (v1157 : BitVec 32) (k0_hw9 : k0_chk9 v1157), ∀ a, (k0_off62 v1157) a + S1x16.size a ≤ S512x64.size a := fun v1157 k0_hw9 => k0_hw9.2.2.1
theorem k0_off63_inb : ∀ (v1157 : BitVec 32) (k0_hw9 : k0_chk9 v1157), ∀ a, (k0_off63 v1157) a + S1x16.size a ≤ S512x64.size a := fun v1157 k0_hw9 => k0_hw9.2.2.2

def k0_off64 (v1185 : BitVec 32) : Fin 2 → Nat :=
  let v1188 : Index := Scalar.indexCast v1185
  let c0_232 : Index := 0#32
  ![v1188.toNat, 0]

def k0_off65 (v1185 : BitVec 32) : Fin 2 → Nat :=
  let v1194 : Index := Scalar.indexCast v1185
  let c16_233 : Index := 16#32
  ![v1194.toNat, 16]
def k0_off66 (v1185 : BitVec 32) : Fin 2 → Nat :=
  let v1200 : Index := Scalar.indexCast v1185
  let c32_234 : Index := 32#32
  ![v1200.toNat, 32]
def k0_off67 (v1185 : BitVec 32) : Fin 2 → Nat :=
  let v1206 : Index := Scalar.indexCast v1185
  let c48_235 : Index := 48#32
  ![v1206.toNat, 48]

def k0_chk10 (v1185 : BitVec 32) : Prop :=
  (∀ a, (k0_off64 v1185) a + S1x16.size a ≤ S512x64.size a) ∧
  (∀ a, (k0_off65 v1185) a + S1x16.size a ≤ S512x64.size a) ∧
  (∀ a, (k0_off66 v1185) a + S1x16.size a ≤ S512x64.size a) ∧
  (∀ a, (k0_off67 v1185) a + S1x16.size a ≤ S512x64.size a)
theorem k0_off64_inb : ∀ (v1185 : BitVec 32) (k0_hw10 : k0_chk10 v1185), ∀ a, (k0_off64 v1185) a + S1x16.size a ≤ S512x64.size a := fun v1185 k0_hw10 => k0_hw10.1
theorem k0_off65_inb : ∀ (v1185 : BitVec 32) (k0_hw10 : k0_chk10 v1185), ∀ a, (k0_off65 v1185) a + S1x16.size a ≤ S512x64.size a := fun v1185 k0_hw10 => k0_hw10.2.1
theorem k0_off66_inb : ∀ (v1185 : BitVec 32) (k0_hw10 : k0_chk10 v1185), ∀ a, (k0_off66 v1185) a + S1x16.size a ≤ S512x64.size a := fun v1185 k0_hw10 => k0_hw10.2.2.1
theorem k0_off67_inb : ∀ (v1185 : BitVec 32) (k0_hw10 : k0_chk10 v1185), ∀ a, (k0_off67 v1185) a + S1x16.size a ≤ S512x64.size a := fun v1185 k0_hw10 => k0_hw10.2.2.2

def k0_off68 (v1213 : BitVec 32) : Fin 2 → Nat :=
  let v1216 : Index := Scalar.indexCast v1213
  let c0_236 : Index := 0#32
  ![v1216.toNat, 0]

def k0_off69 (v1213 : BitVec 32) : Fin 2 → Nat :=
  let v1222 : Index := Scalar.indexCast v1213
  let c16_237 : Index := 16#32
  ![v1222.toNat, 16]
def k0_off70 (v1213 : BitVec 32) : Fin 2 → Nat :=
  let v1228 : Index := Scalar.indexCast v1213
  let c32_238 : Index := 32#32
  ![v1228.toNat, 32]
def k0_off71 (v1213 : BitVec 32) : Fin 2 → Nat :=
  let v1234 : Index := Scalar.indexCast v1213
  let c48_239 : Index := 48#32
  ![v1234.toNat, 48]

def k0_chk11 (v1213 : BitVec 32) : Prop :=
  (∀ a, (k0_off68 v1213) a + S1x16.size a ≤ S512x64.size a) ∧
  (∀ a, (k0_off69 v1213) a + S1x16.size a ≤ S512x64.size a) ∧
  (∀ a, (k0_off70 v1213) a + S1x16.size a ≤ S512x64.size a) ∧
  (∀ a, (k0_off71 v1213) a + S1x16.size a ≤ S512x64.size a)
theorem k0_off68_inb : ∀ (v1213 : BitVec 32) (k0_hw11 : k0_chk11 v1213), ∀ a, (k0_off68 v1213) a + S1x16.size a ≤ S512x64.size a := fun v1213 k0_hw11 => k0_hw11.1
theorem k0_off69_inb : ∀ (v1213 : BitVec 32) (k0_hw11 : k0_chk11 v1213), ∀ a, (k0_off69 v1213) a + S1x16.size a ≤ S512x64.size a := fun v1213 k0_hw11 => k0_hw11.2.1
theorem k0_off70_inb : ∀ (v1213 : BitVec 32) (k0_hw11 : k0_chk11 v1213), ∀ a, (k0_off70 v1213) a + S1x16.size a ≤ S512x64.size a := fun v1213 k0_hw11 => k0_hw11.2.2.1
theorem k0_off71_inb : ∀ (v1213 : BitVec 32) (k0_hw11 : k0_chk11 v1213), ∀ a, (k0_off71 v1213) a + S1x16.size a ≤ S512x64.size a := fun v1213 k0_hw11 => k0_hw11.2.2.2

def k0_off72 (v1241 : BitVec 32) : Fin 2 → Nat :=
  let v1244 : Index := Scalar.indexCast v1241
  let c0_240 : Index := 0#32
  ![v1244.toNat, 0]

def k0_off73 (v1241 : BitVec 32) : Fin 2 → Nat :=
  let v1250 : Index := Scalar.indexCast v1241
  let c16_241 : Index := 16#32
  ![v1250.toNat, 16]
def k0_off74 (v1241 : BitVec 32) : Fin 2 → Nat :=
  let v1256 : Index := Scalar.indexCast v1241
  let c32_242 : Index := 32#32
  ![v1256.toNat, 32]
def k0_off75 (v1241 : BitVec 32) : Fin 2 → Nat :=
  let v1262 : Index := Scalar.indexCast v1241
  let c48_243 : Index := 48#32
  ![v1262.toNat, 48]

def k0_chk12 (v1241 : BitVec 32) : Prop :=
  (∀ a, (k0_off72 v1241) a + S1x16.size a ≤ S512x64.size a) ∧
  (∀ a, (k0_off73 v1241) a + S1x16.size a ≤ S512x64.size a) ∧
  (∀ a, (k0_off74 v1241) a + S1x16.size a ≤ S512x64.size a) ∧
  (∀ a, (k0_off75 v1241) a + S1x16.size a ≤ S512x64.size a)
theorem k0_off72_inb : ∀ (v1241 : BitVec 32) (k0_hw12 : k0_chk12 v1241), ∀ a, (k0_off72 v1241) a + S1x16.size a ≤ S512x64.size a := fun v1241 k0_hw12 => k0_hw12.1
theorem k0_off73_inb : ∀ (v1241 : BitVec 32) (k0_hw12 : k0_chk12 v1241), ∀ a, (k0_off73 v1241) a + S1x16.size a ≤ S512x64.size a := fun v1241 k0_hw12 => k0_hw12.2.1
theorem k0_off74_inb : ∀ (v1241 : BitVec 32) (k0_hw12 : k0_chk12 v1241), ∀ a, (k0_off74 v1241) a + S1x16.size a ≤ S512x64.size a := fun v1241 k0_hw12 => k0_hw12.2.2.1
theorem k0_off75_inb : ∀ (v1241 : BitVec 32) (k0_hw12 : k0_chk12 v1241), ∀ a, (k0_off75 v1241) a + S1x16.size a ≤ S512x64.size a := fun v1241 k0_hw12 => k0_hw12.2.2.2

def k0_off76 (v1269 : BitVec 32) : Fin 2 → Nat :=
  let v1272 : Index := Scalar.indexCast v1269
  let c0_244 : Index := 0#32
  ![v1272.toNat, 0]

def k0_off77 (v1269 : BitVec 32) : Fin 2 → Nat :=
  let v1278 : Index := Scalar.indexCast v1269
  let c16_245 : Index := 16#32
  ![v1278.toNat, 16]
def k0_off78 (v1269 : BitVec 32) : Fin 2 → Nat :=
  let v1284 : Index := Scalar.indexCast v1269
  let c32_246 : Index := 32#32
  ![v1284.toNat, 32]
def k0_off79 (v1269 : BitVec 32) : Fin 2 → Nat :=
  let v1290 : Index := Scalar.indexCast v1269
  let c48_247 : Index := 48#32
  ![v1290.toNat, 48]

def k0_chk13 (v1269 : BitVec 32) : Prop :=
  (∀ a, (k0_off76 v1269) a + S1x16.size a ≤ S512x64.size a) ∧
  (∀ a, (k0_off77 v1269) a + S1x16.size a ≤ S512x64.size a) ∧
  (∀ a, (k0_off78 v1269) a + S1x16.size a ≤ S512x64.size a) ∧
  (∀ a, (k0_off79 v1269) a + S1x16.size a ≤ S512x64.size a)
theorem k0_off76_inb : ∀ (v1269 : BitVec 32) (k0_hw13 : k0_chk13 v1269), ∀ a, (k0_off76 v1269) a + S1x16.size a ≤ S512x64.size a := fun v1269 k0_hw13 => k0_hw13.1
theorem k0_off77_inb : ∀ (v1269 : BitVec 32) (k0_hw13 : k0_chk13 v1269), ∀ a, (k0_off77 v1269) a + S1x16.size a ≤ S512x64.size a := fun v1269 k0_hw13 => k0_hw13.2.1
theorem k0_off78_inb : ∀ (v1269 : BitVec 32) (k0_hw13 : k0_chk13 v1269), ∀ a, (k0_off78 v1269) a + S1x16.size a ≤ S512x64.size a := fun v1269 k0_hw13 => k0_hw13.2.2.1
theorem k0_off79_inb : ∀ (v1269 : BitVec 32) (k0_hw13 : k0_chk13 v1269), ∀ a, (k0_off79 v1269) a + S1x16.size a ≤ S512x64.size a := fun v1269 k0_hw13 => k0_hw13.2.2.2

def k0_off80 (v1297 : BitVec 32) : Fin 2 → Nat :=
  let v1300 : Index := Scalar.indexCast v1297
  let c0_248 : Index := 0#32
  ![v1300.toNat, 0]

def k0_off81 (v1297 : BitVec 32) : Fin 2 → Nat :=
  let v1306 : Index := Scalar.indexCast v1297
  let c16_249 : Index := 16#32
  ![v1306.toNat, 16]
def k0_off82 (v1297 : BitVec 32) : Fin 2 → Nat :=
  let v1312 : Index := Scalar.indexCast v1297
  let c32_250 : Index := 32#32
  ![v1312.toNat, 32]
def k0_off83 (v1297 : BitVec 32) : Fin 2 → Nat :=
  let v1318 : Index := Scalar.indexCast v1297
  let c48_251 : Index := 48#32
  ![v1318.toNat, 48]

def k0_chk14 (v1297 : BitVec 32) : Prop :=
  (∀ a, (k0_off80 v1297) a + S1x16.size a ≤ S512x64.size a) ∧
  (∀ a, (k0_off81 v1297) a + S1x16.size a ≤ S512x64.size a) ∧
  (∀ a, (k0_off82 v1297) a + S1x16.size a ≤ S512x64.size a) ∧
  (∀ a, (k0_off83 v1297) a + S1x16.size a ≤ S512x64.size a)
theorem k0_off80_inb : ∀ (v1297 : BitVec 32) (k0_hw14 : k0_chk14 v1297), ∀ a, (k0_off80 v1297) a + S1x16.size a ≤ S512x64.size a := fun v1297 k0_hw14 => k0_hw14.1
theorem k0_off81_inb : ∀ (v1297 : BitVec 32) (k0_hw14 : k0_chk14 v1297), ∀ a, (k0_off81 v1297) a + S1x16.size a ≤ S512x64.size a := fun v1297 k0_hw14 => k0_hw14.2.1
theorem k0_off82_inb : ∀ (v1297 : BitVec 32) (k0_hw14 : k0_chk14 v1297), ∀ a, (k0_off82 v1297) a + S1x16.size a ≤ S512x64.size a := fun v1297 k0_hw14 => k0_hw14.2.2.1
theorem k0_off83_inb : ∀ (v1297 : BitVec 32) (k0_hw14 : k0_chk14 v1297), ∀ a, (k0_off83 v1297) a + S1x16.size a ≤ S512x64.size a := fun v1297 k0_hw14 => k0_hw14.2.2.2

def k0_off84 (v1325 : BitVec 32) : Fin 2 → Nat :=
  let v1328 : Index := Scalar.indexCast v1325
  let c0_252 : Index := 0#32
  ![v1328.toNat, 0]

def k0_off85 (v1325 : BitVec 32) : Fin 2 → Nat :=
  let v1334 : Index := Scalar.indexCast v1325
  let c16_253 : Index := 16#32
  ![v1334.toNat, 16]
def k0_off86 (v1325 : BitVec 32) : Fin 2 → Nat :=
  let v1340 : Index := Scalar.indexCast v1325
  let c32_254 : Index := 32#32
  ![v1340.toNat, 32]
def k0_off87 (v1325 : BitVec 32) : Fin 2 → Nat :=
  let v1346 : Index := Scalar.indexCast v1325
  let c48_255 : Index := 48#32
  ![v1346.toNat, 48]

def k0_chk15 (v1325 : BitVec 32) : Prop :=
  (∀ a, (k0_off84 v1325) a + S1x16.size a ≤ S512x64.size a) ∧
  (∀ a, (k0_off85 v1325) a + S1x16.size a ≤ S512x64.size a) ∧
  (∀ a, (k0_off86 v1325) a + S1x16.size a ≤ S512x64.size a) ∧
  (∀ a, (k0_off87 v1325) a + S1x16.size a ≤ S512x64.size a)
theorem k0_off84_inb : ∀ (v1325 : BitVec 32) (k0_hw15 : k0_chk15 v1325), ∀ a, (k0_off84 v1325) a + S1x16.size a ≤ S512x64.size a := fun v1325 k0_hw15 => k0_hw15.1
theorem k0_off85_inb : ∀ (v1325 : BitVec 32) (k0_hw15 : k0_chk15 v1325), ∀ a, (k0_off85 v1325) a + S1x16.size a ≤ S512x64.size a := fun v1325 k0_hw15 => k0_hw15.2.1
theorem k0_off86_inb : ∀ (v1325 : BitVec 32) (k0_hw15 : k0_chk15 v1325), ∀ a, (k0_off86 v1325) a + S1x16.size a ≤ S512x64.size a := fun v1325 k0_hw15 => k0_hw15.2.2.1
theorem k0_off87_inb : ∀ (v1325 : BitVec 32) (k0_hw15 : k0_chk15 v1325), ∀ a, (k0_off87 v1325) a + S1x16.size a ≤ S512x64.size a := fun v1325 k0_hw15 => k0_hw15.2.2.2

def k0_off88 (v1353 : BitVec 32) : Fin 2 → Nat :=
  let v1356 : Index := Scalar.indexCast v1353
  let c0_256 : Index := 0#32
  ![v1356.toNat, 0]

def k0_off89 (v1353 : BitVec 32) : Fin 2 → Nat :=
  let v1362 : Index := Scalar.indexCast v1353
  let c16_257 : Index := 16#32
  ![v1362.toNat, 16]
def k0_off90 (v1353 : BitVec 32) : Fin 2 → Nat :=
  let v1368 : Index := Scalar.indexCast v1353
  let c32_258 : Index := 32#32
  ![v1368.toNat, 32]
def k0_off91 (v1353 : BitVec 32) : Fin 2 → Nat :=
  let v1374 : Index := Scalar.indexCast v1353
  let c48_259 : Index := 48#32
  ![v1374.toNat, 48]

def k0_chk16 (v1353 : BitVec 32) : Prop :=
  (∀ a, (k0_off88 v1353) a + S1x16.size a ≤ S512x64.size a) ∧
  (∀ a, (k0_off89 v1353) a + S1x16.size a ≤ S512x64.size a) ∧
  (∀ a, (k0_off90 v1353) a + S1x16.size a ≤ S512x64.size a) ∧
  (∀ a, (k0_off91 v1353) a + S1x16.size a ≤ S512x64.size a)
theorem k0_off88_inb : ∀ (v1353 : BitVec 32) (k0_hw16 : k0_chk16 v1353), ∀ a, (k0_off88 v1353) a + S1x16.size a ≤ S512x64.size a := fun v1353 k0_hw16 => k0_hw16.1
theorem k0_off89_inb : ∀ (v1353 : BitVec 32) (k0_hw16 : k0_chk16 v1353), ∀ a, (k0_off89 v1353) a + S1x16.size a ≤ S512x64.size a := fun v1353 k0_hw16 => k0_hw16.2.1
theorem k0_off90_inb : ∀ (v1353 : BitVec 32) (k0_hw16 : k0_chk16 v1353), ∀ a, (k0_off90 v1353) a + S1x16.size a ≤ S512x64.size a := fun v1353 k0_hw16 => k0_hw16.2.2.1
theorem k0_off91_inb : ∀ (v1353 : BitVec 32) (k0_hw16 : k0_chk16 v1353), ∀ a, (k0_off91 v1353) a + S1x16.size a ≤ S512x64.size a := fun v1353 k0_hw16 => k0_hw16.2.2.2

def k0_off92 (k0_t1 : Fin k0_t1_loop.trips) : Fin 1 → Nat :=
  let c0_i32_25 : BitVec 32 := 0#32
  let c1_i32_26 : BitVec 32 := 1#32
  let arg20 : BitVec 32 := Scf.iv c0_i32_25 c1_i32_26 k0_t1
  let c4_i32_193 : BitVec 32 := 4#32
  let v931 : BitVec 32 := Scalar.muli arg20 c4_i32_193
  let c1_i32_264 : BitVec 32 := 1#32
  let v1396 : BitVec 32 := Scalar.addi v931 c1_i32_264
  let c16_i32_265 : BitVec 32 := 16#32
  let v1397 : BitVec 32 := Scalar.muli v1396 c16_i32_265
  let v1398 : Index := Scalar.indexCast v1397
  ![v1398.toNat]
def k0_off93 (v1405 : BitVec 32) : Fin 2 → Nat :=
  let v1408 : Index := Scalar.indexCast v1405
  let c0_266 : Index := 0#32
  ![v1408.toNat, 0]

def k0_off94 (v1405 : BitVec 32) : Fin 2 → Nat :=
  let v1413 : Index := Scalar.indexCast v1405
  let c16_267 : Index := 16#32
  ![v1413.toNat, 16]
def k0_off95 (v1405 : BitVec 32) : Fin 2 → Nat :=
  let v1418 : Index := Scalar.indexCast v1405
  let c32_268 : Index := 32#32
  ![v1418.toNat, 32]
def k0_off96 (v1405 : BitVec 32) : Fin 2 → Nat :=
  let v1423 : Index := Scalar.indexCast v1405
  let c48_269 : Index := 48#32
  ![v1423.toNat, 48]

def k0_chk17 (v1405 : BitVec 32) : Prop :=
  (∀ a, (k0_off93 v1405) a + S1x16.size a ≤ S512x64.size a) ∧
  (∀ a, (k0_off94 v1405) a + S1x16.size a ≤ S512x64.size a) ∧
  (∀ a, (k0_off95 v1405) a + S1x16.size a ≤ S512x64.size a) ∧
  (∀ a, (k0_off96 v1405) a + S1x16.size a ≤ S512x64.size a)
theorem k0_off93_inb : ∀ (v1405 : BitVec 32) (k0_hw17 : k0_chk17 v1405), ∀ a, (k0_off93 v1405) a + S1x16.size a ≤ S512x64.size a := fun v1405 k0_hw17 => k0_hw17.1
theorem k0_off94_inb : ∀ (v1405 : BitVec 32) (k0_hw17 : k0_chk17 v1405), ∀ a, (k0_off94 v1405) a + S1x16.size a ≤ S512x64.size a := fun v1405 k0_hw17 => k0_hw17.2.1
theorem k0_off95_inb : ∀ (v1405 : BitVec 32) (k0_hw17 : k0_chk17 v1405), ∀ a, (k0_off95 v1405) a + S1x16.size a ≤ S512x64.size a := fun v1405 k0_hw17 => k0_hw17.2.2.1
theorem k0_off96_inb : ∀ (v1405 : BitVec 32) (k0_hw17 : k0_chk17 v1405), ∀ a, (k0_off96 v1405) a + S1x16.size a ≤ S512x64.size a := fun v1405 k0_hw17 => k0_hw17.2.2.2

def k0_off97 (v1429 : BitVec 32) : Fin 2 → Nat :=
  let v1432 : Index := Scalar.indexCast v1429
  let c0_270 : Index := 0#32
  ![v1432.toNat, 0]

def k0_off98 (v1429 : BitVec 32) : Fin 2 → Nat :=
  let v1437 : Index := Scalar.indexCast v1429
  let c16_271 : Index := 16#32
  ![v1437.toNat, 16]
def k0_off99 (v1429 : BitVec 32) : Fin 2 → Nat :=
  let v1442 : Index := Scalar.indexCast v1429
  let c32_272 : Index := 32#32
  ![v1442.toNat, 32]
def k0_off100 (v1429 : BitVec 32) : Fin 2 → Nat :=
  let v1447 : Index := Scalar.indexCast v1429
  let c48_273 : Index := 48#32
  ![v1447.toNat, 48]

def k0_chk18 (v1429 : BitVec 32) : Prop :=
  (∀ a, (k0_off97 v1429) a + S1x16.size a ≤ S512x64.size a) ∧
  (∀ a, (k0_off98 v1429) a + S1x16.size a ≤ S512x64.size a) ∧
  (∀ a, (k0_off99 v1429) a + S1x16.size a ≤ S512x64.size a) ∧
  (∀ a, (k0_off100 v1429) a + S1x16.size a ≤ S512x64.size a)
theorem k0_off97_inb : ∀ (v1429 : BitVec 32) (k0_hw18 : k0_chk18 v1429), ∀ a, (k0_off97 v1429) a + S1x16.size a ≤ S512x64.size a := fun v1429 k0_hw18 => k0_hw18.1
theorem k0_off98_inb : ∀ (v1429 : BitVec 32) (k0_hw18 : k0_chk18 v1429), ∀ a, (k0_off98 v1429) a + S1x16.size a ≤ S512x64.size a := fun v1429 k0_hw18 => k0_hw18.2.1
theorem k0_off99_inb : ∀ (v1429 : BitVec 32) (k0_hw18 : k0_chk18 v1429), ∀ a, (k0_off99 v1429) a + S1x16.size a ≤ S512x64.size a := fun v1429 k0_hw18 => k0_hw18.2.2.1
theorem k0_off100_inb : ∀ (v1429 : BitVec 32) (k0_hw18 : k0_chk18 v1429), ∀ a, (k0_off100 v1429) a + S1x16.size a ≤ S512x64.size a := fun v1429 k0_hw18 => k0_hw18.2.2.2

def k0_off101 (v1453 : BitVec 32) : Fin 2 → Nat :=
  let v1456 : Index := Scalar.indexCast v1453
  let c0_274 : Index := 0#32
  ![v1456.toNat, 0]

def k0_off102 (v1453 : BitVec 32) : Fin 2 → Nat :=
  let v1462 : Index := Scalar.indexCast v1453
  let c16_275 : Index := 16#32
  ![v1462.toNat, 16]
def k0_off103 (v1453 : BitVec 32) : Fin 2 → Nat :=
  let v1468 : Index := Scalar.indexCast v1453
  let c32_276 : Index := 32#32
  ![v1468.toNat, 32]
def k0_off104 (v1453 : BitVec 32) : Fin 2 → Nat :=
  let v1474 : Index := Scalar.indexCast v1453
  let c48_277 : Index := 48#32
  ![v1474.toNat, 48]

def k0_chk19 (v1453 : BitVec 32) : Prop :=
  (∀ a, (k0_off101 v1453) a + S1x16.size a ≤ S512x64.size a) ∧
  (∀ a, (k0_off102 v1453) a + S1x16.size a ≤ S512x64.size a) ∧
  (∀ a, (k0_off103 v1453) a + S1x16.size a ≤ S512x64.size a) ∧
  (∀ a, (k0_off104 v1453) a + S1x16.size a ≤ S512x64.size a)
theorem k0_off101_inb : ∀ (v1453 : BitVec 32) (k0_hw19 : k0_chk19 v1453), ∀ a, (k0_off101 v1453) a + S1x16.size a ≤ S512x64.size a := fun v1453 k0_hw19 => k0_hw19.1
theorem k0_off102_inb : ∀ (v1453 : BitVec 32) (k0_hw19 : k0_chk19 v1453), ∀ a, (k0_off102 v1453) a + S1x16.size a ≤ S512x64.size a := fun v1453 k0_hw19 => k0_hw19.2.1
theorem k0_off103_inb : ∀ (v1453 : BitVec 32) (k0_hw19 : k0_chk19 v1453), ∀ a, (k0_off103 v1453) a + S1x16.size a ≤ S512x64.size a := fun v1453 k0_hw19 => k0_hw19.2.2.1
theorem k0_off104_inb : ∀ (v1453 : BitVec 32) (k0_hw19 : k0_chk19 v1453), ∀ a, (k0_off104 v1453) a + S1x16.size a ≤ S512x64.size a := fun v1453 k0_hw19 => k0_hw19.2.2.2

def k0_off105 (v1481 : BitVec 32) : Fin 2 → Nat :=
  let v1484 : Index := Scalar.indexCast v1481
  let c0_278 : Index := 0#32
  ![v1484.toNat, 0]

def k0_off106 (v1481 : BitVec 32) : Fin 2 → Nat :=
  let v1490 : Index := Scalar.indexCast v1481
  let c16_279 : Index := 16#32
  ![v1490.toNat, 16]
def k0_off107 (v1481 : BitVec 32) : Fin 2 → Nat :=
  let v1496 : Index := Scalar.indexCast v1481
  let c32_280 : Index := 32#32
  ![v1496.toNat, 32]
def k0_off108 (v1481 : BitVec 32) : Fin 2 → Nat :=
  let v1502 : Index := Scalar.indexCast v1481
  let c48_281 : Index := 48#32
  ![v1502.toNat, 48]

def k0_chk20 (v1481 : BitVec 32) : Prop :=
  (∀ a, (k0_off105 v1481) a + S1x16.size a ≤ S512x64.size a) ∧
  (∀ a, (k0_off106 v1481) a + S1x16.size a ≤ S512x64.size a) ∧
  (∀ a, (k0_off107 v1481) a + S1x16.size a ≤ S512x64.size a) ∧
  (∀ a, (k0_off108 v1481) a + S1x16.size a ≤ S512x64.size a)
theorem k0_off105_inb : ∀ (v1481 : BitVec 32) (k0_hw20 : k0_chk20 v1481), ∀ a, (k0_off105 v1481) a + S1x16.size a ≤ S512x64.size a := fun v1481 k0_hw20 => k0_hw20.1
theorem k0_off106_inb : ∀ (v1481 : BitVec 32) (k0_hw20 : k0_chk20 v1481), ∀ a, (k0_off106 v1481) a + S1x16.size a ≤ S512x64.size a := fun v1481 k0_hw20 => k0_hw20.2.1
theorem k0_off107_inb : ∀ (v1481 : BitVec 32) (k0_hw20 : k0_chk20 v1481), ∀ a, (k0_off107 v1481) a + S1x16.size a ≤ S512x64.size a := fun v1481 k0_hw20 => k0_hw20.2.2.1
theorem k0_off108_inb : ∀ (v1481 : BitVec 32) (k0_hw20 : k0_chk20 v1481), ∀ a, (k0_off108 v1481) a + S1x16.size a ≤ S512x64.size a := fun v1481 k0_hw20 => k0_hw20.2.2.2

def k0_off109 (v1509 : BitVec 32) : Fin 2 → Nat :=
  let v1512 : Index := Scalar.indexCast v1509
  let c0_282 : Index := 0#32
  ![v1512.toNat, 0]

def k0_off110 (v1509 : BitVec 32) : Fin 2 → Nat :=
  let v1518 : Index := Scalar.indexCast v1509
  let c16_283 : Index := 16#32
  ![v1518.toNat, 16]
def k0_off111 (v1509 : BitVec 32) : Fin 2 → Nat :=
  let v1524 : Index := Scalar.indexCast v1509
  let c32_284 : Index := 32#32
  ![v1524.toNat, 32]
def k0_off112 (v1509 : BitVec 32) : Fin 2 → Nat :=
  let v1530 : Index := Scalar.indexCast v1509
  let c48_285 : Index := 48#32
  ![v1530.toNat, 48]

def k0_chk21 (v1509 : BitVec 32) : Prop :=
  (∀ a, (k0_off109 v1509) a + S1x16.size a ≤ S512x64.size a) ∧
  (∀ a, (k0_off110 v1509) a + S1x16.size a ≤ S512x64.size a) ∧
  (∀ a, (k0_off111 v1509) a + S1x16.size a ≤ S512x64.size a) ∧
  (∀ a, (k0_off112 v1509) a + S1x16.size a ≤ S512x64.size a)
theorem k0_off109_inb : ∀ (v1509 : BitVec 32) (k0_hw21 : k0_chk21 v1509), ∀ a, (k0_off109 v1509) a + S1x16.size a ≤ S512x64.size a := fun v1509 k0_hw21 => k0_hw21.1
theorem k0_off110_inb : ∀ (v1509 : BitVec 32) (k0_hw21 : k0_chk21 v1509), ∀ a, (k0_off110 v1509) a + S1x16.size a ≤ S512x64.size a := fun v1509 k0_hw21 => k0_hw21.2.1
theorem k0_off111_inb : ∀ (v1509 : BitVec 32) (k0_hw21 : k0_chk21 v1509), ∀ a, (k0_off111 v1509) a + S1x16.size a ≤ S512x64.size a := fun v1509 k0_hw21 => k0_hw21.2.2.1
theorem k0_off112_inb : ∀ (v1509 : BitVec 32) (k0_hw21 : k0_chk21 v1509), ∀ a, (k0_off112 v1509) a + S1x16.size a ≤ S512x64.size a := fun v1509 k0_hw21 => k0_hw21.2.2.2

def k0_off113 (v1537 : BitVec 32) : Fin 2 → Nat :=
  let v1540 : Index := Scalar.indexCast v1537
  let c0_286 : Index := 0#32
  ![v1540.toNat, 0]

def k0_off114 (v1537 : BitVec 32) : Fin 2 → Nat :=
  let v1546 : Index := Scalar.indexCast v1537
  let c16_287 : Index := 16#32
  ![v1546.toNat, 16]
def k0_off115 (v1537 : BitVec 32) : Fin 2 → Nat :=
  let v1552 : Index := Scalar.indexCast v1537
  let c32_288 : Index := 32#32
  ![v1552.toNat, 32]
def k0_off116 (v1537 : BitVec 32) : Fin 2 → Nat :=
  let v1558 : Index := Scalar.indexCast v1537
  let c48_289 : Index := 48#32
  ![v1558.toNat, 48]

def k0_chk22 (v1537 : BitVec 32) : Prop :=
  (∀ a, (k0_off113 v1537) a + S1x16.size a ≤ S512x64.size a) ∧
  (∀ a, (k0_off114 v1537) a + S1x16.size a ≤ S512x64.size a) ∧
  (∀ a, (k0_off115 v1537) a + S1x16.size a ≤ S512x64.size a) ∧
  (∀ a, (k0_off116 v1537) a + S1x16.size a ≤ S512x64.size a)
theorem k0_off113_inb : ∀ (v1537 : BitVec 32) (k0_hw22 : k0_chk22 v1537), ∀ a, (k0_off113 v1537) a + S1x16.size a ≤ S512x64.size a := fun v1537 k0_hw22 => k0_hw22.1
theorem k0_off114_inb : ∀ (v1537 : BitVec 32) (k0_hw22 : k0_chk22 v1537), ∀ a, (k0_off114 v1537) a + S1x16.size a ≤ S512x64.size a := fun v1537 k0_hw22 => k0_hw22.2.1
theorem k0_off115_inb : ∀ (v1537 : BitVec 32) (k0_hw22 : k0_chk22 v1537), ∀ a, (k0_off115 v1537) a + S1x16.size a ≤ S512x64.size a := fun v1537 k0_hw22 => k0_hw22.2.2.1
theorem k0_off116_inb : ∀ (v1537 : BitVec 32) (k0_hw22 : k0_chk22 v1537), ∀ a, (k0_off116 v1537) a + S1x16.size a ≤ S512x64.size a := fun v1537 k0_hw22 => k0_hw22.2.2.2

def k0_off117 (v1565 : BitVec 32) : Fin 2 → Nat :=
  let v1568 : Index := Scalar.indexCast v1565
  let c0_290 : Index := 0#32
  ![v1568.toNat, 0]

def k0_off118 (v1565 : BitVec 32) : Fin 2 → Nat :=
  let v1574 : Index := Scalar.indexCast v1565
  let c16_291 : Index := 16#32
  ![v1574.toNat, 16]
def k0_off119 (v1565 : BitVec 32) : Fin 2 → Nat :=
  let v1580 : Index := Scalar.indexCast v1565
  let c32_292 : Index := 32#32
  ![v1580.toNat, 32]
def k0_off120 (v1565 : BitVec 32) : Fin 2 → Nat :=
  let v1586 : Index := Scalar.indexCast v1565
  let c48_293 : Index := 48#32
  ![v1586.toNat, 48]

def k0_chk23 (v1565 : BitVec 32) : Prop :=
  (∀ a, (k0_off117 v1565) a + S1x16.size a ≤ S512x64.size a) ∧
  (∀ a, (k0_off118 v1565) a + S1x16.size a ≤ S512x64.size a) ∧
  (∀ a, (k0_off119 v1565) a + S1x16.size a ≤ S512x64.size a) ∧
  (∀ a, (k0_off120 v1565) a + S1x16.size a ≤ S512x64.size a)
theorem k0_off117_inb : ∀ (v1565 : BitVec 32) (k0_hw23 : k0_chk23 v1565), ∀ a, (k0_off117 v1565) a + S1x16.size a ≤ S512x64.size a := fun v1565 k0_hw23 => k0_hw23.1
theorem k0_off118_inb : ∀ (v1565 : BitVec 32) (k0_hw23 : k0_chk23 v1565), ∀ a, (k0_off118 v1565) a + S1x16.size a ≤ S512x64.size a := fun v1565 k0_hw23 => k0_hw23.2.1
theorem k0_off119_inb : ∀ (v1565 : BitVec 32) (k0_hw23 : k0_chk23 v1565), ∀ a, (k0_off119 v1565) a + S1x16.size a ≤ S512x64.size a := fun v1565 k0_hw23 => k0_hw23.2.2.1
theorem k0_off120_inb : ∀ (v1565 : BitVec 32) (k0_hw23 : k0_chk23 v1565), ∀ a, (k0_off120 v1565) a + S1x16.size a ≤ S512x64.size a := fun v1565 k0_hw23 => k0_hw23.2.2.2

def k0_off121 (v1593 : BitVec 32) : Fin 2 → Nat :=
  let v1596 : Index := Scalar.indexCast v1593
  let c0_294 : Index := 0#32
  ![v1596.toNat, 0]

def k0_off122 (v1593 : BitVec 32) : Fin 2 → Nat :=
  let v1602 : Index := Scalar.indexCast v1593
  let c16_295 : Index := 16#32
  ![v1602.toNat, 16]
def k0_off123 (v1593 : BitVec 32) : Fin 2 → Nat :=
  let v1608 : Index := Scalar.indexCast v1593
  let c32_296 : Index := 32#32
  ![v1608.toNat, 32]
def k0_off124 (v1593 : BitVec 32) : Fin 2 → Nat :=
  let v1614 : Index := Scalar.indexCast v1593
  let c48_297 : Index := 48#32
  ![v1614.toNat, 48]

def k0_chk24 (v1593 : BitVec 32) : Prop :=
  (∀ a, (k0_off121 v1593) a + S1x16.size a ≤ S512x64.size a) ∧
  (∀ a, (k0_off122 v1593) a + S1x16.size a ≤ S512x64.size a) ∧
  (∀ a, (k0_off123 v1593) a + S1x16.size a ≤ S512x64.size a) ∧
  (∀ a, (k0_off124 v1593) a + S1x16.size a ≤ S512x64.size a)
theorem k0_off121_inb : ∀ (v1593 : BitVec 32) (k0_hw24 : k0_chk24 v1593), ∀ a, (k0_off121 v1593) a + S1x16.size a ≤ S512x64.size a := fun v1593 k0_hw24 => k0_hw24.1
theorem k0_off122_inb : ∀ (v1593 : BitVec 32) (k0_hw24 : k0_chk24 v1593), ∀ a, (k0_off122 v1593) a + S1x16.size a ≤ S512x64.size a := fun v1593 k0_hw24 => k0_hw24.2.1
theorem k0_off123_inb : ∀ (v1593 : BitVec 32) (k0_hw24 : k0_chk24 v1593), ∀ a, (k0_off123 v1593) a + S1x16.size a ≤ S512x64.size a := fun v1593 k0_hw24 => k0_hw24.2.2.1
theorem k0_off124_inb : ∀ (v1593 : BitVec 32) (k0_hw24 : k0_chk24 v1593), ∀ a, (k0_off124 v1593) a + S1x16.size a ≤ S512x64.size a := fun v1593 k0_hw24 => k0_hw24.2.2.2

def k0_off125 (v1621 : BitVec 32) : Fin 2 → Nat :=
  let v1624 : Index := Scalar.indexCast v1621
  let c0_298 : Index := 0#32
  ![v1624.toNat, 0]

def k0_off126 (v1621 : BitVec 32) : Fin 2 → Nat :=
  let v1630 : Index := Scalar.indexCast v1621
  let c16_299 : Index := 16#32
  ![v1630.toNat, 16]
def k0_off127 (v1621 : BitVec 32) : Fin 2 → Nat :=
  let v1636 : Index := Scalar.indexCast v1621
  let c32_300 : Index := 32#32
  ![v1636.toNat, 32]
def k0_off128 (v1621 : BitVec 32) : Fin 2 → Nat :=
  let v1642 : Index := Scalar.indexCast v1621
  let c48_301 : Index := 48#32
  ![v1642.toNat, 48]

def k0_chk25 (v1621 : BitVec 32) : Prop :=
  (∀ a, (k0_off125 v1621) a + S1x16.size a ≤ S512x64.size a) ∧
  (∀ a, (k0_off126 v1621) a + S1x16.size a ≤ S512x64.size a) ∧
  (∀ a, (k0_off127 v1621) a + S1x16.size a ≤ S512x64.size a) ∧
  (∀ a, (k0_off128 v1621) a + S1x16.size a ≤ S512x64.size a)
theorem k0_off125_inb : ∀ (v1621 : BitVec 32) (k0_hw25 : k0_chk25 v1621), ∀ a, (k0_off125 v1621) a + S1x16.size a ≤ S512x64.size a := fun v1621 k0_hw25 => k0_hw25.1
theorem k0_off126_inb : ∀ (v1621 : BitVec 32) (k0_hw25 : k0_chk25 v1621), ∀ a, (k0_off126 v1621) a + S1x16.size a ≤ S512x64.size a := fun v1621 k0_hw25 => k0_hw25.2.1
theorem k0_off127_inb : ∀ (v1621 : BitVec 32) (k0_hw25 : k0_chk25 v1621), ∀ a, (k0_off127 v1621) a + S1x16.size a ≤ S512x64.size a := fun v1621 k0_hw25 => k0_hw25.2.2.1
theorem k0_off128_inb : ∀ (v1621 : BitVec 32) (k0_hw25 : k0_chk25 v1621), ∀ a, (k0_off128 v1621) a + S1x16.size a ≤ S512x64.size a := fun v1621 k0_hw25 => k0_hw25.2.2.2

def k0_off129 (v1649 : BitVec 32) : Fin 2 → Nat :=
  let v1652 : Index := Scalar.indexCast v1649
  let c0_302 : Index := 0#32
  ![v1652.toNat, 0]

def k0_off130 (v1649 : BitVec 32) : Fin 2 → Nat :=
  let v1658 : Index := Scalar.indexCast v1649
  let c16_303 : Index := 16#32
  ![v1658.toNat, 16]
def k0_off131 (v1649 : BitVec 32) : Fin 2 → Nat :=
  let v1664 : Index := Scalar.indexCast v1649
  let c32_304 : Index := 32#32
  ![v1664.toNat, 32]
def k0_off132 (v1649 : BitVec 32) : Fin 2 → Nat :=
  let v1670 : Index := Scalar.indexCast v1649
  let c48_305 : Index := 48#32
  ![v1670.toNat, 48]

def k0_chk26 (v1649 : BitVec 32) : Prop :=
  (∀ a, (k0_off129 v1649) a + S1x16.size a ≤ S512x64.size a) ∧
  (∀ a, (k0_off130 v1649) a + S1x16.size a ≤ S512x64.size a) ∧
  (∀ a, (k0_off131 v1649) a + S1x16.size a ≤ S512x64.size a) ∧
  (∀ a, (k0_off132 v1649) a + S1x16.size a ≤ S512x64.size a)
theorem k0_off129_inb : ∀ (v1649 : BitVec 32) (k0_hw26 : k0_chk26 v1649), ∀ a, (k0_off129 v1649) a + S1x16.size a ≤ S512x64.size a := fun v1649 k0_hw26 => k0_hw26.1
theorem k0_off130_inb : ∀ (v1649 : BitVec 32) (k0_hw26 : k0_chk26 v1649), ∀ a, (k0_off130 v1649) a + S1x16.size a ≤ S512x64.size a := fun v1649 k0_hw26 => k0_hw26.2.1
theorem k0_off131_inb : ∀ (v1649 : BitVec 32) (k0_hw26 : k0_chk26 v1649), ∀ a, (k0_off131 v1649) a + S1x16.size a ≤ S512x64.size a := fun v1649 k0_hw26 => k0_hw26.2.2.1
theorem k0_off132_inb : ∀ (v1649 : BitVec 32) (k0_hw26 : k0_chk26 v1649), ∀ a, (k0_off132 v1649) a + S1x16.size a ≤ S512x64.size a := fun v1649 k0_hw26 => k0_hw26.2.2.2

def k0_off133 (v1677 : BitVec 32) : Fin 2 → Nat :=
  let v1680 : Index := Scalar.indexCast v1677
  let c0_306 : Index := 0#32
  ![v1680.toNat, 0]

def k0_off134 (v1677 : BitVec 32) : Fin 2 → Nat :=
  let v1686 : Index := Scalar.indexCast v1677
  let c16_307 : Index := 16#32
  ![v1686.toNat, 16]
def k0_off135 (v1677 : BitVec 32) : Fin 2 → Nat :=
  let v1692 : Index := Scalar.indexCast v1677
  let c32_308 : Index := 32#32
  ![v1692.toNat, 32]
def k0_off136 (v1677 : BitVec 32) : Fin 2 → Nat :=
  let v1698 : Index := Scalar.indexCast v1677
  let c48_309 : Index := 48#32
  ![v1698.toNat, 48]

def k0_chk27 (v1677 : BitVec 32) : Prop :=
  (∀ a, (k0_off133 v1677) a + S1x16.size a ≤ S512x64.size a) ∧
  (∀ a, (k0_off134 v1677) a + S1x16.size a ≤ S512x64.size a) ∧
  (∀ a, (k0_off135 v1677) a + S1x16.size a ≤ S512x64.size a) ∧
  (∀ a, (k0_off136 v1677) a + S1x16.size a ≤ S512x64.size a)
theorem k0_off133_inb : ∀ (v1677 : BitVec 32) (k0_hw27 : k0_chk27 v1677), ∀ a, (k0_off133 v1677) a + S1x16.size a ≤ S512x64.size a := fun v1677 k0_hw27 => k0_hw27.1
theorem k0_off134_inb : ∀ (v1677 : BitVec 32) (k0_hw27 : k0_chk27 v1677), ∀ a, (k0_off134 v1677) a + S1x16.size a ≤ S512x64.size a := fun v1677 k0_hw27 => k0_hw27.2.1
theorem k0_off135_inb : ∀ (v1677 : BitVec 32) (k0_hw27 : k0_chk27 v1677), ∀ a, (k0_off135 v1677) a + S1x16.size a ≤ S512x64.size a := fun v1677 k0_hw27 => k0_hw27.2.2.1
theorem k0_off136_inb : ∀ (v1677 : BitVec 32) (k0_hw27 : k0_chk27 v1677), ∀ a, (k0_off136 v1677) a + S1x16.size a ≤ S512x64.size a := fun v1677 k0_hw27 => k0_hw27.2.2.2

def k0_off137 (v1705 : BitVec 32) : Fin 2 → Nat :=
  let v1708 : Index := Scalar.indexCast v1705
  let c0_310 : Index := 0#32
  ![v1708.toNat, 0]

def k0_off138 (v1705 : BitVec 32) : Fin 2 → Nat :=
  let v1714 : Index := Scalar.indexCast v1705
  let c16_311 : Index := 16#32
  ![v1714.toNat, 16]
def k0_off139 (v1705 : BitVec 32) : Fin 2 → Nat :=
  let v1720 : Index := Scalar.indexCast v1705
  let c32_312 : Index := 32#32
  ![v1720.toNat, 32]
def k0_off140 (v1705 : BitVec 32) : Fin 2 → Nat :=
  let v1726 : Index := Scalar.indexCast v1705
  let c48_313 : Index := 48#32
  ![v1726.toNat, 48]

def k0_chk28 (v1705 : BitVec 32) : Prop :=
  (∀ a, (k0_off137 v1705) a + S1x16.size a ≤ S512x64.size a) ∧
  (∀ a, (k0_off138 v1705) a + S1x16.size a ≤ S512x64.size a) ∧
  (∀ a, (k0_off139 v1705) a + S1x16.size a ≤ S512x64.size a) ∧
  (∀ a, (k0_off140 v1705) a + S1x16.size a ≤ S512x64.size a)
theorem k0_off137_inb : ∀ (v1705 : BitVec 32) (k0_hw28 : k0_chk28 v1705), ∀ a, (k0_off137 v1705) a + S1x16.size a ≤ S512x64.size a := fun v1705 k0_hw28 => k0_hw28.1
theorem k0_off138_inb : ∀ (v1705 : BitVec 32) (k0_hw28 : k0_chk28 v1705), ∀ a, (k0_off138 v1705) a + S1x16.size a ≤ S512x64.size a := fun v1705 k0_hw28 => k0_hw28.2.1
theorem k0_off139_inb : ∀ (v1705 : BitVec 32) (k0_hw28 : k0_chk28 v1705), ∀ a, (k0_off139 v1705) a + S1x16.size a ≤ S512x64.size a := fun v1705 k0_hw28 => k0_hw28.2.2.1
theorem k0_off140_inb : ∀ (v1705 : BitVec 32) (k0_hw28 : k0_chk28 v1705), ∀ a, (k0_off140 v1705) a + S1x16.size a ≤ S512x64.size a := fun v1705 k0_hw28 => k0_hw28.2.2.2

def k0_off141 (v1733 : BitVec 32) : Fin 2 → Nat :=
  let v1736 : Index := Scalar.indexCast v1733
  let c0_314 : Index := 0#32
  ![v1736.toNat, 0]

def k0_off142 (v1733 : BitVec 32) : Fin 2 → Nat :=
  let v1742 : Index := Scalar.indexCast v1733
  let c16_315 : Index := 16#32
  ![v1742.toNat, 16]
def k0_off143 (v1733 : BitVec 32) : Fin 2 → Nat :=
  let v1748 : Index := Scalar.indexCast v1733
  let c32_316 : Index := 32#32
  ![v1748.toNat, 32]
def k0_off144 (v1733 : BitVec 32) : Fin 2 → Nat :=
  let v1754 : Index := Scalar.indexCast v1733
  let c48_317 : Index := 48#32
  ![v1754.toNat, 48]

def k0_chk29 (v1733 : BitVec 32) : Prop :=
  (∀ a, (k0_off141 v1733) a + S1x16.size a ≤ S512x64.size a) ∧
  (∀ a, (k0_off142 v1733) a + S1x16.size a ≤ S512x64.size a) ∧
  (∀ a, (k0_off143 v1733) a + S1x16.size a ≤ S512x64.size a) ∧
  (∀ a, (k0_off144 v1733) a + S1x16.size a ≤ S512x64.size a)
theorem k0_off141_inb : ∀ (v1733 : BitVec 32) (k0_hw29 : k0_chk29 v1733), ∀ a, (k0_off141 v1733) a + S1x16.size a ≤ S512x64.size a := fun v1733 k0_hw29 => k0_hw29.1
theorem k0_off142_inb : ∀ (v1733 : BitVec 32) (k0_hw29 : k0_chk29 v1733), ∀ a, (k0_off142 v1733) a + S1x16.size a ≤ S512x64.size a := fun v1733 k0_hw29 => k0_hw29.2.1
theorem k0_off143_inb : ∀ (v1733 : BitVec 32) (k0_hw29 : k0_chk29 v1733), ∀ a, (k0_off143 v1733) a + S1x16.size a ≤ S512x64.size a := fun v1733 k0_hw29 => k0_hw29.2.2.1
theorem k0_off144_inb : ∀ (v1733 : BitVec 32) (k0_hw29 : k0_chk29 v1733), ∀ a, (k0_off144 v1733) a + S1x16.size a ≤ S512x64.size a := fun v1733 k0_hw29 => k0_hw29.2.2.2

def k0_off145 (v1761 : BitVec 32) : Fin 2 → Nat :=
  let v1764 : Index := Scalar.indexCast v1761
  let c0_318 : Index := 0#32
  ![v1764.toNat, 0]

def k0_off146 (v1761 : BitVec 32) : Fin 2 → Nat :=
  let v1770 : Index := Scalar.indexCast v1761
  let c16_319 : Index := 16#32
  ![v1770.toNat, 16]
def k0_off147 (v1761 : BitVec 32) : Fin 2 → Nat :=
  let v1776 : Index := Scalar.indexCast v1761
  let c32_320 : Index := 32#32
  ![v1776.toNat, 32]
def k0_off148 (v1761 : BitVec 32) : Fin 2 → Nat :=
  let v1782 : Index := Scalar.indexCast v1761
  let c48_321 : Index := 48#32
  ![v1782.toNat, 48]

def k0_chk30 (v1761 : BitVec 32) : Prop :=
  (∀ a, (k0_off145 v1761) a + S1x16.size a ≤ S512x64.size a) ∧
  (∀ a, (k0_off146 v1761) a + S1x16.size a ≤ S512x64.size a) ∧
  (∀ a, (k0_off147 v1761) a + S1x16.size a ≤ S512x64.size a) ∧
  (∀ a, (k0_off148 v1761) a + S1x16.size a ≤ S512x64.size a)
theorem k0_off145_inb : ∀ (v1761 : BitVec 32) (k0_hw30 : k0_chk30 v1761), ∀ a, (k0_off145 v1761) a + S1x16.size a ≤ S512x64.size a := fun v1761 k0_hw30 => k0_hw30.1
theorem k0_off146_inb : ∀ (v1761 : BitVec 32) (k0_hw30 : k0_chk30 v1761), ∀ a, (k0_off146 v1761) a + S1x16.size a ≤ S512x64.size a := fun v1761 k0_hw30 => k0_hw30.2.1
theorem k0_off147_inb : ∀ (v1761 : BitVec 32) (k0_hw30 : k0_chk30 v1761), ∀ a, (k0_off147 v1761) a + S1x16.size a ≤ S512x64.size a := fun v1761 k0_hw30 => k0_hw30.2.2.1
theorem k0_off148_inb : ∀ (v1761 : BitVec 32) (k0_hw30 : k0_chk30 v1761), ∀ a, (k0_off148 v1761) a + S1x16.size a ≤ S512x64.size a := fun v1761 k0_hw30 => k0_hw30.2.2.2

def k0_off149 (v1789 : BitVec 32) : Fin 2 → Nat :=
  let v1792 : Index := Scalar.indexCast v1789
  let c0_322 : Index := 0#32
  ![v1792.toNat, 0]

def k0_off150 (v1789 : BitVec 32) : Fin 2 → Nat :=
  let v1798 : Index := Scalar.indexCast v1789
  let c16_323 : Index := 16#32
  ![v1798.toNat, 16]
def k0_off151 (v1789 : BitVec 32) : Fin 2 → Nat :=
  let v1804 : Index := Scalar.indexCast v1789
  let c32_324 : Index := 32#32
  ![v1804.toNat, 32]
def k0_off152 (v1789 : BitVec 32) : Fin 2 → Nat :=
  let v1810 : Index := Scalar.indexCast v1789
  let c48_325 : Index := 48#32
  ![v1810.toNat, 48]

def k0_chk31 (v1789 : BitVec 32) : Prop :=
  (∀ a, (k0_off149 v1789) a + S1x16.size a ≤ S512x64.size a) ∧
  (∀ a, (k0_off150 v1789) a + S1x16.size a ≤ S512x64.size a) ∧
  (∀ a, (k0_off151 v1789) a + S1x16.size a ≤ S512x64.size a) ∧
  (∀ a, (k0_off152 v1789) a + S1x16.size a ≤ S512x64.size a)
theorem k0_off149_inb : ∀ (v1789 : BitVec 32) (k0_hw31 : k0_chk31 v1789), ∀ a, (k0_off149 v1789) a + S1x16.size a ≤ S512x64.size a := fun v1789 k0_hw31 => k0_hw31.1
theorem k0_off150_inb : ∀ (v1789 : BitVec 32) (k0_hw31 : k0_chk31 v1789), ∀ a, (k0_off150 v1789) a + S1x16.size a ≤ S512x64.size a := fun v1789 k0_hw31 => k0_hw31.2.1
theorem k0_off151_inb : ∀ (v1789 : BitVec 32) (k0_hw31 : k0_chk31 v1789), ∀ a, (k0_off151 v1789) a + S1x16.size a ≤ S512x64.size a := fun v1789 k0_hw31 => k0_hw31.2.2.1
theorem k0_off152_inb : ∀ (v1789 : BitVec 32) (k0_hw31 : k0_chk31 v1789), ∀ a, (k0_off152 v1789) a + S1x16.size a ≤ S512x64.size a := fun v1789 k0_hw31 => k0_hw31.2.2.2

def k0_off153 (v1817 : BitVec 32) : Fin 2 → Nat :=
  let v1820 : Index := Scalar.indexCast v1817
  let c0_326 : Index := 0#32
  ![v1820.toNat, 0]

def k0_off154 (v1817 : BitVec 32) : Fin 2 → Nat :=
  let v1826 : Index := Scalar.indexCast v1817
  let c16_327 : Index := 16#32
  ![v1826.toNat, 16]
def k0_off155 (v1817 : BitVec 32) : Fin 2 → Nat :=
  let v1832 : Index := Scalar.indexCast v1817
  let c32_328 : Index := 32#32
  ![v1832.toNat, 32]
def k0_off156 (v1817 : BitVec 32) : Fin 2 → Nat :=
  let v1838 : Index := Scalar.indexCast v1817
  let c48_329 : Index := 48#32
  ![v1838.toNat, 48]

def k0_chk32 (v1817 : BitVec 32) : Prop :=
  (∀ a, (k0_off153 v1817) a + S1x16.size a ≤ S512x64.size a) ∧
  (∀ a, (k0_off154 v1817) a + S1x16.size a ≤ S512x64.size a) ∧
  (∀ a, (k0_off155 v1817) a + S1x16.size a ≤ S512x64.size a) ∧
  (∀ a, (k0_off156 v1817) a + S1x16.size a ≤ S512x64.size a)
theorem k0_off153_inb : ∀ (v1817 : BitVec 32) (k0_hw32 : k0_chk32 v1817), ∀ a, (k0_off153 v1817) a + S1x16.size a ≤ S512x64.size a := fun v1817 k0_hw32 => k0_hw32.1
theorem k0_off154_inb : ∀ (v1817 : BitVec 32) (k0_hw32 : k0_chk32 v1817), ∀ a, (k0_off154 v1817) a + S1x16.size a ≤ S512x64.size a := fun v1817 k0_hw32 => k0_hw32.2.1
theorem k0_off155_inb : ∀ (v1817 : BitVec 32) (k0_hw32 : k0_chk32 v1817), ∀ a, (k0_off155 v1817) a + S1x16.size a ≤ S512x64.size a := fun v1817 k0_hw32 => k0_hw32.2.2.1
theorem k0_off156_inb : ∀ (v1817 : BitVec 32) (k0_hw32 : k0_chk32 v1817), ∀ a, (k0_off156 v1817) a + S1x16.size a ≤ S512x64.size a := fun v1817 k0_hw32 => k0_hw32.2.2.2

def k0_off157 (k0_t1 : Fin k0_t1_loop.trips) : Fin 1 → Nat :=
  let c0_i32_25 : BitVec 32 := 0#32
  let c1_i32_26 : BitVec 32 := 1#32
  let arg20 : BitVec 32 := Scf.iv c0_i32_25 c1_i32_26 k0_t1
  let c4_i32_193 : BitVec 32 := 4#32
  let v931 : BitVec 32 := Scalar.muli arg20 c4_i32_193
  let c2_i32_334 : BitVec 32 := 2#32
  let v1860 : BitVec 32 := Scalar.addi v931 c2_i32_334
  let c16_i32_335 : BitVec 32 := 16#32
  let v1861 : BitVec 32 := Scalar.muli v1860 c16_i32_335
  let v1862 : Index := Scalar.indexCast v1861
  ![v1862.toNat]
def k0_off158 (v1869 : BitVec 32) : Fin 2 → Nat :=
  let v1872 : Index := Scalar.indexCast v1869
  let c0_336 : Index := 0#32
  ![v1872.toNat, 0]

def k0_off159 (v1869 : BitVec 32) : Fin 2 → Nat :=
  let v1877 : Index := Scalar.indexCast v1869
  let c16_337 : Index := 16#32
  ![v1877.toNat, 16]
def k0_off160 (v1869 : BitVec 32) : Fin 2 → Nat :=
  let v1882 : Index := Scalar.indexCast v1869
  let c32_338 : Index := 32#32
  ![v1882.toNat, 32]
def k0_off161 (v1869 : BitVec 32) : Fin 2 → Nat :=
  let v1887 : Index := Scalar.indexCast v1869
  let c48_339 : Index := 48#32
  ![v1887.toNat, 48]

def k0_chk33 (v1869 : BitVec 32) : Prop :=
  (∀ a, (k0_off158 v1869) a + S1x16.size a ≤ S512x64.size a) ∧
  (∀ a, (k0_off159 v1869) a + S1x16.size a ≤ S512x64.size a) ∧
  (∀ a, (k0_off160 v1869) a + S1x16.size a ≤ S512x64.size a) ∧
  (∀ a, (k0_off161 v1869) a + S1x16.size a ≤ S512x64.size a)
theorem k0_off158_inb : ∀ (v1869 : BitVec 32) (k0_hw33 : k0_chk33 v1869), ∀ a, (k0_off158 v1869) a + S1x16.size a ≤ S512x64.size a := fun v1869 k0_hw33 => k0_hw33.1
theorem k0_off159_inb : ∀ (v1869 : BitVec 32) (k0_hw33 : k0_chk33 v1869), ∀ a, (k0_off159 v1869) a + S1x16.size a ≤ S512x64.size a := fun v1869 k0_hw33 => k0_hw33.2.1
theorem k0_off160_inb : ∀ (v1869 : BitVec 32) (k0_hw33 : k0_chk33 v1869), ∀ a, (k0_off160 v1869) a + S1x16.size a ≤ S512x64.size a := fun v1869 k0_hw33 => k0_hw33.2.2.1
theorem k0_off161_inb : ∀ (v1869 : BitVec 32) (k0_hw33 : k0_chk33 v1869), ∀ a, (k0_off161 v1869) a + S1x16.size a ≤ S512x64.size a := fun v1869 k0_hw33 => k0_hw33.2.2.2

def k0_off162 (v1893 : BitVec 32) : Fin 2 → Nat :=
  let v1896 : Index := Scalar.indexCast v1893
  let c0_340 : Index := 0#32
  ![v1896.toNat, 0]

def k0_off163 (v1893 : BitVec 32) : Fin 2 → Nat :=
  let v1901 : Index := Scalar.indexCast v1893
  let c16_341 : Index := 16#32
  ![v1901.toNat, 16]
def k0_off164 (v1893 : BitVec 32) : Fin 2 → Nat :=
  let v1906 : Index := Scalar.indexCast v1893
  let c32_342 : Index := 32#32
  ![v1906.toNat, 32]
def k0_off165 (v1893 : BitVec 32) : Fin 2 → Nat :=
  let v1911 : Index := Scalar.indexCast v1893
  let c48_343 : Index := 48#32
  ![v1911.toNat, 48]

def k0_chk34 (v1893 : BitVec 32) : Prop :=
  (∀ a, (k0_off162 v1893) a + S1x16.size a ≤ S512x64.size a) ∧
  (∀ a, (k0_off163 v1893) a + S1x16.size a ≤ S512x64.size a) ∧
  (∀ a, (k0_off164 v1893) a + S1x16.size a ≤ S512x64.size a) ∧
  (∀ a, (k0_off165 v1893) a + S1x16.size a ≤ S512x64.size a)
theorem k0_off162_inb : ∀ (v1893 : BitVec 32) (k0_hw34 : k0_chk34 v1893), ∀ a, (k0_off162 v1893) a + S1x16.size a ≤ S512x64.size a := fun v1893 k0_hw34 => k0_hw34.1
theorem k0_off163_inb : ∀ (v1893 : BitVec 32) (k0_hw34 : k0_chk34 v1893), ∀ a, (k0_off163 v1893) a + S1x16.size a ≤ S512x64.size a := fun v1893 k0_hw34 => k0_hw34.2.1
theorem k0_off164_inb : ∀ (v1893 : BitVec 32) (k0_hw34 : k0_chk34 v1893), ∀ a, (k0_off164 v1893) a + S1x16.size a ≤ S512x64.size a := fun v1893 k0_hw34 => k0_hw34.2.2.1
theorem k0_off165_inb : ∀ (v1893 : BitVec 32) (k0_hw34 : k0_chk34 v1893), ∀ a, (k0_off165 v1893) a + S1x16.size a ≤ S512x64.size a := fun v1893 k0_hw34 => k0_hw34.2.2.2

def k0_off166 (v1917 : BitVec 32) : Fin 2 → Nat :=
  let v1920 : Index := Scalar.indexCast v1917
  let c0_344 : Index := 0#32
  ![v1920.toNat, 0]

def k0_off167 (v1917 : BitVec 32) : Fin 2 → Nat :=
  let v1926 : Index := Scalar.indexCast v1917
  let c16_345 : Index := 16#32
  ![v1926.toNat, 16]
def k0_off168 (v1917 : BitVec 32) : Fin 2 → Nat :=
  let v1932 : Index := Scalar.indexCast v1917
  let c32_346 : Index := 32#32
  ![v1932.toNat, 32]
def k0_off169 (v1917 : BitVec 32) : Fin 2 → Nat :=
  let v1938 : Index := Scalar.indexCast v1917
  let c48_347 : Index := 48#32
  ![v1938.toNat, 48]

def k0_chk35 (v1917 : BitVec 32) : Prop :=
  (∀ a, (k0_off166 v1917) a + S1x16.size a ≤ S512x64.size a) ∧
  (∀ a, (k0_off167 v1917) a + S1x16.size a ≤ S512x64.size a) ∧
  (∀ a, (k0_off168 v1917) a + S1x16.size a ≤ S512x64.size a) ∧
  (∀ a, (k0_off169 v1917) a + S1x16.size a ≤ S512x64.size a)
theorem k0_off166_inb : ∀ (v1917 : BitVec 32) (k0_hw35 : k0_chk35 v1917), ∀ a, (k0_off166 v1917) a + S1x16.size a ≤ S512x64.size a := fun v1917 k0_hw35 => k0_hw35.1
theorem k0_off167_inb : ∀ (v1917 : BitVec 32) (k0_hw35 : k0_chk35 v1917), ∀ a, (k0_off167 v1917) a + S1x16.size a ≤ S512x64.size a := fun v1917 k0_hw35 => k0_hw35.2.1
theorem k0_off168_inb : ∀ (v1917 : BitVec 32) (k0_hw35 : k0_chk35 v1917), ∀ a, (k0_off168 v1917) a + S1x16.size a ≤ S512x64.size a := fun v1917 k0_hw35 => k0_hw35.2.2.1
theorem k0_off169_inb : ∀ (v1917 : BitVec 32) (k0_hw35 : k0_chk35 v1917), ∀ a, (k0_off169 v1917) a + S1x16.size a ≤ S512x64.size a := fun v1917 k0_hw35 => k0_hw35.2.2.2

def k0_off170 (v1945 : BitVec 32) : Fin 2 → Nat :=
  let v1948 : Index := Scalar.indexCast v1945
  let c0_348 : Index := 0#32
  ![v1948.toNat, 0]

def k0_off171 (v1945 : BitVec 32) : Fin 2 → Nat :=
  let v1954 : Index := Scalar.indexCast v1945
  let c16_349 : Index := 16#32
  ![v1954.toNat, 16]
def k0_off172 (v1945 : BitVec 32) : Fin 2 → Nat :=
  let v1960 : Index := Scalar.indexCast v1945
  let c32_350 : Index := 32#32
  ![v1960.toNat, 32]
def k0_off173 (v1945 : BitVec 32) : Fin 2 → Nat :=
  let v1966 : Index := Scalar.indexCast v1945
  let c48_351 : Index := 48#32
  ![v1966.toNat, 48]

def k0_chk36 (v1945 : BitVec 32) : Prop :=
  (∀ a, (k0_off170 v1945) a + S1x16.size a ≤ S512x64.size a) ∧
  (∀ a, (k0_off171 v1945) a + S1x16.size a ≤ S512x64.size a) ∧
  (∀ a, (k0_off172 v1945) a + S1x16.size a ≤ S512x64.size a) ∧
  (∀ a, (k0_off173 v1945) a + S1x16.size a ≤ S512x64.size a)
theorem k0_off170_inb : ∀ (v1945 : BitVec 32) (k0_hw36 : k0_chk36 v1945), ∀ a, (k0_off170 v1945) a + S1x16.size a ≤ S512x64.size a := fun v1945 k0_hw36 => k0_hw36.1
theorem k0_off171_inb : ∀ (v1945 : BitVec 32) (k0_hw36 : k0_chk36 v1945), ∀ a, (k0_off171 v1945) a + S1x16.size a ≤ S512x64.size a := fun v1945 k0_hw36 => k0_hw36.2.1
theorem k0_off172_inb : ∀ (v1945 : BitVec 32) (k0_hw36 : k0_chk36 v1945), ∀ a, (k0_off172 v1945) a + S1x16.size a ≤ S512x64.size a := fun v1945 k0_hw36 => k0_hw36.2.2.1
theorem k0_off173_inb : ∀ (v1945 : BitVec 32) (k0_hw36 : k0_chk36 v1945), ∀ a, (k0_off173 v1945) a + S1x16.size a ≤ S512x64.size a := fun v1945 k0_hw36 => k0_hw36.2.2.2

def k0_off174 (v1973 : BitVec 32) : Fin 2 → Nat :=
  let v1976 : Index := Scalar.indexCast v1973
  let c0_352 : Index := 0#32
  ![v1976.toNat, 0]

def k0_off175 (v1973 : BitVec 32) : Fin 2 → Nat :=
  let v1982 : Index := Scalar.indexCast v1973
  let c16_353 : Index := 16#32
  ![v1982.toNat, 16]
def k0_off176 (v1973 : BitVec 32) : Fin 2 → Nat :=
  let v1988 : Index := Scalar.indexCast v1973
  let c32_354 : Index := 32#32
  ![v1988.toNat, 32]
def k0_off177 (v1973 : BitVec 32) : Fin 2 → Nat :=
  let v1994 : Index := Scalar.indexCast v1973
  let c48_355 : Index := 48#32
  ![v1994.toNat, 48]

def k0_chk37 (v1973 : BitVec 32) : Prop :=
  (∀ a, (k0_off174 v1973) a + S1x16.size a ≤ S512x64.size a) ∧
  (∀ a, (k0_off175 v1973) a + S1x16.size a ≤ S512x64.size a) ∧
  (∀ a, (k0_off176 v1973) a + S1x16.size a ≤ S512x64.size a) ∧
  (∀ a, (k0_off177 v1973) a + S1x16.size a ≤ S512x64.size a)
theorem k0_off174_inb : ∀ (v1973 : BitVec 32) (k0_hw37 : k0_chk37 v1973), ∀ a, (k0_off174 v1973) a + S1x16.size a ≤ S512x64.size a := fun v1973 k0_hw37 => k0_hw37.1
theorem k0_off175_inb : ∀ (v1973 : BitVec 32) (k0_hw37 : k0_chk37 v1973), ∀ a, (k0_off175 v1973) a + S1x16.size a ≤ S512x64.size a := fun v1973 k0_hw37 => k0_hw37.2.1
theorem k0_off176_inb : ∀ (v1973 : BitVec 32) (k0_hw37 : k0_chk37 v1973), ∀ a, (k0_off176 v1973) a + S1x16.size a ≤ S512x64.size a := fun v1973 k0_hw37 => k0_hw37.2.2.1
theorem k0_off177_inb : ∀ (v1973 : BitVec 32) (k0_hw37 : k0_chk37 v1973), ∀ a, (k0_off177 v1973) a + S1x16.size a ≤ S512x64.size a := fun v1973 k0_hw37 => k0_hw37.2.2.2

def k0_off178 (v2001 : BitVec 32) : Fin 2 → Nat :=
  let v2004 : Index := Scalar.indexCast v2001
  let c0_356 : Index := 0#32
  ![v2004.toNat, 0]

def k0_off179 (v2001 : BitVec 32) : Fin 2 → Nat :=
  let v2010 : Index := Scalar.indexCast v2001
  let c16_357 : Index := 16#32
  ![v2010.toNat, 16]
def k0_off180 (v2001 : BitVec 32) : Fin 2 → Nat :=
  let v2016 : Index := Scalar.indexCast v2001
  let c32_358 : Index := 32#32
  ![v2016.toNat, 32]
def k0_off181 (v2001 : BitVec 32) : Fin 2 → Nat :=
  let v2022 : Index := Scalar.indexCast v2001
  let c48_359 : Index := 48#32
  ![v2022.toNat, 48]

def k0_chk38 (v2001 : BitVec 32) : Prop :=
  (∀ a, (k0_off178 v2001) a + S1x16.size a ≤ S512x64.size a) ∧
  (∀ a, (k0_off179 v2001) a + S1x16.size a ≤ S512x64.size a) ∧
  (∀ a, (k0_off180 v2001) a + S1x16.size a ≤ S512x64.size a) ∧
  (∀ a, (k0_off181 v2001) a + S1x16.size a ≤ S512x64.size a)
theorem k0_off178_inb : ∀ (v2001 : BitVec 32) (k0_hw38 : k0_chk38 v2001), ∀ a, (k0_off178 v2001) a + S1x16.size a ≤ S512x64.size a := fun v2001 k0_hw38 => k0_hw38.1
theorem k0_off179_inb : ∀ (v2001 : BitVec 32) (k0_hw38 : k0_chk38 v2001), ∀ a, (k0_off179 v2001) a + S1x16.size a ≤ S512x64.size a := fun v2001 k0_hw38 => k0_hw38.2.1
theorem k0_off180_inb : ∀ (v2001 : BitVec 32) (k0_hw38 : k0_chk38 v2001), ∀ a, (k0_off180 v2001) a + S1x16.size a ≤ S512x64.size a := fun v2001 k0_hw38 => k0_hw38.2.2.1
theorem k0_off181_inb : ∀ (v2001 : BitVec 32) (k0_hw38 : k0_chk38 v2001), ∀ a, (k0_off181 v2001) a + S1x16.size a ≤ S512x64.size a := fun v2001 k0_hw38 => k0_hw38.2.2.2

def k0_off182 (v2029 : BitVec 32) : Fin 2 → Nat :=
  let v2032 : Index := Scalar.indexCast v2029
  let c0_360 : Index := 0#32
  ![v2032.toNat, 0]

def k0_off183 (v2029 : BitVec 32) : Fin 2 → Nat :=
  let v2038 : Index := Scalar.indexCast v2029
  let c16_361 : Index := 16#32
  ![v2038.toNat, 16]
def k0_off184 (v2029 : BitVec 32) : Fin 2 → Nat :=
  let v2044 : Index := Scalar.indexCast v2029
  let c32_362 : Index := 32#32
  ![v2044.toNat, 32]
def k0_off185 (v2029 : BitVec 32) : Fin 2 → Nat :=
  let v2050 : Index := Scalar.indexCast v2029
  let c48_363 : Index := 48#32
  ![v2050.toNat, 48]

def k0_chk39 (v2029 : BitVec 32) : Prop :=
  (∀ a, (k0_off182 v2029) a + S1x16.size a ≤ S512x64.size a) ∧
  (∀ a, (k0_off183 v2029) a + S1x16.size a ≤ S512x64.size a) ∧
  (∀ a, (k0_off184 v2029) a + S1x16.size a ≤ S512x64.size a) ∧
  (∀ a, (k0_off185 v2029) a + S1x16.size a ≤ S512x64.size a)
theorem k0_off182_inb : ∀ (v2029 : BitVec 32) (k0_hw39 : k0_chk39 v2029), ∀ a, (k0_off182 v2029) a + S1x16.size a ≤ S512x64.size a := fun v2029 k0_hw39 => k0_hw39.1
theorem k0_off183_inb : ∀ (v2029 : BitVec 32) (k0_hw39 : k0_chk39 v2029), ∀ a, (k0_off183 v2029) a + S1x16.size a ≤ S512x64.size a := fun v2029 k0_hw39 => k0_hw39.2.1
theorem k0_off184_inb : ∀ (v2029 : BitVec 32) (k0_hw39 : k0_chk39 v2029), ∀ a, (k0_off184 v2029) a + S1x16.size a ≤ S512x64.size a := fun v2029 k0_hw39 => k0_hw39.2.2.1
theorem k0_off185_inb : ∀ (v2029 : BitVec 32) (k0_hw39 : k0_chk39 v2029), ∀ a, (k0_off185 v2029) a + S1x16.size a ≤ S512x64.size a := fun v2029 k0_hw39 => k0_hw39.2.2.2

def k0_off186 (v2057 : BitVec 32) : Fin 2 → Nat :=
  let v2060 : Index := Scalar.indexCast v2057
  let c0_364 : Index := 0#32
  ![v2060.toNat, 0]

def k0_off187 (v2057 : BitVec 32) : Fin 2 → Nat :=
  let v2066 : Index := Scalar.indexCast v2057
  let c16_365 : Index := 16#32
  ![v2066.toNat, 16]
def k0_off188 (v2057 : BitVec 32) : Fin 2 → Nat :=
  let v2072 : Index := Scalar.indexCast v2057
  let c32_366 : Index := 32#32
  ![v2072.toNat, 32]
def k0_off189 (v2057 : BitVec 32) : Fin 2 → Nat :=
  let v2078 : Index := Scalar.indexCast v2057
  let c48_367 : Index := 48#32
  ![v2078.toNat, 48]

def k0_chk40 (v2057 : BitVec 32) : Prop :=
  (∀ a, (k0_off186 v2057) a + S1x16.size a ≤ S512x64.size a) ∧
  (∀ a, (k0_off187 v2057) a + S1x16.size a ≤ S512x64.size a) ∧
  (∀ a, (k0_off188 v2057) a + S1x16.size a ≤ S512x64.size a) ∧
  (∀ a, (k0_off189 v2057) a + S1x16.size a ≤ S512x64.size a)
theorem k0_off186_inb : ∀ (v2057 : BitVec 32) (k0_hw40 : k0_chk40 v2057), ∀ a, (k0_off186 v2057) a + S1x16.size a ≤ S512x64.size a := fun v2057 k0_hw40 => k0_hw40.1
theorem k0_off187_inb : ∀ (v2057 : BitVec 32) (k0_hw40 : k0_chk40 v2057), ∀ a, (k0_off187 v2057) a + S1x16.size a ≤ S512x64.size a := fun v2057 k0_hw40 => k0_hw40.2.1
theorem k0_off188_inb : ∀ (v2057 : BitVec 32) (k0_hw40 : k0_chk40 v2057), ∀ a, (k0_off188 v2057) a + S1x16.size a ≤ S512x64.size a := fun v2057 k0_hw40 => k0_hw40.2.2.1
theorem k0_off189_inb : ∀ (v2057 : BitVec 32) (k0_hw40 : k0_chk40 v2057), ∀ a, (k0_off189 v2057) a + S1x16.size a ≤ S512x64.size a := fun v2057 k0_hw40 => k0_hw40.2.2.2

def k0_off190 (v2085 : BitVec 32) : Fin 2 → Nat :=
  let v2088 : Index := Scalar.indexCast v2085
  let c0_368 : Index := 0#32
  ![v2088.toNat, 0]

def k0_off191 (v2085 : BitVec 32) : Fin 2 → Nat :=
  let v2094 : Index := Scalar.indexCast v2085
  let c16_369 : Index := 16#32
  ![v2094.toNat, 16]
def k0_off192 (v2085 : BitVec 32) : Fin 2 → Nat :=
  let v2100 : Index := Scalar.indexCast v2085
  let c32_370 : Index := 32#32
  ![v2100.toNat, 32]
def k0_off193 (v2085 : BitVec 32) : Fin 2 → Nat :=
  let v2106 : Index := Scalar.indexCast v2085
  let c48_371 : Index := 48#32
  ![v2106.toNat, 48]

def k0_chk41 (v2085 : BitVec 32) : Prop :=
  (∀ a, (k0_off190 v2085) a + S1x16.size a ≤ S512x64.size a) ∧
  (∀ a, (k0_off191 v2085) a + S1x16.size a ≤ S512x64.size a) ∧
  (∀ a, (k0_off192 v2085) a + S1x16.size a ≤ S512x64.size a) ∧
  (∀ a, (k0_off193 v2085) a + S1x16.size a ≤ S512x64.size a)
theorem k0_off190_inb : ∀ (v2085 : BitVec 32) (k0_hw41 : k0_chk41 v2085), ∀ a, (k0_off190 v2085) a + S1x16.size a ≤ S512x64.size a := fun v2085 k0_hw41 => k0_hw41.1
theorem k0_off191_inb : ∀ (v2085 : BitVec 32) (k0_hw41 : k0_chk41 v2085), ∀ a, (k0_off191 v2085) a + S1x16.size a ≤ S512x64.size a := fun v2085 k0_hw41 => k0_hw41.2.1
theorem k0_off192_inb : ∀ (v2085 : BitVec 32) (k0_hw41 : k0_chk41 v2085), ∀ a, (k0_off192 v2085) a + S1x16.size a ≤ S512x64.size a := fun v2085 k0_hw41 => k0_hw41.2.2.1
theorem k0_off193_inb : ∀ (v2085 : BitVec 32) (k0_hw41 : k0_chk41 v2085), ∀ a, (k0_off193 v2085) a + S1x16.size a ≤ S512x64.size a := fun v2085 k0_hw41 => k0_hw41.2.2.2

def k0_off194 (v2113 : BitVec 32) : Fin 2 → Nat :=
  let v2116 : Index := Scalar.indexCast v2113
  let c0_372 : Index := 0#32
  ![v2116.toNat, 0]

def k0_off195 (v2113 : BitVec 32) : Fin 2 → Nat :=
  let v2122 : Index := Scalar.indexCast v2113
  let c16_373 : Index := 16#32
  ![v2122.toNat, 16]
def k0_off196 (v2113 : BitVec 32) : Fin 2 → Nat :=
  let v2128 : Index := Scalar.indexCast v2113
  let c32_374 : Index := 32#32
  ![v2128.toNat, 32]
def k0_off197 (v2113 : BitVec 32) : Fin 2 → Nat :=
  let v2134 : Index := Scalar.indexCast v2113
  let c48_375 : Index := 48#32
  ![v2134.toNat, 48]

def k0_chk42 (v2113 : BitVec 32) : Prop :=
  (∀ a, (k0_off194 v2113) a + S1x16.size a ≤ S512x64.size a) ∧
  (∀ a, (k0_off195 v2113) a + S1x16.size a ≤ S512x64.size a) ∧
  (∀ a, (k0_off196 v2113) a + S1x16.size a ≤ S512x64.size a) ∧
  (∀ a, (k0_off197 v2113) a + S1x16.size a ≤ S512x64.size a)
theorem k0_off194_inb : ∀ (v2113 : BitVec 32) (k0_hw42 : k0_chk42 v2113), ∀ a, (k0_off194 v2113) a + S1x16.size a ≤ S512x64.size a := fun v2113 k0_hw42 => k0_hw42.1
theorem k0_off195_inb : ∀ (v2113 : BitVec 32) (k0_hw42 : k0_chk42 v2113), ∀ a, (k0_off195 v2113) a + S1x16.size a ≤ S512x64.size a := fun v2113 k0_hw42 => k0_hw42.2.1
theorem k0_off196_inb : ∀ (v2113 : BitVec 32) (k0_hw42 : k0_chk42 v2113), ∀ a, (k0_off196 v2113) a + S1x16.size a ≤ S512x64.size a := fun v2113 k0_hw42 => k0_hw42.2.2.1
theorem k0_off197_inb : ∀ (v2113 : BitVec 32) (k0_hw42 : k0_chk42 v2113), ∀ a, (k0_off197 v2113) a + S1x16.size a ≤ S512x64.size a := fun v2113 k0_hw42 => k0_hw42.2.2.2

def k0_off198 (v2141 : BitVec 32) : Fin 2 → Nat :=
  let v2144 : Index := Scalar.indexCast v2141
  let c0_376 : Index := 0#32
  ![v2144.toNat, 0]

def k0_off199 (v2141 : BitVec 32) : Fin 2 → Nat :=
  let v2150 : Index := Scalar.indexCast v2141
  let c16_377 : Index := 16#32
  ![v2150.toNat, 16]
def k0_off200 (v2141 : BitVec 32) : Fin 2 → Nat :=
  let v2156 : Index := Scalar.indexCast v2141
  let c32_378 : Index := 32#32
  ![v2156.toNat, 32]
def k0_off201 (v2141 : BitVec 32) : Fin 2 → Nat :=
  let v2162 : Index := Scalar.indexCast v2141
  let c48_379 : Index := 48#32
  ![v2162.toNat, 48]

def k0_chk43 (v2141 : BitVec 32) : Prop :=
  (∀ a, (k0_off198 v2141) a + S1x16.size a ≤ S512x64.size a) ∧
  (∀ a, (k0_off199 v2141) a + S1x16.size a ≤ S512x64.size a) ∧
  (∀ a, (k0_off200 v2141) a + S1x16.size a ≤ S512x64.size a) ∧
  (∀ a, (k0_off201 v2141) a + S1x16.size a ≤ S512x64.size a)
theorem k0_off198_inb : ∀ (v2141 : BitVec 32) (k0_hw43 : k0_chk43 v2141), ∀ a, (k0_off198 v2141) a + S1x16.size a ≤ S512x64.size a := fun v2141 k0_hw43 => k0_hw43.1
theorem k0_off199_inb : ∀ (v2141 : BitVec 32) (k0_hw43 : k0_chk43 v2141), ∀ a, (k0_off199 v2141) a + S1x16.size a ≤ S512x64.size a := fun v2141 k0_hw43 => k0_hw43.2.1
theorem k0_off200_inb : ∀ (v2141 : BitVec 32) (k0_hw43 : k0_chk43 v2141), ∀ a, (k0_off200 v2141) a + S1x16.size a ≤ S512x64.size a := fun v2141 k0_hw43 => k0_hw43.2.2.1
theorem k0_off201_inb : ∀ (v2141 : BitVec 32) (k0_hw43 : k0_chk43 v2141), ∀ a, (k0_off201 v2141) a + S1x16.size a ≤ S512x64.size a := fun v2141 k0_hw43 => k0_hw43.2.2.2

def k0_off202 (v2169 : BitVec 32) : Fin 2 → Nat :=
  let v2172 : Index := Scalar.indexCast v2169
  let c0_380 : Index := 0#32
  ![v2172.toNat, 0]

def k0_off203 (v2169 : BitVec 32) : Fin 2 → Nat :=
  let v2178 : Index := Scalar.indexCast v2169
  let c16_381 : Index := 16#32
  ![v2178.toNat, 16]
def k0_off204 (v2169 : BitVec 32) : Fin 2 → Nat :=
  let v2184 : Index := Scalar.indexCast v2169
  let c32_382 : Index := 32#32
  ![v2184.toNat, 32]
def k0_off205 (v2169 : BitVec 32) : Fin 2 → Nat :=
  let v2190 : Index := Scalar.indexCast v2169
  let c48_383 : Index := 48#32
  ![v2190.toNat, 48]

def k0_chk44 (v2169 : BitVec 32) : Prop :=
  (∀ a, (k0_off202 v2169) a + S1x16.size a ≤ S512x64.size a) ∧
  (∀ a, (k0_off203 v2169) a + S1x16.size a ≤ S512x64.size a) ∧
  (∀ a, (k0_off204 v2169) a + S1x16.size a ≤ S512x64.size a) ∧
  (∀ a, (k0_off205 v2169) a + S1x16.size a ≤ S512x64.size a)
theorem k0_off202_inb : ∀ (v2169 : BitVec 32) (k0_hw44 : k0_chk44 v2169), ∀ a, (k0_off202 v2169) a + S1x16.size a ≤ S512x64.size a := fun v2169 k0_hw44 => k0_hw44.1
theorem k0_off203_inb : ∀ (v2169 : BitVec 32) (k0_hw44 : k0_chk44 v2169), ∀ a, (k0_off203 v2169) a + S1x16.size a ≤ S512x64.size a := fun v2169 k0_hw44 => k0_hw44.2.1
theorem k0_off204_inb : ∀ (v2169 : BitVec 32) (k0_hw44 : k0_chk44 v2169), ∀ a, (k0_off204 v2169) a + S1x16.size a ≤ S512x64.size a := fun v2169 k0_hw44 => k0_hw44.2.2.1
theorem k0_off205_inb : ∀ (v2169 : BitVec 32) (k0_hw44 : k0_chk44 v2169), ∀ a, (k0_off205 v2169) a + S1x16.size a ≤ S512x64.size a := fun v2169 k0_hw44 => k0_hw44.2.2.2

def k0_off206 (v2197 : BitVec 32) : Fin 2 → Nat :=
  let v2200 : Index := Scalar.indexCast v2197
  let c0_384 : Index := 0#32
  ![v2200.toNat, 0]

def k0_off207 (v2197 : BitVec 32) : Fin 2 → Nat :=
  let v2206 : Index := Scalar.indexCast v2197
  let c16_385 : Index := 16#32
  ![v2206.toNat, 16]
def k0_off208 (v2197 : BitVec 32) : Fin 2 → Nat :=
  let v2212 : Index := Scalar.indexCast v2197
  let c32_386 : Index := 32#32
  ![v2212.toNat, 32]
def k0_off209 (v2197 : BitVec 32) : Fin 2 → Nat :=
  let v2218 : Index := Scalar.indexCast v2197
  let c48_387 : Index := 48#32
  ![v2218.toNat, 48]

def k0_chk45 (v2197 : BitVec 32) : Prop :=
  (∀ a, (k0_off206 v2197) a + S1x16.size a ≤ S512x64.size a) ∧
  (∀ a, (k0_off207 v2197) a + S1x16.size a ≤ S512x64.size a) ∧
  (∀ a, (k0_off208 v2197) a + S1x16.size a ≤ S512x64.size a) ∧
  (∀ a, (k0_off209 v2197) a + S1x16.size a ≤ S512x64.size a)
theorem k0_off206_inb : ∀ (v2197 : BitVec 32) (k0_hw45 : k0_chk45 v2197), ∀ a, (k0_off206 v2197) a + S1x16.size a ≤ S512x64.size a := fun v2197 k0_hw45 => k0_hw45.1
theorem k0_off207_inb : ∀ (v2197 : BitVec 32) (k0_hw45 : k0_chk45 v2197), ∀ a, (k0_off207 v2197) a + S1x16.size a ≤ S512x64.size a := fun v2197 k0_hw45 => k0_hw45.2.1
theorem k0_off208_inb : ∀ (v2197 : BitVec 32) (k0_hw45 : k0_chk45 v2197), ∀ a, (k0_off208 v2197) a + S1x16.size a ≤ S512x64.size a := fun v2197 k0_hw45 => k0_hw45.2.2.1
theorem k0_off209_inb : ∀ (v2197 : BitVec 32) (k0_hw45 : k0_chk45 v2197), ∀ a, (k0_off209 v2197) a + S1x16.size a ≤ S512x64.size a := fun v2197 k0_hw45 => k0_hw45.2.2.2

def k0_off210 (v2225 : BitVec 32) : Fin 2 → Nat :=
  let v2228 : Index := Scalar.indexCast v2225
  let c0_388 : Index := 0#32
  ![v2228.toNat, 0]

def k0_off211 (v2225 : BitVec 32) : Fin 2 → Nat :=
  let v2234 : Index := Scalar.indexCast v2225
  let c16_389 : Index := 16#32
  ![v2234.toNat, 16]
def k0_off212 (v2225 : BitVec 32) : Fin 2 → Nat :=
  let v2240 : Index := Scalar.indexCast v2225
  let c32_390 : Index := 32#32
  ![v2240.toNat, 32]
def k0_off213 (v2225 : BitVec 32) : Fin 2 → Nat :=
  let v2246 : Index := Scalar.indexCast v2225
  let c48_391 : Index := 48#32
  ![v2246.toNat, 48]

def k0_chk46 (v2225 : BitVec 32) : Prop :=
  (∀ a, (k0_off210 v2225) a + S1x16.size a ≤ S512x64.size a) ∧
  (∀ a, (k0_off211 v2225) a + S1x16.size a ≤ S512x64.size a) ∧
  (∀ a, (k0_off212 v2225) a + S1x16.size a ≤ S512x64.size a) ∧
  (∀ a, (k0_off213 v2225) a + S1x16.size a ≤ S512x64.size a)
theorem k0_off210_inb : ∀ (v2225 : BitVec 32) (k0_hw46 : k0_chk46 v2225), ∀ a, (k0_off210 v2225) a + S1x16.size a ≤ S512x64.size a := fun v2225 k0_hw46 => k0_hw46.1
theorem k0_off211_inb : ∀ (v2225 : BitVec 32) (k0_hw46 : k0_chk46 v2225), ∀ a, (k0_off211 v2225) a + S1x16.size a ≤ S512x64.size a := fun v2225 k0_hw46 => k0_hw46.2.1
theorem k0_off212_inb : ∀ (v2225 : BitVec 32) (k0_hw46 : k0_chk46 v2225), ∀ a, (k0_off212 v2225) a + S1x16.size a ≤ S512x64.size a := fun v2225 k0_hw46 => k0_hw46.2.2.1
theorem k0_off213_inb : ∀ (v2225 : BitVec 32) (k0_hw46 : k0_chk46 v2225), ∀ a, (k0_off213 v2225) a + S1x16.size a ≤ S512x64.size a := fun v2225 k0_hw46 => k0_hw46.2.2.2

def k0_off214 (v2253 : BitVec 32) : Fin 2 → Nat :=
  let v2256 : Index := Scalar.indexCast v2253
  let c0_392 : Index := 0#32
  ![v2256.toNat, 0]

def k0_off215 (v2253 : BitVec 32) : Fin 2 → Nat :=
  let v2262 : Index := Scalar.indexCast v2253
  let c16_393 : Index := 16#32
  ![v2262.toNat, 16]
def k0_off216 (v2253 : BitVec 32) : Fin 2 → Nat :=
  let v2268 : Index := Scalar.indexCast v2253
  let c32_394 : Index := 32#32
  ![v2268.toNat, 32]
def k0_off217 (v2253 : BitVec 32) : Fin 2 → Nat :=
  let v2274 : Index := Scalar.indexCast v2253
  let c48_395 : Index := 48#32
  ![v2274.toNat, 48]

def k0_chk47 (v2253 : BitVec 32) : Prop :=
  (∀ a, (k0_off214 v2253) a + S1x16.size a ≤ S512x64.size a) ∧
  (∀ a, (k0_off215 v2253) a + S1x16.size a ≤ S512x64.size a) ∧
  (∀ a, (k0_off216 v2253) a + S1x16.size a ≤ S512x64.size a) ∧
  (∀ a, (k0_off217 v2253) a + S1x16.size a ≤ S512x64.size a)
theorem k0_off214_inb : ∀ (v2253 : BitVec 32) (k0_hw47 : k0_chk47 v2253), ∀ a, (k0_off214 v2253) a + S1x16.size a ≤ S512x64.size a := fun v2253 k0_hw47 => k0_hw47.1
theorem k0_off215_inb : ∀ (v2253 : BitVec 32) (k0_hw47 : k0_chk47 v2253), ∀ a, (k0_off215 v2253) a + S1x16.size a ≤ S512x64.size a := fun v2253 k0_hw47 => k0_hw47.2.1
theorem k0_off216_inb : ∀ (v2253 : BitVec 32) (k0_hw47 : k0_chk47 v2253), ∀ a, (k0_off216 v2253) a + S1x16.size a ≤ S512x64.size a := fun v2253 k0_hw47 => k0_hw47.2.2.1
theorem k0_off217_inb : ∀ (v2253 : BitVec 32) (k0_hw47 : k0_chk47 v2253), ∀ a, (k0_off217 v2253) a + S1x16.size a ≤ S512x64.size a := fun v2253 k0_hw47 => k0_hw47.2.2.2

def k0_off218 (v2281 : BitVec 32) : Fin 2 → Nat :=
  let v2284 : Index := Scalar.indexCast v2281
  let c0_396 : Index := 0#32
  ![v2284.toNat, 0]

def k0_off219 (v2281 : BitVec 32) : Fin 2 → Nat :=
  let v2290 : Index := Scalar.indexCast v2281
  let c16_397 : Index := 16#32
  ![v2290.toNat, 16]
def k0_off220 (v2281 : BitVec 32) : Fin 2 → Nat :=
  let v2296 : Index := Scalar.indexCast v2281
  let c32_398 : Index := 32#32
  ![v2296.toNat, 32]
def k0_off221 (v2281 : BitVec 32) : Fin 2 → Nat :=
  let v2302 : Index := Scalar.indexCast v2281
  let c48_399 : Index := 48#32
  ![v2302.toNat, 48]

def k0_chk48 (v2281 : BitVec 32) : Prop :=
  (∀ a, (k0_off218 v2281) a + S1x16.size a ≤ S512x64.size a) ∧
  (∀ a, (k0_off219 v2281) a + S1x16.size a ≤ S512x64.size a) ∧
  (∀ a, (k0_off220 v2281) a + S1x16.size a ≤ S512x64.size a) ∧
  (∀ a, (k0_off221 v2281) a + S1x16.size a ≤ S512x64.size a)
theorem k0_off218_inb : ∀ (v2281 : BitVec 32) (k0_hw48 : k0_chk48 v2281), ∀ a, (k0_off218 v2281) a + S1x16.size a ≤ S512x64.size a := fun v2281 k0_hw48 => k0_hw48.1
theorem k0_off219_inb : ∀ (v2281 : BitVec 32) (k0_hw48 : k0_chk48 v2281), ∀ a, (k0_off219 v2281) a + S1x16.size a ≤ S512x64.size a := fun v2281 k0_hw48 => k0_hw48.2.1
theorem k0_off220_inb : ∀ (v2281 : BitVec 32) (k0_hw48 : k0_chk48 v2281), ∀ a, (k0_off220 v2281) a + S1x16.size a ≤ S512x64.size a := fun v2281 k0_hw48 => k0_hw48.2.2.1
theorem k0_off221_inb : ∀ (v2281 : BitVec 32) (k0_hw48 : k0_chk48 v2281), ∀ a, (k0_off221 v2281) a + S1x16.size a ≤ S512x64.size a := fun v2281 k0_hw48 => k0_hw48.2.2.2

def k0_off222 (k0_t1 : Fin k0_t1_loop.trips) : Fin 1 → Nat :=
  let c0_i32_25 : BitVec 32 := 0#32
  let c1_i32_26 : BitVec 32 := 1#32
  let arg20 : BitVec 32 := Scf.iv c0_i32_25 c1_i32_26 k0_t1
  let c4_i32_193 : BitVec 32 := 4#32
  let v931 : BitVec 32 := Scalar.muli arg20 c4_i32_193
  let c3_i32_404 : BitVec 32 := 3#32
  let v2324 : BitVec 32 := Scalar.addi v931 c3_i32_404
  let c16_i32_405 : BitVec 32 := 16#32
  let v2325 : BitVec 32 := Scalar.muli v2324 c16_i32_405
  let v2326 : Index := Scalar.indexCast v2325
  ![v2326.toNat]
def k0_off223 (v2333 : BitVec 32) : Fin 2 → Nat :=
  let v2336 : Index := Scalar.indexCast v2333
  let c0_406 : Index := 0#32
  ![v2336.toNat, 0]

def k0_off224 (v2333 : BitVec 32) : Fin 2 → Nat :=
  let v2341 : Index := Scalar.indexCast v2333
  let c16_407 : Index := 16#32
  ![v2341.toNat, 16]
def k0_off225 (v2333 : BitVec 32) : Fin 2 → Nat :=
  let v2346 : Index := Scalar.indexCast v2333
  let c32_408 : Index := 32#32
  ![v2346.toNat, 32]
def k0_off226 (v2333 : BitVec 32) : Fin 2 → Nat :=
  let v2351 : Index := Scalar.indexCast v2333
  let c48_409 : Index := 48#32
  ![v2351.toNat, 48]

def k0_chk49 (v2333 : BitVec 32) : Prop :=
  (∀ a, (k0_off223 v2333) a + S1x16.size a ≤ S512x64.size a) ∧
  (∀ a, (k0_off224 v2333) a + S1x16.size a ≤ S512x64.size a) ∧
  (∀ a, (k0_off225 v2333) a + S1x16.size a ≤ S512x64.size a) ∧
  (∀ a, (k0_off226 v2333) a + S1x16.size a ≤ S512x64.size a)
theorem k0_off223_inb : ∀ (v2333 : BitVec 32) (k0_hw49 : k0_chk49 v2333), ∀ a, (k0_off223 v2333) a + S1x16.size a ≤ S512x64.size a := fun v2333 k0_hw49 => k0_hw49.1
theorem k0_off224_inb : ∀ (v2333 : BitVec 32) (k0_hw49 : k0_chk49 v2333), ∀ a, (k0_off224 v2333) a + S1x16.size a ≤ S512x64.size a := fun v2333 k0_hw49 => k0_hw49.2.1
theorem k0_off225_inb : ∀ (v2333 : BitVec 32) (k0_hw49 : k0_chk49 v2333), ∀ a, (k0_off225 v2333) a + S1x16.size a ≤ S512x64.size a := fun v2333 k0_hw49 => k0_hw49.2.2.1
theorem k0_off226_inb : ∀ (v2333 : BitVec 32) (k0_hw49 : k0_chk49 v2333), ∀ a, (k0_off226 v2333) a + S1x16.size a ≤ S512x64.size a := fun v2333 k0_hw49 => k0_hw49.2.2.2

def k0_off227 (v2357 : BitVec 32) : Fin 2 → Nat :=
  let v2360 : Index := Scalar.indexCast v2357
  let c0_410 : Index := 0#32
  ![v2360.toNat, 0]

def k0_off228 (v2357 : BitVec 32) : Fin 2 → Nat :=
  let v2365 : Index := Scalar.indexCast v2357
  let c16_411 : Index := 16#32
  ![v2365.toNat, 16]
def k0_off229 (v2357 : BitVec 32) : Fin 2 → Nat :=
  let v2370 : Index := Scalar.indexCast v2357
  let c32_412 : Index := 32#32
  ![v2370.toNat, 32]
def k0_off230 (v2357 : BitVec 32) : Fin 2 → Nat :=
  let v2375 : Index := Scalar.indexCast v2357
  let c48_413 : Index := 48#32
  ![v2375.toNat, 48]

def k0_chk50 (v2357 : BitVec 32) : Prop :=
  (∀ a, (k0_off227 v2357) a + S1x16.size a ≤ S512x64.size a) ∧
  (∀ a, (k0_off228 v2357) a + S1x16.size a ≤ S512x64.size a) ∧
  (∀ a, (k0_off229 v2357) a + S1x16.size a ≤ S512x64.size a) ∧
  (∀ a, (k0_off230 v2357) a + S1x16.size a ≤ S512x64.size a)
theorem k0_off227_inb : ∀ (v2357 : BitVec 32) (k0_hw50 : k0_chk50 v2357), ∀ a, (k0_off227 v2357) a + S1x16.size a ≤ S512x64.size a := fun v2357 k0_hw50 => k0_hw50.1
theorem k0_off228_inb : ∀ (v2357 : BitVec 32) (k0_hw50 : k0_chk50 v2357), ∀ a, (k0_off228 v2357) a + S1x16.size a ≤ S512x64.size a := fun v2357 k0_hw50 => k0_hw50.2.1
theorem k0_off229_inb : ∀ (v2357 : BitVec 32) (k0_hw50 : k0_chk50 v2357), ∀ a, (k0_off229 v2357) a + S1x16.size a ≤ S512x64.size a := fun v2357 k0_hw50 => k0_hw50.2.2.1
theorem k0_off230_inb : ∀ (v2357 : BitVec 32) (k0_hw50 : k0_chk50 v2357), ∀ a, (k0_off230 v2357) a + S1x16.size a ≤ S512x64.size a := fun v2357 k0_hw50 => k0_hw50.2.2.2

def k0_off231 (v2381 : BitVec 32) : Fin 2 → Nat :=
  let v2384 : Index := Scalar.indexCast v2381
  let c0_414 : Index := 0#32
  ![v2384.toNat, 0]

def k0_off232 (v2381 : BitVec 32) : Fin 2 → Nat :=
  let v2390 : Index := Scalar.indexCast v2381
  let c16_415 : Index := 16#32
  ![v2390.toNat, 16]
def k0_off233 (v2381 : BitVec 32) : Fin 2 → Nat :=
  let v2396 : Index := Scalar.indexCast v2381
  let c32_416 : Index := 32#32
  ![v2396.toNat, 32]
def k0_off234 (v2381 : BitVec 32) : Fin 2 → Nat :=
  let v2402 : Index := Scalar.indexCast v2381
  let c48_417 : Index := 48#32
  ![v2402.toNat, 48]

def k0_chk51 (v2381 : BitVec 32) : Prop :=
  (∀ a, (k0_off231 v2381) a + S1x16.size a ≤ S512x64.size a) ∧
  (∀ a, (k0_off232 v2381) a + S1x16.size a ≤ S512x64.size a) ∧
  (∀ a, (k0_off233 v2381) a + S1x16.size a ≤ S512x64.size a) ∧
  (∀ a, (k0_off234 v2381) a + S1x16.size a ≤ S512x64.size a)
theorem k0_off231_inb : ∀ (v2381 : BitVec 32) (k0_hw51 : k0_chk51 v2381), ∀ a, (k0_off231 v2381) a + S1x16.size a ≤ S512x64.size a := fun v2381 k0_hw51 => k0_hw51.1
theorem k0_off232_inb : ∀ (v2381 : BitVec 32) (k0_hw51 : k0_chk51 v2381), ∀ a, (k0_off232 v2381) a + S1x16.size a ≤ S512x64.size a := fun v2381 k0_hw51 => k0_hw51.2.1
theorem k0_off233_inb : ∀ (v2381 : BitVec 32) (k0_hw51 : k0_chk51 v2381), ∀ a, (k0_off233 v2381) a + S1x16.size a ≤ S512x64.size a := fun v2381 k0_hw51 => k0_hw51.2.2.1
theorem k0_off234_inb : ∀ (v2381 : BitVec 32) (k0_hw51 : k0_chk51 v2381), ∀ a, (k0_off234 v2381) a + S1x16.size a ≤ S512x64.size a := fun v2381 k0_hw51 => k0_hw51.2.2.2

def k0_off235 (v2409 : BitVec 32) : Fin 2 → Nat :=
  let v2412 : Index := Scalar.indexCast v2409
  let c0_418 : Index := 0#32
  ![v2412.toNat, 0]

def k0_off236 (v2409 : BitVec 32) : Fin 2 → Nat :=
  let v2418 : Index := Scalar.indexCast v2409
  let c16_419 : Index := 16#32
  ![v2418.toNat, 16]
def k0_off237 (v2409 : BitVec 32) : Fin 2 → Nat :=
  let v2424 : Index := Scalar.indexCast v2409
  let c32_420 : Index := 32#32
  ![v2424.toNat, 32]
def k0_off238 (v2409 : BitVec 32) : Fin 2 → Nat :=
  let v2430 : Index := Scalar.indexCast v2409
  let c48_421 : Index := 48#32
  ![v2430.toNat, 48]

def k0_chk52 (v2409 : BitVec 32) : Prop :=
  (∀ a, (k0_off235 v2409) a + S1x16.size a ≤ S512x64.size a) ∧
  (∀ a, (k0_off236 v2409) a + S1x16.size a ≤ S512x64.size a) ∧
  (∀ a, (k0_off237 v2409) a + S1x16.size a ≤ S512x64.size a) ∧
  (∀ a, (k0_off238 v2409) a + S1x16.size a ≤ S512x64.size a)
theorem k0_off235_inb : ∀ (v2409 : BitVec 32) (k0_hw52 : k0_chk52 v2409), ∀ a, (k0_off235 v2409) a + S1x16.size a ≤ S512x64.size a := fun v2409 k0_hw52 => k0_hw52.1
theorem k0_off236_inb : ∀ (v2409 : BitVec 32) (k0_hw52 : k0_chk52 v2409), ∀ a, (k0_off236 v2409) a + S1x16.size a ≤ S512x64.size a := fun v2409 k0_hw52 => k0_hw52.2.1
theorem k0_off237_inb : ∀ (v2409 : BitVec 32) (k0_hw52 : k0_chk52 v2409), ∀ a, (k0_off237 v2409) a + S1x16.size a ≤ S512x64.size a := fun v2409 k0_hw52 => k0_hw52.2.2.1
theorem k0_off238_inb : ∀ (v2409 : BitVec 32) (k0_hw52 : k0_chk52 v2409), ∀ a, (k0_off238 v2409) a + S1x16.size a ≤ S512x64.size a := fun v2409 k0_hw52 => k0_hw52.2.2.2

def k0_off239 (v2437 : BitVec 32) : Fin 2 → Nat :=
  let v2440 : Index := Scalar.indexCast v2437
  let c0_422 : Index := 0#32
  ![v2440.toNat, 0]

def k0_off240 (v2437 : BitVec 32) : Fin 2 → Nat :=
  let v2446 : Index := Scalar.indexCast v2437
  let c16_423 : Index := 16#32
  ![v2446.toNat, 16]
def k0_off241 (v2437 : BitVec 32) : Fin 2 → Nat :=
  let v2452 : Index := Scalar.indexCast v2437
  let c32_424 : Index := 32#32
  ![v2452.toNat, 32]
def k0_off242 (v2437 : BitVec 32) : Fin 2 → Nat :=
  let v2458 : Index := Scalar.indexCast v2437
  let c48_425 : Index := 48#32
  ![v2458.toNat, 48]

def k0_chk53 (v2437 : BitVec 32) : Prop :=
  (∀ a, (k0_off239 v2437) a + S1x16.size a ≤ S512x64.size a) ∧
  (∀ a, (k0_off240 v2437) a + S1x16.size a ≤ S512x64.size a) ∧
  (∀ a, (k0_off241 v2437) a + S1x16.size a ≤ S512x64.size a) ∧
  (∀ a, (k0_off242 v2437) a + S1x16.size a ≤ S512x64.size a)
theorem k0_off239_inb : ∀ (v2437 : BitVec 32) (k0_hw53 : k0_chk53 v2437), ∀ a, (k0_off239 v2437) a + S1x16.size a ≤ S512x64.size a := fun v2437 k0_hw53 => k0_hw53.1
theorem k0_off240_inb : ∀ (v2437 : BitVec 32) (k0_hw53 : k0_chk53 v2437), ∀ a, (k0_off240 v2437) a + S1x16.size a ≤ S512x64.size a := fun v2437 k0_hw53 => k0_hw53.2.1
theorem k0_off241_inb : ∀ (v2437 : BitVec 32) (k0_hw53 : k0_chk53 v2437), ∀ a, (k0_off241 v2437) a + S1x16.size a ≤ S512x64.size a := fun v2437 k0_hw53 => k0_hw53.2.2.1
theorem k0_off242_inb : ∀ (v2437 : BitVec 32) (k0_hw53 : k0_chk53 v2437), ∀ a, (k0_off242 v2437) a + S1x16.size a ≤ S512x64.size a := fun v2437 k0_hw53 => k0_hw53.2.2.2

def k0_off243 (v2465 : BitVec 32) : Fin 2 → Nat :=
  let v2468 : Index := Scalar.indexCast v2465
  let c0_426 : Index := 0#32
  ![v2468.toNat, 0]

def k0_off244 (v2465 : BitVec 32) : Fin 2 → Nat :=
  let v2474 : Index := Scalar.indexCast v2465
  let c16_427 : Index := 16#32
  ![v2474.toNat, 16]
def k0_off245 (v2465 : BitVec 32) : Fin 2 → Nat :=
  let v2480 : Index := Scalar.indexCast v2465
  let c32_428 : Index := 32#32
  ![v2480.toNat, 32]
def k0_off246 (v2465 : BitVec 32) : Fin 2 → Nat :=
  let v2486 : Index := Scalar.indexCast v2465
  let c48_429 : Index := 48#32
  ![v2486.toNat, 48]

def k0_chk54 (v2465 : BitVec 32) : Prop :=
  (∀ a, (k0_off243 v2465) a + S1x16.size a ≤ S512x64.size a) ∧
  (∀ a, (k0_off244 v2465) a + S1x16.size a ≤ S512x64.size a) ∧
  (∀ a, (k0_off245 v2465) a + S1x16.size a ≤ S512x64.size a) ∧
  (∀ a, (k0_off246 v2465) a + S1x16.size a ≤ S512x64.size a)
theorem k0_off243_inb : ∀ (v2465 : BitVec 32) (k0_hw54 : k0_chk54 v2465), ∀ a, (k0_off243 v2465) a + S1x16.size a ≤ S512x64.size a := fun v2465 k0_hw54 => k0_hw54.1
theorem k0_off244_inb : ∀ (v2465 : BitVec 32) (k0_hw54 : k0_chk54 v2465), ∀ a, (k0_off244 v2465) a + S1x16.size a ≤ S512x64.size a := fun v2465 k0_hw54 => k0_hw54.2.1
theorem k0_off245_inb : ∀ (v2465 : BitVec 32) (k0_hw54 : k0_chk54 v2465), ∀ a, (k0_off245 v2465) a + S1x16.size a ≤ S512x64.size a := fun v2465 k0_hw54 => k0_hw54.2.2.1
theorem k0_off246_inb : ∀ (v2465 : BitVec 32) (k0_hw54 : k0_chk54 v2465), ∀ a, (k0_off246 v2465) a + S1x16.size a ≤ S512x64.size a := fun v2465 k0_hw54 => k0_hw54.2.2.2

def k0_off247 (v2493 : BitVec 32) : Fin 2 → Nat :=
  let v2496 : Index := Scalar.indexCast v2493
  let c0_430 : Index := 0#32
  ![v2496.toNat, 0]

def k0_off248 (v2493 : BitVec 32) : Fin 2 → Nat :=
  let v2502 : Index := Scalar.indexCast v2493
  let c16_431 : Index := 16#32
  ![v2502.toNat, 16]
def k0_off249 (v2493 : BitVec 32) : Fin 2 → Nat :=
  let v2508 : Index := Scalar.indexCast v2493
  let c32_432 : Index := 32#32
  ![v2508.toNat, 32]
def k0_off250 (v2493 : BitVec 32) : Fin 2 → Nat :=
  let v2514 : Index := Scalar.indexCast v2493
  let c48_433 : Index := 48#32
  ![v2514.toNat, 48]

def k0_chk55 (v2493 : BitVec 32) : Prop :=
  (∀ a, (k0_off247 v2493) a + S1x16.size a ≤ S512x64.size a) ∧
  (∀ a, (k0_off248 v2493) a + S1x16.size a ≤ S512x64.size a) ∧
  (∀ a, (k0_off249 v2493) a + S1x16.size a ≤ S512x64.size a) ∧
  (∀ a, (k0_off250 v2493) a + S1x16.size a ≤ S512x64.size a)
theorem k0_off247_inb : ∀ (v2493 : BitVec 32) (k0_hw55 : k0_chk55 v2493), ∀ a, (k0_off247 v2493) a + S1x16.size a ≤ S512x64.size a := fun v2493 k0_hw55 => k0_hw55.1
theorem k0_off248_inb : ∀ (v2493 : BitVec 32) (k0_hw55 : k0_chk55 v2493), ∀ a, (k0_off248 v2493) a + S1x16.size a ≤ S512x64.size a := fun v2493 k0_hw55 => k0_hw55.2.1
theorem k0_off249_inb : ∀ (v2493 : BitVec 32) (k0_hw55 : k0_chk55 v2493), ∀ a, (k0_off249 v2493) a + S1x16.size a ≤ S512x64.size a := fun v2493 k0_hw55 => k0_hw55.2.2.1
theorem k0_off250_inb : ∀ (v2493 : BitVec 32) (k0_hw55 : k0_chk55 v2493), ∀ a, (k0_off250 v2493) a + S1x16.size a ≤ S512x64.size a := fun v2493 k0_hw55 => k0_hw55.2.2.2

def k0_off251 (v2521 : BitVec 32) : Fin 2 → Nat :=
  let v2524 : Index := Scalar.indexCast v2521
  let c0_434 : Index := 0#32
  ![v2524.toNat, 0]

def k0_off252 (v2521 : BitVec 32) : Fin 2 → Nat :=
  let v2530 : Index := Scalar.indexCast v2521
  let c16_435 : Index := 16#32
  ![v2530.toNat, 16]
def k0_off253 (v2521 : BitVec 32) : Fin 2 → Nat :=
  let v2536 : Index := Scalar.indexCast v2521
  let c32_436 : Index := 32#32
  ![v2536.toNat, 32]
def k0_off254 (v2521 : BitVec 32) : Fin 2 → Nat :=
  let v2542 : Index := Scalar.indexCast v2521
  let c48_437 : Index := 48#32
  ![v2542.toNat, 48]

def k0_chk56 (v2521 : BitVec 32) : Prop :=
  (∀ a, (k0_off251 v2521) a + S1x16.size a ≤ S512x64.size a) ∧
  (∀ a, (k0_off252 v2521) a + S1x16.size a ≤ S512x64.size a) ∧
  (∀ a, (k0_off253 v2521) a + S1x16.size a ≤ S512x64.size a) ∧
  (∀ a, (k0_off254 v2521) a + S1x16.size a ≤ S512x64.size a)
theorem k0_off251_inb : ∀ (v2521 : BitVec 32) (k0_hw56 : k0_chk56 v2521), ∀ a, (k0_off251 v2521) a + S1x16.size a ≤ S512x64.size a := fun v2521 k0_hw56 => k0_hw56.1
theorem k0_off252_inb : ∀ (v2521 : BitVec 32) (k0_hw56 : k0_chk56 v2521), ∀ a, (k0_off252 v2521) a + S1x16.size a ≤ S512x64.size a := fun v2521 k0_hw56 => k0_hw56.2.1
theorem k0_off253_inb : ∀ (v2521 : BitVec 32) (k0_hw56 : k0_chk56 v2521), ∀ a, (k0_off253 v2521) a + S1x16.size a ≤ S512x64.size a := fun v2521 k0_hw56 => k0_hw56.2.2.1
theorem k0_off254_inb : ∀ (v2521 : BitVec 32) (k0_hw56 : k0_chk56 v2521), ∀ a, (k0_off254 v2521) a + S1x16.size a ≤ S512x64.size a := fun v2521 k0_hw56 => k0_hw56.2.2.2

def k0_off255 (v2549 : BitVec 32) : Fin 2 → Nat :=
  let v2552 : Index := Scalar.indexCast v2549
  let c0_438 : Index := 0#32
  ![v2552.toNat, 0]

def k0_off256 (v2549 : BitVec 32) : Fin 2 → Nat :=
  let v2558 : Index := Scalar.indexCast v2549
  let c16_439 : Index := 16#32
  ![v2558.toNat, 16]
def k0_off257 (v2549 : BitVec 32) : Fin 2 → Nat :=
  let v2564 : Index := Scalar.indexCast v2549
  let c32_440 : Index := 32#32
  ![v2564.toNat, 32]
def k0_off258 (v2549 : BitVec 32) : Fin 2 → Nat :=
  let v2570 : Index := Scalar.indexCast v2549
  let c48_441 : Index := 48#32
  ![v2570.toNat, 48]

def k0_chk57 (v2549 : BitVec 32) : Prop :=
  (∀ a, (k0_off255 v2549) a + S1x16.size a ≤ S512x64.size a) ∧
  (∀ a, (k0_off256 v2549) a + S1x16.size a ≤ S512x64.size a) ∧
  (∀ a, (k0_off257 v2549) a + S1x16.size a ≤ S512x64.size a) ∧
  (∀ a, (k0_off258 v2549) a + S1x16.size a ≤ S512x64.size a)
theorem k0_off255_inb : ∀ (v2549 : BitVec 32) (k0_hw57 : k0_chk57 v2549), ∀ a, (k0_off255 v2549) a + S1x16.size a ≤ S512x64.size a := fun v2549 k0_hw57 => k0_hw57.1
theorem k0_off256_inb : ∀ (v2549 : BitVec 32) (k0_hw57 : k0_chk57 v2549), ∀ a, (k0_off256 v2549) a + S1x16.size a ≤ S512x64.size a := fun v2549 k0_hw57 => k0_hw57.2.1
theorem k0_off257_inb : ∀ (v2549 : BitVec 32) (k0_hw57 : k0_chk57 v2549), ∀ a, (k0_off257 v2549) a + S1x16.size a ≤ S512x64.size a := fun v2549 k0_hw57 => k0_hw57.2.2.1
theorem k0_off258_inb : ∀ (v2549 : BitVec 32) (k0_hw57 : k0_chk57 v2549), ∀ a, (k0_off258 v2549) a + S1x16.size a ≤ S512x64.size a := fun v2549 k0_hw57 => k0_hw57.2.2.2

def k0_off259 (v2577 : BitVec 32) : Fin 2 → Nat :=
  let v2580 : Index := Scalar.indexCast v2577
  let c0_442 : Index := 0#32
  ![v2580.toNat, 0]

def k0_off260 (v2577 : BitVec 32) : Fin 2 → Nat :=
  let v2586 : Index := Scalar.indexCast v2577
  let c16_443 : Index := 16#32
  ![v2586.toNat, 16]
def k0_off261 (v2577 : BitVec 32) : Fin 2 → Nat :=
  let v2592 : Index := Scalar.indexCast v2577
  let c32_444 : Index := 32#32
  ![v2592.toNat, 32]
def k0_off262 (v2577 : BitVec 32) : Fin 2 → Nat :=
  let v2598 : Index := Scalar.indexCast v2577
  let c48_445 : Index := 48#32
  ![v2598.toNat, 48]

def k0_chk58 (v2577 : BitVec 32) : Prop :=
  (∀ a, (k0_off259 v2577) a + S1x16.size a ≤ S512x64.size a) ∧
  (∀ a, (k0_off260 v2577) a + S1x16.size a ≤ S512x64.size a) ∧
  (∀ a, (k0_off261 v2577) a + S1x16.size a ≤ S512x64.size a) ∧
  (∀ a, (k0_off262 v2577) a + S1x16.size a ≤ S512x64.size a)
theorem k0_off259_inb : ∀ (v2577 : BitVec 32) (k0_hw58 : k0_chk58 v2577), ∀ a, (k0_off259 v2577) a + S1x16.size a ≤ S512x64.size a := fun v2577 k0_hw58 => k0_hw58.1
theorem k0_off260_inb : ∀ (v2577 : BitVec 32) (k0_hw58 : k0_chk58 v2577), ∀ a, (k0_off260 v2577) a + S1x16.size a ≤ S512x64.size a := fun v2577 k0_hw58 => k0_hw58.2.1
theorem k0_off261_inb : ∀ (v2577 : BitVec 32) (k0_hw58 : k0_chk58 v2577), ∀ a, (k0_off261 v2577) a + S1x16.size a ≤ S512x64.size a := fun v2577 k0_hw58 => k0_hw58.2.2.1
theorem k0_off262_inb : ∀ (v2577 : BitVec 32) (k0_hw58 : k0_chk58 v2577), ∀ a, (k0_off262 v2577) a + S1x16.size a ≤ S512x64.size a := fun v2577 k0_hw58 => k0_hw58.2.2.2

def k0_off263 (v2605 : BitVec 32) : Fin 2 → Nat :=
  let v2608 : Index := Scalar.indexCast v2605
  let c0_446 : Index := 0#32
  ![v2608.toNat, 0]

def k0_off264 (v2605 : BitVec 32) : Fin 2 → Nat :=
  let v2614 : Index := Scalar.indexCast v2605
  let c16_447 : Index := 16#32
  ![v2614.toNat, 16]
def k0_off265 (v2605 : BitVec 32) : Fin 2 → Nat :=
  let v2620 : Index := Scalar.indexCast v2605
  let c32_448 : Index := 32#32
  ![v2620.toNat, 32]
def k0_off266 (v2605 : BitVec 32) : Fin 2 → Nat :=
  let v2626 : Index := Scalar.indexCast v2605
  let c48_449 : Index := 48#32
  ![v2626.toNat, 48]

def k0_chk59 (v2605 : BitVec 32) : Prop :=
  (∀ a, (k0_off263 v2605) a + S1x16.size a ≤ S512x64.size a) ∧
  (∀ a, (k0_off264 v2605) a + S1x16.size a ≤ S512x64.size a) ∧
  (∀ a, (k0_off265 v2605) a + S1x16.size a ≤ S512x64.size a) ∧
  (∀ a, (k0_off266 v2605) a + S1x16.size a ≤ S512x64.size a)
theorem k0_off263_inb : ∀ (v2605 : BitVec 32) (k0_hw59 : k0_chk59 v2605), ∀ a, (k0_off263 v2605) a + S1x16.size a ≤ S512x64.size a := fun v2605 k0_hw59 => k0_hw59.1
theorem k0_off264_inb : ∀ (v2605 : BitVec 32) (k0_hw59 : k0_chk59 v2605), ∀ a, (k0_off264 v2605) a + S1x16.size a ≤ S512x64.size a := fun v2605 k0_hw59 => k0_hw59.2.1
theorem k0_off265_inb : ∀ (v2605 : BitVec 32) (k0_hw59 : k0_chk59 v2605), ∀ a, (k0_off265 v2605) a + S1x16.size a ≤ S512x64.size a := fun v2605 k0_hw59 => k0_hw59.2.2.1
theorem k0_off266_inb : ∀ (v2605 : BitVec 32) (k0_hw59 : k0_chk59 v2605), ∀ a, (k0_off266 v2605) a + S1x16.size a ≤ S512x64.size a := fun v2605 k0_hw59 => k0_hw59.2.2.2

def k0_off267 (v2633 : BitVec 32) : Fin 2 → Nat :=
  let v2636 : Index := Scalar.indexCast v2633
  let c0_450 : Index := 0#32
  ![v2636.toNat, 0]

def k0_off268 (v2633 : BitVec 32) : Fin 2 → Nat :=
  let v2642 : Index := Scalar.indexCast v2633
  let c16_451 : Index := 16#32
  ![v2642.toNat, 16]
def k0_off269 (v2633 : BitVec 32) : Fin 2 → Nat :=
  let v2648 : Index := Scalar.indexCast v2633
  let c32_452 : Index := 32#32
  ![v2648.toNat, 32]
def k0_off270 (v2633 : BitVec 32) : Fin 2 → Nat :=
  let v2654 : Index := Scalar.indexCast v2633
  let c48_453 : Index := 48#32
  ![v2654.toNat, 48]

def k0_chk60 (v2633 : BitVec 32) : Prop :=
  (∀ a, (k0_off267 v2633) a + S1x16.size a ≤ S512x64.size a) ∧
  (∀ a, (k0_off268 v2633) a + S1x16.size a ≤ S512x64.size a) ∧
  (∀ a, (k0_off269 v2633) a + S1x16.size a ≤ S512x64.size a) ∧
  (∀ a, (k0_off270 v2633) a + S1x16.size a ≤ S512x64.size a)
theorem k0_off267_inb : ∀ (v2633 : BitVec 32) (k0_hw60 : k0_chk60 v2633), ∀ a, (k0_off267 v2633) a + S1x16.size a ≤ S512x64.size a := fun v2633 k0_hw60 => k0_hw60.1
theorem k0_off268_inb : ∀ (v2633 : BitVec 32) (k0_hw60 : k0_chk60 v2633), ∀ a, (k0_off268 v2633) a + S1x16.size a ≤ S512x64.size a := fun v2633 k0_hw60 => k0_hw60.2.1
theorem k0_off269_inb : ∀ (v2633 : BitVec 32) (k0_hw60 : k0_chk60 v2633), ∀ a, (k0_off269 v2633) a + S1x16.size a ≤ S512x64.size a := fun v2633 k0_hw60 => k0_hw60.2.2.1
theorem k0_off270_inb : ∀ (v2633 : BitVec 32) (k0_hw60 : k0_chk60 v2633), ∀ a, (k0_off270 v2633) a + S1x16.size a ≤ S512x64.size a := fun v2633 k0_hw60 => k0_hw60.2.2.2

def k0_off271 (v2661 : BitVec 32) : Fin 2 → Nat :=
  let v2664 : Index := Scalar.indexCast v2661
  let c0_454 : Index := 0#32
  ![v2664.toNat, 0]

def k0_off272 (v2661 : BitVec 32) : Fin 2 → Nat :=
  let v2670 : Index := Scalar.indexCast v2661
  let c16_455 : Index := 16#32
  ![v2670.toNat, 16]
def k0_off273 (v2661 : BitVec 32) : Fin 2 → Nat :=
  let v2676 : Index := Scalar.indexCast v2661
  let c32_456 : Index := 32#32
  ![v2676.toNat, 32]
def k0_off274 (v2661 : BitVec 32) : Fin 2 → Nat :=
  let v2682 : Index := Scalar.indexCast v2661
  let c48_457 : Index := 48#32
  ![v2682.toNat, 48]

def k0_chk61 (v2661 : BitVec 32) : Prop :=
  (∀ a, (k0_off271 v2661) a + S1x16.size a ≤ S512x64.size a) ∧
  (∀ a, (k0_off272 v2661) a + S1x16.size a ≤ S512x64.size a) ∧
  (∀ a, (k0_off273 v2661) a + S1x16.size a ≤ S512x64.size a) ∧
  (∀ a, (k0_off274 v2661) a + S1x16.size a ≤ S512x64.size a)
theorem k0_off271_inb : ∀ (v2661 : BitVec 32) (k0_hw61 : k0_chk61 v2661), ∀ a, (k0_off271 v2661) a + S1x16.size a ≤ S512x64.size a := fun v2661 k0_hw61 => k0_hw61.1
theorem k0_off272_inb : ∀ (v2661 : BitVec 32) (k0_hw61 : k0_chk61 v2661), ∀ a, (k0_off272 v2661) a + S1x16.size a ≤ S512x64.size a := fun v2661 k0_hw61 => k0_hw61.2.1
theorem k0_off273_inb : ∀ (v2661 : BitVec 32) (k0_hw61 : k0_chk61 v2661), ∀ a, (k0_off273 v2661) a + S1x16.size a ≤ S512x64.size a := fun v2661 k0_hw61 => k0_hw61.2.2.1
theorem k0_off274_inb : ∀ (v2661 : BitVec 32) (k0_hw61 : k0_chk61 v2661), ∀ a, (k0_off274 v2661) a + S1x16.size a ≤ S512x64.size a := fun v2661 k0_hw61 => k0_hw61.2.2.2

def k0_off275 (v2689 : BitVec 32) : Fin 2 → Nat :=
  let v2692 : Index := Scalar.indexCast v2689
  let c0_458 : Index := 0#32
  ![v2692.toNat, 0]

def k0_off276 (v2689 : BitVec 32) : Fin 2 → Nat :=
  let v2698 : Index := Scalar.indexCast v2689
  let c16_459 : Index := 16#32
  ![v2698.toNat, 16]
def k0_off277 (v2689 : BitVec 32) : Fin 2 → Nat :=
  let v2704 : Index := Scalar.indexCast v2689
  let c32_460 : Index := 32#32
  ![v2704.toNat, 32]
def k0_off278 (v2689 : BitVec 32) : Fin 2 → Nat :=
  let v2710 : Index := Scalar.indexCast v2689
  let c48_461 : Index := 48#32
  ![v2710.toNat, 48]

def k0_chk62 (v2689 : BitVec 32) : Prop :=
  (∀ a, (k0_off275 v2689) a + S1x16.size a ≤ S512x64.size a) ∧
  (∀ a, (k0_off276 v2689) a + S1x16.size a ≤ S512x64.size a) ∧
  (∀ a, (k0_off277 v2689) a + S1x16.size a ≤ S512x64.size a) ∧
  (∀ a, (k0_off278 v2689) a + S1x16.size a ≤ S512x64.size a)
theorem k0_off275_inb : ∀ (v2689 : BitVec 32) (k0_hw62 : k0_chk62 v2689), ∀ a, (k0_off275 v2689) a + S1x16.size a ≤ S512x64.size a := fun v2689 k0_hw62 => k0_hw62.1
theorem k0_off276_inb : ∀ (v2689 : BitVec 32) (k0_hw62 : k0_chk62 v2689), ∀ a, (k0_off276 v2689) a + S1x16.size a ≤ S512x64.size a := fun v2689 k0_hw62 => k0_hw62.2.1
theorem k0_off277_inb : ∀ (v2689 : BitVec 32) (k0_hw62 : k0_chk62 v2689), ∀ a, (k0_off277 v2689) a + S1x16.size a ≤ S512x64.size a := fun v2689 k0_hw62 => k0_hw62.2.2.1
theorem k0_off278_inb : ∀ (v2689 : BitVec 32) (k0_hw62 : k0_chk62 v2689), ∀ a, (k0_off278 v2689) a + S1x16.size a ≤ S512x64.size a := fun v2689 k0_hw62 => k0_hw62.2.2.2

def k0_off279 (v2717 : BitVec 32) : Fin 2 → Nat :=
  let v2720 : Index := Scalar.indexCast v2717
  let c0_462 : Index := 0#32
  ![v2720.toNat, 0]

def k0_off280 (v2717 : BitVec 32) : Fin 2 → Nat :=
  let v2726 : Index := Scalar.indexCast v2717
  let c16_463 : Index := 16#32
  ![v2726.toNat, 16]
def k0_off281 (v2717 : BitVec 32) : Fin 2 → Nat :=
  let v2732 : Index := Scalar.indexCast v2717
  let c32_464 : Index := 32#32
  ![v2732.toNat, 32]
def k0_off282 (v2717 : BitVec 32) : Fin 2 → Nat :=
  let v2738 : Index := Scalar.indexCast v2717
  let c48_465 : Index := 48#32
  ![v2738.toNat, 48]

def k0_chk63 (v2717 : BitVec 32) : Prop :=
  (∀ a, (k0_off279 v2717) a + S1x16.size a ≤ S512x64.size a) ∧
  (∀ a, (k0_off280 v2717) a + S1x16.size a ≤ S512x64.size a) ∧
  (∀ a, (k0_off281 v2717) a + S1x16.size a ≤ S512x64.size a) ∧
  (∀ a, (k0_off282 v2717) a + S1x16.size a ≤ S512x64.size a)
theorem k0_off279_inb : ∀ (v2717 : BitVec 32) (k0_hw63 : k0_chk63 v2717), ∀ a, (k0_off279 v2717) a + S1x16.size a ≤ S512x64.size a := fun v2717 k0_hw63 => k0_hw63.1
theorem k0_off280_inb : ∀ (v2717 : BitVec 32) (k0_hw63 : k0_chk63 v2717), ∀ a, (k0_off280 v2717) a + S1x16.size a ≤ S512x64.size a := fun v2717 k0_hw63 => k0_hw63.2.1
theorem k0_off281_inb : ∀ (v2717 : BitVec 32) (k0_hw63 : k0_chk63 v2717), ∀ a, (k0_off281 v2717) a + S1x16.size a ≤ S512x64.size a := fun v2717 k0_hw63 => k0_hw63.2.2.1
theorem k0_off282_inb : ∀ (v2717 : BitVec 32) (k0_hw63 : k0_chk63 v2717), ∀ a, (k0_off282 v2717) a + S1x16.size a ≤ S512x64.size a := fun v2717 k0_hw63 => k0_hw63.2.2.2

def k0_off283 (v2745 : BitVec 32) : Fin 2 → Nat :=
  let v2748 : Index := Scalar.indexCast v2745
  let c0_466 : Index := 0#32
  ![v2748.toNat, 0]

def k0_off284 (v2745 : BitVec 32) : Fin 2 → Nat :=
  let v2754 : Index := Scalar.indexCast v2745
  let c16_467 : Index := 16#32
  ![v2754.toNat, 16]
def k0_off285 (v2745 : BitVec 32) : Fin 2 → Nat :=
  let v2760 : Index := Scalar.indexCast v2745
  let c32_468 : Index := 32#32
  ![v2760.toNat, 32]
def k0_off286 (v2745 : BitVec 32) : Fin 2 → Nat :=
  let v2766 : Index := Scalar.indexCast v2745
  let c48_469 : Index := 48#32
  ![v2766.toNat, 48]

def k0_chk64 (v2745 : BitVec 32) : Prop :=
  (∀ a, (k0_off283 v2745) a + S1x16.size a ≤ S512x64.size a) ∧
  (∀ a, (k0_off284 v2745) a + S1x16.size a ≤ S512x64.size a) ∧
  (∀ a, (k0_off285 v2745) a + S1x16.size a ≤ S512x64.size a) ∧
  (∀ a, (k0_off286 v2745) a + S1x16.size a ≤ S512x64.size a)
theorem k0_off283_inb : ∀ (v2745 : BitVec 32) (k0_hw64 : k0_chk64 v2745), ∀ a, (k0_off283 v2745) a + S1x16.size a ≤ S512x64.size a := fun v2745 k0_hw64 => k0_hw64.1
theorem k0_off284_inb : ∀ (v2745 : BitVec 32) (k0_hw64 : k0_chk64 v2745), ∀ a, (k0_off284 v2745) a + S1x16.size a ≤ S512x64.size a := fun v2745 k0_hw64 => k0_hw64.2.1
theorem k0_off285_inb : ∀ (v2745 : BitVec 32) (k0_hw64 : k0_chk64 v2745), ∀ a, (k0_off285 v2745) a + S1x16.size a ≤ S512x64.size a := fun v2745 k0_hw64 => k0_hw64.2.2.1
theorem k0_off286_inb : ∀ (v2745 : BitVec 32) (k0_hw64 : k0_chk64 v2745), ∀ a, (k0_off286 v2745) a + S1x16.size a ≤ S512x64.size a := fun v2745 k0_hw64 => k0_hw64.2.2.2

def k0_off287 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2789 : Index := Scalar.indexCast v2788
  let c0_i32_475 : BitVec 32 := 0#32
  let v2790 : Index := Scalar.indexCast c0_i32_475
  let c0_476 : Index := 0#32
  ![v2789.toNat, 0, 0]
def k0_off288 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2794 : Index := Scalar.indexCast v2788
  let c1_i32_477 : BitVec 32 := 1#32
  let v2795 : Index := Scalar.indexCast c1_i32_477
  let c0_478 : Index := 0#32
  ![v2794.toNat, 1, 0]
def k0_off289 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2799 : Index := Scalar.indexCast v2788
  let c2_i32_479 : BitVec 32 := 2#32
  let v2800 : Index := Scalar.indexCast c2_i32_479
  let c0_480 : Index := 0#32
  ![v2799.toNat, 2, 0]
def k0_off290 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2804 : Index := Scalar.indexCast v2788
  let c3_i32_481 : BitVec 32 := 3#32
  let v2805 : Index := Scalar.indexCast c3_i32_481
  let c0_482 : Index := 0#32
  ![v2804.toNat, 3, 0]
def k0_off291 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2809 : Index := Scalar.indexCast v2788
  let c4_i32_483 : BitVec 32 := 4#32
  let v2810 : Index := Scalar.indexCast c4_i32_483
  let c0_484 : Index := 0#32
  ![v2809.toNat, 4, 0]
def k0_off292 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2814 : Index := Scalar.indexCast v2788
  let c5_i32_485 : BitVec 32 := 5#32
  let v2815 : Index := Scalar.indexCast c5_i32_485
  let c0_486 : Index := 0#32
  ![v2814.toNat, 5, 0]
def k0_off293 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2819 : Index := Scalar.indexCast v2788
  let c6_i32_487 : BitVec 32 := 6#32
  let v2820 : Index := Scalar.indexCast c6_i32_487
  let c0_488 : Index := 0#32
  ![v2819.toNat, 6, 0]
def k0_off294 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2824 : Index := Scalar.indexCast v2788
  let c7_i32_489 : BitVec 32 := 7#32
  let v2825 : Index := Scalar.indexCast c7_i32_489
  let c0_490 : Index := 0#32
  ![v2824.toNat, 7, 0]
def k0_off295 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2829 : Index := Scalar.indexCast v2788
  let c8_i32_491 : BitVec 32 := 8#32
  let v2830 : Index := Scalar.indexCast c8_i32_491
  let c0_492 : Index := 0#32
  ![v2829.toNat, 8, 0]
def k0_off296 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2834 : Index := Scalar.indexCast v2788
  let c9_i32_493 : BitVec 32 := 9#32
  let v2835 : Index := Scalar.indexCast c9_i32_493
  let c0_494 : Index := 0#32
  ![v2834.toNat, 9, 0]
def k0_off297 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2839 : Index := Scalar.indexCast v2788
  let c10_i32_495 : BitVec 32 := 10#32
  let v2840 : Index := Scalar.indexCast c10_i32_495
  let c0_496 : Index := 0#32
  ![v2839.toNat, 10, 0]
def k0_off298 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2844 : Index := Scalar.indexCast v2788
  let c11_i32_497 : BitVec 32 := 11#32
  let v2845 : Index := Scalar.indexCast c11_i32_497
  let c0_498 : Index := 0#32
  ![v2844.toNat, 11, 0]
def k0_off299 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2849 : Index := Scalar.indexCast v2788
  let c12_i32_499 : BitVec 32 := 12#32
  let v2850 : Index := Scalar.indexCast c12_i32_499
  let c0_500 : Index := 0#32
  ![v2849.toNat, 12, 0]
def k0_off300 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2854 : Index := Scalar.indexCast v2788
  let c13_i32_501 : BitVec 32 := 13#32
  let v2855 : Index := Scalar.indexCast c13_i32_501
  let c0_502 : Index := 0#32
  ![v2854.toNat, 13, 0]
def k0_off301 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2859 : Index := Scalar.indexCast v2788
  let c14_i32_503 : BitVec 32 := 14#32
  let v2860 : Index := Scalar.indexCast c14_i32_503
  let c0_504 : Index := 0#32
  ![v2859.toNat, 14, 0]
def k0_off302 (k0_t1 : Fin k0_t1_loop.trips) : Fin 3 → Nat :=
  let c0_i32_25 : BitVec 32 := 0#32
  let c1_i32_26 : BitVec 32 := 1#32
  let arg20 : BitVec 32 := Scf.iv c0_i32_25 c1_i32_26 k0_t1
  let c1_i32_474 : BitVec 32 := 1#32
  let v2788 : BitVec 32 := Scalar.andi arg20 c1_i32_474
  let v2864 : Index := Scalar.indexCast v2788
  let c15_i32_505 : BitVec 32 := 15#32
  let v2865 : Index := Scalar.indexCast c15_i32_505
  let c0_506 : Index := 0#32
  ![v2864.toNat, 15, 0]
@[reducible] def k0_t2_loop : Scf.Loop 32 :=
  let c196_i32_33 : BitVec 32 := 196#32
  let c196_i32_34 : BitVec 32 := 196#32
  let v72 : BitVec 32 := Scalar.addi c196_i32_33 c196_i32_34
  let c1_i32_35 : BitVec 32 := 1#32
  ⟨c196_i32_33, v72, c1_i32_35⟩
def k0_off303 (k0_t2 : Fin k0_t2_loop.trips) : Fin 3 → Nat :=
  let c1_i32_108 : BitVec 32 := 1#32
  let c196_i32_33 : BitVec 32 := 196#32
  let c1_i32_35 : BitVec 32 := 1#32
  let arg20 : BitVec 32 := Scf.iv c196_i32_33 c1_i32_35 k0_t2
  let c1_i32_107 : BitVec 32 := 1#32
  let v503 : BitVec 32 := Scalar.andi arg20 c1_i32_107
  let v504 : BitVec 32 := Scalar.subi c1_i32_108 v503
  let v505 : Index := Scalar.indexCast v504
  let c0_i32_109 : BitVec 32 := 0#32
  let v506 : Index := Scalar.indexCast c0_i32_109
  let c0_110 : Index := 0#32
  ![v505.toNat, 0, 0]
def k0_off304 (k0_t2 : Fin k0_t2_loop.trips) : Fin 3 → Nat :=
  let c1_i32_112 : BitVec 32 := 1#32
  let c196_i32_33 : BitVec 32 := 196#32
  let c1_i32_35 : BitVec 32 := 1#32
  let arg20 : BitVec 32 := Scf.iv c196_i32_33 c1_i32_35 k0_t2
  let c1_i32_111 : BitVec 32 := 1#32
  let v509 : BitVec 32 := Scalar.andi arg20 c1_i32_111
  let v510 : BitVec 32 := Scalar.subi c1_i32_112 v509
  let v511 : Index := Scalar.indexCast v510
  let c1_i32_113 : BitVec 32 := 1#32
  let v512 : Index := Scalar.indexCast c1_i32_113
  let c0_114 : Index := 0#32
  ![v511.toNat, 1, 0]
def k0_off305 (k0_t2 : Fin k0_t2_loop.trips) : Fin 3 → Nat :=
  let c1_i32_116 : BitVec 32 := 1#32
  let c196_i32_33 : BitVec 32 := 196#32
  let c1_i32_35 : BitVec 32 := 1#32
  let arg20 : BitVec 32 := Scf.iv c196_i32_33 c1_i32_35 k0_t2
  let c1_i32_115 : BitVec 32 := 1#32
  let v515 : BitVec 32 := Scalar.andi arg20 c1_i32_115
  let v516 : BitVec 32 := Scalar.subi c1_i32_116 v515
  let v517 : Index := Scalar.indexCast v516
  let c2_i32_117 : BitVec 32 := 2#32
  let v518 : Index := Scalar.indexCast c2_i32_117
  let c0_118 : Index := 0#32
  ![v517.toNat, 2, 0]
def k0_off306 (k0_t2 : Fin k0_t2_loop.trips) : Fin 3 → Nat :=
  let c1_i32_120 : BitVec 32 := 1#32
  let c196_i32_33 : BitVec 32 := 196#32
  let c1_i32_35 : BitVec 32 := 1#32
  let arg20 : BitVec 32 := Scf.iv c196_i32_33 c1_i32_35 k0_t2
  let c1_i32_119 : BitVec 32 := 1#32
  let v521 : BitVec 32 := Scalar.andi arg20 c1_i32_119
  let v522 : BitVec 32 := Scalar.subi c1_i32_120 v521
  let v523 : Index := Scalar.indexCast v522
  let c3_i32_121 : BitVec 32 := 3#32
  let v524 : Index := Scalar.indexCast c3_i32_121
  let c0_122 : Index := 0#32
  ![v523.toNat, 3, 0]
def k0_off307 (k0_t2 : Fin k0_t2_loop.trips) : Fin 3 → Nat :=
  let c1_i32_124 : BitVec 32 := 1#32
  let c196_i32_33 : BitVec 32 := 196#32
  let c1_i32_35 : BitVec 32 := 1#32
  let arg20 : BitVec 32 := Scf.iv c196_i32_33 c1_i32_35 k0_t2
  let c1_i32_123 : BitVec 32 := 1#32
  let v527 : BitVec 32 := Scalar.andi arg20 c1_i32_123
  let v528 : BitVec 32 := Scalar.subi c1_i32_124 v527
  let v529 : Index := Scalar.indexCast v528
  let c4_i32_125 : BitVec 32 := 4#32
  let v530 : Index := Scalar.indexCast c4_i32_125
  let c0_126 : Index := 0#32
  ![v529.toNat, 4, 0]
def k0_off308 (k0_t2 : Fin k0_t2_loop.trips) : Fin 3 → Nat :=
  let c1_i32_128 : BitVec 32 := 1#32
  let c196_i32_33 : BitVec 32 := 196#32
  let c1_i32_35 : BitVec 32 := 1#32
  let arg20 : BitVec 32 := Scf.iv c196_i32_33 c1_i32_35 k0_t2
  let c1_i32_127 : BitVec 32 := 1#32
  let v533 : BitVec 32 := Scalar.andi arg20 c1_i32_127
  let v534 : BitVec 32 := Scalar.subi c1_i32_128 v533
  let v535 : Index := Scalar.indexCast v534
  let c5_i32_129 : BitVec 32 := 5#32
  let v536 : Index := Scalar.indexCast c5_i32_129
  let c0_130 : Index := 0#32
  ![v535.toNat, 5, 0]
def k0_off309 (k0_t2 : Fin k0_t2_loop.trips) : Fin 3 → Nat :=
  let c1_i32_132 : BitVec 32 := 1#32
  let c196_i32_33 : BitVec 32 := 196#32
  let c1_i32_35 : BitVec 32 := 1#32
  let arg20 : BitVec 32 := Scf.iv c196_i32_33 c1_i32_35 k0_t2
  let c1_i32_131 : BitVec 32 := 1#32
  let v539 : BitVec 32 := Scalar.andi arg20 c1_i32_131
  let v540 : BitVec 32 := Scalar.subi c1_i32_132 v539
  let v541 : Index := Scalar.indexCast v540
  let c6_i32_133 : BitVec 32 := 6#32
  let v542 : Index := Scalar.indexCast c6_i32_133
  let c0_134 : Index := 0#32
  ![v541.toNat, 6, 0]
def k0_off310 (k0_t2 : Fin k0_t2_loop.trips) : Fin 3 → Nat :=
  let c1_i32_136 : BitVec 32 := 1#32
  let c196_i32_33 : BitVec 32 := 196#32
  let c1_i32_35 : BitVec 32 := 1#32
  let arg20 : BitVec 32 := Scf.iv c196_i32_33 c1_i32_35 k0_t2
  let c1_i32_135 : BitVec 32 := 1#32
  let v545 : BitVec 32 := Scalar.andi arg20 c1_i32_135
  let v546 : BitVec 32 := Scalar.subi c1_i32_136 v545
  let v547 : Index := Scalar.indexCast v546
  let c7_i32_137 : BitVec 32 := 7#32
  let v548 : Index := Scalar.indexCast c7_i32_137
  let c0_138 : Index := 0#32
  ![v547.toNat, 7, 0]
def k0_off311 (k0_t2 : Fin k0_t2_loop.trips) : Fin 3 → Nat :=
  let c1_i32_140 : BitVec 32 := 1#32
  let c196_i32_33 : BitVec 32 := 196#32
  let c1_i32_35 : BitVec 32 := 1#32
  let arg20 : BitVec 32 := Scf.iv c196_i32_33 c1_i32_35 k0_t2
  let c1_i32_139 : BitVec 32 := 1#32
  let v551 : BitVec 32 := Scalar.andi arg20 c1_i32_139
  let v552 : BitVec 32 := Scalar.subi c1_i32_140 v551
  let v553 : Index := Scalar.indexCast v552
  let c8_i32_141 : BitVec 32 := 8#32
  let v554 : Index := Scalar.indexCast c8_i32_141
  let c0_142 : Index := 0#32
  ![v553.toNat, 8, 0]
def k0_off312 (k0_t2 : Fin k0_t2_loop.trips) : Fin 3 → Nat :=
  let c1_i32_144 : BitVec 32 := 1#32
  let c196_i32_33 : BitVec 32 := 196#32
  let c1_i32_35 : BitVec 32 := 1#32
  let arg20 : BitVec 32 := Scf.iv c196_i32_33 c1_i32_35 k0_t2
  let c1_i32_143 : BitVec 32 := 1#32
  let v557 : BitVec 32 := Scalar.andi arg20 c1_i32_143
  let v558 : BitVec 32 := Scalar.subi c1_i32_144 v557
  let v559 : Index := Scalar.indexCast v558
  let c9_i32_145 : BitVec 32 := 9#32
  let v560 : Index := Scalar.indexCast c9_i32_145
  let c0_146 : Index := 0#32
  ![v559.toNat, 9, 0]
def k0_off313 (k0_t2 : Fin k0_t2_loop.trips) : Fin 3 → Nat :=
  let c1_i32_148 : BitVec 32 := 1#32
  let c196_i32_33 : BitVec 32 := 196#32
  let c1_i32_35 : BitVec 32 := 1#32
  let arg20 : BitVec 32 := Scf.iv c196_i32_33 c1_i32_35 k0_t2
  let c1_i32_147 : BitVec 32 := 1#32
  let v563 : BitVec 32 := Scalar.andi arg20 c1_i32_147
  let v564 : BitVec 32 := Scalar.subi c1_i32_148 v563
  let v565 : Index := Scalar.indexCast v564
  let c10_i32_149 : BitVec 32 := 10#32
  let v566 : Index := Scalar.indexCast c10_i32_149
  let c0_150 : Index := 0#32
  ![v565.toNat, 10, 0]
def k0_off314 (k0_t2 : Fin k0_t2_loop.trips) : Fin 3 → Nat :=
  let c1_i32_152 : BitVec 32 := 1#32
  let c196_i32_33 : BitVec 32 := 196#32
  let c1_i32_35 : BitVec 32 := 1#32
  let arg20 : BitVec 32 := Scf.iv c196_i32_33 c1_i32_35 k0_t2
  let c1_i32_151 : BitVec 32 := 1#32
  let v569 : BitVec 32 := Scalar.andi arg20 c1_i32_151
  let v570 : BitVec 32 := Scalar.subi c1_i32_152 v569
  let v571 : Index := Scalar.indexCast v570
  let c11_i32_153 : BitVec 32 := 11#32
  let v572 : Index := Scalar.indexCast c11_i32_153
  let c0_154 : Index := 0#32
  ![v571.toNat, 11, 0]
def k0_off315 (k0_t2 : Fin k0_t2_loop.trips) : Fin 3 → Nat :=
  let c1_i32_156 : BitVec 32 := 1#32
  let c196_i32_33 : BitVec 32 := 196#32
  let c1_i32_35 : BitVec 32 := 1#32
  let arg20 : BitVec 32 := Scf.iv c196_i32_33 c1_i32_35 k0_t2
  let c1_i32_155 : BitVec 32 := 1#32
  let v575 : BitVec 32 := Scalar.andi arg20 c1_i32_155
  let v576 : BitVec 32 := Scalar.subi c1_i32_156 v575
  let v577 : Index := Scalar.indexCast v576
  let c12_i32_157 : BitVec 32 := 12#32
  let v578 : Index := Scalar.indexCast c12_i32_157
  let c0_158 : Index := 0#32
  ![v577.toNat, 12, 0]
def k0_off316 (k0_t2 : Fin k0_t2_loop.trips) : Fin 3 → Nat :=
  let c1_i32_160 : BitVec 32 := 1#32
  let c196_i32_33 : BitVec 32 := 196#32
  let c1_i32_35 : BitVec 32 := 1#32
  let arg20 : BitVec 32 := Scf.iv c196_i32_33 c1_i32_35 k0_t2
  let c1_i32_159 : BitVec 32 := 1#32
  let v581 : BitVec 32 := Scalar.andi arg20 c1_i32_159
  let v582 : BitVec 32 := Scalar.subi c1_i32_160 v581
  let v583 : Index := Scalar.indexCast v582
  let c13_i32_161 : BitVec 32 := 13#32
  let v584 : Index := Scalar.indexCast c13_i32_161
  let c0_162 : Index := 0#32
  ![v583.toNat, 13, 0]
def k0_off317 (k0_t2 : Fin k0_t2_loop.trips) : Fin 3 → Nat :=
  let c1_i32_164 : BitVec 32 := 1#32
  let c196_i32_33 : BitVec 32 := 196#32
  let c1_i32_35 : BitVec 32 := 1#32
  let arg20 : BitVec 32 := Scf.iv c196_i32_33 c1_i32_35 k0_t2
  let c1_i32_163 : BitVec 32 := 1#32
  let v587 : BitVec 32 := Scalar.andi arg20 c1_i32_163
  let v588 : BitVec 32 := Scalar.subi c1_i32_164 v587
  let v589 : Index := Scalar.indexCast v588
  let c14_i32_165 : BitVec 32 := 14#32
  let v590 : Index := Scalar.indexCast c14_i32_165
  let c0_166 : Index := 0#32
  ![v589.toNat, 14, 0]
def k0_off318 (k0_t2 : Fin k0_t2_loop.trips) : Fin 3 → Nat :=
  let c1_i32_168 : BitVec 32 := 1#32
  let c196_i32_33 : BitVec 32 := 196#32
  let c1_i32_35 : BitVec 32 := 1#32
  let arg20 : BitVec 32 := Scf.iv c196_i32_33 c1_i32_35 k0_t2
  let c1_i32_167 : BitVec 32 := 1#32
  let v593 : BitVec 32 := Scalar.andi arg20 c1_i32_167
  let v594 : BitVec 32 := Scalar.subi c1_i32_168 v593
  let v595 : Index := Scalar.indexCast v594
  let c15_i32_169 : BitVec 32 := 15#32
  let v596 : Index := Scalar.indexCast c15_i32_169
  let c0_170 : Index := 0#32
  ![v595.toNat, 15, 0]
def k0_off319 (k0_t2 : Fin k0_t2_loop.trips) : Fin 1 → Nat :=
  let c196_i32_33 : BitVec 32 := 196#32
  let c1_i32_35 : BitVec 32 := 1#32
  let arg20 : BitVec 32 := Scf.iv c196_i32_33 c1_i32_35 k0_t2
  let c16_i32_171 : BitVec 32 := 16#32
  let v599 : BitVec 32 := Scalar.muli arg20 c16_i32_171
  let v600 : Index := Scalar.indexCast v599
  ![v600.toNat]
def k0_off320 (k0_t2 : Fin k0_t2_loop.trips) : Fin 1 → Nat :=
  let c196_i32_33 : BitVec 32 := 196#32
  let c1_i32_35 : BitVec 32 := 1#32
  let arg20 : BitVec 32 := Scf.iv c196_i32_33 c1_i32_35 k0_t2
  let c4_i32_172 : BitVec 32 := 4#32
  let v603 : BitVec 32 := Scalar.muli arg20 c4_i32_172
  let v604 : Index := Scalar.indexCast v603
  ![v604.toNat]
def k0_off321 (k0_t2 : Fin k0_t2_loop.trips) : Fin 2 → Nat :=
  let c196_i32_33 : BitVec 32 := 196#32
  let c1_i32_35 : BitVec 32 := 1#32
  let arg20 : BitVec 32 := Scf.iv c196_i32_33 c1_i32_35 k0_t2
  let v915 : Index := Scalar.indexCast arg20
  let c0_189 : Index := 0#32
  ![v915.toNat, 0]
def k0_off322 (k0_t2 : Fin k0_t2_loop.trips) : Fin 2 → Nat :=
  let c196_i32_33 : BitVec 32 := 196#32
  let c1_i32_35 : BitVec 32 := 1#32
  let arg20 : BitVec 32 := Scf.iv c196_i32_33 c1_i32_35 k0_t2
  let v919 : Index := Scalar.indexCast arg20
  let c16_190 : Index := 16#32
  ![v919.toNat, 16]
def k0_off323 (k0_t2 : Fin k0_t2_loop.trips) : Fin 2 → Nat :=
  let c196_i32_33 : BitVec 32 := 196#32
  let c1_i32_35 : BitVec 32 := 1#32
  let arg20 : BitVec 32 := Scf.iv c196_i32_33 c1_i32_35 k0_t2
  let v923 : Index := Scalar.indexCast arg20
  let c32_191 : Index := 32#32
  ![v923.toNat, 32]
def k0_off324 (k0_t2 : Fin k0_t2_loop.trips) : Fin 2 → Nat :=
  let c196_i32_33 : BitVec 32 := 196#32
  let c1_i32_35 : BitVec 32 := 1#32
  let arg20 : BitVec 32 := Scf.iv c196_i32_33 c1_i32_35 k0_t2
  let v927 : Index := Scalar.indexCast arg20
  let c48_192 : Index := 48#32
  ![v927.toNat, 48]
def k0_off325 (k0_t2 : Fin k0_t2_loop.trips) : Fin 1 → Nat :=
  let c196_i32_33 : BitVec 32 := 196#32
  let c1_i32_35 : BitVec 32 := 1#32
  let arg20 : BitVec 32 := Scf.iv c196_i32_33 c1_i32_35 k0_t2
  let c4_i32_193 : BitVec 32 := 4#32
  let v931 : BitVec 32 := Scalar.muli arg20 c4_i32_193
  let c0_i32_194 : BitVec 32 := 0#32
  let v932 : BitVec 32 := Scalar.addi v931 c0_i32_194
  let c16_i32_195 : BitVec 32 := 16#32
  let v933 : BitVec 32 := Scalar.muli v932 c16_i32_195
  let v934 : Index := Scalar.indexCast v933
  ![v934.toNat]
def k0_off326 (v941 : BitVec 32) : Fin 2 → Nat :=
  let v944 : Index := Scalar.indexCast v941
  let c0_196 : Index := 0#32
  ![v944.toNat, 0]

def k0_off327 (v941 : BitVec 32) : Fin 2 → Nat :=
  let v949 : Index := Scalar.indexCast v941
  let c16_197 : Index := 16#32
  ![v949.toNat, 16]
def k0_off328 (v941 : BitVec 32) : Fin 2 → Nat :=
  let v954 : Index := Scalar.indexCast v941
  let c32_198 : Index := 32#32
  ![v954.toNat, 32]
def k0_off329 (v941 : BitVec 32) : Fin 2 → Nat :=
  let v959 : Index := Scalar.indexCast v941
  let c48_199 : Index := 48#32
  ![v959.toNat, 48]

def k0_chk65 (v941 : BitVec 32) : Prop :=
  (∀ a, (k0_off326 v941) a + S1x16.size a ≤ S512x64.size a) ∧
  (∀ a, (k0_off327 v941) a + S1x16.size a ≤ S512x64.size a) ∧
  (∀ a, (k0_off328 v941) a + S1x16.size a ≤ S512x64.size a) ∧
  (∀ a, (k0_off329 v941) a + S1x16.size a ≤ S512x64.size a)
theorem k0_off326_inb : ∀ (v941 : BitVec 32) (k0_hw65 : k0_chk65 v941), ∀ a, (k0_off326 v941) a + S1x16.size a ≤ S512x64.size a := fun v941 k0_hw65 => k0_hw65.1
theorem k0_off327_inb : ∀ (v941 : BitVec 32) (k0_hw65 : k0_chk65 v941), ∀ a, (k0_off327 v941) a + S1x16.size a ≤ S512x64.size a := fun v941 k0_hw65 => k0_hw65.2.1
theorem k0_off328_inb : ∀ (v941 : BitVec 32) (k0_hw65 : k0_chk65 v941), ∀ a, (k0_off328 v941) a + S1x16.size a ≤ S512x64.size a := fun v941 k0_hw65 => k0_hw65.2.2.1
theorem k0_off329_inb : ∀ (v941 : BitVec 32) (k0_hw65 : k0_chk65 v941), ∀ a, (k0_off329 v941) a + S1x16.size a ≤ S512x64.size a := fun v941 k0_hw65 => k0_hw65.2.2.2

def k0_off330 (v965 : BitVec 32) : Fin 2 → Nat :=
  let v968 : Index := Scalar.indexCast v965
  let c0_200 : Index := 0#32
  ![v968.toNat, 0]

def k0_off331 (v965 : BitVec 32) : Fin 2 → Nat :=
  let v973 : Index := Scalar.indexCast v965
  let c16_201 : Index := 16#32
  ![v973.toNat, 16]
def k0_off332 (v965 : BitVec 32) : Fin 2 → Nat :=
  let v978 : Index := Scalar.indexCast v965
  let c32_202 : Index := 32#32
  ![v978.toNat, 32]
def k0_off333 (v965 : BitVec 32) : Fin 2 → Nat :=
  let v983 : Index := Scalar.indexCast v965
  let c48_203 : Index := 48#32
  ![v983.toNat, 48]

def k0_chk66 (v965 : BitVec 32) : Prop :=
  (∀ a, (k0_off330 v965) a + S1x16.size a ≤ S512x64.size a) ∧
  (∀ a, (k0_off331 v965) a + S1x16.size a ≤ S512x64.size a) ∧
  (∀ a, (k0_off332 v965) a + S1x16.size a ≤ S512x64.size a) ∧
  (∀ a, (k0_off333 v965) a + S1x16.size a ≤ S512x64.size a)
theorem k0_off330_inb : ∀ (v965 : BitVec 32) (k0_hw66 : k0_chk66 v965), ∀ a, (k0_off330 v965) a + S1x16.size a ≤ S512x64.size a := fun v965 k0_hw66 => k0_hw66.1
theorem k0_off331_inb : ∀ (v965 : BitVec 32) (k0_hw66 : k0_chk66 v965), ∀ a, (k0_off331 v965) a + S1x16.size a ≤ S512x64.size a := fun v965 k0_hw66 => k0_hw66.2.1
theorem k0_off332_inb : ∀ (v965 : BitVec 32) (k0_hw66 : k0_chk66 v965), ∀ a, (k0_off332 v965) a + S1x16.size a ≤ S512x64.size a := fun v965 k0_hw66 => k0_hw66.2.2.1
theorem k0_off333_inb : ∀ (v965 : BitVec 32) (k0_hw66 : k0_chk66 v965), ∀ a, (k0_off333 v965) a + S1x16.size a ≤ S512x64.size a := fun v965 k0_hw66 => k0_hw66.2.2.2

def k0_off334 (v989 : BitVec 32) : Fin 2 → Nat :=
  let v992 : Index := Scalar.indexCast v989
  let c0_204 : Index := 0#32
  ![v992.toNat, 0]

def k0_off335 (v989 : BitVec 32) : Fin 2 → Nat :=
  let v998 : Index := Scalar.indexCast v989
  let c16_205 : Index := 16#32
  ![v998.toNat, 16]
def k0_off336 (v989 : BitVec 32) : Fin 2 → Nat :=
  let v1004 : Index := Scalar.indexCast v989
  let c32_206 : Index := 32#32
  ![v1004.toNat, 32]
def k0_off337 (v989 : BitVec 32) : Fin 2 → Nat :=
  let v1010 : Index := Scalar.indexCast v989
  let c48_207 : Index := 48#32
  ![v1010.toNat, 48]

def k0_chk67 (v989 : BitVec 32) : Prop :=
  (∀ a, (k0_off334 v989) a + S1x16.size a ≤ S512x64.size a) ∧
  (∀ a, (k0_off335 v989) a + S1x16.size a ≤ S512x64.size a) ∧
  (∀ a, (k0_off336 v989) a + S1x16.size a ≤ S512x64.size a) ∧
  (∀ a, (k0_off337 v989) a + S1x16.size a ≤ S512x64.size a)
theorem k0_off334_inb : ∀ (v989 : BitVec 32) (k0_hw67 : k0_chk67 v989), ∀ a, (k0_off334 v989) a + S1x16.size a ≤ S512x64.size a := fun v989 k0_hw67 => k0_hw67.1
theorem k0_off335_inb : ∀ (v989 : BitVec 32) (k0_hw67 : k0_chk67 v989), ∀ a, (k0_off335 v989) a + S1x16.size a ≤ S512x64.size a := fun v989 k0_hw67 => k0_hw67.2.1
theorem k0_off336_inb : ∀ (v989 : BitVec 32) (k0_hw67 : k0_chk67 v989), ∀ a, (k0_off336 v989) a + S1x16.size a ≤ S512x64.size a := fun v989 k0_hw67 => k0_hw67.2.2.1
theorem k0_off337_inb : ∀ (v989 : BitVec 32) (k0_hw67 : k0_chk67 v989), ∀ a, (k0_off337 v989) a + S1x16.size a ≤ S512x64.size a := fun v989 k0_hw67 => k0_hw67.2.2.2

def k0_off338 (v1017 : BitVec 32) : Fin 2 → Nat :=
  let v1020 : Index := Scalar.indexCast v1017
  let c0_208 : Index := 0#32
  ![v1020.toNat, 0]

def k0_off339 (v1017 : BitVec 32) : Fin 2 → Nat :=
  let v1026 : Index := Scalar.indexCast v1017
  let c16_209 : Index := 16#32
  ![v1026.toNat, 16]
def k0_off340 (v1017 : BitVec 32) : Fin 2 → Nat :=
  let v1032 : Index := Scalar.indexCast v1017
  let c32_210 : Index := 32#32
  ![v1032.toNat, 32]
def k0_off341 (v1017 : BitVec 32) : Fin 2 → Nat :=
  let v1038 : Index := Scalar.indexCast v1017
  let c48_211 : Index := 48#32
  ![v1038.toNat, 48]

def k0_chk68 (v1017 : BitVec 32) : Prop :=
  (∀ a, (k0_off338 v1017) a + S1x16.size a ≤ S512x64.size a) ∧
  (∀ a, (k0_off339 v1017) a + S1x16.size a ≤ S512x64.size a) ∧
  (∀ a, (k0_off340 v1017) a + S1x16.size a ≤ S512x64.size a) ∧
  (∀ a, (k0_off341 v1017) a + S1x16.size a ≤ S512x64.size a)
theorem k0_off338_inb : ∀ (v1017 : BitVec 32) (k0_hw68 : k0_chk68 v1017), ∀ a, (k0_off338 v1017) a + S1x16.size a ≤ S512x64.size a := fun v1017 k0_hw68 => k0_hw68.1
theorem k0_off339_inb : ∀ (v1017 : BitVec 32) (k0_hw68 : k0_chk68 v1017), ∀ a, (k0_off339 v1017) a + S1x16.size a ≤ S512x64.size a := fun v1017 k0_hw68 => k0_hw68.2.1
theorem k0_off340_inb : ∀ (v1017 : BitVec 32) (k0_hw68 : k0_chk68 v1017), ∀ a, (k0_off340 v1017) a + S1x16.size a ≤ S512x64.size a := fun v1017 k0_hw68 => k0_hw68.2.2.1
theorem k0_off341_inb : ∀ (v1017 : BitVec 32) (k0_hw68 : k0_chk68 v1017), ∀ a, (k0_off341 v1017) a + S1x16.size a ≤ S512x64.size a := fun v1017 k0_hw68 => k0_hw68.2.2.2

def k0_off342 (v1045 : BitVec 32) : Fin 2 → Nat :=
  let v1048 : Index := Scalar.indexCast v1045
  let c0_212 : Index := 0#32
  ![v1048.toNat, 0]

def k0_off343 (v1045 : BitVec 32) : Fin 2 → Nat :=
  let v1054 : Index := Scalar.indexCast v1045
  let c16_213 : Index := 16#32
  ![v1054.toNat, 16]
def k0_off344 (v1045 : BitVec 32) : Fin 2 → Nat :=
  let v1060 : Index := Scalar.indexCast v1045
  let c32_214 : Index := 32#32
  ![v1060.toNat, 32]
def k0_off345 (v1045 : BitVec 32) : Fin 2 → Nat :=
  let v1066 : Index := Scalar.indexCast v1045
  let c48_215 : Index := 48#32
  ![v1066.toNat, 48]

def k0_chk69 (v1045 : BitVec 32) : Prop :=
  (∀ a, (k0_off342 v1045) a + S1x16.size a ≤ S512x64.size a) ∧
  (∀ a, (k0_off343 v1045) a + S1x16.size a ≤ S512x64.size a) ∧
  (∀ a, (k0_off344 v1045) a + S1x16.size a ≤ S512x64.size a) ∧
  (∀ a, (k0_off345 v1045) a + S1x16.size a ≤ S512x64.size a)
theorem k0_off342_inb : ∀ (v1045 : BitVec 32) (k0_hw69 : k0_chk69 v1045), ∀ a, (k0_off342 v1045) a + S1x16.size a ≤ S512x64.size a := fun v1045 k0_hw69 => k0_hw69.1
theorem k0_off343_inb : ∀ (v1045 : BitVec 32) (k0_hw69 : k0_chk69 v1045), ∀ a, (k0_off343 v1045) a + S1x16.size a ≤ S512x64.size a := fun v1045 k0_hw69 => k0_hw69.2.1
theorem k0_off344_inb : ∀ (v1045 : BitVec 32) (k0_hw69 : k0_chk69 v1045), ∀ a, (k0_off344 v1045) a + S1x16.size a ≤ S512x64.size a := fun v1045 k0_hw69 => k0_hw69.2.2.1
theorem k0_off345_inb : ∀ (v1045 : BitVec 32) (k0_hw69 : k0_chk69 v1045), ∀ a, (k0_off345 v1045) a + S1x16.size a ≤ S512x64.size a := fun v1045 k0_hw69 => k0_hw69.2.2.2

def k0_off346 (v1073 : BitVec 32) : Fin 2 → Nat :=
  let v1076 : Index := Scalar.indexCast v1073
  let c0_216 : Index := 0#32
  ![v1076.toNat, 0]

def k0_off347 (v1073 : BitVec 32) : Fin 2 → Nat :=
  let v1082 : Index := Scalar.indexCast v1073
  let c16_217 : Index := 16#32
  ![v1082.toNat, 16]
def k0_off348 (v1073 : BitVec 32) : Fin 2 → Nat :=
  let v1088 : Index := Scalar.indexCast v1073
  let c32_218 : Index := 32#32
  ![v1088.toNat, 32]
def k0_off349 (v1073 : BitVec 32) : Fin 2 → Nat :=
  let v1094 : Index := Scalar.indexCast v1073
  let c48_219 : Index := 48#32
  ![v1094.toNat, 48]

def k0_chk70 (v1073 : BitVec 32) : Prop :=
  (∀ a, (k0_off346 v1073) a + S1x16.size a ≤ S512x64.size a) ∧
  (∀ a, (k0_off347 v1073) a + S1x16.size a ≤ S512x64.size a) ∧
  (∀ a, (k0_off348 v1073) a + S1x16.size a ≤ S512x64.size a) ∧
  (∀ a, (k0_off349 v1073) a + S1x16.size a ≤ S512x64.size a)
theorem k0_off346_inb : ∀ (v1073 : BitVec 32) (k0_hw70 : k0_chk70 v1073), ∀ a, (k0_off346 v1073) a + S1x16.size a ≤ S512x64.size a := fun v1073 k0_hw70 => k0_hw70.1
theorem k0_off347_inb : ∀ (v1073 : BitVec 32) (k0_hw70 : k0_chk70 v1073), ∀ a, (k0_off347 v1073) a + S1x16.size a ≤ S512x64.size a := fun v1073 k0_hw70 => k0_hw70.2.1
theorem k0_off348_inb : ∀ (v1073 : BitVec 32) (k0_hw70 : k0_chk70 v1073), ∀ a, (k0_off348 v1073) a + S1x16.size a ≤ S512x64.size a := fun v1073 k0_hw70 => k0_hw70.2.2.1
theorem k0_off349_inb : ∀ (v1073 : BitVec 32) (k0_hw70 : k0_chk70 v1073), ∀ a, (k0_off349 v1073) a + S1x16.size a ≤ S512x64.size a := fun v1073 k0_hw70 => k0_hw70.2.2.2

def k0_off350 (v1101 : BitVec 32) : Fin 2 → Nat :=
  let v1104 : Index := Scalar.indexCast v1101
  let c0_220 : Index := 0#32
  ![v1104.toNat, 0]

def k0_off351 (v1101 : BitVec 32) : Fin 2 → Nat :=
  let v1110 : Index := Scalar.indexCast v1101
  let c16_221 : Index := 16#32
  ![v1110.toNat, 16]
def k0_off352 (v1101 : BitVec 32) : Fin 2 → Nat :=
  let v1116 : Index := Scalar.indexCast v1101
  let c32_222 : Index := 32#32
  ![v1116.toNat, 32]
def k0_off353 (v1101 : BitVec 32) : Fin 2 → Nat :=
  let v1122 : Index := Scalar.indexCast v1101
  let c48_223 : Index := 48#32
  ![v1122.toNat, 48]

def k0_chk71 (v1101 : BitVec 32) : Prop :=
  (∀ a, (k0_off350 v1101) a + S1x16.size a ≤ S512x64.size a) ∧
  (∀ a, (k0_off351 v1101) a + S1x16.size a ≤ S512x64.size a) ∧
  (∀ a, (k0_off352 v1101) a + S1x16.size a ≤ S512x64.size a) ∧
  (∀ a, (k0_off353 v1101) a + S1x16.size a ≤ S512x64.size a)
theorem k0_off350_inb : ∀ (v1101 : BitVec 32) (k0_hw71 : k0_chk71 v1101), ∀ a, (k0_off350 v1101) a + S1x16.size a ≤ S512x64.size a := fun v1101 k0_hw71 => k0_hw71.1
theorem k0_off351_inb : ∀ (v1101 : BitVec 32) (k0_hw71 : k0_chk71 v1101), ∀ a, (k0_off351 v1101) a + S1x16.size a ≤ S512x64.size a := fun v1101 k0_hw71 => k0_hw71.2.1
theorem k0_off352_inb : ∀ (v1101 : BitVec 32) (k0_hw71 : k0_chk71 v1101), ∀ a, (k0_off352 v1101) a + S1x16.size a ≤ S512x64.size a := fun v1101 k0_hw71 => k0_hw71.2.2.1
theorem k0_off353_inb : ∀ (v1101 : BitVec 32) (k0_hw71 : k0_chk71 v1101), ∀ a, (k0_off353 v1101) a + S1x16.size a ≤ S512x64.size a := fun v1101 k0_hw71 => k0_hw71.2.2.2

def k0_off354 (v1129 : BitVec 32) : Fin 2 → Nat :=
  let v1132 : Index := Scalar.indexCast v1129
  let c0_224 : Index := 0#32
  ![v1132.toNat, 0]

def k0_off355 (v1129 : BitVec 32) : Fin 2 → Nat :=
  let v1138 : Index := Scalar.indexCast v1129
  let c16_225 : Index := 16#32
  ![v1138.toNat, 16]
def k0_off356 (v1129 : BitVec 32) : Fin 2 → Nat :=
  let v1144 : Index := Scalar.indexCast v1129
  let c32_226 : Index := 32#32
  ![v1144.toNat, 32]
def k0_off357 (v1129 : BitVec 32) : Fin 2 → Nat :=
  let v1150 : Index := Scalar.indexCast v1129
  let c48_227 : Index := 48#32
  ![v1150.toNat, 48]

def k0_chk72 (v1129 : BitVec 32) : Prop :=
  (∀ a, (k0_off354 v1129) a + S1x16.size a ≤ S512x64.size a) ∧
  (∀ a, (k0_off355 v1129) a + S1x16.size a ≤ S512x64.size a) ∧
  (∀ a, (k0_off356 v1129) a + S1x16.size a ≤ S512x64.size a) ∧
  (∀ a, (k0_off357 v1129) a + S1x16.size a ≤ S512x64.size a)
theorem k0_off354_inb : ∀ (v1129 : BitVec 32) (k0_hw72 : k0_chk72 v1129), ∀ a, (k0_off354 v1129) a + S1x16.size a ≤ S512x64.size a := fun v1129 k0_hw72 => k0_hw72.1
theorem k0_off355_inb : ∀ (v1129 : BitVec 32) (k0_hw72 : k0_chk72 v1129), ∀ a, (k0_off355 v1129) a + S1x16.size a ≤ S512x64.size a := fun v1129 k0_hw72 => k0_hw72.2.1
theorem k0_off356_inb : ∀ (v1129 : BitVec 32) (k0_hw72 : k0_chk72 v1129), ∀ a, (k0_off356 v1129) a + S1x16.size a ≤ S512x64.size a := fun v1129 k0_hw72 => k0_hw72.2.2.1
theorem k0_off357_inb : ∀ (v1129 : BitVec 32) (k0_hw72 : k0_chk72 v1129), ∀ a, (k0_off357 v1129) a + S1x16.size a ≤ S512x64.size a := fun v1129 k0_hw72 => k0_hw72.2.2.2

def k0_off358 (v1157 : BitVec 32) : Fin 2 → Nat :=
  let v1160 : Index := Scalar.indexCast v1157
  let c0_228 : Index := 0#32
  ![v1160.toNat, 0]

def k0_off359 (v1157 : BitVec 32) : Fin 2 → Nat :=
  let v1166 : Index := Scalar.indexCast v1157
  let c16_229 : Index := 16#32
  ![v1166.toNat, 16]
def k0_off360 (v1157 : BitVec 32) : Fin 2 → Nat :=
  let v1172 : Index := Scalar.indexCast v1157
  let c32_230 : Index := 32#32
  ![v1172.toNat, 32]
def k0_off361 (v1157 : BitVec 32) : Fin 2 → Nat :=
  let v1178 : Index := Scalar.indexCast v1157
  let c48_231 : Index := 48#32
  ![v1178.toNat, 48]

def k0_chk73 (v1157 : BitVec 32) : Prop :=
  (∀ a, (k0_off358 v1157) a + S1x16.size a ≤ S512x64.size a) ∧
  (∀ a, (k0_off359 v1157) a + S1x16.size a ≤ S512x64.size a) ∧
  (∀ a, (k0_off360 v1157) a + S1x16.size a ≤ S512x64.size a) ∧
  (∀ a, (k0_off361 v1157) a + S1x16.size a ≤ S512x64.size a)
theorem k0_off358_inb : ∀ (v1157 : BitVec 32) (k0_hw73 : k0_chk73 v1157), ∀ a, (k0_off358 v1157) a + S1x16.size a ≤ S512x64.size a := fun v1157 k0_hw73 => k0_hw73.1
theorem k0_off359_inb : ∀ (v1157 : BitVec 32) (k0_hw73 : k0_chk73 v1157), ∀ a, (k0_off359 v1157) a + S1x16.size a ≤ S512x64.size a := fun v1157 k0_hw73 => k0_hw73.2.1
theorem k0_off360_inb : ∀ (v1157 : BitVec 32) (k0_hw73 : k0_chk73 v1157), ∀ a, (k0_off360 v1157) a + S1x16.size a ≤ S512x64.size a := fun v1157 k0_hw73 => k0_hw73.2.2.1
theorem k0_off361_inb : ∀ (v1157 : BitVec 32) (k0_hw73 : k0_chk73 v1157), ∀ a, (k0_off361 v1157) a + S1x16.size a ≤ S512x64.size a := fun v1157 k0_hw73 => k0_hw73.2.2.2

def k0_off362 (v1185 : BitVec 32) : Fin 2 → Nat :=
  let v1188 : Index := Scalar.indexCast v1185
  let c0_232 : Index := 0#32
  ![v1188.toNat, 0]

def k0_off363 (v1185 : BitVec 32) : Fin 2 → Nat :=
  let v1194 : Index := Scalar.indexCast v1185
  let c16_233 : Index := 16#32
  ![v1194.toNat, 16]
def k0_off364 (v1185 : BitVec 32) : Fin 2 → Nat :=
  let v1200 : Index := Scalar.indexCast v1185
  let c32_234 : Index := 32#32
  ![v1200.toNat, 32]
def k0_off365 (v1185 : BitVec 32) : Fin 2 → Nat :=
  let v1206 : Index := Scalar.indexCast v1185
  let c48_235 : Index := 48#32
  ![v1206.toNat, 48]

def k0_chk74 (v1185 : BitVec 32) : Prop :=
  (∀ a, (k0_off362 v1185) a + S1x16.size a ≤ S512x64.size a) ∧
  (∀ a, (k0_off363 v1185) a + S1x16.size a ≤ S512x64.size a) ∧
  (∀ a, (k0_off364 v1185) a + S1x16.size a ≤ S512x64.size a) ∧
  (∀ a, (k0_off365 v1185) a + S1x16.size a ≤ S512x64.size a)
theorem k0_off362_inb : ∀ (v1185 : BitVec 32) (k0_hw74 : k0_chk74 v1185), ∀ a, (k0_off362 v1185) a + S1x16.size a ≤ S512x64.size a := fun v1185 k0_hw74 => k0_hw74.1
theorem k0_off363_inb : ∀ (v1185 : BitVec 32) (k0_hw74 : k0_chk74 v1185), ∀ a, (k0_off363 v1185) a + S1x16.size a ≤ S512x64.size a := fun v1185 k0_hw74 => k0_hw74.2.1
theorem k0_off364_inb : ∀ (v1185 : BitVec 32) (k0_hw74 : k0_chk74 v1185), ∀ a, (k0_off364 v1185) a + S1x16.size a ≤ S512x64.size a := fun v1185 k0_hw74 => k0_hw74.2.2.1
theorem k0_off365_inb : ∀ (v1185 : BitVec 32) (k0_hw74 : k0_chk74 v1185), ∀ a, (k0_off365 v1185) a + S1x16.size a ≤ S512x64.size a := fun v1185 k0_hw74 => k0_hw74.2.2.2

def k0_off366 (v1213 : BitVec 32) : Fin 2 → Nat :=
  let v1216 : Index := Scalar.indexCast v1213
  let c0_236 : Index := 0#32
  ![v1216.toNat, 0]

def k0_off367 (v1213 : BitVec 32) : Fin 2 → Nat :=
  let v1222 : Index := Scalar.indexCast v1213
  let c16_237 : Index := 16#32
  ![v1222.toNat, 16]
def k0_off368 (v1213 : BitVec 32) : Fin 2 → Nat :=
  let v1228 : Index := Scalar.indexCast v1213
  let c32_238 : Index := 32#32
  ![v1228.toNat, 32]
def k0_off369 (v1213 : BitVec 32) : Fin 2 → Nat :=
  let v1234 : Index := Scalar.indexCast v1213
  let c48_239 : Index := 48#32
  ![v1234.toNat, 48]

def k0_chk75 (v1213 : BitVec 32) : Prop :=
  (∀ a, (k0_off366 v1213) a + S1x16.size a ≤ S512x64.size a) ∧
  (∀ a, (k0_off367 v1213) a + S1x16.size a ≤ S512x64.size a) ∧
  (∀ a, (k0_off368 v1213) a + S1x16.size a ≤ S512x64.size a) ∧
  (∀ a, (k0_off369 v1213) a + S1x16.size a ≤ S512x64.size a)
theorem k0_off366_inb : ∀ (v1213 : BitVec 32) (k0_hw75 : k0_chk75 v1213), ∀ a, (k0_off366 v1213) a + S1x16.size a ≤ S512x64.size a := fun v1213 k0_hw75 => k0_hw75.1
theorem k0_off367_inb : ∀ (v1213 : BitVec 32) (k0_hw75 : k0_chk75 v1213), ∀ a, (k0_off367 v1213) a + S1x16.size a ≤ S512x64.size a := fun v1213 k0_hw75 => k0_hw75.2.1
theorem k0_off368_inb : ∀ (v1213 : BitVec 32) (k0_hw75 : k0_chk75 v1213), ∀ a, (k0_off368 v1213) a + S1x16.size a ≤ S512x64.size a := fun v1213 k0_hw75 => k0_hw75.2.2.1
theorem k0_off369_inb : ∀ (v1213 : BitVec 32) (k0_hw75 : k0_chk75 v1213), ∀ a, (k0_off369 v1213) a + S1x16.size a ≤ S512x64.size a := fun v1213 k0_hw75 => k0_hw75.2.2.2

def k0_off370 (v1241 : BitVec 32) : Fin 2 → Nat :=
  let v1244 : Index := Scalar.indexCast v1241
  let c0_240 : Index := 0#32
  ![v1244.toNat, 0]

def k0_off371 (v1241 : BitVec 32) : Fin 2 → Nat :=
  let v1250 : Index := Scalar.indexCast v1241
  let c16_241 : Index := 16#32
  ![v1250.toNat, 16]
def k0_off372 (v1241 : BitVec 32) : Fin 2 → Nat :=
  let v1256 : Index := Scalar.indexCast v1241
  let c32_242 : Index := 32#32
  ![v1256.toNat, 32]
def k0_off373 (v1241 : BitVec 32) : Fin 2 → Nat :=
  let v1262 : Index := Scalar.indexCast v1241
  let c48_243 : Index := 48#32
  ![v1262.toNat, 48]

def k0_chk76 (v1241 : BitVec 32) : Prop :=
  (∀ a, (k0_off370 v1241) a + S1x16.size a ≤ S512x64.size a) ∧
  (∀ a, (k0_off371 v1241) a + S1x16.size a ≤ S512x64.size a) ∧
  (∀ a, (k0_off372 v1241) a + S1x16.size a ≤ S512x64.size a) ∧
  (∀ a, (k0_off373 v1241) a + S1x16.size a ≤ S512x64.size a)
theorem k0_off370_inb : ∀ (v1241 : BitVec 32) (k0_hw76 : k0_chk76 v1241), ∀ a, (k0_off370 v1241) a + S1x16.size a ≤ S512x64.size a := fun v1241 k0_hw76 => k0_hw76.1
theorem k0_off371_inb : ∀ (v1241 : BitVec 32) (k0_hw76 : k0_chk76 v1241), ∀ a, (k0_off371 v1241) a + S1x16.size a ≤ S512x64.size a := fun v1241 k0_hw76 => k0_hw76.2.1
theorem k0_off372_inb : ∀ (v1241 : BitVec 32) (k0_hw76 : k0_chk76 v1241), ∀ a, (k0_off372 v1241) a + S1x16.size a ≤ S512x64.size a := fun v1241 k0_hw76 => k0_hw76.2.2.1
theorem k0_off373_inb : ∀ (v1241 : BitVec 32) (k0_hw76 : k0_chk76 v1241), ∀ a, (k0_off373 v1241) a + S1x16.size a ≤ S512x64.size a := fun v1241 k0_hw76 => k0_hw76.2.2.2

def k0_off374 (v1269 : BitVec 32) : Fin 2 → Nat :=
  let v1272 : Index := Scalar.indexCast v1269
  let c0_244 : Index := 0#32
  ![v1272.toNat, 0]

def k0_off375 (v1269 : BitVec 32) : Fin 2 → Nat :=
  let v1278 : Index := Scalar.indexCast v1269
  let c16_245 : Index := 16#32
  ![v1278.toNat, 16]
def k0_off376 (v1269 : BitVec 32) : Fin 2 → Nat :=
  let v1284 : Index := Scalar.indexCast v1269
  let c32_246 : Index := 32#32
  ![v1284.toNat, 32]
def k0_off377 (v1269 : BitVec 32) : Fin 2 → Nat :=
  let v1290 : Index := Scalar.indexCast v1269
  let c48_247 : Index := 48#32
  ![v1290.toNat, 48]

def k0_chk77 (v1269 : BitVec 32) : Prop :=
  (∀ a, (k0_off374 v1269) a + S1x16.size a ≤ S512x64.size a) ∧
  (∀ a, (k0_off375 v1269) a + S1x16.size a ≤ S512x64.size a) ∧
  (∀ a, (k0_off376 v1269) a + S1x16.size a ≤ S512x64.size a) ∧
  (∀ a, (k0_off377 v1269) a + S1x16.size a ≤ S512x64.size a)
theorem k0_off374_inb : ∀ (v1269 : BitVec 32) (k0_hw77 : k0_chk77 v1269), ∀ a, (k0_off374 v1269) a + S1x16.size a ≤ S512x64.size a := fun v1269 k0_hw77 => k0_hw77.1
theorem k0_off375_inb : ∀ (v1269 : BitVec 32) (k0_hw77 : k0_chk77 v1269), ∀ a, (k0_off375 v1269) a + S1x16.size a ≤ S512x64.size a := fun v1269 k0_hw77 => k0_hw77.2.1
theorem k0_off376_inb : ∀ (v1269 : BitVec 32) (k0_hw77 : k0_chk77 v1269), ∀ a, (k0_off376 v1269) a + S1x16.size a ≤ S512x64.size a := fun v1269 k0_hw77 => k0_hw77.2.2.1
theorem k0_off377_inb : ∀ (v1269 : BitVec 32) (k0_hw77 : k0_chk77 v1269), ∀ a, (k0_off377 v1269) a + S1x16.size a ≤ S512x64.size a := fun v1269 k0_hw77 => k0_hw77.2.2.2

def k0_off378 (v1297 : BitVec 32) : Fin 2 → Nat :=
  let v1300 : Index := Scalar.indexCast v1297
  let c0_248 : Index := 0#32
  ![v1300.toNat, 0]

def k0_off379 (v1297 : BitVec 32) : Fin 2 → Nat :=
  let v1306 : Index := Scalar.indexCast v1297
  let c16_249 : Index := 16#32
  ![v1306.toNat, 16]
def k0_off380 (v1297 : BitVec 32) : Fin 2 → Nat :=
  let v1312 : Index := Scalar.indexCast v1297
  let c32_250 : Index := 32#32
  ![v1312.toNat, 32]
def k0_off381 (v1297 : BitVec 32) : Fin 2 → Nat :=
  let v1318 : Index := Scalar.indexCast v1297
  let c48_251 : Index := 48#32
  ![v1318.toNat, 48]

def k0_chk78 (v1297 : BitVec 32) : Prop :=
  (∀ a, (k0_off378 v1297) a + S1x16.size a ≤ S512x64.size a) ∧
  (∀ a, (k0_off379 v1297) a + S1x16.size a ≤ S512x64.size a) ∧
  (∀ a, (k0_off380 v1297) a + S1x16.size a ≤ S512x64.size a) ∧
  (∀ a, (k0_off381 v1297) a + S1x16.size a ≤ S512x64.size a)
theorem k0_off378_inb : ∀ (v1297 : BitVec 32) (k0_hw78 : k0_chk78 v1297), ∀ a, (k0_off378 v1297) a + S1x16.size a ≤ S512x64.size a := fun v1297 k0_hw78 => k0_hw78.1
theorem k0_off379_inb : ∀ (v1297 : BitVec 32) (k0_hw78 : k0_chk78 v1297), ∀ a, (k0_off379 v1297) a + S1x16.size a ≤ S512x64.size a := fun v1297 k0_hw78 => k0_hw78.2.1
theorem k0_off380_inb : ∀ (v1297 : BitVec 32) (k0_hw78 : k0_chk78 v1297), ∀ a, (k0_off380 v1297) a + S1x16.size a ≤ S512x64.size a := fun v1297 k0_hw78 => k0_hw78.2.2.1
theorem k0_off381_inb : ∀ (v1297 : BitVec 32) (k0_hw78 : k0_chk78 v1297), ∀ a, (k0_off381 v1297) a + S1x16.size a ≤ S512x64.size a := fun v1297 k0_hw78 => k0_hw78.2.2.2

def k0_off382 (v1325 : BitVec 32) : Fin 2 → Nat :=
  let v1328 : Index := Scalar.indexCast v1325
  let c0_252 : Index := 0#32
  ![v1328.toNat, 0]

def k0_off383 (v1325 : BitVec 32) : Fin 2 → Nat :=
  let v1334 : Index := Scalar.indexCast v1325
  let c16_253 : Index := 16#32
  ![v1334.toNat, 16]
def k0_off384 (v1325 : BitVec 32) : Fin 2 → Nat :=
  let v1340 : Index := Scalar.indexCast v1325
  let c32_254 : Index := 32#32
  ![v1340.toNat, 32]
def k0_off385 (v1325 : BitVec 32) : Fin 2 → Nat :=
  let v1346 : Index := Scalar.indexCast v1325
  let c48_255 : Index := 48#32
  ![v1346.toNat, 48]

def k0_chk79 (v1325 : BitVec 32) : Prop :=
  (∀ a, (k0_off382 v1325) a + S1x16.size a ≤ S512x64.size a) ∧
  (∀ a, (k0_off383 v1325) a + S1x16.size a ≤ S512x64.size a) ∧
  (∀ a, (k0_off384 v1325) a + S1x16.size a ≤ S512x64.size a) ∧
  (∀ a, (k0_off385 v1325) a + S1x16.size a ≤ S512x64.size a)
theorem k0_off382_inb : ∀ (v1325 : BitVec 32) (k0_hw79 : k0_chk79 v1325), ∀ a, (k0_off382 v1325) a + S1x16.size a ≤ S512x64.size a := fun v1325 k0_hw79 => k0_hw79.1
theorem k0_off383_inb : ∀ (v1325 : BitVec 32) (k0_hw79 : k0_chk79 v1325), ∀ a, (k0_off383 v1325) a + S1x16.size a ≤ S512x64.size a := fun v1325 k0_hw79 => k0_hw79.2.1
theorem k0_off384_inb : ∀ (v1325 : BitVec 32) (k0_hw79 : k0_chk79 v1325), ∀ a, (k0_off384 v1325) a + S1x16.size a ≤ S512x64.size a := fun v1325 k0_hw79 => k0_hw79.2.2.1
theorem k0_off385_inb : ∀ (v1325 : BitVec 32) (k0_hw79 : k0_chk79 v1325), ∀ a, (k0_off385 v1325) a + S1x16.size a ≤ S512x64.size a := fun v1325 k0_hw79 => k0_hw79.2.2.2

def k0_off386 (v1353 : BitVec 32) : Fin 2 → Nat :=
  let v1356 : Index := Scalar.indexCast v1353
  let c0_256 : Index := 0#32
  ![v1356.toNat, 0]

def k0_off387 (v1353 : BitVec 32) : Fin 2 → Nat :=
  let v1362 : Index := Scalar.indexCast v1353
  let c16_257 : Index := 16#32
  ![v1362.toNat, 16]
def k0_off388 (v1353 : BitVec 32) : Fin 2 → Nat :=
  let v1368 : Index := Scalar.indexCast v1353
  let c32_258 : Index := 32#32
  ![v1368.toNat, 32]
def k0_off389 (v1353 : BitVec 32) : Fin 2 → Nat :=
  let v1374 : Index := Scalar.indexCast v1353
  let c48_259 : Index := 48#32
  ![v1374.toNat, 48]

def k0_chk80 (v1353 : BitVec 32) : Prop :=
  (∀ a, (k0_off386 v1353) a + S1x16.size a ≤ S512x64.size a) ∧
  (∀ a, (k0_off387 v1353) a + S1x16.size a ≤ S512x64.size a) ∧
  (∀ a, (k0_off388 v1353) a + S1x16.size a ≤ S512x64.size a) ∧
  (∀ a, (k0_off389 v1353) a + S1x16.size a ≤ S512x64.size a)
theorem k0_off386_inb : ∀ (v1353 : BitVec 32) (k0_hw80 : k0_chk80 v1353), ∀ a, (k0_off386 v1353) a + S1x16.size a ≤ S512x64.size a := fun v1353 k0_hw80 => k0_hw80.1
theorem k0_off387_inb : ∀ (v1353 : BitVec 32) (k0_hw80 : k0_chk80 v1353), ∀ a, (k0_off387 v1353) a + S1x16.size a ≤ S512x64.size a := fun v1353 k0_hw80 => k0_hw80.2.1
theorem k0_off388_inb : ∀ (v1353 : BitVec 32) (k0_hw80 : k0_chk80 v1353), ∀ a, (k0_off388 v1353) a + S1x16.size a ≤ S512x64.size a := fun v1353 k0_hw80 => k0_hw80.2.2.1
theorem k0_off389_inb : ∀ (v1353 : BitVec 32) (k0_hw80 : k0_chk80 v1353), ∀ a, (k0_off389 v1353) a + S1x16.size a ≤ S512x64.size a := fun v1353 k0_hw80 => k0_hw80.2.2.2

def k0_off390 (k0_t2 : Fin k0_t2_loop.trips) : Fin 1 → Nat :=
  let c196_i32_33 : BitVec 32 := 196#32
  let c1_i32_35 : BitVec 32 := 1#32
  let arg20 : BitVec 32 := Scf.iv c196_i32_33 c1_i32_35 k0_t2
  let c4_i32_193 : BitVec 32 := 4#32
  let v931 : BitVec 32 := Scalar.muli arg20 c4_i32_193
  let c1_i32_264 : BitVec 32 := 1#32
  let v1396 : BitVec 32 := Scalar.addi v931 c1_i32_264
  let c16_i32_265 : BitVec 32 := 16#32
  let v1397 : BitVec 32 := Scalar.muli v1396 c16_i32_265
  let v1398 : Index := Scalar.indexCast v1397
  ![v1398.toNat]
def k0_off391 (v1405 : BitVec 32) : Fin 2 → Nat :=
  let v1408 : Index := Scalar.indexCast v1405
  let c0_266 : Index := 0#32
  ![v1408.toNat, 0]

def k0_off392 (v1405 : BitVec 32) : Fin 2 → Nat :=
  let v1413 : Index := Scalar.indexCast v1405
  let c16_267 : Index := 16#32
  ![v1413.toNat, 16]
def k0_off393 (v1405 : BitVec 32) : Fin 2 → Nat :=
  let v1418 : Index := Scalar.indexCast v1405
  let c32_268 : Index := 32#32
  ![v1418.toNat, 32]
def k0_off394 (v1405 : BitVec 32) : Fin 2 → Nat :=
  let v1423 : Index := Scalar.indexCast v1405
  let c48_269 : Index := 48#32
  ![v1423.toNat, 48]

def k0_chk81 (v1405 : BitVec 32) : Prop :=
  (∀ a, (k0_off391 v1405) a + S1x16.size a ≤ S512x64.size a) ∧
  (∀ a, (k0_off392 v1405) a + S1x16.size a ≤ S512x64.size a) ∧
  (∀ a, (k0_off393 v1405) a + S1x16.size a ≤ S512x64.size a) ∧
  (∀ a, (k0_off394 v1405) a + S1x16.size a ≤ S512x64.size a)
theorem k0_off391_inb : ∀ (v1405 : BitVec 32) (k0_hw81 : k0_chk81 v1405), ∀ a, (k0_off391 v1405) a + S1x16.size a ≤ S512x64.size a := fun v1405 k0_hw81 => k0_hw81.1
theorem k0_off392_inb : ∀ (v1405 : BitVec 32) (k0_hw81 : k0_chk81 v1405), ∀ a, (k0_off392 v1405) a + S1x16.size a ≤ S512x64.size a := fun v1405 k0_hw81 => k0_hw81.2.1
theorem k0_off393_inb : ∀ (v1405 : BitVec 32) (k0_hw81 : k0_chk81 v1405), ∀ a, (k0_off393 v1405) a + S1x16.size a ≤ S512x64.size a := fun v1405 k0_hw81 => k0_hw81.2.2.1
theorem k0_off394_inb : ∀ (v1405 : BitVec 32) (k0_hw81 : k0_chk81 v1405), ∀ a, (k0_off394 v1405) a + S1x16.size a ≤ S512x64.size a := fun v1405 k0_hw81 => k0_hw81.2.2.2

def k0_off395 (v1429 : BitVec 32) : Fin 2 → Nat :=
  let v1432 : Index := Scalar.indexCast v1429
  let c0_270 : Index := 0#32
  ![v1432.toNat, 0]

def k0_off396 (v1429 : BitVec 32) : Fin 2 → Nat :=
  let v1437 : Index := Scalar.indexCast v1429
  let c16_271 : Index := 16#32
  ![v1437.toNat, 16]
def k0_off397 (v1429 : BitVec 32) : Fin 2 → Nat :=
  let v1442 : Index := Scalar.indexCast v1429
  let c32_272 : Index := 32#32
  ![v1442.toNat, 32]
def k0_off398 (v1429 : BitVec 32) : Fin 2 → Nat :=
  let v1447 : Index := Scalar.indexCast v1429
  let c48_273 : Index := 48#32
  ![v1447.toNat, 48]

def k0_chk82 (v1429 : BitVec 32) : Prop :=
  (∀ a, (k0_off395 v1429) a + S1x16.size a ≤ S512x64.size a) ∧
  (∀ a, (k0_off396 v1429) a + S1x16.size a ≤ S512x64.size a) ∧
  (∀ a, (k0_off397 v1429) a + S1x16.size a ≤ S512x64.size a) ∧
  (∀ a, (k0_off398 v1429) a + S1x16.size a ≤ S512x64.size a)
theorem k0_off395_inb : ∀ (v1429 : BitVec 32) (k0_hw82 : k0_chk82 v1429), ∀ a, (k0_off395 v1429) a + S1x16.size a ≤ S512x64.size a := fun v1429 k0_hw82 => k0_hw82.1
theorem k0_off396_inb : ∀ (v1429 : BitVec 32) (k0_hw82 : k0_chk82 v1429), ∀ a, (k0_off396 v1429) a + S1x16.size a ≤ S512x64.size a := fun v1429 k0_hw82 => k0_hw82.2.1
theorem k0_off397_inb : ∀ (v1429 : BitVec 32) (k0_hw82 : k0_chk82 v1429), ∀ a, (k0_off397 v1429) a + S1x16.size a ≤ S512x64.size a := fun v1429 k0_hw82 => k0_hw82.2.2.1
theorem k0_off398_inb : ∀ (v1429 : BitVec 32) (k0_hw82 : k0_chk82 v1429), ∀ a, (k0_off398 v1429) a + S1x16.size a ≤ S512x64.size a := fun v1429 k0_hw82 => k0_hw82.2.2.2

def k0_off399 (v1453 : BitVec 32) : Fin 2 → Nat :=
  let v1456 : Index := Scalar.indexCast v1453
  let c0_274 : Index := 0#32
  ![v1456.toNat, 0]

def k0_off400 (v1453 : BitVec 32) : Fin 2 → Nat :=
  let v1462 : Index := Scalar.indexCast v1453
  let c16_275 : Index := 16#32
  ![v1462.toNat, 16]
def k0_off401 (v1453 : BitVec 32) : Fin 2 → Nat :=
  let v1468 : Index := Scalar.indexCast v1453
  let c32_276 : Index := 32#32
  ![v1468.toNat, 32]
def k0_off402 (v1453 : BitVec 32) : Fin 2 → Nat :=
  let v1474 : Index := Scalar.indexCast v1453
  let c48_277 : Index := 48#32
  ![v1474.toNat, 48]

def k0_chk83 (v1453 : BitVec 32) : Prop :=
  (∀ a, (k0_off399 v1453) a + S1x16.size a ≤ S512x64.size a) ∧
  (∀ a, (k0_off400 v1453) a + S1x16.size a ≤ S512x64.size a) ∧
  (∀ a, (k0_off401 v1453) a + S1x16.size a ≤ S512x64.size a) ∧
  (∀ a, (k0_off402 v1453) a + S1x16.size a ≤ S512x64.size a)
theorem k0_off399_inb : ∀ (v1453 : BitVec 32) (k0_hw83 : k0_chk83 v1453), ∀ a, (k0_off399 v1453) a + S1x16.size a ≤ S512x64.size a := fun v1453 k0_hw83 => k0_hw83.1
theorem k0_off400_inb : ∀ (v1453 : BitVec 32) (k0_hw83 : k0_chk83 v1453), ∀ a, (k0_off400 v1453) a + S1x16.size a ≤ S512x64.size a := fun v1453 k0_hw83 => k0_hw83.2.1
theorem k0_off401_inb : ∀ (v1453 : BitVec 32) (k0_hw83 : k0_chk83 v1453), ∀ a, (k0_off401 v1453) a + S1x16.size a ≤ S512x64.size a := fun v1453 k0_hw83 => k0_hw83.2.2.1
theorem k0_off402_inb : ∀ (v1453 : BitVec 32) (k0_hw83 : k0_chk83 v1453), ∀ a, (k0_off402 v1453) a + S1x16.size a ≤ S512x64.size a := fun v1453 k0_hw83 => k0_hw83.2.2.2

def k0_off403 (v1481 : BitVec 32) : Fin 2 → Nat :=
  let v1484 : Index := Scalar.indexCast v1481
  let c0_278 : Index := 0#32
  ![v1484.toNat, 0]

def k0_off404 (v1481 : BitVec 32) : Fin 2 → Nat :=
  let v1490 : Index := Scalar.indexCast v1481
  let c16_279 : Index := 16#32
  ![v1490.toNat, 16]
def k0_off405 (v1481 : BitVec 32) : Fin 2 → Nat :=
  let v1496 : Index := Scalar.indexCast v1481
  let c32_280 : Index := 32#32
  ![v1496.toNat, 32]
def k0_off406 (v1481 : BitVec 32) : Fin 2 → Nat :=
  let v1502 : Index := Scalar.indexCast v1481
  let c48_281 : Index := 48#32
  ![v1502.toNat, 48]

def k0_chk84 (v1481 : BitVec 32) : Prop :=
  (∀ a, (k0_off403 v1481) a + S1x16.size a ≤ S512x64.size a) ∧
  (∀ a, (k0_off404 v1481) a + S1x16.size a ≤ S512x64.size a) ∧
  (∀ a, (k0_off405 v1481) a + S1x16.size a ≤ S512x64.size a) ∧
  (∀ a, (k0_off406 v1481) a + S1x16.size a ≤ S512x64.size a)
theorem k0_off403_inb : ∀ (v1481 : BitVec 32) (k0_hw84 : k0_chk84 v1481), ∀ a, (k0_off403 v1481) a + S1x16.size a ≤ S512x64.size a := fun v1481 k0_hw84 => k0_hw84.1
theorem k0_off404_inb : ∀ (v1481 : BitVec 32) (k0_hw84 : k0_chk84 v1481), ∀ a, (k0_off404 v1481) a + S1x16.size a ≤ S512x64.size a := fun v1481 k0_hw84 => k0_hw84.2.1
theorem k0_off405_inb : ∀ (v1481 : BitVec 32) (k0_hw84 : k0_chk84 v1481), ∀ a, (k0_off405 v1481) a + S1x16.size a ≤ S512x64.size a := fun v1481 k0_hw84 => k0_hw84.2.2.1
theorem k0_off406_inb : ∀ (v1481 : BitVec 32) (k0_hw84 : k0_chk84 v1481), ∀ a, (k0_off406 v1481) a + S1x16.size a ≤ S512x64.size a := fun v1481 k0_hw84 => k0_hw84.2.2.2

def k0_off407 (v1509 : BitVec 32) : Fin 2 → Nat :=
  let v1512 : Index := Scalar.indexCast v1509
  let c0_282 : Index := 0#32
  ![v1512.toNat, 0]

def k0_off408 (v1509 : BitVec 32) : Fin 2 → Nat :=
  let v1518 : Index := Scalar.indexCast v1509
  let c16_283 : Index := 16#32
  ![v1518.toNat, 16]
def k0_off409 (v1509 : BitVec 32) : Fin 2 → Nat :=
  let v1524 : Index := Scalar.indexCast v1509
  let c32_284 : Index := 32#32
  ![v1524.toNat, 32]
def k0_off410 (v1509 : BitVec 32) : Fin 2 → Nat :=
  let v1530 : Index := Scalar.indexCast v1509
  let c48_285 : Index := 48#32
  ![v1530.toNat, 48]

def k0_chk85 (v1509 : BitVec 32) : Prop :=
  (∀ a, (k0_off407 v1509) a + S1x16.size a ≤ S512x64.size a) ∧
  (∀ a, (k0_off408 v1509) a + S1x16.size a ≤ S512x64.size a) ∧
  (∀ a, (k0_off409 v1509) a + S1x16.size a ≤ S512x64.size a) ∧
  (∀ a, (k0_off410 v1509) a + S1x16.size a ≤ S512x64.size a)
theorem k0_off407_inb : ∀ (v1509 : BitVec 32) (k0_hw85 : k0_chk85 v1509), ∀ a, (k0_off407 v1509) a + S1x16.size a ≤ S512x64.size a := fun v1509 k0_hw85 => k0_hw85.1
theorem k0_off408_inb : ∀ (v1509 : BitVec 32) (k0_hw85 : k0_chk85 v1509), ∀ a, (k0_off408 v1509) a + S1x16.size a ≤ S512x64.size a := fun v1509 k0_hw85 => k0_hw85.2.1
theorem k0_off409_inb : ∀ (v1509 : BitVec 32) (k0_hw85 : k0_chk85 v1509), ∀ a, (k0_off409 v1509) a + S1x16.size a ≤ S512x64.size a := fun v1509 k0_hw85 => k0_hw85.2.2.1
theorem k0_off410_inb : ∀ (v1509 : BitVec 32) (k0_hw85 : k0_chk85 v1509), ∀ a, (k0_off410 v1509) a + S1x16.size a ≤ S512x64.size a := fun v1509 k0_hw85 => k0_hw85.2.2.2

def k0_off411 (v1537 : BitVec 32) : Fin 2 → Nat :=
  let v1540 : Index := Scalar.indexCast v1537
  let c0_286 : Index := 0#32
  ![v1540.toNat, 0]

def k0_off412 (v1537 : BitVec 32) : Fin 2 → Nat :=
  let v1546 : Index := Scalar.indexCast v1537
  let c16_287 : Index := 16#32
  ![v1546.toNat, 16]
def k0_off413 (v1537 : BitVec 32) : Fin 2 → Nat :=
  let v1552 : Index := Scalar.indexCast v1537
  let c32_288 : Index := 32#32
  ![v1552.toNat, 32]
def k0_off414 (v1537 : BitVec 32) : Fin 2 → Nat :=
  let v1558 : Index := Scalar.indexCast v1537
  let c48_289 : Index := 48#32
  ![v1558.toNat, 48]

def k0_chk86 (v1537 : BitVec 32) : Prop :=
  (∀ a, (k0_off411 v1537) a + S1x16.size a ≤ S512x64.size a) ∧
  (∀ a, (k0_off412 v1537) a + S1x16.size a ≤ S512x64.size a) ∧
  (∀ a, (k0_off413 v1537) a + S1x16.size a ≤ S512x64.size a) ∧
  (∀ a, (k0_off414 v1537) a + S1x16.size a ≤ S512x64.size a)
theorem k0_off411_inb : ∀ (v1537 : BitVec 32) (k0_hw86 : k0_chk86 v1537), ∀ a, (k0_off411 v1537) a + S1x16.size a ≤ S512x64.size a := fun v1537 k0_hw86 => k0_hw86.1
theorem k0_off412_inb : ∀ (v1537 : BitVec 32) (k0_hw86 : k0_chk86 v1537), ∀ a, (k0_off412 v1537) a + S1x16.size a ≤ S512x64.size a := fun v1537 k0_hw86 => k0_hw86.2.1
theorem k0_off413_inb : ∀ (v1537 : BitVec 32) (k0_hw86 : k0_chk86 v1537), ∀ a, (k0_off413 v1537) a + S1x16.size a ≤ S512x64.size a := fun v1537 k0_hw86 => k0_hw86.2.2.1
theorem k0_off414_inb : ∀ (v1537 : BitVec 32) (k0_hw86 : k0_chk86 v1537), ∀ a, (k0_off414 v1537) a + S1x16.size a ≤ S512x64.size a := fun v1537 k0_hw86 => k0_hw86.2.2.2

def k0_off415 (v1565 : BitVec 32) : Fin 2 → Nat :=
  let v1568 : Index := Scalar.indexCast v1565
  let c0_290 : Index := 0#32
  ![v1568.toNat, 0]

def k0_off416 (v1565 : BitVec 32) : Fin 2 → Nat :=
  let v1574 : Index := Scalar.indexCast v1565
  let c16_291 : Index := 16#32
  ![v1574.toNat, 16]
def k0_off417 (v1565 : BitVec 32) : Fin 2 → Nat :=
  let v1580 : Index := Scalar.indexCast v1565
  let c32_292 : Index := 32#32
  ![v1580.toNat, 32]
def k0_off418 (v1565 : BitVec 32) : Fin 2 → Nat :=
  let v1586 : Index := Scalar.indexCast v1565
  let c48_293 : Index := 48#32
  ![v1586.toNat, 48]

def k0_chk87 (v1565 : BitVec 32) : Prop :=
  (∀ a, (k0_off415 v1565) a + S1x16.size a ≤ S512x64.size a) ∧
  (∀ a, (k0_off416 v1565) a + S1x16.size a ≤ S512x64.size a) ∧
  (∀ a, (k0_off417 v1565) a + S1x16.size a ≤ S512x64.size a) ∧
  (∀ a, (k0_off418 v1565) a + S1x16.size a ≤ S512x64.size a)
theorem k0_off415_inb : ∀ (v1565 : BitVec 32) (k0_hw87 : k0_chk87 v1565), ∀ a, (k0_off415 v1565) a + S1x16.size a ≤ S512x64.size a := fun v1565 k0_hw87 => k0_hw87.1
theorem k0_off416_inb : ∀ (v1565 : BitVec 32) (k0_hw87 : k0_chk87 v1565), ∀ a, (k0_off416 v1565) a + S1x16.size a ≤ S512x64.size a := fun v1565 k0_hw87 => k0_hw87.2.1
theorem k0_off417_inb : ∀ (v1565 : BitVec 32) (k0_hw87 : k0_chk87 v1565), ∀ a, (k0_off417 v1565) a + S1x16.size a ≤ S512x64.size a := fun v1565 k0_hw87 => k0_hw87.2.2.1
theorem k0_off418_inb : ∀ (v1565 : BitVec 32) (k0_hw87 : k0_chk87 v1565), ∀ a, (k0_off418 v1565) a + S1x16.size a ≤ S512x64.size a := fun v1565 k0_hw87 => k0_hw87.2.2.2

def k0_off419 (v1593 : BitVec 32) : Fin 2 → Nat :=
  let v1596 : Index := Scalar.indexCast v1593
  let c0_294 : Index := 0#32
  ![v1596.toNat, 0]

def k0_off420 (v1593 : BitVec 32) : Fin 2 → Nat :=
  let v1602 : Index := Scalar.indexCast v1593
  let c16_295 : Index := 16#32
  ![v1602.toNat, 16]
def k0_off421 (v1593 : BitVec 32) : Fin 2 → Nat :=
  let v1608 : Index := Scalar.indexCast v1593
  let c32_296 : Index := 32#32
  ![v1608.toNat, 32]
def k0_off422 (v1593 : BitVec 32) : Fin 2 → Nat :=
  let v1614 : Index := Scalar.indexCast v1593
  let c48_297 : Index := 48#32
  ![v1614.toNat, 48]

def k0_chk88 (v1593 : BitVec 32) : Prop :=
  (∀ a, (k0_off419 v1593) a + S1x16.size a ≤ S512x64.size a) ∧
  (∀ a, (k0_off420 v1593) a + S1x16.size a ≤ S512x64.size a) ∧
  (∀ a, (k0_off421 v1593) a + S1x16.size a ≤ S512x64.size a) ∧
  (∀ a, (k0_off422 v1593) a + S1x16.size a ≤ S512x64.size a)
theorem k0_off419_inb : ∀ (v1593 : BitVec 32) (k0_hw88 : k0_chk88 v1593), ∀ a, (k0_off419 v1593) a + S1x16.size a ≤ S512x64.size a := fun v1593 k0_hw88 => k0_hw88.1
theorem k0_off420_inb : ∀ (v1593 : BitVec 32) (k0_hw88 : k0_chk88 v1593), ∀ a, (k0_off420 v1593) a + S1x16.size a ≤ S512x64.size a := fun v1593 k0_hw88 => k0_hw88.2.1
theorem k0_off421_inb : ∀ (v1593 : BitVec 32) (k0_hw88 : k0_chk88 v1593), ∀ a, (k0_off421 v1593) a + S1x16.size a ≤ S512x64.size a := fun v1593 k0_hw88 => k0_hw88.2.2.1
theorem k0_off422_inb : ∀ (v1593 : BitVec 32) (k0_hw88 : k0_chk88 v1593), ∀ a, (k0_off422 v1593) a + S1x16.size a ≤ S512x64.size a := fun v1593 k0_hw88 => k0_hw88.2.2.2

def k0_off423 (v1621 : BitVec 32) : Fin 2 → Nat :=
  let v1624 : Index := Scalar.indexCast v1621
  let c0_298 : Index := 0#32
  ![v1624.toNat, 0]

def k0_off424 (v1621 : BitVec 32) : Fin 2 → Nat :=
  let v1630 : Index := Scalar.indexCast v1621
  let c16_299 : Index := 16#32
  ![v1630.toNat, 16]
def k0_off425 (v1621 : BitVec 32) : Fin 2 → Nat :=
  let v1636 : Index := Scalar.indexCast v1621
  let c32_300 : Index := 32#32
  ![v1636.toNat, 32]
def k0_off426 (v1621 : BitVec 32) : Fin 2 → Nat :=
  let v1642 : Index := Scalar.indexCast v1621
  let c48_301 : Index := 48#32
  ![v1642.toNat, 48]

def k0_chk89 (v1621 : BitVec 32) : Prop :=
  (∀ a, (k0_off423 v1621) a + S1x16.size a ≤ S512x64.size a) ∧
  (∀ a, (k0_off424 v1621) a + S1x16.size a ≤ S512x64.size a) ∧
  (∀ a, (k0_off425 v1621) a + S1x16.size a ≤ S512x64.size a) ∧
  (∀ a, (k0_off426 v1621) a + S1x16.size a ≤ S512x64.size a)
theorem k0_off423_inb : ∀ (v1621 : BitVec 32) (k0_hw89 : k0_chk89 v1621), ∀ a, (k0_off423 v1621) a + S1x16.size a ≤ S512x64.size a := fun v1621 k0_hw89 => k0_hw89.1
theorem k0_off424_inb : ∀ (v1621 : BitVec 32) (k0_hw89 : k0_chk89 v1621), ∀ a, (k0_off424 v1621) a + S1x16.size a ≤ S512x64.size a := fun v1621 k0_hw89 => k0_hw89.2.1
theorem k0_off425_inb : ∀ (v1621 : BitVec 32) (k0_hw89 : k0_chk89 v1621), ∀ a, (k0_off425 v1621) a + S1x16.size a ≤ S512x64.size a := fun v1621 k0_hw89 => k0_hw89.2.2.1
theorem k0_off426_inb : ∀ (v1621 : BitVec 32) (k0_hw89 : k0_chk89 v1621), ∀ a, (k0_off426 v1621) a + S1x16.size a ≤ S512x64.size a := fun v1621 k0_hw89 => k0_hw89.2.2.2

def k0_off427 (v1649 : BitVec 32) : Fin 2 → Nat :=
  let v1652 : Index := Scalar.indexCast v1649
  let c0_302 : Index := 0#32
  ![v1652.toNat, 0]

def k0_off428 (v1649 : BitVec 32) : Fin 2 → Nat :=
  let v1658 : Index := Scalar.indexCast v1649
  let c16_303 : Index := 16#32
  ![v1658.toNat, 16]
def k0_off429 (v1649 : BitVec 32) : Fin 2 → Nat :=
  let v1664 : Index := Scalar.indexCast v1649
  let c32_304 : Index := 32#32
  ![v1664.toNat, 32]
def k0_off430 (v1649 : BitVec 32) : Fin 2 → Nat :=
  let v1670 : Index := Scalar.indexCast v1649
  let c48_305 : Index := 48#32
  ![v1670.toNat, 48]

def k0_chk90 (v1649 : BitVec 32) : Prop :=
  (∀ a, (k0_off427 v1649) a + S1x16.size a ≤ S512x64.size a) ∧
  (∀ a, (k0_off428 v1649) a + S1x16.size a ≤ S512x64.size a) ∧
  (∀ a, (k0_off429 v1649) a + S1x16.size a ≤ S512x64.size a) ∧
  (∀ a, (k0_off430 v1649) a + S1x16.size a ≤ S512x64.size a)
theorem k0_off427_inb : ∀ (v1649 : BitVec 32) (k0_hw90 : k0_chk90 v1649), ∀ a, (k0_off427 v1649) a + S1x16.size a ≤ S512x64.size a := fun v1649 k0_hw90 => k0_hw90.1
theorem k0_off428_inb : ∀ (v1649 : BitVec 32) (k0_hw90 : k0_chk90 v1649), ∀ a, (k0_off428 v1649) a + S1x16.size a ≤ S512x64.size a := fun v1649 k0_hw90 => k0_hw90.2.1
theorem k0_off429_inb : ∀ (v1649 : BitVec 32) (k0_hw90 : k0_chk90 v1649), ∀ a, (k0_off429 v1649) a + S1x16.size a ≤ S512x64.size a := fun v1649 k0_hw90 => k0_hw90.2.2.1
theorem k0_off430_inb : ∀ (v1649 : BitVec 32) (k0_hw90 : k0_chk90 v1649), ∀ a, (k0_off430 v1649) a + S1x16.size a ≤ S512x64.size a := fun v1649 k0_hw90 => k0_hw90.2.2.2

def k0_off431 (v1677 : BitVec 32) : Fin 2 → Nat :=
  let v1680 : Index := Scalar.indexCast v1677
  let c0_306 : Index := 0#32
  ![v1680.toNat, 0]

def k0_off432 (v1677 : BitVec 32) : Fin 2 → Nat :=
  let v1686 : Index := Scalar.indexCast v1677
  let c16_307 : Index := 16#32
  ![v1686.toNat, 16]
def k0_off433 (v1677 : BitVec 32) : Fin 2 → Nat :=
  let v1692 : Index := Scalar.indexCast v1677
  let c32_308 : Index := 32#32
  ![v1692.toNat, 32]
def k0_off434 (v1677 : BitVec 32) : Fin 2 → Nat :=
  let v1698 : Index := Scalar.indexCast v1677
  let c48_309 : Index := 48#32
  ![v1698.toNat, 48]

def k0_chk91 (v1677 : BitVec 32) : Prop :=
  (∀ a, (k0_off431 v1677) a + S1x16.size a ≤ S512x64.size a) ∧
  (∀ a, (k0_off432 v1677) a + S1x16.size a ≤ S512x64.size a) ∧
  (∀ a, (k0_off433 v1677) a + S1x16.size a ≤ S512x64.size a) ∧
  (∀ a, (k0_off434 v1677) a + S1x16.size a ≤ S512x64.size a)
theorem k0_off431_inb : ∀ (v1677 : BitVec 32) (k0_hw91 : k0_chk91 v1677), ∀ a, (k0_off431 v1677) a + S1x16.size a ≤ S512x64.size a := fun v1677 k0_hw91 => k0_hw91.1
theorem k0_off432_inb : ∀ (v1677 : BitVec 32) (k0_hw91 : k0_chk91 v1677), ∀ a, (k0_off432 v1677) a + S1x16.size a ≤ S512x64.size a := fun v1677 k0_hw91 => k0_hw91.2.1
theorem k0_off433_inb : ∀ (v1677 : BitVec 32) (k0_hw91 : k0_chk91 v1677), ∀ a, (k0_off433 v1677) a + S1x16.size a ≤ S512x64.size a := fun v1677 k0_hw91 => k0_hw91.2.2.1
theorem k0_off434_inb : ∀ (v1677 : BitVec 32) (k0_hw91 : k0_chk91 v1677), ∀ a, (k0_off434 v1677) a + S1x16.size a ≤ S512x64.size a := fun v1677 k0_hw91 => k0_hw91.2.2.2

def k0_off435 (v1705 : BitVec 32) : Fin 2 → Nat :=
  let v1708 : Index := Scalar.indexCast v1705
  let c0_310 : Index := 0#32
  ![v1708.toNat, 0]

def k0_off436 (v1705 : BitVec 32) : Fin 2 → Nat :=
  let v1714 : Index := Scalar.indexCast v1705
  let c16_311 : Index := 16#32
  ![v1714.toNat, 16]
def k0_off437 (v1705 : BitVec 32) : Fin 2 → Nat :=
  let v1720 : Index := Scalar.indexCast v1705
  let c32_312 : Index := 32#32
  ![v1720.toNat, 32]
def k0_off438 (v1705 : BitVec 32) : Fin 2 → Nat :=
  let v1726 : Index := Scalar.indexCast v1705
  let c48_313 : Index := 48#32
  ![v1726.toNat, 48]

def k0_chk92 (v1705 : BitVec 32) : Prop :=
  (∀ a, (k0_off435 v1705) a + S1x16.size a ≤ S512x64.size a) ∧
  (∀ a, (k0_off436 v1705) a + S1x16.size a ≤ S512x64.size a) ∧
  (∀ a, (k0_off437 v1705) a + S1x16.size a ≤ S512x64.size a) ∧
  (∀ a, (k0_off438 v1705) a + S1x16.size a ≤ S512x64.size a)
theorem k0_off435_inb : ∀ (v1705 : BitVec 32) (k0_hw92 : k0_chk92 v1705), ∀ a, (k0_off435 v1705) a + S1x16.size a ≤ S512x64.size a := fun v1705 k0_hw92 => k0_hw92.1
theorem k0_off436_inb : ∀ (v1705 : BitVec 32) (k0_hw92 : k0_chk92 v1705), ∀ a, (k0_off436 v1705) a + S1x16.size a ≤ S512x64.size a := fun v1705 k0_hw92 => k0_hw92.2.1
theorem k0_off437_inb : ∀ (v1705 : BitVec 32) (k0_hw92 : k0_chk92 v1705), ∀ a, (k0_off437 v1705) a + S1x16.size a ≤ S512x64.size a := fun v1705 k0_hw92 => k0_hw92.2.2.1
theorem k0_off438_inb : ∀ (v1705 : BitVec 32) (k0_hw92 : k0_chk92 v1705), ∀ a, (k0_off438 v1705) a + S1x16.size a ≤ S512x64.size a := fun v1705 k0_hw92 => k0_hw92.2.2.2

def k0_off439 (v1733 : BitVec 32) : Fin 2 → Nat :=
  let v1736 : Index := Scalar.indexCast v1733
  let c0_314 : Index := 0#32
  ![v1736.toNat, 0]

def k0_off440 (v1733 : BitVec 32) : Fin 2 → Nat :=
  let v1742 : Index := Scalar.indexCast v1733
  let c16_315 : Index := 16#32
  ![v1742.toNat, 16]
def k0_off441 (v1733 : BitVec 32) : Fin 2 → Nat :=
  let v1748 : Index := Scalar.indexCast v1733
  let c32_316 : Index := 32#32
  ![v1748.toNat, 32]
def k0_off442 (v1733 : BitVec 32) : Fin 2 → Nat :=
  let v1754 : Index := Scalar.indexCast v1733
  let c48_317 : Index := 48#32
  ![v1754.toNat, 48]

def k0_chk93 (v1733 : BitVec 32) : Prop :=
  (∀ a, (k0_off439 v1733) a + S1x16.size a ≤ S512x64.size a) ∧
  (∀ a, (k0_off440 v1733) a + S1x16.size a ≤ S512x64.size a) ∧
  (∀ a, (k0_off441 v1733) a + S1x16.size a ≤ S512x64.size a) ∧
  (∀ a, (k0_off442 v1733) a + S1x16.size a ≤ S512x64.size a)
theorem k0_off439_inb : ∀ (v1733 : BitVec 32) (k0_hw93 : k0_chk93 v1733), ∀ a, (k0_off439 v1733) a + S1x16.size a ≤ S512x64.size a := fun v1733 k0_hw93 => k0_hw93.1
theorem k0_off440_inb : ∀ (v1733 : BitVec 32) (k0_hw93 : k0_chk93 v1733), ∀ a, (k0_off440 v1733) a + S1x16.size a ≤ S512x64.size a := fun v1733 k0_hw93 => k0_hw93.2.1
theorem k0_off441_inb : ∀ (v1733 : BitVec 32) (k0_hw93 : k0_chk93 v1733), ∀ a, (k0_off441 v1733) a + S1x16.size a ≤ S512x64.size a := fun v1733 k0_hw93 => k0_hw93.2.2.1
theorem k0_off442_inb : ∀ (v1733 : BitVec 32) (k0_hw93 : k0_chk93 v1733), ∀ a, (k0_off442 v1733) a + S1x16.size a ≤ S512x64.size a := fun v1733 k0_hw93 => k0_hw93.2.2.2

def k0_off443 (v1761 : BitVec 32) : Fin 2 → Nat :=
  let v1764 : Index := Scalar.indexCast v1761
  let c0_318 : Index := 0#32
  ![v1764.toNat, 0]

def k0_off444 (v1761 : BitVec 32) : Fin 2 → Nat :=
  let v1770 : Index := Scalar.indexCast v1761
  let c16_319 : Index := 16#32
  ![v1770.toNat, 16]
def k0_off445 (v1761 : BitVec 32) : Fin 2 → Nat :=
  let v1776 : Index := Scalar.indexCast v1761
  let c32_320 : Index := 32#32
  ![v1776.toNat, 32]
def k0_off446 (v1761 : BitVec 32) : Fin 2 → Nat :=
  let v1782 : Index := Scalar.indexCast v1761
  let c48_321 : Index := 48#32
  ![v1782.toNat, 48]

def k0_chk94 (v1761 : BitVec 32) : Prop :=
  (∀ a, (k0_off443 v1761) a + S1x16.size a ≤ S512x64.size a) ∧
  (∀ a, (k0_off444 v1761) a + S1x16.size a ≤ S512x64.size a) ∧
  (∀ a, (k0_off445 v1761) a + S1x16.size a ≤ S512x64.size a) ∧
  (∀ a, (k0_off446 v1761) a + S1x16.size a ≤ S512x64.size a)
theorem k0_off443_inb : ∀ (v1761 : BitVec 32) (k0_hw94 : k0_chk94 v1761), ∀ a, (k0_off443 v1761) a + S1x16.size a ≤ S512x64.size a := fun v1761 k0_hw94 => k0_hw94.1
theorem k0_off444_inb : ∀ (v1761 : BitVec 32) (k0_hw94 : k0_chk94 v1761), ∀ a, (k0_off444 v1761) a + S1x16.size a ≤ S512x64.size a := fun v1761 k0_hw94 => k0_hw94.2.1
theorem k0_off445_inb : ∀ (v1761 : BitVec 32) (k0_hw94 : k0_chk94 v1761), ∀ a, (k0_off445 v1761) a + S1x16.size a ≤ S512x64.size a := fun v1761 k0_hw94 => k0_hw94.2.2.1
theorem k0_off446_inb : ∀ (v1761 : BitVec 32) (k0_hw94 : k0_chk94 v1761), ∀ a, (k0_off446 v1761) a + S1x16.size a ≤ S512x64.size a := fun v1761 k0_hw94 => k0_hw94.2.2.2

def k0_off447 (v1789 : BitVec 32) : Fin 2 → Nat :=
  let v1792 : Index := Scalar.indexCast v1789
  let c0_322 : Index := 0#32
  ![v1792.toNat, 0]

def k0_off448 (v1789 : BitVec 32) : Fin 2 → Nat :=
  let v1798 : Index := Scalar.indexCast v1789
  let c16_323 : Index := 16#32
  ![v1798.toNat, 16]
def k0_off449 (v1789 : BitVec 32) : Fin 2 → Nat :=
  let v1804 : Index := Scalar.indexCast v1789
  let c32_324 : Index := 32#32
  ![v1804.toNat, 32]
def k0_off450 (v1789 : BitVec 32) : Fin 2 → Nat :=
  let v1810 : Index := Scalar.indexCast v1789
  let c48_325 : Index := 48#32
  ![v1810.toNat, 48]

def k0_chk95 (v1789 : BitVec 32) : Prop :=
  (∀ a, (k0_off447 v1789) a + S1x16.size a ≤ S512x64.size a) ∧
  (∀ a, (k0_off448 v1789) a + S1x16.size a ≤ S512x64.size a) ∧
  (∀ a, (k0_off449 v1789) a + S1x16.size a ≤ S512x64.size a) ∧
  (∀ a, (k0_off450 v1789) a + S1x16.size a ≤ S512x64.size a)
theorem k0_off447_inb : ∀ (v1789 : BitVec 32) (k0_hw95 : k0_chk95 v1789), ∀ a, (k0_off447 v1789) a + S1x16.size a ≤ S512x64.size a := fun v1789 k0_hw95 => k0_hw95.1
theorem k0_off448_inb : ∀ (v1789 : BitVec 32) (k0_hw95 : k0_chk95 v1789), ∀ a, (k0_off448 v1789) a + S1x16.size a ≤ S512x64.size a := fun v1789 k0_hw95 => k0_hw95.2.1
theorem k0_off449_inb : ∀ (v1789 : BitVec 32) (k0_hw95 : k0_chk95 v1789), ∀ a, (k0_off449 v1789) a + S1x16.size a ≤ S512x64.size a := fun v1789 k0_hw95 => k0_hw95.2.2.1
theorem k0_off450_inb : ∀ (v1789 : BitVec 32) (k0_hw95 : k0_chk95 v1789), ∀ a, (k0_off450 v1789) a + S1x16.size a ≤ S512x64.size a := fun v1789 k0_hw95 => k0_hw95.2.2.2

def k0_off451 (v1817 : BitVec 32) : Fin 2 → Nat :=
  let v1820 : Index := Scalar.indexCast v1817
  let c0_326 : Index := 0#32
  ![v1820.toNat, 0]

def k0_off452 (v1817 : BitVec 32) : Fin 2 → Nat :=
  let v1826 : Index := Scalar.indexCast v1817
  let c16_327 : Index := 16#32
  ![v1826.toNat, 16]
def k0_off453 (v1817 : BitVec 32) : Fin 2 → Nat :=
  let v1832 : Index := Scalar.indexCast v1817
  let c32_328 : Index := 32#32
  ![v1832.toNat, 32]
def k0_off454 (v1817 : BitVec 32) : Fin 2 → Nat :=
  let v1838 : Index := Scalar.indexCast v1817
  let c48_329 : Index := 48#32
  ![v1838.toNat, 48]

def k0_chk96 (v1817 : BitVec 32) : Prop :=
  (∀ a, (k0_off451 v1817) a + S1x16.size a ≤ S512x64.size a) ∧
  (∀ a, (k0_off452 v1817) a + S1x16.size a ≤ S512x64.size a) ∧
  (∀ a, (k0_off453 v1817) a + S1x16.size a ≤ S512x64.size a) ∧
  (∀ a, (k0_off454 v1817) a + S1x16.size a ≤ S512x64.size a)
theorem k0_off451_inb : ∀ (v1817 : BitVec 32) (k0_hw96 : k0_chk96 v1817), ∀ a, (k0_off451 v1817) a + S1x16.size a ≤ S512x64.size a := fun v1817 k0_hw96 => k0_hw96.1
theorem k0_off452_inb : ∀ (v1817 : BitVec 32) (k0_hw96 : k0_chk96 v1817), ∀ a, (k0_off452 v1817) a + S1x16.size a ≤ S512x64.size a := fun v1817 k0_hw96 => k0_hw96.2.1
theorem k0_off453_inb : ∀ (v1817 : BitVec 32) (k0_hw96 : k0_chk96 v1817), ∀ a, (k0_off453 v1817) a + S1x16.size a ≤ S512x64.size a := fun v1817 k0_hw96 => k0_hw96.2.2.1
theorem k0_off454_inb : ∀ (v1817 : BitVec 32) (k0_hw96 : k0_chk96 v1817), ∀ a, (k0_off454 v1817) a + S1x16.size a ≤ S512x64.size a := fun v1817 k0_hw96 => k0_hw96.2.2.2

def k0_off455 (k0_t2 : Fin k0_t2_loop.trips) : Fin 1 → Nat :=
  let c196_i32_33 : BitVec 32 := 196#32
  let c1_i32_35 : BitVec 32 := 1#32
  let arg20 : BitVec 32 := Scf.iv c196_i32_33 c1_i32_35 k0_t2
  let c4_i32_193 : BitVec 32 := 4#32
  let v931 : BitVec 32 := Scalar.muli arg20 c4_i32_193
  let c2_i32_334 : BitVec 32 := 2#32
  let v1860 : BitVec 32 := Scalar.addi v931 c2_i32_334
  let c16_i32_335 : BitVec 32 := 16#32
  let v1861 : BitVec 32 := Scalar.muli v1860 c16_i32_335
  let v1862 : Index := Scalar.indexCast v1861
  ![v1862.toNat]
def k0_off456 (v1869 : BitVec 32) : Fin 2 → Nat :=
  let v1872 : Index := Scalar.indexCast v1869
  let c0_336 : Index := 0#32
  ![v1872.toNat, 0]

def k0_off457 (v1869 : BitVec 32) : Fin 2 → Nat :=
  let v1877 : Index := Scalar.indexCast v1869
  let c16_337 : Index := 16#32
  ![v1877.toNat, 16]
def k0_off458 (v1869 : BitVec 32) : Fin 2 → Nat :=
  let v1882 : Index := Scalar.indexCast v1869
  let c32_338 : Index := 32#32
  ![v1882.toNat, 32]
def k0_off459 (v1869 : BitVec 32) : Fin 2 → Nat :=
  let v1887 : Index := Scalar.indexCast v1869
  let c48_339 : Index := 48#32
  ![v1887.toNat, 48]

def k0_chk97 (v1869 : BitVec 32) : Prop :=
  (∀ a, (k0_off456 v1869) a + S1x16.size a ≤ S512x64.size a) ∧
  (∀ a, (k0_off457 v1869) a + S1x16.size a ≤ S512x64.size a) ∧
  (∀ a, (k0_off458 v1869) a + S1x16.size a ≤ S512x64.size a) ∧
  (∀ a, (k0_off459 v1869) a + S1x16.size a ≤ S512x64.size a)
theorem k0_off456_inb : ∀ (v1869 : BitVec 32) (k0_hw97 : k0_chk97 v1869), ∀ a, (k0_off456 v1869) a + S1x16.size a ≤ S512x64.size a := fun v1869 k0_hw97 => k0_hw97.1
theorem k0_off457_inb : ∀ (v1869 : BitVec 32) (k0_hw97 : k0_chk97 v1869), ∀ a, (k0_off457 v1869) a + S1x16.size a ≤ S512x64.size a := fun v1869 k0_hw97 => k0_hw97.2.1
theorem k0_off458_inb : ∀ (v1869 : BitVec 32) (k0_hw97 : k0_chk97 v1869), ∀ a, (k0_off458 v1869) a + S1x16.size a ≤ S512x64.size a := fun v1869 k0_hw97 => k0_hw97.2.2.1
theorem k0_off459_inb : ∀ (v1869 : BitVec 32) (k0_hw97 : k0_chk97 v1869), ∀ a, (k0_off459 v1869) a + S1x16.size a ≤ S512x64.size a := fun v1869 k0_hw97 => k0_hw97.2.2.2

def k0_off460 (v1893 : BitVec 32) : Fin 2 → Nat :=
  let v1896 : Index := Scalar.indexCast v1893
  let c0_340 : Index := 0#32
  ![v1896.toNat, 0]

def k0_off461 (v1893 : BitVec 32) : Fin 2 → Nat :=
  let v1901 : Index := Scalar.indexCast v1893
  let c16_341 : Index := 16#32
  ![v1901.toNat, 16]
def k0_off462 (v1893 : BitVec 32) : Fin 2 → Nat :=
  let v1906 : Index := Scalar.indexCast v1893
  let c32_342 : Index := 32#32
  ![v1906.toNat, 32]
def k0_off463 (v1893 : BitVec 32) : Fin 2 → Nat :=
  let v1911 : Index := Scalar.indexCast v1893
  let c48_343 : Index := 48#32
  ![v1911.toNat, 48]

def k0_chk98 (v1893 : BitVec 32) : Prop :=
  (∀ a, (k0_off460 v1893) a + S1x16.size a ≤ S512x64.size a) ∧
  (∀ a, (k0_off461 v1893) a + S1x16.size a ≤ S512x64.size a) ∧
  (∀ a, (k0_off462 v1893) a + S1x16.size a ≤ S512x64.size a) ∧
  (∀ a, (k0_off463 v1893) a + S1x16.size a ≤ S512x64.size a)
theorem k0_off460_inb : ∀ (v1893 : BitVec 32) (k0_hw98 : k0_chk98 v1893), ∀ a, (k0_off460 v1893) a + S1x16.size a ≤ S512x64.size a := fun v1893 k0_hw98 => k0_hw98.1
theorem k0_off461_inb : ∀ (v1893 : BitVec 32) (k0_hw98 : k0_chk98 v1893), ∀ a, (k0_off461 v1893) a + S1x16.size a ≤ S512x64.size a := fun v1893 k0_hw98 => k0_hw98.2.1
theorem k0_off462_inb : ∀ (v1893 : BitVec 32) (k0_hw98 : k0_chk98 v1893), ∀ a, (k0_off462 v1893) a + S1x16.size a ≤ S512x64.size a := fun v1893 k0_hw98 => k0_hw98.2.2.1
theorem k0_off463_inb : ∀ (v1893 : BitVec 32) (k0_hw98 : k0_chk98 v1893), ∀ a, (k0_off463 v1893) a + S1x16.size a ≤ S512x64.size a := fun v1893 k0_hw98 => k0_hw98.2.2.2

def k0_off464 (v1917 : BitVec 32) : Fin 2 → Nat :=
  let v1920 : Index := Scalar.indexCast v1917
  let c0_344 : Index := 0#32
  ![v1920.toNat, 0]

def k0_off465 (v1917 : BitVec 32) : Fin 2 → Nat :=
  let v1926 : Index := Scalar.indexCast v1917
  let c16_345 : Index := 16#32
  ![v1926.toNat, 16]
def k0_off466 (v1917 : BitVec 32) : Fin 2 → Nat :=
  let v1932 : Index := Scalar.indexCast v1917
  let c32_346 : Index := 32#32
  ![v1932.toNat, 32]
def k0_off467 (v1917 : BitVec 32) : Fin 2 → Nat :=
  let v1938 : Index := Scalar.indexCast v1917
  let c48_347 : Index := 48#32
  ![v1938.toNat, 48]

def k0_chk99 (v1917 : BitVec 32) : Prop :=
  (∀ a, (k0_off464 v1917) a + S1x16.size a ≤ S512x64.size a) ∧
  (∀ a, (k0_off465 v1917) a + S1x16.size a ≤ S512x64.size a) ∧
  (∀ a, (k0_off466 v1917) a + S1x16.size a ≤ S512x64.size a) ∧
  (∀ a, (k0_off467 v1917) a + S1x16.size a ≤ S512x64.size a)
theorem k0_off464_inb : ∀ (v1917 : BitVec 32) (k0_hw99 : k0_chk99 v1917), ∀ a, (k0_off464 v1917) a + S1x16.size a ≤ S512x64.size a := fun v1917 k0_hw99 => k0_hw99.1
theorem k0_off465_inb : ∀ (v1917 : BitVec 32) (k0_hw99 : k0_chk99 v1917), ∀ a, (k0_off465 v1917) a + S1x16.size a ≤ S512x64.size a := fun v1917 k0_hw99 => k0_hw99.2.1
theorem k0_off466_inb : ∀ (v1917 : BitVec 32) (k0_hw99 : k0_chk99 v1917), ∀ a, (k0_off466 v1917) a + S1x16.size a ≤ S512x64.size a := fun v1917 k0_hw99 => k0_hw99.2.2.1
theorem k0_off467_inb : ∀ (v1917 : BitVec 32) (k0_hw99 : k0_chk99 v1917), ∀ a, (k0_off467 v1917) a + S1x16.size a ≤ S512x64.size a := fun v1917 k0_hw99 => k0_hw99.2.2.2

def k0_off468 (v1945 : BitVec 32) : Fin 2 → Nat :=
  let v1948 : Index := Scalar.indexCast v1945
  let c0_348 : Index := 0#32
  ![v1948.toNat, 0]

def k0_off469 (v1945 : BitVec 32) : Fin 2 → Nat :=
  let v1954 : Index := Scalar.indexCast v1945
  let c16_349 : Index := 16#32
  ![v1954.toNat, 16]
def k0_off470 (v1945 : BitVec 32) : Fin 2 → Nat :=
  let v1960 : Index := Scalar.indexCast v1945
  let c32_350 : Index := 32#32
  ![v1960.toNat, 32]
def k0_off471 (v1945 : BitVec 32) : Fin 2 → Nat :=
  let v1966 : Index := Scalar.indexCast v1945
  let c48_351 : Index := 48#32
  ![v1966.toNat, 48]

def k0_chk100 (v1945 : BitVec 32) : Prop :=
  (∀ a, (k0_off468 v1945) a + S1x16.size a ≤ S512x64.size a) ∧
  (∀ a, (k0_off469 v1945) a + S1x16.size a ≤ S512x64.size a) ∧
  (∀ a, (k0_off470 v1945) a + S1x16.size a ≤ S512x64.size a) ∧
  (∀ a, (k0_off471 v1945) a + S1x16.size a ≤ S512x64.size a)
theorem k0_off468_inb : ∀ (v1945 : BitVec 32) (k0_hw100 : k0_chk100 v1945), ∀ a, (k0_off468 v1945) a + S1x16.size a ≤ S512x64.size a := fun v1945 k0_hw100 => k0_hw100.1
theorem k0_off469_inb : ∀ (v1945 : BitVec 32) (k0_hw100 : k0_chk100 v1945), ∀ a, (k0_off469 v1945) a + S1x16.size a ≤ S512x64.size a := fun v1945 k0_hw100 => k0_hw100.2.1
theorem k0_off470_inb : ∀ (v1945 : BitVec 32) (k0_hw100 : k0_chk100 v1945), ∀ a, (k0_off470 v1945) a + S1x16.size a ≤ S512x64.size a := fun v1945 k0_hw100 => k0_hw100.2.2.1
theorem k0_off471_inb : ∀ (v1945 : BitVec 32) (k0_hw100 : k0_chk100 v1945), ∀ a, (k0_off471 v1945) a + S1x16.size a ≤ S512x64.size a := fun v1945 k0_hw100 => k0_hw100.2.2.2

def k0_off472 (v1973 : BitVec 32) : Fin 2 → Nat :=
  let v1976 : Index := Scalar.indexCast v1973
  let c0_352 : Index := 0#32
  ![v1976.toNat, 0]

def k0_off473 (v1973 : BitVec 32) : Fin 2 → Nat :=
  let v1982 : Index := Scalar.indexCast v1973
  let c16_353 : Index := 16#32
  ![v1982.toNat, 16]
def k0_off474 (v1973 : BitVec 32) : Fin 2 → Nat :=
  let v1988 : Index := Scalar.indexCast v1973
  let c32_354 : Index := 32#32
  ![v1988.toNat, 32]
def k0_off475 (v1973 : BitVec 32) : Fin 2 → Nat :=
  let v1994 : Index := Scalar.indexCast v1973
  let c48_355 : Index := 48#32
  ![v1994.toNat, 48]

def k0_chk101 (v1973 : BitVec 32) : Prop :=
  (∀ a, (k0_off472 v1973) a + S1x16.size a ≤ S512x64.size a) ∧
  (∀ a, (k0_off473 v1973) a + S1x16.size a ≤ S512x64.size a) ∧
  (∀ a, (k0_off474 v1973) a + S1x16.size a ≤ S512x64.size a) ∧
  (∀ a, (k0_off475 v1973) a + S1x16.size a ≤ S512x64.size a)
theorem k0_off472_inb : ∀ (v1973 : BitVec 32) (k0_hw101 : k0_chk101 v1973), ∀ a, (k0_off472 v1973) a + S1x16.size a ≤ S512x64.size a := fun v1973 k0_hw101 => k0_hw101.1
theorem k0_off473_inb : ∀ (v1973 : BitVec 32) (k0_hw101 : k0_chk101 v1973), ∀ a, (k0_off473 v1973) a + S1x16.size a ≤ S512x64.size a := fun v1973 k0_hw101 => k0_hw101.2.1
theorem k0_off474_inb : ∀ (v1973 : BitVec 32) (k0_hw101 : k0_chk101 v1973), ∀ a, (k0_off474 v1973) a + S1x16.size a ≤ S512x64.size a := fun v1973 k0_hw101 => k0_hw101.2.2.1
theorem k0_off475_inb : ∀ (v1973 : BitVec 32) (k0_hw101 : k0_chk101 v1973), ∀ a, (k0_off475 v1973) a + S1x16.size a ≤ S512x64.size a := fun v1973 k0_hw101 => k0_hw101.2.2.2

def k0_off476 (v2001 : BitVec 32) : Fin 2 → Nat :=
  let v2004 : Index := Scalar.indexCast v2001
  let c0_356 : Index := 0#32
  ![v2004.toNat, 0]

def k0_off477 (v2001 : BitVec 32) : Fin 2 → Nat :=
  let v2010 : Index := Scalar.indexCast v2001
  let c16_357 : Index := 16#32
  ![v2010.toNat, 16]
def k0_off478 (v2001 : BitVec 32) : Fin 2 → Nat :=
  let v2016 : Index := Scalar.indexCast v2001
  let c32_358 : Index := 32#32
  ![v2016.toNat, 32]
def k0_off479 (v2001 : BitVec 32) : Fin 2 → Nat :=
  let v2022 : Index := Scalar.indexCast v2001
  let c48_359 : Index := 48#32
  ![v2022.toNat, 48]

def k0_chk102 (v2001 : BitVec 32) : Prop :=
  (∀ a, (k0_off476 v2001) a + S1x16.size a ≤ S512x64.size a) ∧
  (∀ a, (k0_off477 v2001) a + S1x16.size a ≤ S512x64.size a) ∧
  (∀ a, (k0_off478 v2001) a + S1x16.size a ≤ S512x64.size a) ∧
  (∀ a, (k0_off479 v2001) a + S1x16.size a ≤ S512x64.size a)
theorem k0_off476_inb : ∀ (v2001 : BitVec 32) (k0_hw102 : k0_chk102 v2001), ∀ a, (k0_off476 v2001) a + S1x16.size a ≤ S512x64.size a := fun v2001 k0_hw102 => k0_hw102.1
theorem k0_off477_inb : ∀ (v2001 : BitVec 32) (k0_hw102 : k0_chk102 v2001), ∀ a, (k0_off477 v2001) a + S1x16.size a ≤ S512x64.size a := fun v2001 k0_hw102 => k0_hw102.2.1
theorem k0_off478_inb : ∀ (v2001 : BitVec 32) (k0_hw102 : k0_chk102 v2001), ∀ a, (k0_off478 v2001) a + S1x16.size a ≤ S512x64.size a := fun v2001 k0_hw102 => k0_hw102.2.2.1
theorem k0_off479_inb : ∀ (v2001 : BitVec 32) (k0_hw102 : k0_chk102 v2001), ∀ a, (k0_off479 v2001) a + S1x16.size a ≤ S512x64.size a := fun v2001 k0_hw102 => k0_hw102.2.2.2

def k0_off480 (v2029 : BitVec 32) : Fin 2 → Nat :=
  let v2032 : Index := Scalar.indexCast v2029
  let c0_360 : Index := 0#32
  ![v2032.toNat, 0]

def k0_off481 (v2029 : BitVec 32) : Fin 2 → Nat :=
  let v2038 : Index := Scalar.indexCast v2029
  let c16_361 : Index := 16#32
  ![v2038.toNat, 16]
def k0_off482 (v2029 : BitVec 32) : Fin 2 → Nat :=
  let v2044 : Index := Scalar.indexCast v2029
  let c32_362 : Index := 32#32
  ![v2044.toNat, 32]
def k0_off483 (v2029 : BitVec 32) : Fin 2 → Nat :=
  let v2050 : Index := Scalar.indexCast v2029
  let c48_363 : Index := 48#32
  ![v2050.toNat, 48]

def k0_chk103 (v2029 : BitVec 32) : Prop :=
  (∀ a, (k0_off480 v2029) a + S1x16.size a ≤ S512x64.size a) ∧
  (∀ a, (k0_off481 v2029) a + S1x16.size a ≤ S512x64.size a) ∧
  (∀ a, (k0_off482 v2029) a + S1x16.size a ≤ S512x64.size a) ∧
  (∀ a, (k0_off483 v2029) a + S1x16.size a ≤ S512x64.size a)
theorem k0_off480_inb : ∀ (v2029 : BitVec 32) (k0_hw103 : k0_chk103 v2029), ∀ a, (k0_off480 v2029) a + S1x16.size a ≤ S512x64.size a := fun v2029 k0_hw103 => k0_hw103.1
theorem k0_off481_inb : ∀ (v2029 : BitVec 32) (k0_hw103 : k0_chk103 v2029), ∀ a, (k0_off481 v2029) a + S1x16.size a ≤ S512x64.size a := fun v2029 k0_hw103 => k0_hw103.2.1
theorem k0_off482_inb : ∀ (v2029 : BitVec 32) (k0_hw103 : k0_chk103 v2029), ∀ a, (k0_off482 v2029) a + S1x16.size a ≤ S512x64.size a := fun v2029 k0_hw103 => k0_hw103.2.2.1
theorem k0_off483_inb : ∀ (v2029 : BitVec 32) (k0_hw103 : k0_chk103 v2029), ∀ a, (k0_off483 v2029) a + S1x16.size a ≤ S512x64.size a := fun v2029 k0_hw103 => k0_hw103.2.2.2

def k0_off484 (v2057 : BitVec 32) : Fin 2 → Nat :=
  let v2060 : Index := Scalar.indexCast v2057
  let c0_364 : Index := 0#32
  ![v2060.toNat, 0]

def k0_off485 (v2057 : BitVec 32) : Fin 2 → Nat :=
  let v2066 : Index := Scalar.indexCast v2057
  let c16_365 : Index := 16#32
  ![v2066.toNat, 16]
def k0_off486 (v2057 : BitVec 32) : Fin 2 → Nat :=
  let v2072 : Index := Scalar.indexCast v2057
  let c32_366 : Index := 32#32
  ![v2072.toNat, 32]
def k0_off487 (v2057 : BitVec 32) : Fin 2 → Nat :=
  let v2078 : Index := Scalar.indexCast v2057
  let c48_367 : Index := 48#32
  ![v2078.toNat, 48]

def k0_chk104 (v2057 : BitVec 32) : Prop :=
  (∀ a, (k0_off484 v2057) a + S1x16.size a ≤ S512x64.size a) ∧
  (∀ a, (k0_off485 v2057) a + S1x16.size a ≤ S512x64.size a) ∧
  (∀ a, (k0_off486 v2057) a + S1x16.size a ≤ S512x64.size a) ∧
  (∀ a, (k0_off487 v2057) a + S1x16.size a ≤ S512x64.size a)
theorem k0_off484_inb : ∀ (v2057 : BitVec 32) (k0_hw104 : k0_chk104 v2057), ∀ a, (k0_off484 v2057) a + S1x16.size a ≤ S512x64.size a := fun v2057 k0_hw104 => k0_hw104.1
theorem k0_off485_inb : ∀ (v2057 : BitVec 32) (k0_hw104 : k0_chk104 v2057), ∀ a, (k0_off485 v2057) a + S1x16.size a ≤ S512x64.size a := fun v2057 k0_hw104 => k0_hw104.2.1
theorem k0_off486_inb : ∀ (v2057 : BitVec 32) (k0_hw104 : k0_chk104 v2057), ∀ a, (k0_off486 v2057) a + S1x16.size a ≤ S512x64.size a := fun v2057 k0_hw104 => k0_hw104.2.2.1
theorem k0_off487_inb : ∀ (v2057 : BitVec 32) (k0_hw104 : k0_chk104 v2057), ∀ a, (k0_off487 v2057) a + S1x16.size a ≤ S512x64.size a := fun v2057 k0_hw104 => k0_hw104.2.2.2

def k0_off488 (v2085 : BitVec 32) : Fin 2 → Nat :=
  let v2088 : Index := Scalar.indexCast v2085
  let c0_368 : Index := 0#32
  ![v2088.toNat, 0]

def k0_off489 (v2085 : BitVec 32) : Fin 2 → Nat :=
  let v2094 : Index := Scalar.indexCast v2085
  let c16_369 : Index := 16#32
  ![v2094.toNat, 16]
def k0_off490 (v2085 : BitVec 32) : Fin 2 → Nat :=
  let v2100 : Index := Scalar.indexCast v2085
  let c32_370 : Index := 32#32
  ![v2100.toNat, 32]
def k0_off491 (v2085 : BitVec 32) : Fin 2 → Nat :=
  let v2106 : Index := Scalar.indexCast v2085
  let c48_371 : Index := 48#32
  ![v2106.toNat, 48]

def k0_chk105 (v2085 : BitVec 32) : Prop :=
  (∀ a, (k0_off488 v2085) a + S1x16.size a ≤ S512x64.size a) ∧
  (∀ a, (k0_off489 v2085) a + S1x16.size a ≤ S512x64.size a) ∧
  (∀ a, (k0_off490 v2085) a + S1x16.size a ≤ S512x64.size a) ∧
  (∀ a, (k0_off491 v2085) a + S1x16.size a ≤ S512x64.size a)
theorem k0_off488_inb : ∀ (v2085 : BitVec 32) (k0_hw105 : k0_chk105 v2085), ∀ a, (k0_off488 v2085) a + S1x16.size a ≤ S512x64.size a := fun v2085 k0_hw105 => k0_hw105.1
theorem k0_off489_inb : ∀ (v2085 : BitVec 32) (k0_hw105 : k0_chk105 v2085), ∀ a, (k0_off489 v2085) a + S1x16.size a ≤ S512x64.size a := fun v2085 k0_hw105 => k0_hw105.2.1
theorem k0_off490_inb : ∀ (v2085 : BitVec 32) (k0_hw105 : k0_chk105 v2085), ∀ a, (k0_off490 v2085) a + S1x16.size a ≤ S512x64.size a := fun v2085 k0_hw105 => k0_hw105.2.2.1
theorem k0_off491_inb : ∀ (v2085 : BitVec 32) (k0_hw105 : k0_chk105 v2085), ∀ a, (k0_off491 v2085) a + S1x16.size a ≤ S512x64.size a := fun v2085 k0_hw105 => k0_hw105.2.2.2

def k0_off492 (v2113 : BitVec 32) : Fin 2 → Nat :=
  let v2116 : Index := Scalar.indexCast v2113
  let c0_372 : Index := 0#32
  ![v2116.toNat, 0]

def k0_off493 (v2113 : BitVec 32) : Fin 2 → Nat :=
  let v2122 : Index := Scalar.indexCast v2113
  let c16_373 : Index := 16#32
  ![v2122.toNat, 16]
def k0_off494 (v2113 : BitVec 32) : Fin 2 → Nat :=
  let v2128 : Index := Scalar.indexCast v2113
  let c32_374 : Index := 32#32
  ![v2128.toNat, 32]
def k0_off495 (v2113 : BitVec 32) : Fin 2 → Nat :=
  let v2134 : Index := Scalar.indexCast v2113
  let c48_375 : Index := 48#32
  ![v2134.toNat, 48]

def k0_chk106 (v2113 : BitVec 32) : Prop :=
  (∀ a, (k0_off492 v2113) a + S1x16.size a ≤ S512x64.size a) ∧
  (∀ a, (k0_off493 v2113) a + S1x16.size a ≤ S512x64.size a) ∧
  (∀ a, (k0_off494 v2113) a + S1x16.size a ≤ S512x64.size a) ∧
  (∀ a, (k0_off495 v2113) a + S1x16.size a ≤ S512x64.size a)
theorem k0_off492_inb : ∀ (v2113 : BitVec 32) (k0_hw106 : k0_chk106 v2113), ∀ a, (k0_off492 v2113) a + S1x16.size a ≤ S512x64.size a := fun v2113 k0_hw106 => k0_hw106.1
theorem k0_off493_inb : ∀ (v2113 : BitVec 32) (k0_hw106 : k0_chk106 v2113), ∀ a, (k0_off493 v2113) a + S1x16.size a ≤ S512x64.size a := fun v2113 k0_hw106 => k0_hw106.2.1
theorem k0_off494_inb : ∀ (v2113 : BitVec 32) (k0_hw106 : k0_chk106 v2113), ∀ a, (k0_off494 v2113) a + S1x16.size a ≤ S512x64.size a := fun v2113 k0_hw106 => k0_hw106.2.2.1
theorem k0_off495_inb : ∀ (v2113 : BitVec 32) (k0_hw106 : k0_chk106 v2113), ∀ a, (k0_off495 v2113) a + S1x16.size a ≤ S512x64.size a := fun v2113 k0_hw106 => k0_hw106.2.2.2

def k0_off496 (v2141 : BitVec 32) : Fin 2 → Nat :=
  let v2144 : Index := Scalar.indexCast v2141
  let c0_376 : Index := 0#32
  ![v2144.toNat, 0]

def k0_off497 (v2141 : BitVec 32) : Fin 2 → Nat :=
  let v2150 : Index := Scalar.indexCast v2141
  let c16_377 : Index := 16#32
  ![v2150.toNat, 16]
def k0_off498 (v2141 : BitVec 32) : Fin 2 → Nat :=
  let v2156 : Index := Scalar.indexCast v2141
  let c32_378 : Index := 32#32
  ![v2156.toNat, 32]
def k0_off499 (v2141 : BitVec 32) : Fin 2 → Nat :=
  let v2162 : Index := Scalar.indexCast v2141
  let c48_379 : Index := 48#32
  ![v2162.toNat, 48]

def k0_chk107 (v2141 : BitVec 32) : Prop :=
  (∀ a, (k0_off496 v2141) a + S1x16.size a ≤ S512x64.size a) ∧
  (∀ a, (k0_off497 v2141) a + S1x16.size a ≤ S512x64.size a) ∧
  (∀ a, (k0_off498 v2141) a + S1x16.size a ≤ S512x64.size a) ∧
  (∀ a, (k0_off499 v2141) a + S1x16.size a ≤ S512x64.size a)
theorem k0_off496_inb : ∀ (v2141 : BitVec 32) (k0_hw107 : k0_chk107 v2141), ∀ a, (k0_off496 v2141) a + S1x16.size a ≤ S512x64.size a := fun v2141 k0_hw107 => k0_hw107.1
theorem k0_off497_inb : ∀ (v2141 : BitVec 32) (k0_hw107 : k0_chk107 v2141), ∀ a, (k0_off497 v2141) a + S1x16.size a ≤ S512x64.size a := fun v2141 k0_hw107 => k0_hw107.2.1
theorem k0_off498_inb : ∀ (v2141 : BitVec 32) (k0_hw107 : k0_chk107 v2141), ∀ a, (k0_off498 v2141) a + S1x16.size a ≤ S512x64.size a := fun v2141 k0_hw107 => k0_hw107.2.2.1
theorem k0_off499_inb : ∀ (v2141 : BitVec 32) (k0_hw107 : k0_chk107 v2141), ∀ a, (k0_off499 v2141) a + S1x16.size a ≤ S512x64.size a := fun v2141 k0_hw107 => k0_hw107.2.2.2

def k0_off500 (v2169 : BitVec 32) : Fin 2 → Nat :=
  let v2172 : Index := Scalar.indexCast v2169
  let c0_380 : Index := 0#32
  ![v2172.toNat, 0]

def k0_off501 (v2169 : BitVec 32) : Fin 2 → Nat :=
  let v2178 : Index := Scalar.indexCast v2169
  let c16_381 : Index := 16#32
  ![v2178.toNat, 16]
def k0_off502 (v2169 : BitVec 32) : Fin 2 → Nat :=
  let v2184 : Index := Scalar.indexCast v2169
  let c32_382 : Index := 32#32
  ![v2184.toNat, 32]
def k0_off503 (v2169 : BitVec 32) : Fin 2 → Nat :=
  let v2190 : Index := Scalar.indexCast v2169
  let c48_383 : Index := 48#32
  ![v2190.toNat, 48]

def k0_chk108 (v2169 : BitVec 32) : Prop :=
  (∀ a, (k0_off500 v2169) a + S1x16.size a ≤ S512x64.size a) ∧
  (∀ a, (k0_off501 v2169) a + S1x16.size a ≤ S512x64.size a) ∧
  (∀ a, (k0_off502 v2169) a + S1x16.size a ≤ S512x64.size a) ∧
  (∀ a, (k0_off503 v2169) a + S1x16.size a ≤ S512x64.size a)
theorem k0_off500_inb : ∀ (v2169 : BitVec 32) (k0_hw108 : k0_chk108 v2169), ∀ a, (k0_off500 v2169) a + S1x16.size a ≤ S512x64.size a := fun v2169 k0_hw108 => k0_hw108.1
theorem k0_off501_inb : ∀ (v2169 : BitVec 32) (k0_hw108 : k0_chk108 v2169), ∀ a, (k0_off501 v2169) a + S1x16.size a ≤ S512x64.size a := fun v2169 k0_hw108 => k0_hw108.2.1
theorem k0_off502_inb : ∀ (v2169 : BitVec 32) (k0_hw108 : k0_chk108 v2169), ∀ a, (k0_off502 v2169) a + S1x16.size a ≤ S512x64.size a := fun v2169 k0_hw108 => k0_hw108.2.2.1
theorem k0_off503_inb : ∀ (v2169 : BitVec 32) (k0_hw108 : k0_chk108 v2169), ∀ a, (k0_off503 v2169) a + S1x16.size a ≤ S512x64.size a := fun v2169 k0_hw108 => k0_hw108.2.2.2

def k0_off504 (v2197 : BitVec 32) : Fin 2 → Nat :=
  let v2200 : Index := Scalar.indexCast v2197
  let c0_384 : Index := 0#32
  ![v2200.toNat, 0]

def k0_off505 (v2197 : BitVec 32) : Fin 2 → Nat :=
  let v2206 : Index := Scalar.indexCast v2197
  let c16_385 : Index := 16#32
  ![v2206.toNat, 16]
def k0_off506 (v2197 : BitVec 32) : Fin 2 → Nat :=
  let v2212 : Index := Scalar.indexCast v2197
  let c32_386 : Index := 32#32
  ![v2212.toNat, 32]
def k0_off507 (v2197 : BitVec 32) : Fin 2 → Nat :=
  let v2218 : Index := Scalar.indexCast v2197
  let c48_387 : Index := 48#32
  ![v2218.toNat, 48]

def k0_chk109 (v2197 : BitVec 32) : Prop :=
  (∀ a, (k0_off504 v2197) a + S1x16.size a ≤ S512x64.size a) ∧
  (∀ a, (k0_off505 v2197) a + S1x16.size a ≤ S512x64.size a) ∧
  (∀ a, (k0_off506 v2197) a + S1x16.size a ≤ S512x64.size a) ∧
  (∀ a, (k0_off507 v2197) a + S1x16.size a ≤ S512x64.size a)
theorem k0_off504_inb : ∀ (v2197 : BitVec 32) (k0_hw109 : k0_chk109 v2197), ∀ a, (k0_off504 v2197) a + S1x16.size a ≤ S512x64.size a := fun v2197 k0_hw109 => k0_hw109.1
theorem k0_off505_inb : ∀ (v2197 : BitVec 32) (k0_hw109 : k0_chk109 v2197), ∀ a, (k0_off505 v2197) a + S1x16.size a ≤ S512x64.size a := fun v2197 k0_hw109 => k0_hw109.2.1
theorem k0_off506_inb : ∀ (v2197 : BitVec 32) (k0_hw109 : k0_chk109 v2197), ∀ a, (k0_off506 v2197) a + S1x16.size a ≤ S512x64.size a := fun v2197 k0_hw109 => k0_hw109.2.2.1
theorem k0_off507_inb : ∀ (v2197 : BitVec 32) (k0_hw109 : k0_chk109 v2197), ∀ a, (k0_off507 v2197) a + S1x16.size a ≤ S512x64.size a := fun v2197 k0_hw109 => k0_hw109.2.2.2

def k0_off508 (v2225 : BitVec 32) : Fin 2 → Nat :=
  let v2228 : Index := Scalar.indexCast v2225
  let c0_388 : Index := 0#32
  ![v2228.toNat, 0]

def k0_off509 (v2225 : BitVec 32) : Fin 2 → Nat :=
  let v2234 : Index := Scalar.indexCast v2225
  let c16_389 : Index := 16#32
  ![v2234.toNat, 16]
def k0_off510 (v2225 : BitVec 32) : Fin 2 → Nat :=
  let v2240 : Index := Scalar.indexCast v2225
  let c32_390 : Index := 32#32
  ![v2240.toNat, 32]
def k0_off511 (v2225 : BitVec 32) : Fin 2 → Nat :=
  let v2246 : Index := Scalar.indexCast v2225
  let c48_391 : Index := 48#32
  ![v2246.toNat, 48]

def k0_chk110 (v2225 : BitVec 32) : Prop :=
  (∀ a, (k0_off508 v2225) a + S1x16.size a ≤ S512x64.size a) ∧
  (∀ a, (k0_off509 v2225) a + S1x16.size a ≤ S512x64.size a) ∧
  (∀ a, (k0_off510 v2225) a + S1x16.size a ≤ S512x64.size a) ∧
  (∀ a, (k0_off511 v2225) a + S1x16.size a ≤ S512x64.size a)
theorem k0_off508_inb : ∀ (v2225 : BitVec 32) (k0_hw110 : k0_chk110 v2225), ∀ a, (k0_off508 v2225) a + S1x16.size a ≤ S512x64.size a := fun v2225 k0_hw110 => k0_hw110.1
theorem k0_off509_inb : ∀ (v2225 : BitVec 32) (k0_hw110 : k0_chk110 v2225), ∀ a, (k0_off509 v2225) a + S1x16.size a ≤ S512x64.size a := fun v2225 k0_hw110 => k0_hw110.2.1
theorem k0_off510_inb : ∀ (v2225 : BitVec 32) (k0_hw110 : k0_chk110 v2225), ∀ a, (k0_off510 v2225) a + S1x16.size a ≤ S512x64.size a := fun v2225 k0_hw110 => k0_hw110.2.2.1
theorem k0_off511_inb : ∀ (v2225 : BitVec 32) (k0_hw110 : k0_chk110 v2225), ∀ a, (k0_off511 v2225) a + S1x16.size a ≤ S512x64.size a := fun v2225 k0_hw110 => k0_hw110.2.2.2

def k0_off512 (v2253 : BitVec 32) : Fin 2 → Nat :=
  let v2256 : Index := Scalar.indexCast v2253
  let c0_392 : Index := 0#32
  ![v2256.toNat, 0]

def k0_off513 (v2253 : BitVec 32) : Fin 2 → Nat :=
  let v2262 : Index := Scalar.indexCast v2253
  let c16_393 : Index := 16#32
  ![v2262.toNat, 16]
def k0_off514 (v2253 : BitVec 32) : Fin 2 → Nat :=
  let v2268 : Index := Scalar.indexCast v2253
  let c32_394 : Index := 32#32
  ![v2268.toNat, 32]
def k0_off515 (v2253 : BitVec 32) : Fin 2 → Nat :=
  let v2274 : Index := Scalar.indexCast v2253
  let c48_395 : Index := 48#32
  ![v2274.toNat, 48]

def k0_chk111 (v2253 : BitVec 32) : Prop :=
  (∀ a, (k0_off512 v2253) a + S1x16.size a ≤ S512x64.size a) ∧
  (∀ a, (k0_off513 v2253) a + S1x16.size a ≤ S512x64.size a) ∧
  (∀ a, (k0_off514 v2253) a + S1x16.size a ≤ S512x64.size a) ∧
  (∀ a, (k0_off515 v2253) a + S1x16.size a ≤ S512x64.size a)
theorem k0_off512_inb : ∀ (v2253 : BitVec 32) (k0_hw111 : k0_chk111 v2253), ∀ a, (k0_off512 v2253) a + S1x16.size a ≤ S512x64.size a := fun v2253 k0_hw111 => k0_hw111.1
theorem k0_off513_inb : ∀ (v2253 : BitVec 32) (k0_hw111 : k0_chk111 v2253), ∀ a, (k0_off513 v2253) a + S1x16.size a ≤ S512x64.size a := fun v2253 k0_hw111 => k0_hw111.2.1
theorem k0_off514_inb : ∀ (v2253 : BitVec 32) (k0_hw111 : k0_chk111 v2253), ∀ a, (k0_off514 v2253) a + S1x16.size a ≤ S512x64.size a := fun v2253 k0_hw111 => k0_hw111.2.2.1
theorem k0_off515_inb : ∀ (v2253 : BitVec 32) (k0_hw111 : k0_chk111 v2253), ∀ a, (k0_off515 v2253) a + S1x16.size a ≤ S512x64.size a := fun v2253 k0_hw111 => k0_hw111.2.2.2

def k0_off516 (v2281 : BitVec 32) : Fin 2 → Nat :=
  let v2284 : Index := Scalar.indexCast v2281
  let c0_396 : Index := 0#32
  ![v2284.toNat, 0]

def k0_off517 (v2281 : BitVec 32) : Fin 2 → Nat :=
  let v2290 : Index := Scalar.indexCast v2281
  let c16_397 : Index := 16#32
  ![v2290.toNat, 16]
def k0_off518 (v2281 : BitVec 32) : Fin 2 → Nat :=
  let v2296 : Index := Scalar.indexCast v2281
  let c32_398 : Index := 32#32
  ![v2296.toNat, 32]
def k0_off519 (v2281 : BitVec 32) : Fin 2 → Nat :=
  let v2302 : Index := Scalar.indexCast v2281
  let c48_399 : Index := 48#32
  ![v2302.toNat, 48]

def k0_chk112 (v2281 : BitVec 32) : Prop :=
  (∀ a, (k0_off516 v2281) a + S1x16.size a ≤ S512x64.size a) ∧
  (∀ a, (k0_off517 v2281) a + S1x16.size a ≤ S512x64.size a) ∧
  (∀ a, (k0_off518 v2281) a + S1x16.size a ≤ S512x64.size a) ∧
  (∀ a, (k0_off519 v2281) a + S1x16.size a ≤ S512x64.size a)
theorem k0_off516_inb : ∀ (v2281 : BitVec 32) (k0_hw112 : k0_chk112 v2281), ∀ a, (k0_off516 v2281) a + S1x16.size a ≤ S512x64.size a := fun v2281 k0_hw112 => k0_hw112.1
theorem k0_off517_inb : ∀ (v2281 : BitVec 32) (k0_hw112 : k0_chk112 v2281), ∀ a, (k0_off517 v2281) a + S1x16.size a ≤ S512x64.size a := fun v2281 k0_hw112 => k0_hw112.2.1
theorem k0_off518_inb : ∀ (v2281 : BitVec 32) (k0_hw112 : k0_chk112 v2281), ∀ a, (k0_off518 v2281) a + S1x16.size a ≤ S512x64.size a := fun v2281 k0_hw112 => k0_hw112.2.2.1
theorem k0_off519_inb : ∀ (v2281 : BitVec 32) (k0_hw112 : k0_chk112 v2281), ∀ a, (k0_off519 v2281) a + S1x16.size a ≤ S512x64.size a := fun v2281 k0_hw112 => k0_hw112.2.2.2

def k0_off520 (k0_t2 : Fin k0_t2_loop.trips) : Fin 1 → Nat :=
  let c196_i32_33 : BitVec 32 := 196#32
  let c1_i32_35 : BitVec 32 := 1#32
  let arg20 : BitVec 32 := Scf.iv c196_i32_33 c1_i32_35 k0_t2
  let c4_i32_193 : BitVec 32 := 4#32
  let v931 : BitVec 32 := Scalar.muli arg20 c4_i32_193
  let c3_i32_404 : BitVec 32 := 3#32
  let v2324 : BitVec 32 := Scalar.addi v931 c3_i32_404
  let c16_i32_405 : BitVec 32 := 16#32
  let v2325 : BitVec 32 := Scalar.muli v2324 c16_i32_405
  let v2326 : Index := Scalar.indexCast v2325
  ![v2326.toNat]
def k0_off521 (v2333 : BitVec 32) : Fin 2 → Nat :=
  let v2336 : Index := Scalar.indexCast v2333
  let c0_406 : Index := 0#32
  ![v2336.toNat, 0]

def k0_off522 (v2333 : BitVec 32) : Fin 2 → Nat :=
  let v2341 : Index := Scalar.indexCast v2333
  let c16_407 : Index := 16#32
  ![v2341.toNat, 16]
def k0_off523 (v2333 : BitVec 32) : Fin 2 → Nat :=
  let v2346 : Index := Scalar.indexCast v2333
  let c32_408 : Index := 32#32
  ![v2346.toNat, 32]
def k0_off524 (v2333 : BitVec 32) : Fin 2 → Nat :=
  let v2351 : Index := Scalar.indexCast v2333
  let c48_409 : Index := 48#32
  ![v2351.toNat, 48]

def k0_chk113 (v2333 : BitVec 32) : Prop :=
  (∀ a, (k0_off521 v2333) a + S1x16.size a ≤ S512x64.size a) ∧
  (∀ a, (k0_off522 v2333) a + S1x16.size a ≤ S512x64.size a) ∧
  (∀ a, (k0_off523 v2333) a + S1x16.size a ≤ S512x64.size a) ∧
  (∀ a, (k0_off524 v2333) a + S1x16.size a ≤ S512x64.size a)
theorem k0_off521_inb : ∀ (v2333 : BitVec 32) (k0_hw113 : k0_chk113 v2333), ∀ a, (k0_off521 v2333) a + S1x16.size a ≤ S512x64.size a := fun v2333 k0_hw113 => k0_hw113.1
theorem k0_off522_inb : ∀ (v2333 : BitVec 32) (k0_hw113 : k0_chk113 v2333), ∀ a, (k0_off522 v2333) a + S1x16.size a ≤ S512x64.size a := fun v2333 k0_hw113 => k0_hw113.2.1
theorem k0_off523_inb : ∀ (v2333 : BitVec 32) (k0_hw113 : k0_chk113 v2333), ∀ a, (k0_off523 v2333) a + S1x16.size a ≤ S512x64.size a := fun v2333 k0_hw113 => k0_hw113.2.2.1
theorem k0_off524_inb : ∀ (v2333 : BitVec 32) (k0_hw113 : k0_chk113 v2333), ∀ a, (k0_off524 v2333) a + S1x16.size a ≤ S512x64.size a := fun v2333 k0_hw113 => k0_hw113.2.2.2

def k0_off525 (v2357 : BitVec 32) : Fin 2 → Nat :=
  let v2360 : Index := Scalar.indexCast v2357
  let c0_410 : Index := 0#32
  ![v2360.toNat, 0]

def k0_off526 (v2357 : BitVec 32) : Fin 2 → Nat :=
  let v2365 : Index := Scalar.indexCast v2357
  let c16_411 : Index := 16#32
  ![v2365.toNat, 16]
def k0_off527 (v2357 : BitVec 32) : Fin 2 → Nat :=
  let v2370 : Index := Scalar.indexCast v2357
  let c32_412 : Index := 32#32
  ![v2370.toNat, 32]
def k0_off528 (v2357 : BitVec 32) : Fin 2 → Nat :=
  let v2375 : Index := Scalar.indexCast v2357
  let c48_413 : Index := 48#32
  ![v2375.toNat, 48]

def k0_chk114 (v2357 : BitVec 32) : Prop :=
  (∀ a, (k0_off525 v2357) a + S1x16.size a ≤ S512x64.size a) ∧
  (∀ a, (k0_off526 v2357) a + S1x16.size a ≤ S512x64.size a) ∧
  (∀ a, (k0_off527 v2357) a + S1x16.size a ≤ S512x64.size a) ∧
  (∀ a, (k0_off528 v2357) a + S1x16.size a ≤ S512x64.size a)
theorem k0_off525_inb : ∀ (v2357 : BitVec 32) (k0_hw114 : k0_chk114 v2357), ∀ a, (k0_off525 v2357) a + S1x16.size a ≤ S512x64.size a := fun v2357 k0_hw114 => k0_hw114.1
theorem k0_off526_inb : ∀ (v2357 : BitVec 32) (k0_hw114 : k0_chk114 v2357), ∀ a, (k0_off526 v2357) a + S1x16.size a ≤ S512x64.size a := fun v2357 k0_hw114 => k0_hw114.2.1
theorem k0_off527_inb : ∀ (v2357 : BitVec 32) (k0_hw114 : k0_chk114 v2357), ∀ a, (k0_off527 v2357) a + S1x16.size a ≤ S512x64.size a := fun v2357 k0_hw114 => k0_hw114.2.2.1
theorem k0_off528_inb : ∀ (v2357 : BitVec 32) (k0_hw114 : k0_chk114 v2357), ∀ a, (k0_off528 v2357) a + S1x16.size a ≤ S512x64.size a := fun v2357 k0_hw114 => k0_hw114.2.2.2

def k0_off529 (v2381 : BitVec 32) : Fin 2 → Nat :=
  let v2384 : Index := Scalar.indexCast v2381
  let c0_414 : Index := 0#32
  ![v2384.toNat, 0]

def k0_off530 (v2381 : BitVec 32) : Fin 2 → Nat :=
  let v2390 : Index := Scalar.indexCast v2381
  let c16_415 : Index := 16#32
  ![v2390.toNat, 16]
def k0_off531 (v2381 : BitVec 32) : Fin 2 → Nat :=
  let v2396 : Index := Scalar.indexCast v2381
  let c32_416 : Index := 32#32
  ![v2396.toNat, 32]
def k0_off532 (v2381 : BitVec 32) : Fin 2 → Nat :=
  let v2402 : Index := Scalar.indexCast v2381
  let c48_417 : Index := 48#32
  ![v2402.toNat, 48]

def k0_chk115 (v2381 : BitVec 32) : Prop :=
  (∀ a, (k0_off529 v2381) a + S1x16.size a ≤ S512x64.size a) ∧
  (∀ a, (k0_off530 v2381) a + S1x16.size a ≤ S512x64.size a) ∧
  (∀ a, (k0_off531 v2381) a + S1x16.size a ≤ S512x64.size a) ∧
  (∀ a, (k0_off532 v2381) a + S1x16.size a ≤ S512x64.size a)
theorem k0_off529_inb : ∀ (v2381 : BitVec 32) (k0_hw115 : k0_chk115 v2381), ∀ a, (k0_off529 v2381) a + S1x16.size a ≤ S512x64.size a := fun v2381 k0_hw115 => k0_hw115.1
theorem k0_off530_inb : ∀ (v2381 : BitVec 32) (k0_hw115 : k0_chk115 v2381), ∀ a, (k0_off530 v2381) a + S1x16.size a ≤ S512x64.size a := fun v2381 k0_hw115 => k0_hw115.2.1
theorem k0_off531_inb : ∀ (v2381 : BitVec 32) (k0_hw115 : k0_chk115 v2381), ∀ a, (k0_off531 v2381) a + S1x16.size a ≤ S512x64.size a := fun v2381 k0_hw115 => k0_hw115.2.2.1
theorem k0_off532_inb : ∀ (v2381 : BitVec 32) (k0_hw115 : k0_chk115 v2381), ∀ a, (k0_off532 v2381) a + S1x16.size a ≤ S512x64.size a := fun v2381 k0_hw115 => k0_hw115.2.2.2

def k0_off533 (v2409 : BitVec 32) : Fin 2 → Nat :=
  let v2412 : Index := Scalar.indexCast v2409
  let c0_418 : Index := 0#32
  ![v2412.toNat, 0]

def k0_off534 (v2409 : BitVec 32) : Fin 2 → Nat :=
  let v2418 : Index := Scalar.indexCast v2409
  let c16_419 : Index := 16#32
  ![v2418.toNat, 16]
def k0_off535 (v2409 : BitVec 32) : Fin 2 → Nat :=
  let v2424 : Index := Scalar.indexCast v2409
  let c32_420 : Index := 32#32
  ![v2424.toNat, 32]
def k0_off536 (v2409 : BitVec 32) : Fin 2 → Nat :=
  let v2430 : Index := Scalar.indexCast v2409
  let c48_421 : Index := 48#32
  ![v2430.toNat, 48]

def k0_chk116 (v2409 : BitVec 32) : Prop :=
  (∀ a, (k0_off533 v2409) a + S1x16.size a ≤ S512x64.size a) ∧
  (∀ a, (k0_off534 v2409) a + S1x16.size a ≤ S512x64.size a) ∧
  (∀ a, (k0_off535 v2409) a + S1x16.size a ≤ S512x64.size a) ∧
  (∀ a, (k0_off536 v2409) a + S1x16.size a ≤ S512x64.size a)
theorem k0_off533_inb : ∀ (v2409 : BitVec 32) (k0_hw116 : k0_chk116 v2409), ∀ a, (k0_off533 v2409) a + S1x16.size a ≤ S512x64.size a := fun v2409 k0_hw116 => k0_hw116.1
theorem k0_off534_inb : ∀ (v2409 : BitVec 32) (k0_hw116 : k0_chk116 v2409), ∀ a, (k0_off534 v2409) a + S1x16.size a ≤ S512x64.size a := fun v2409 k0_hw116 => k0_hw116.2.1
theorem k0_off535_inb : ∀ (v2409 : BitVec 32) (k0_hw116 : k0_chk116 v2409), ∀ a, (k0_off535 v2409) a + S1x16.size a ≤ S512x64.size a := fun v2409 k0_hw116 => k0_hw116.2.2.1
theorem k0_off536_inb : ∀ (v2409 : BitVec 32) (k0_hw116 : k0_chk116 v2409), ∀ a, (k0_off536 v2409) a + S1x16.size a ≤ S512x64.size a := fun v2409 k0_hw116 => k0_hw116.2.2.2

def k0_off537 (v2437 : BitVec 32) : Fin 2 → Nat :=
  let v2440 : Index := Scalar.indexCast v2437
  let c0_422 : Index := 0#32
  ![v2440.toNat, 0]

def k0_off538 (v2437 : BitVec 32) : Fin 2 → Nat :=
  let v2446 : Index := Scalar.indexCast v2437
  let c16_423 : Index := 16#32
  ![v2446.toNat, 16]
def k0_off539 (v2437 : BitVec 32) : Fin 2 → Nat :=
  let v2452 : Index := Scalar.indexCast v2437
  let c32_424 : Index := 32#32
  ![v2452.toNat, 32]
def k0_off540 (v2437 : BitVec 32) : Fin 2 → Nat :=
  let v2458 : Index := Scalar.indexCast v2437
  let c48_425 : Index := 48#32
  ![v2458.toNat, 48]

def k0_chk117 (v2437 : BitVec 32) : Prop :=
  (∀ a, (k0_off537 v2437) a + S1x16.size a ≤ S512x64.size a) ∧
  (∀ a, (k0_off538 v2437) a + S1x16.size a ≤ S512x64.size a) ∧
  (∀ a, (k0_off539 v2437) a + S1x16.size a ≤ S512x64.size a) ∧
  (∀ a, (k0_off540 v2437) a + S1x16.size a ≤ S512x64.size a)
theorem k0_off537_inb : ∀ (v2437 : BitVec 32) (k0_hw117 : k0_chk117 v2437), ∀ a, (k0_off537 v2437) a + S1x16.size a ≤ S512x64.size a := fun v2437 k0_hw117 => k0_hw117.1
theorem k0_off538_inb : ∀ (v2437 : BitVec 32) (k0_hw117 : k0_chk117 v2437), ∀ a, (k0_off538 v2437) a + S1x16.size a ≤ S512x64.size a := fun v2437 k0_hw117 => k0_hw117.2.1
theorem k0_off539_inb : ∀ (v2437 : BitVec 32) (k0_hw117 : k0_chk117 v2437), ∀ a, (k0_off539 v2437) a + S1x16.size a ≤ S512x64.size a := fun v2437 k0_hw117 => k0_hw117.2.2.1
theorem k0_off540_inb : ∀ (v2437 : BitVec 32) (k0_hw117 : k0_chk117 v2437), ∀ a, (k0_off540 v2437) a + S1x16.size a ≤ S512x64.size a := fun v2437 k0_hw117 => k0_hw117.2.2.2

def k0_off541 (v2465 : BitVec 32) : Fin 2 → Nat :=
  let v2468 : Index := Scalar.indexCast v2465
  let c0_426 : Index := 0#32
  ![v2468.toNat, 0]

def k0_off542 (v2465 : BitVec 32) : Fin 2 → Nat :=
  let v2474 : Index := Scalar.indexCast v2465
  let c16_427 : Index := 16#32
  ![v2474.toNat, 16]
def k0_off543 (v2465 : BitVec 32) : Fin 2 → Nat :=
  let v2480 : Index := Scalar.indexCast v2465
  let c32_428 : Index := 32#32
  ![v2480.toNat, 32]
def k0_off544 (v2465 : BitVec 32) : Fin 2 → Nat :=
  let v2486 : Index := Scalar.indexCast v2465
  let c48_429 : Index := 48#32
  ![v2486.toNat, 48]

def k0_chk118 (v2465 : BitVec 32) : Prop :=
  (∀ a, (k0_off541 v2465) a + S1x16.size a ≤ S512x64.size a) ∧
  (∀ a, (k0_off542 v2465) a + S1x16.size a ≤ S512x64.size a) ∧
  (∀ a, (k0_off543 v2465) a + S1x16.size a ≤ S512x64.size a) ∧
  (∀ a, (k0_off544 v2465) a + S1x16.size a ≤ S512x64.size a)
theorem k0_off541_inb : ∀ (v2465 : BitVec 32) (k0_hw118 : k0_chk118 v2465), ∀ a, (k0_off541 v2465) a + S1x16.size a ≤ S512x64.size a := fun v2465 k0_hw118 => k0_hw118.1
theorem k0_off542_inb : ∀ (v2465 : BitVec 32) (k0_hw118 : k0_chk118 v2465), ∀ a, (k0_off542 v2465) a + S1x16.size a ≤ S512x64.size a := fun v2465 k0_hw118 => k0_hw118.2.1
theorem k0_off543_inb : ∀ (v2465 : BitVec 32) (k0_hw118 : k0_chk118 v2465), ∀ a, (k0_off543 v2465) a + S1x16.size a ≤ S512x64.size a := fun v2465 k0_hw118 => k0_hw118.2.2.1
theorem k0_off544_inb : ∀ (v2465 : BitVec 32) (k0_hw118 : k0_chk118 v2465), ∀ a, (k0_off544 v2465) a + S1x16.size a ≤ S512x64.size a := fun v2465 k0_hw118 => k0_hw118.2.2.2

def k0_off545 (v2493 : BitVec 32) : Fin 2 → Nat :=
  let v2496 : Index := Scalar.indexCast v2493
  let c0_430 : Index := 0#32
  ![v2496.toNat, 0]

def k0_off546 (v2493 : BitVec 32) : Fin 2 → Nat :=
  let v2502 : Index := Scalar.indexCast v2493
  let c16_431 : Index := 16#32
  ![v2502.toNat, 16]
def k0_off547 (v2493 : BitVec 32) : Fin 2 → Nat :=
  let v2508 : Index := Scalar.indexCast v2493
  let c32_432 : Index := 32#32
  ![v2508.toNat, 32]
def k0_off548 (v2493 : BitVec 32) : Fin 2 → Nat :=
  let v2514 : Index := Scalar.indexCast v2493
  let c48_433 : Index := 48#32
  ![v2514.toNat, 48]

def k0_chk119 (v2493 : BitVec 32) : Prop :=
  (∀ a, (k0_off545 v2493) a + S1x16.size a ≤ S512x64.size a) ∧
  (∀ a, (k0_off546 v2493) a + S1x16.size a ≤ S512x64.size a) ∧
  (∀ a, (k0_off547 v2493) a + S1x16.size a ≤ S512x64.size a) ∧
  (∀ a, (k0_off548 v2493) a + S1x16.size a ≤ S512x64.size a)
theorem k0_off545_inb : ∀ (v2493 : BitVec 32) (k0_hw119 : k0_chk119 v2493), ∀ a, (k0_off545 v2493) a + S1x16.size a ≤ S512x64.size a := fun v2493 k0_hw119 => k0_hw119.1
theorem k0_off546_inb : ∀ (v2493 : BitVec 32) (k0_hw119 : k0_chk119 v2493), ∀ a, (k0_off546 v2493) a + S1x16.size a ≤ S512x64.size a := fun v2493 k0_hw119 => k0_hw119.2.1
theorem k0_off547_inb : ∀ (v2493 : BitVec 32) (k0_hw119 : k0_chk119 v2493), ∀ a, (k0_off547 v2493) a + S1x16.size a ≤ S512x64.size a := fun v2493 k0_hw119 => k0_hw119.2.2.1
theorem k0_off548_inb : ∀ (v2493 : BitVec 32) (k0_hw119 : k0_chk119 v2493), ∀ a, (k0_off548 v2493) a + S1x16.size a ≤ S512x64.size a := fun v2493 k0_hw119 => k0_hw119.2.2.2

def k0_off549 (v2521 : BitVec 32) : Fin 2 → Nat :=
  let v2524 : Index := Scalar.indexCast v2521
  let c0_434 : Index := 0#32
  ![v2524.toNat, 0]

def k0_off550 (v2521 : BitVec 32) : Fin 2 → Nat :=
  let v2530 : Index := Scalar.indexCast v2521
  let c16_435 : Index := 16#32
  ![v2530.toNat, 16]
def k0_off551 (v2521 : BitVec 32) : Fin 2 → Nat :=
  let v2536 : Index := Scalar.indexCast v2521
  let c32_436 : Index := 32#32
  ![v2536.toNat, 32]
def k0_off552 (v2521 : BitVec 32) : Fin 2 → Nat :=
  let v2542 : Index := Scalar.indexCast v2521
  let c48_437 : Index := 48#32
  ![v2542.toNat, 48]

def k0_chk120 (v2521 : BitVec 32) : Prop :=
  (∀ a, (k0_off549 v2521) a + S1x16.size a ≤ S512x64.size a) ∧
  (∀ a, (k0_off550 v2521) a + S1x16.size a ≤ S512x64.size a) ∧
  (∀ a, (k0_off551 v2521) a + S1x16.size a ≤ S512x64.size a) ∧
  (∀ a, (k0_off552 v2521) a + S1x16.size a ≤ S512x64.size a)
theorem k0_off549_inb : ∀ (v2521 : BitVec 32) (k0_hw120 : k0_chk120 v2521), ∀ a, (k0_off549 v2521) a + S1x16.size a ≤ S512x64.size a := fun v2521 k0_hw120 => k0_hw120.1
theorem k0_off550_inb : ∀ (v2521 : BitVec 32) (k0_hw120 : k0_chk120 v2521), ∀ a, (k0_off550 v2521) a + S1x16.size a ≤ S512x64.size a := fun v2521 k0_hw120 => k0_hw120.2.1
theorem k0_off551_inb : ∀ (v2521 : BitVec 32) (k0_hw120 : k0_chk120 v2521), ∀ a, (k0_off551 v2521) a + S1x16.size a ≤ S512x64.size a := fun v2521 k0_hw120 => k0_hw120.2.2.1
theorem k0_off552_inb : ∀ (v2521 : BitVec 32) (k0_hw120 : k0_chk120 v2521), ∀ a, (k0_off552 v2521) a + S1x16.size a ≤ S512x64.size a := fun v2521 k0_hw120 => k0_hw120.2.2.2

def k0_off553 (v2549 : BitVec 32) : Fin 2 → Nat :=
  let v2552 : Index := Scalar.indexCast v2549
  let c0_438 : Index := 0#32
  ![v2552.toNat, 0]

def k0_off554 (v2549 : BitVec 32) : Fin 2 → Nat :=
  let v2558 : Index := Scalar.indexCast v2549
  let c16_439 : Index := 16#32
  ![v2558.toNat, 16]
def k0_off555 (v2549 : BitVec 32) : Fin 2 → Nat :=
  let v2564 : Index := Scalar.indexCast v2549
  let c32_440 : Index := 32#32
  ![v2564.toNat, 32]
def k0_off556 (v2549 : BitVec 32) : Fin 2 → Nat :=
  let v2570 : Index := Scalar.indexCast v2549
  let c48_441 : Index := 48#32
  ![v2570.toNat, 48]

def k0_chk121 (v2549 : BitVec 32) : Prop :=
  (∀ a, (k0_off553 v2549) a + S1x16.size a ≤ S512x64.size a) ∧
  (∀ a, (k0_off554 v2549) a + S1x16.size a ≤ S512x64.size a) ∧
  (∀ a, (k0_off555 v2549) a + S1x16.size a ≤ S512x64.size a) ∧
  (∀ a, (k0_off556 v2549) a + S1x16.size a ≤ S512x64.size a)
theorem k0_off553_inb : ∀ (v2549 : BitVec 32) (k0_hw121 : k0_chk121 v2549), ∀ a, (k0_off553 v2549) a + S1x16.size a ≤ S512x64.size a := fun v2549 k0_hw121 => k0_hw121.1
theorem k0_off554_inb : ∀ (v2549 : BitVec 32) (k0_hw121 : k0_chk121 v2549), ∀ a, (k0_off554 v2549) a + S1x16.size a ≤ S512x64.size a := fun v2549 k0_hw121 => k0_hw121.2.1
theorem k0_off555_inb : ∀ (v2549 : BitVec 32) (k0_hw121 : k0_chk121 v2549), ∀ a, (k0_off555 v2549) a + S1x16.size a ≤ S512x64.size a := fun v2549 k0_hw121 => k0_hw121.2.2.1
theorem k0_off556_inb : ∀ (v2549 : BitVec 32) (k0_hw121 : k0_chk121 v2549), ∀ a, (k0_off556 v2549) a + S1x16.size a ≤ S512x64.size a := fun v2549 k0_hw121 => k0_hw121.2.2.2

def k0_off557 (v2577 : BitVec 32) : Fin 2 → Nat :=
  let v2580 : Index := Scalar.indexCast v2577
  let c0_442 : Index := 0#32
  ![v2580.toNat, 0]

def k0_off558 (v2577 : BitVec 32) : Fin 2 → Nat :=
  let v2586 : Index := Scalar.indexCast v2577
  let c16_443 : Index := 16#32
  ![v2586.toNat, 16]
def k0_off559 (v2577 : BitVec 32) : Fin 2 → Nat :=
  let v2592 : Index := Scalar.indexCast v2577
  let c32_444 : Index := 32#32
  ![v2592.toNat, 32]
def k0_off560 (v2577 : BitVec 32) : Fin 2 → Nat :=
  let v2598 : Index := Scalar.indexCast v2577
  let c48_445 : Index := 48#32
  ![v2598.toNat, 48]

def k0_chk122 (v2577 : BitVec 32) : Prop :=
  (∀ a, (k0_off557 v2577) a + S1x16.size a ≤ S512x64.size a) ∧
  (∀ a, (k0_off558 v2577) a + S1x16.size a ≤ S512x64.size a) ∧
  (∀ a, (k0_off559 v2577) a + S1x16.size a ≤ S512x64.size a) ∧
  (∀ a, (k0_off560 v2577) a + S1x16.size a ≤ S512x64.size a)
theorem k0_off557_inb : ∀ (v2577 : BitVec 32) (k0_hw122 : k0_chk122 v2577), ∀ a, (k0_off557 v2577) a + S1x16.size a ≤ S512x64.size a := fun v2577 k0_hw122 => k0_hw122.1
theorem k0_off558_inb : ∀ (v2577 : BitVec 32) (k0_hw122 : k0_chk122 v2577), ∀ a, (k0_off558 v2577) a + S1x16.size a ≤ S512x64.size a := fun v2577 k0_hw122 => k0_hw122.2.1
theorem k0_off559_inb : ∀ (v2577 : BitVec 32) (k0_hw122 : k0_chk122 v2577), ∀ a, (k0_off559 v2577) a + S1x16.size a ≤ S512x64.size a := fun v2577 k0_hw122 => k0_hw122.2.2.1
theorem k0_off560_inb : ∀ (v2577 : BitVec 32) (k0_hw122 : k0_chk122 v2577), ∀ a, (k0_off560 v2577) a + S1x16.size a ≤ S512x64.size a := fun v2577 k0_hw122 => k0_hw122.2.2.2

def k0_off561 (v2605 : BitVec 32) : Fin 2 → Nat :=
  let v2608 : Index := Scalar.indexCast v2605
  let c0_446 : Index := 0#32
  ![v2608.toNat, 0]

def k0_off562 (v2605 : BitVec 32) : Fin 2 → Nat :=
  let v2614 : Index := Scalar.indexCast v2605
  let c16_447 : Index := 16#32
  ![v2614.toNat, 16]
def k0_off563 (v2605 : BitVec 32) : Fin 2 → Nat :=
  let v2620 : Index := Scalar.indexCast v2605
  let c32_448 : Index := 32#32
  ![v2620.toNat, 32]
def k0_off564 (v2605 : BitVec 32) : Fin 2 → Nat :=
  let v2626 : Index := Scalar.indexCast v2605
  let c48_449 : Index := 48#32
  ![v2626.toNat, 48]

def k0_chk123 (v2605 : BitVec 32) : Prop :=
  (∀ a, (k0_off561 v2605) a + S1x16.size a ≤ S512x64.size a) ∧
  (∀ a, (k0_off562 v2605) a + S1x16.size a ≤ S512x64.size a) ∧
  (∀ a, (k0_off563 v2605) a + S1x16.size a ≤ S512x64.size a) ∧
  (∀ a, (k0_off564 v2605) a + S1x16.size a ≤ S512x64.size a)
theorem k0_off561_inb : ∀ (v2605 : BitVec 32) (k0_hw123 : k0_chk123 v2605), ∀ a, (k0_off561 v2605) a + S1x16.size a ≤ S512x64.size a := fun v2605 k0_hw123 => k0_hw123.1
theorem k0_off562_inb : ∀ (v2605 : BitVec 32) (k0_hw123 : k0_chk123 v2605), ∀ a, (k0_off562 v2605) a + S1x16.size a ≤ S512x64.size a := fun v2605 k0_hw123 => k0_hw123.2.1
theorem k0_off563_inb : ∀ (v2605 : BitVec 32) (k0_hw123 : k0_chk123 v2605), ∀ a, (k0_off563 v2605) a + S1x16.size a ≤ S512x64.size a := fun v2605 k0_hw123 => k0_hw123.2.2.1
theorem k0_off564_inb : ∀ (v2605 : BitVec 32) (k0_hw123 : k0_chk123 v2605), ∀ a, (k0_off564 v2605) a + S1x16.size a ≤ S512x64.size a := fun v2605 k0_hw123 => k0_hw123.2.2.2

def k0_off565 (v2633 : BitVec 32) : Fin 2 → Nat :=
  let v2636 : Index := Scalar.indexCast v2633
  let c0_450 : Index := 0#32
  ![v2636.toNat, 0]

def k0_off566 (v2633 : BitVec 32) : Fin 2 → Nat :=
  let v2642 : Index := Scalar.indexCast v2633
  let c16_451 : Index := 16#32
  ![v2642.toNat, 16]
def k0_off567 (v2633 : BitVec 32) : Fin 2 → Nat :=
  let v2648 : Index := Scalar.indexCast v2633
  let c32_452 : Index := 32#32
  ![v2648.toNat, 32]
def k0_off568 (v2633 : BitVec 32) : Fin 2 → Nat :=
  let v2654 : Index := Scalar.indexCast v2633
  let c48_453 : Index := 48#32
  ![v2654.toNat, 48]

def k0_chk124 (v2633 : BitVec 32) : Prop :=
  (∀ a, (k0_off565 v2633) a + S1x16.size a ≤ S512x64.size a) ∧
  (∀ a, (k0_off566 v2633) a + S1x16.size a ≤ S512x64.size a) ∧
  (∀ a, (k0_off567 v2633) a + S1x16.size a ≤ S512x64.size a) ∧
  (∀ a, (k0_off568 v2633) a + S1x16.size a ≤ S512x64.size a)
theorem k0_off565_inb : ∀ (v2633 : BitVec 32) (k0_hw124 : k0_chk124 v2633), ∀ a, (k0_off565 v2633) a + S1x16.size a ≤ S512x64.size a := fun v2633 k0_hw124 => k0_hw124.1
theorem k0_off566_inb : ∀ (v2633 : BitVec 32) (k0_hw124 : k0_chk124 v2633), ∀ a, (k0_off566 v2633) a + S1x16.size a ≤ S512x64.size a := fun v2633 k0_hw124 => k0_hw124.2.1
theorem k0_off567_inb : ∀ (v2633 : BitVec 32) (k0_hw124 : k0_chk124 v2633), ∀ a, (k0_off567 v2633) a + S1x16.size a ≤ S512x64.size a := fun v2633 k0_hw124 => k0_hw124.2.2.1
theorem k0_off568_inb : ∀ (v2633 : BitVec 32) (k0_hw124 : k0_chk124 v2633), ∀ a, (k0_off568 v2633) a + S1x16.size a ≤ S512x64.size a := fun v2633 k0_hw124 => k0_hw124.2.2.2

def k0_off569 (v2661 : BitVec 32) : Fin 2 → Nat :=
  let v2664 : Index := Scalar.indexCast v2661
  let c0_454 : Index := 0#32
  ![v2664.toNat, 0]

def k0_off570 (v2661 : BitVec 32) : Fin 2 → Nat :=
  let v2670 : Index := Scalar.indexCast v2661
  let c16_455 : Index := 16#32
  ![v2670.toNat, 16]
def k0_off571 (v2661 : BitVec 32) : Fin 2 → Nat :=
  let v2676 : Index := Scalar.indexCast v2661
  let c32_456 : Index := 32#32
  ![v2676.toNat, 32]
def k0_off572 (v2661 : BitVec 32) : Fin 2 → Nat :=
  let v2682 : Index := Scalar.indexCast v2661
  let c48_457 : Index := 48#32
  ![v2682.toNat, 48]

def k0_chk125 (v2661 : BitVec 32) : Prop :=
  (∀ a, (k0_off569 v2661) a + S1x16.size a ≤ S512x64.size a) ∧
  (∀ a, (k0_off570 v2661) a + S1x16.size a ≤ S512x64.size a) ∧
  (∀ a, (k0_off571 v2661) a + S1x16.size a ≤ S512x64.size a) ∧
  (∀ a, (k0_off572 v2661) a + S1x16.size a ≤ S512x64.size a)
theorem k0_off569_inb : ∀ (v2661 : BitVec 32) (k0_hw125 : k0_chk125 v2661), ∀ a, (k0_off569 v2661) a + S1x16.size a ≤ S512x64.size a := fun v2661 k0_hw125 => k0_hw125.1
theorem k0_off570_inb : ∀ (v2661 : BitVec 32) (k0_hw125 : k0_chk125 v2661), ∀ a, (k0_off570 v2661) a + S1x16.size a ≤ S512x64.size a := fun v2661 k0_hw125 => k0_hw125.2.1
theorem k0_off571_inb : ∀ (v2661 : BitVec 32) (k0_hw125 : k0_chk125 v2661), ∀ a, (k0_off571 v2661) a + S1x16.size a ≤ S512x64.size a := fun v2661 k0_hw125 => k0_hw125.2.2.1
theorem k0_off572_inb : ∀ (v2661 : BitVec 32) (k0_hw125 : k0_chk125 v2661), ∀ a, (k0_off572 v2661) a + S1x16.size a ≤ S512x64.size a := fun v2661 k0_hw125 => k0_hw125.2.2.2

def k0_off573 (v2689 : BitVec 32) : Fin 2 → Nat :=
  let v2692 : Index := Scalar.indexCast v2689
  let c0_458 : Index := 0#32
  ![v2692.toNat, 0]

def k0_off574 (v2689 : BitVec 32) : Fin 2 → Nat :=
  let v2698 : Index := Scalar.indexCast v2689
  let c16_459 : Index := 16#32
  ![v2698.toNat, 16]
def k0_off575 (v2689 : BitVec 32) : Fin 2 → Nat :=
  let v2704 : Index := Scalar.indexCast v2689
  let c32_460 : Index := 32#32
  ![v2704.toNat, 32]
def k0_off576 (v2689 : BitVec 32) : Fin 2 → Nat :=
  let v2710 : Index := Scalar.indexCast v2689
  let c48_461 : Index := 48#32
  ![v2710.toNat, 48]

def k0_chk126 (v2689 : BitVec 32) : Prop :=
  (∀ a, (k0_off573 v2689) a + S1x16.size a ≤ S512x64.size a) ∧
  (∀ a, (k0_off574 v2689) a + S1x16.size a ≤ S512x64.size a) ∧
  (∀ a, (k0_off575 v2689) a + S1x16.size a ≤ S512x64.size a) ∧
  (∀ a, (k0_off576 v2689) a + S1x16.size a ≤ S512x64.size a)
theorem k0_off573_inb : ∀ (v2689 : BitVec 32) (k0_hw126 : k0_chk126 v2689), ∀ a, (k0_off573 v2689) a + S1x16.size a ≤ S512x64.size a := fun v2689 k0_hw126 => k0_hw126.1
theorem k0_off574_inb : ∀ (v2689 : BitVec 32) (k0_hw126 : k0_chk126 v2689), ∀ a, (k0_off574 v2689) a + S1x16.size a ≤ S512x64.size a := fun v2689 k0_hw126 => k0_hw126.2.1
theorem k0_off575_inb : ∀ (v2689 : BitVec 32) (k0_hw126 : k0_chk126 v2689), ∀ a, (k0_off575 v2689) a + S1x16.size a ≤ S512x64.size a := fun v2689 k0_hw126 => k0_hw126.2.2.1
theorem k0_off576_inb : ∀ (v2689 : BitVec 32) (k0_hw126 : k0_chk126 v2689), ∀ a, (k0_off576 v2689) a + S1x16.size a ≤ S512x64.size a := fun v2689 k0_hw126 => k0_hw126.2.2.2

def k0_off577 (v2717 : BitVec 32) : Fin 2 → Nat :=
  let v2720 : Index := Scalar.indexCast v2717
  let c0_462 : Index := 0#32
  ![v2720.toNat, 0]

def k0_off578 (v2717 : BitVec 32) : Fin 2 → Nat :=
  let v2726 : Index := Scalar.indexCast v2717
  let c16_463 : Index := 16#32
  ![v2726.toNat, 16]
def k0_off579 (v2717 : BitVec 32) : Fin 2 → Nat :=
  let v2732 : Index := Scalar.indexCast v2717
  let c32_464 : Index := 32#32
  ![v2732.toNat, 32]
def k0_off580 (v2717 : BitVec 32) : Fin 2 → Nat :=
  let v2738 : Index := Scalar.indexCast v2717
  let c48_465 : Index := 48#32
  ![v2738.toNat, 48]

def k0_chk127 (v2717 : BitVec 32) : Prop :=
  (∀ a, (k0_off577 v2717) a + S1x16.size a ≤ S512x64.size a) ∧
  (∀ a, (k0_off578 v2717) a + S1x16.size a ≤ S512x64.size a) ∧
  (∀ a, (k0_off579 v2717) a + S1x16.size a ≤ S512x64.size a) ∧
  (∀ a, (k0_off580 v2717) a + S1x16.size a ≤ S512x64.size a)
theorem k0_off577_inb : ∀ (v2717 : BitVec 32) (k0_hw127 : k0_chk127 v2717), ∀ a, (k0_off577 v2717) a + S1x16.size a ≤ S512x64.size a := fun v2717 k0_hw127 => k0_hw127.1
theorem k0_off578_inb : ∀ (v2717 : BitVec 32) (k0_hw127 : k0_chk127 v2717), ∀ a, (k0_off578 v2717) a + S1x16.size a ≤ S512x64.size a := fun v2717 k0_hw127 => k0_hw127.2.1
theorem k0_off579_inb : ∀ (v2717 : BitVec 32) (k0_hw127 : k0_chk127 v2717), ∀ a, (k0_off579 v2717) a + S1x16.size a ≤ S512x64.size a := fun v2717 k0_hw127 => k0_hw127.2.2.1
theorem k0_off580_inb : ∀ (v2717 : BitVec 32) (k0_hw127 : k0_chk127 v2717), ∀ a, (k0_off580 v2717) a + S1x16.size a ≤ S512x64.size a := fun v2717 k0_hw127 => k0_hw127.2.2.2

def k0_off581 (v2745 : BitVec 32) : Fin 2 → Nat :=
  let v2748 : Index := Scalar.indexCast v2745
  let c0_466 : Index := 0#32
  ![v2748.toNat, 0]

def k0_off582 (v2745 : BitVec 32) : Fin 2 → Nat :=
  let v2754 : Index := Scalar.indexCast v2745
  let c16_467 : Index := 16#32
  ![v2754.toNat, 16]
def k0_off583 (v2745 : BitVec 32) : Fin 2 → Nat :=
  let v2760 : Index := Scalar.indexCast v2745
  let c32_468 : Index := 32#32
  ![v2760.toNat, 32]
def k0_off584 (v2745 : BitVec 32) : Fin 2 → Nat :=
  let v2766 : Index := Scalar.indexCast v2745
  let c48_469 : Index := 48#32
  ![v2766.toNat, 48]

def k0_chk128 (v2745 : BitVec 32) : Prop :=
  (∀ a, (k0_off581 v2745) a + S1x16.size a ≤ S512x64.size a) ∧
  (∀ a, (k0_off582 v2745) a + S1x16.size a ≤ S512x64.size a) ∧
  (∀ a, (k0_off583 v2745) a + S1x16.size a ≤ S512x64.size a) ∧
  (∀ a, (k0_off584 v2745) a + S1x16.size a ≤ S512x64.size a)
theorem k0_off581_inb : ∀ (v2745 : BitVec 32) (k0_hw128 : k0_chk128 v2745), ∀ a, (k0_off581 v2745) a + S1x16.size a ≤ S512x64.size a := fun v2745 k0_hw128 => k0_hw128.1
theorem k0_off582_inb : ∀ (v2745 : BitVec 32) (k0_hw128 : k0_chk128 v2745), ∀ a, (k0_off582 v2745) a + S1x16.size a ≤ S512x64.size a := fun v2745 k0_hw128 => k0_hw128.2.1
theorem k0_off583_inb : ∀ (v2745 : BitVec 32) (k0_hw128 : k0_chk128 v2745), ∀ a, (k0_off583 v2745) a + S1x16.size a ≤ S512x64.size a := fun v2745 k0_hw128 => k0_hw128.2.2.1
theorem k0_off584_inb : ∀ (v2745 : BitVec 32) (k0_hw128 : k0_chk128 v2745), ∀ a, (k0_off584 v2745) a + S1x16.size a ≤ S512x64.size a := fun v2745 k0_hw128 => k0_hw128.2.2.2

def k0_off585 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2789 : Index := Scalar.indexCast v2788
  let c0_i32_475 : BitVec 32 := 0#32
  let v2790 : Index := Scalar.indexCast c0_i32_475
  let c0_476 : Index := 0#32
  ![v2789.toNat, 0, 0]
def k0_off586 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2794 : Index := Scalar.indexCast v2788
  let c1_i32_477 : BitVec 32 := 1#32
  let v2795 : Index := Scalar.indexCast c1_i32_477
  let c0_478 : Index := 0#32
  ![v2794.toNat, 1, 0]
def k0_off587 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2799 : Index := Scalar.indexCast v2788
  let c2_i32_479 : BitVec 32 := 2#32
  let v2800 : Index := Scalar.indexCast c2_i32_479
  let c0_480 : Index := 0#32
  ![v2799.toNat, 2, 0]
def k0_off588 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2804 : Index := Scalar.indexCast v2788
  let c3_i32_481 : BitVec 32 := 3#32
  let v2805 : Index := Scalar.indexCast c3_i32_481
  let c0_482 : Index := 0#32
  ![v2804.toNat, 3, 0]
def k0_off589 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2809 : Index := Scalar.indexCast v2788
  let c4_i32_483 : BitVec 32 := 4#32
  let v2810 : Index := Scalar.indexCast c4_i32_483
  let c0_484 : Index := 0#32
  ![v2809.toNat, 4, 0]
def k0_off590 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2814 : Index := Scalar.indexCast v2788
  let c5_i32_485 : BitVec 32 := 5#32
  let v2815 : Index := Scalar.indexCast c5_i32_485
  let c0_486 : Index := 0#32
  ![v2814.toNat, 5, 0]
def k0_off591 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2819 : Index := Scalar.indexCast v2788
  let c6_i32_487 : BitVec 32 := 6#32
  let v2820 : Index := Scalar.indexCast c6_i32_487
  let c0_488 : Index := 0#32
  ![v2819.toNat, 6, 0]
def k0_off592 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2824 : Index := Scalar.indexCast v2788
  let c7_i32_489 : BitVec 32 := 7#32
  let v2825 : Index := Scalar.indexCast c7_i32_489
  let c0_490 : Index := 0#32
  ![v2824.toNat, 7, 0]
def k0_off593 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2829 : Index := Scalar.indexCast v2788
  let c8_i32_491 : BitVec 32 := 8#32
  let v2830 : Index := Scalar.indexCast c8_i32_491
  let c0_492 : Index := 0#32
  ![v2829.toNat, 8, 0]
def k0_off594 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2834 : Index := Scalar.indexCast v2788
  let c9_i32_493 : BitVec 32 := 9#32
  let v2835 : Index := Scalar.indexCast c9_i32_493
  let c0_494 : Index := 0#32
  ![v2834.toNat, 9, 0]
def k0_off595 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2839 : Index := Scalar.indexCast v2788
  let c10_i32_495 : BitVec 32 := 10#32
  let v2840 : Index := Scalar.indexCast c10_i32_495
  let c0_496 : Index := 0#32
  ![v2839.toNat, 10, 0]
def k0_off596 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2844 : Index := Scalar.indexCast v2788
  let c11_i32_497 : BitVec 32 := 11#32
  let v2845 : Index := Scalar.indexCast c11_i32_497
  let c0_498 : Index := 0#32
  ![v2844.toNat, 11, 0]
def k0_off597 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2849 : Index := Scalar.indexCast v2788
  let c12_i32_499 : BitVec 32 := 12#32
  let v2850 : Index := Scalar.indexCast c12_i32_499
  let c0_500 : Index := 0#32
  ![v2849.toNat, 12, 0]
def k0_off598 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2854 : Index := Scalar.indexCast v2788
  let c13_i32_501 : BitVec 32 := 13#32
  let v2855 : Index := Scalar.indexCast c13_i32_501
  let c0_502 : Index := 0#32
  ![v2854.toNat, 13, 0]
def k0_off599 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2859 : Index := Scalar.indexCast v2788
  let c14_i32_503 : BitVec 32 := 14#32
  let v2860 : Index := Scalar.indexCast c14_i32_503
  let c0_504 : Index := 0#32
  ![v2859.toNat, 14, 0]
def k0_off600 (k0_t2 : Fin k0_t2_loop.trips) : Fin 3 → Nat :=
  let c196_i32_33 : BitVec 32 := 196#32
  let c1_i32_35 : BitVec 32 := 1#32
  let arg20 : BitVec 32 := Scf.iv c196_i32_33 c1_i32_35 k0_t2
  let c1_i32_474 : BitVec 32 := 1#32
  let v2788 : BitVec 32 := Scalar.andi arg20 c1_i32_474
  let v2864 : Index := Scalar.indexCast v2788
  let c15_i32_505 : BitVec 32 := 15#32
  let v2865 : Index := Scalar.indexCast c15_i32_505
  let c0_506 : Index := 0#32
  ![v2864.toNat, 15, 0]
def k0_off601 (i : grid0.Coords) : Fin 3 → Nat :=
  let c1_i32_39 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_38 : BitVec 32 := 1#32
  let v75 : BitVec 32 := Scalar.andi v74 c1_i32_38
  let v76 : BitVec 32 := Scalar.subi c1_i32_39 v75
  let v77 : Index := Scalar.indexCast v76
  let c0_i32_40 : BitVec 32 := 0#32
  let v78 : Index := Scalar.indexCast c0_i32_40
  let c0 : Index := 0#32
  ![v77.toNat, 0, 0]
def k0_off602 (i : grid0.Coords) : Fin 3 → Nat :=
  let c1_i32_42 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_41 : BitVec 32 := 1#32
  let v81 : BitVec 32 := Scalar.andi v74 c1_i32_41
  let v82 : BitVec 32 := Scalar.subi c1_i32_42 v81
  let v83 : Index := Scalar.indexCast v82
  let c1_i32_43 : BitVec 32 := 1#32
  let v84 : Index := Scalar.indexCast c1_i32_43
  let c0_44 : Index := 0#32
  ![v83.toNat, 1, 0]
def k0_off603 (i : grid0.Coords) : Fin 3 → Nat :=
  let c1_i32_46 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_45 : BitVec 32 := 1#32
  let v87 : BitVec 32 := Scalar.andi v74 c1_i32_45
  let v88 : BitVec 32 := Scalar.subi c1_i32_46 v87
  let v89 : Index := Scalar.indexCast v88
  let c2_i32_47 : BitVec 32 := 2#32
  let v90 : Index := Scalar.indexCast c2_i32_47
  let c0_48 : Index := 0#32
  ![v89.toNat, 2, 0]
def k0_off604 (i : grid0.Coords) : Fin 3 → Nat :=
  let c1_i32_50 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_49 : BitVec 32 := 1#32
  let v93 : BitVec 32 := Scalar.andi v74 c1_i32_49
  let v94 : BitVec 32 := Scalar.subi c1_i32_50 v93
  let v95 : Index := Scalar.indexCast v94
  let c3_i32 : BitVec 32 := 3#32
  let v96 : Index := Scalar.indexCast c3_i32
  let c0_51 : Index := 0#32
  ![v95.toNat, 3, 0]
def k0_off605 (i : grid0.Coords) : Fin 3 → Nat :=
  let c1_i32_53 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_52 : BitVec 32 := 1#32
  let v99 : BitVec 32 := Scalar.andi v74 c1_i32_52
  let v100 : BitVec 32 := Scalar.subi c1_i32_53 v99
  let v101 : Index := Scalar.indexCast v100
  let c4_i32_54 : BitVec 32 := 4#32
  let v102 : Index := Scalar.indexCast c4_i32_54
  let c0_55 : Index := 0#32
  ![v101.toNat, 4, 0]
def k0_off606 (i : grid0.Coords) : Fin 3 → Nat :=
  let c1_i32_57 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_56 : BitVec 32 := 1#32
  let v105 : BitVec 32 := Scalar.andi v74 c1_i32_56
  let v106 : BitVec 32 := Scalar.subi c1_i32_57 v105
  let v107 : Index := Scalar.indexCast v106
  let c5_i32 : BitVec 32 := 5#32
  let v108 : Index := Scalar.indexCast c5_i32
  let c0_58 : Index := 0#32
  ![v107.toNat, 5, 0]
def k0_off607 (i : grid0.Coords) : Fin 3 → Nat :=
  let c1_i32_60 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_59 : BitVec 32 := 1#32
  let v111 : BitVec 32 := Scalar.andi v74 c1_i32_59
  let v112 : BitVec 32 := Scalar.subi c1_i32_60 v111
  let v113 : Index := Scalar.indexCast v112
  let c6_i32 : BitVec 32 := 6#32
  let v114 : Index := Scalar.indexCast c6_i32
  let c0_61 : Index := 0#32
  ![v113.toNat, 6, 0]
def k0_off608 (i : grid0.Coords) : Fin 3 → Nat :=
  let c1_i32_63 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_62 : BitVec 32 := 1#32
  let v117 : BitVec 32 := Scalar.andi v74 c1_i32_62
  let v118 : BitVec 32 := Scalar.subi c1_i32_63 v117
  let v119 : Index := Scalar.indexCast v118
  let c7_i32 : BitVec 32 := 7#32
  let v120 : Index := Scalar.indexCast c7_i32
  let c0_64 : Index := 0#32
  ![v119.toNat, 7, 0]
def k0_off609 (i : grid0.Coords) : Fin 3 → Nat :=
  let c1_i32_66 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_65 : BitVec 32 := 1#32
  let v123 : BitVec 32 := Scalar.andi v74 c1_i32_65
  let v124 : BitVec 32 := Scalar.subi c1_i32_66 v123
  let v125 : Index := Scalar.indexCast v124
  let c8_i32 : BitVec 32 := 8#32
  let v126 : Index := Scalar.indexCast c8_i32
  let c0_67 : Index := 0#32
  ![v125.toNat, 8, 0]
def k0_off610 (i : grid0.Coords) : Fin 3 → Nat :=
  let c1_i32_69 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_68 : BitVec 32 := 1#32
  let v129 : BitVec 32 := Scalar.andi v74 c1_i32_68
  let v130 : BitVec 32 := Scalar.subi c1_i32_69 v129
  let v131 : Index := Scalar.indexCast v130
  let c9_i32 : BitVec 32 := 9#32
  let v132 : Index := Scalar.indexCast c9_i32
  let c0_70 : Index := 0#32
  ![v131.toNat, 9, 0]
def k0_off611 (i : grid0.Coords) : Fin 3 → Nat :=
  let c1_i32_72 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_71 : BitVec 32 := 1#32
  let v135 : BitVec 32 := Scalar.andi v74 c1_i32_71
  let v136 : BitVec 32 := Scalar.subi c1_i32_72 v135
  let v137 : Index := Scalar.indexCast v136
  let c10_i32 : BitVec 32 := 10#32
  let v138 : Index := Scalar.indexCast c10_i32
  let c0_73 : Index := 0#32
  ![v137.toNat, 10, 0]
def k0_off612 (i : grid0.Coords) : Fin 3 → Nat :=
  let c1_i32_75 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_74 : BitVec 32 := 1#32
  let v141 : BitVec 32 := Scalar.andi v74 c1_i32_74
  let v142 : BitVec 32 := Scalar.subi c1_i32_75 v141
  let v143 : Index := Scalar.indexCast v142
  let c11_i32 : BitVec 32 := 11#32
  let v144 : Index := Scalar.indexCast c11_i32
  let c0_76 : Index := 0#32
  ![v143.toNat, 11, 0]
def k0_off613 (i : grid0.Coords) : Fin 3 → Nat :=
  let c1_i32_78 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_77 : BitVec 32 := 1#32
  let v147 : BitVec 32 := Scalar.andi v74 c1_i32_77
  let v148 : BitVec 32 := Scalar.subi c1_i32_78 v147
  let v149 : Index := Scalar.indexCast v148
  let c12_i32 : BitVec 32 := 12#32
  let v150 : Index := Scalar.indexCast c12_i32
  let c0_79 : Index := 0#32
  ![v149.toNat, 12, 0]
def k0_off614 (i : grid0.Coords) : Fin 3 → Nat :=
  let c1_i32_81 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_80 : BitVec 32 := 1#32
  let v153 : BitVec 32 := Scalar.andi v74 c1_i32_80
  let v154 : BitVec 32 := Scalar.subi c1_i32_81 v153
  let v155 : Index := Scalar.indexCast v154
  let c13_i32 : BitVec 32 := 13#32
  let v156 : Index := Scalar.indexCast c13_i32
  let c0_82 : Index := 0#32
  ![v155.toNat, 13, 0]
def k0_off615 (i : grid0.Coords) : Fin 3 → Nat :=
  let c1_i32_84 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_83 : BitVec 32 := 1#32
  let v159 : BitVec 32 := Scalar.andi v74 c1_i32_83
  let v160 : BitVec 32 := Scalar.subi c1_i32_84 v159
  let v161 : Index := Scalar.indexCast v160
  let c14_i32 : BitVec 32 := 14#32
  let v162 : Index := Scalar.indexCast c14_i32
  let c0_85 : Index := 0#32
  ![v161.toNat, 14, 0]
def k0_off616 (i : grid0.Coords) : Fin 3 → Nat :=
  let c1_i32_87 : BitVec 32 := 1#32
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c1_i32_86 : BitVec 32 := 1#32
  let v165 : BitVec 32 := Scalar.andi v74 c1_i32_86
  let v166 : BitVec 32 := Scalar.subi c1_i32_87 v165
  let v167 : Index := Scalar.indexCast v166
  let c15_i32 : BitVec 32 := 15#32
  let v168 : Index := Scalar.indexCast c15_i32
  let c0_88 : Index := 0#32
  ![v167.toNat, 15, 0]
def k0_off617 (i : grid0.Coords) : Fin 1 → Nat :=
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c16_i32_89 : BitVec 32 := 16#32
  let v171 : BitVec 32 := Scalar.muli v74 c16_i32_89
  let v172 : Index := Scalar.indexCast v171
  ![v172.toNat]
def k0_off618 (i : grid0.Coords) : Fin 1 → Nat :=
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let c4_i32_90 : BitVec 32 := 4#32
  let v175 : BitVec 32 := Scalar.muli v74 c4_i32_90
  let v176 : Index := Scalar.indexCast v175
  ![v176.toNat]
def k0_off619 (i : grid0.Coords) : Fin 2 → Nat :=
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let v487 : Index := Scalar.indexCast v74
  let c0_106 : Index := 0#32
  ![v487.toNat, 0]
def k0_off620 (i : grid0.Coords) : Fin 2 → Nat :=
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let v491 : Index := Scalar.indexCast v74
  let c16 : Index := 16#32
  ![v491.toNat, 16]
def k0_off621 (i : grid0.Coords) : Fin 2 → Nat :=
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let v495 : Index := Scalar.indexCast v74
  let c32 : Index := 32#32
  ![v495.toNat, 32]
def k0_off622 (i : grid0.Coords) : Fin 2 → Nat :=
  let arg0 : BitVec 32 := BitVec.ofNat 32 (i 0).val
  let c0_i32_37 : BitVec 32 := 0#32
  let v73 : BitVec 32 := Scalar.muli arg0 c0_i32_37
  let c392_i32 : BitVec 32 := 392#32
  let v74 : BitVec 32 := Scalar.addi v73 c392_i32
  let v499 : Index := Scalar.indexCast v74
  let c48 : Index := 48#32
  ![v499.toNat, 48]
def k0_off623 (i : grid0.Coords) : Fin 2 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6250_i32 : BitVec 32 := 6250#32
  let v2 : BitVec 32 := Scalar.muli v1 c6250_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v20 : BitVec 32 := Scalar.muli c2_i32_4 v19
  let c0_i32_109_r0 : BitVec 32 := 0#32
  ![v20.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x512 : Shape := ⟨2, ![64, 512]⟩
abbrev S800000 : Shape := ⟨1, ![800000]⟩
abbrev S200000 : Shape := ⟨1, ![200000]⟩
abbrev S50000 : Shape := ⟨1, ![50000]⟩
abbrev S12500 : Shape := ⟨1, ![12500]⟩
abbrev S_ : Shape := ⟨0, ![]⟩
abbrev S800000x1 : Shape := ⟨2, ![800000, 1]⟩
abbrev S64x800000 : Shape := ⟨2, ![64, 800000]⟩
abbrev S1x800000 : Shape := ⟨2, ![1, 800000]⟩
abbrev S800000x64 : Shape := ⟨2, ![800000, 64]⟩
abbrev S50000x64 : Shape := ⟨2, ![50000, 64]⟩
abbrev S64x50000 : Shape := ⟨2, ![64, 50000]⟩
abbrev S1x50000 : Shape := ⟨2, ![1, 50000]⟩
abbrev S200000x1 : Shape := ⟨2, ![200000, 1]⟩
abbrev S64x200000 : Shape := ⟨2, ![64, 200000]⟩
abbrev S1x200000 : Shape := ⟨2, ![1, 200000]⟩
abbrev S200000x64 : Shape := ⟨2, ![200000, 64]⟩
abbrev S50000x1 : Shape := ⟨2, ![50000, 1]⟩
abbrev S12500x64 : Shape := ⟨2, ![12500, 64]⟩
abbrev S64x12500 : Shape := ⟨2, ![64, 12500]⟩
abbrev S1x12500 : Shape := ⟨2, ![1, 12500]⟩

abbrev nBuf : Space → Nat
  | .hbm => 90
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S800000, .i32⟩
  | .hbm, ⟨2, _⟩ => ⟨S800000, .i32⟩
  | .hbm, ⟨3, _⟩ => ⟨S200000, .i32⟩
  | .hbm, ⟨4, _⟩ => ⟨S200000, .i32⟩
  | .hbm, ⟨5, _⟩ => ⟨S50000, .i32⟩
  | .hbm, ⟨6, _⟩ => ⟨S50000, .i32⟩
  | .hbm, ⟨7, _⟩ => ⟨S800000, .f32⟩
  | .hbm, ⟨8, _⟩ => ⟨S50000, .f32⟩
  | .hbm, ⟨9, _⟩ => ⟨S200000, .f32⟩
  | .hbm, ⟨10, _⟩ => ⟨S50000, .f32⟩
  | .hbm, ⟨11, _⟩ => ⟨S50000, .f32⟩
  | .hbm, ⟨12, _⟩ => ⟨S12500, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S64x800000, .f32⟩
  | .hbm, ⟨22, _⟩ => ⟨S1x800000, .f32⟩
  | .hbm, ⟨23, _⟩ => ⟨S64x800000, .f32⟩
  | .hbm, ⟨24, _⟩ => ⟨S64x800000, .f32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S64x50000, .f32⟩
  | .hbm, ⟨31, _⟩ => ⟨S1x50000, .f32⟩
  | .hbm, ⟨32, _⟩ => ⟨S64x50000, .f32⟩
  | .hbm, ⟨33, _⟩ => ⟨S64x50000, .f32⟩
  | .hbm, ⟨34, _⟩ => ⟨S_, .f32⟩
  | .hbm, ⟨35, _⟩ => ⟨S64x50000, .f32⟩
  | .hbm, ⟨36, _⟩ => ⟨S64x50000, .i1⟩
  | .hbm, ⟨37, _⟩ => ⟨S_, .f32⟩
  | .hbm, ⟨38, _⟩ => ⟨S64x50000, .f32⟩
  | .hbm, ⟨39, _⟩ => ⟨S64x50000, .f32⟩
  | .hbm, ⟨40, _⟩ => ⟨S64x50000, .f32⟩
  | .hbm, ⟨41, _⟩ => ⟨S_, .i32⟩
  | .hbm, ⟨42, _⟩ => ⟨S200000, .i32⟩
  | .hbm, ⟨43, _⟩ => ⟨S200000, .i1⟩
  | .hbm, ⟨44, _⟩ => ⟨S_, .i32⟩
  | .hbm, ⟨45, _⟩ => ⟨S200000, .i32⟩
  | .hbm, ⟨46, _⟩ => ⟨S200000, .i32⟩
  | .hbm, ⟨47, _⟩ => ⟨S200000, .i32⟩
  | .hbm, ⟨48, _⟩ => ⟨S200000x1, .i32⟩
  | .hbm, ⟨49, _⟩ => ⟨S64x200000, .f32⟩
  | .hbm, ⟨50, _⟩ => ⟨S1x200000, .f32⟩
  | .hbm, ⟨51, _⟩ => ⟨S64x200000, .f32⟩
  | .hbm, ⟨52, _⟩ => ⟨S64x200000, .f32⟩
  | .hbm, ⟨53, _⟩ => ⟨S200000x64, .f32⟩
  | .hbm, ⟨54, _⟩ => ⟨S_, .f32⟩
  | .hbm, ⟨55, _⟩ => ⟨S50000x64, .f32⟩
  | .hbm, ⟨56, _⟩ => ⟨S200000x1, .i32⟩
  | .hbm, ⟨57, _⟩ => ⟨S50000x64, .f32⟩
  | .hbm, ⟨58, _⟩ => ⟨S64x50000, .f32⟩
  | .hbm, ⟨59, _⟩ => ⟨S1x50000, .f32⟩
  | .hbm, ⟨60, _⟩ => ⟨S64x50000, .f32⟩
  | .hbm, ⟨61, _⟩ => ⟨S64x50000, .f32⟩
  | .hbm, ⟨62, _⟩ => ⟨S_, .f32⟩
  | .hbm, ⟨63, _⟩ => ⟨S64x50000, .f32⟩
  | .hbm, ⟨64, _⟩ => ⟨S64x50000, .i1⟩
  | .hbm, ⟨65, _⟩ => ⟨S_, .f32⟩
  | .hbm, ⟨66, _⟩ => ⟨S64x50000, .f32⟩
  | .hbm, ⟨67, _⟩ => ⟨S64x50000, .f32⟩
  | .hbm, ⟨68, _⟩ => ⟨S64x50000, .f32⟩
  | .hbm, ⟨69, _⟩ => ⟨S_, .i32⟩
  | .hbm, ⟨70, _⟩ => ⟨S50000, .i32⟩
  | .hbm, ⟨71, _⟩ => ⟨S50000, .i1⟩
  | .hbm, ⟨72, _⟩ => ⟨S_, .i32⟩
  | .hbm, ⟨73, _⟩ => ⟨S50000, .i32⟩
  | .hbm, ⟨74, _⟩ => ⟨S50000, .i32⟩
  | .hbm, ⟨75, _⟩ => ⟨S50000, .i32⟩
  | .hbm, ⟨76, _⟩ => ⟨S50000x1, .i32⟩
  | .hbm, ⟨77, _⟩ => ⟨S64x50000, .f32⟩
  | .hbm, ⟨78, _⟩ => ⟨S1x50000, .f32⟩
  | .hbm, ⟨79, _⟩ => ⟨S64x50000, .f32⟩
  | .hbm, ⟨80, _⟩ => ⟨S64x50000, .f32⟩
  | .hbm, ⟨81, _⟩ => ⟨S50000x64, .f32⟩
  | .hbm, ⟨82, _⟩ => ⟨S_, .f32⟩
  | .hbm, ⟨83, _⟩ => ⟨S12500x64, .f32⟩
  | .hbm, ⟨84, _⟩ => ⟨S50000x1, .i32⟩
  | .hbm, ⟨85, _⟩ => ⟨S12500x64, .f32⟩
  | .hbm, ⟨86, _⟩ => ⟨S64x12500, .f32⟩
  | .hbm, ⟨87, _⟩ => ⟨S1x12500, .f32⟩
  | .hbm, ⟨88, _⟩ => ⟨S64x12500, .f32⟩
  | .hbm, ⟨89, _⟩ => ⟨S64x12500, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Proof.Compact.lean ====
/-
  A row's offsets as functions of its word, and the values its two stages compute on lane vectors.
-/
module

public import proofs.«01_k».proof.Proof.Gen.KernelIdeal

@[expose] public section

set_option maxRecDepth 100000

noncomputable section

namespace Cert.Proof.Mlp

open Cert.KernelIdeal Cert.KernelIdeal.Gen
open Idealize.ShloMosaic
open Idealize.SL.Sem

variable {F : FTy → Type} [FloatOps F]
variable {c : Fin τ.nSC} {s : Fin τ.nSub}

/-- A tile's programs. -/
abbrev TP (F : FTy → Type) (c : Fin τ.nSC) (s : Fin τ.nSub) (α : Type) : Type 1 :=
  Prog (TpuEff nD τ sig (Elt F) Λ₀ (.scVector c s)) α

/-! ### Offsets -/

/-- Row `q` of the half of the hidden buffer that the row's word does not name, -/
def hOther (g : BitVec 32) (q : ℕ) : Fin 3 → ℕ := ![(Scalar.indexCast (Scalar.subi 1#32 (Scalar.andi g 1#32))).toNat, q, 0]
/-- and of the half it names. -/
def hOwn (g : BitVec 32) (q : ℕ) : Fin 3 → ℕ := ![(Scalar.indexCast (Scalar.andi g 1#32)).toNat, q, 0]
def w2Off (g : BitVec 32) : Fin 1 → ℕ := ![(Scalar.indexCast (Scalar.muli g 16#32)).toNat]
def w3Off (g : BitVec 32) : Fin 1 → ℕ := ![(Scalar.indexCast (Scalar.muli g 4#32)).toNat]
def oOff (g : BitVec 32) (b : ℕ) : Fin 2 → ℕ := ![(Scalar.indexCast g).toNat, b]
/-- The sixteen connections of feature `i` of the gene. -/
def eOff (g : BitVec 32) (i : ℕ) : Fin 1 → ℕ :=
  ![(Scalar.indexCast (Scalar.muli (Scalar.addi (Scalar.muli g 4#32) (BitVec.ofNat 32 i)) 16#32)).toNat]
def xOff (v : BitVec 32) (b : ℕ) : Fin 2 → ℕ := ![(Scalar.indexCast v).toNat, b]

/-! ### Bounds of the offsets -/

/-- What a row's word must satisfy for the second stage of its row to stay inside the buffers, -/
structure OkOut (g : BitVec 32) : Prop where
  h : ∀ (q : Fin 16) a, hOther g q a + S1x1x16.size a ≤ S2x16x16.size a
  w2 : ∀ a, w2Off g a + S16.size a ≤ S6288.size a
  w3 : ∀ a, w3Off g a + S16.size a ≤ S1584.size a
  o : ∀ (b : Fin 4) a, oOff g (16 * b.val) a + S1x16.size a ≤ S393x64.size a

/-- and for the first stage. -/
structure OkIn (g : BitVec 32) : Prop where
  h : ∀ (q : Fin 16) a, hOwn g q a + S1x1x16.size a ≤ S2x16x16.size a
  e : ∀ (i : Fin 4) a, eOff g i a + S16.size a ≤ S25088.size a

/-! ### The values of one row -/

/-- The leaky rectifier on a lane vector. -/
def leaky (x : FVec F S16 .f32) : FVec F S16 .f32 :=
  maximumf x (mulf (broadcast S16 (FloatOps.ofBits .f32 0x3C23D70A#32)) x)

theorem lane_slices (k : Fin 16) : S16.Slices ![k.val] S1 := ⟨rfl, fun a => by
  have := k.isLt
  match a with
  | 0 => show k.val + 1 ≤ 16; omega⟩

/-- Lane `k` of a vector. -/
def lane {α : Type} (v : S16.Idx → α) (k : Fin 16) : α :=
  extractAt ![0] (extractStridedSlice S1 ![k.val] v (lane_slices k)) inpos_S1_p0

/-- A vector scaled by a number. -/
def scaled (w : F .f32) (x : FVec F S16 .f32) : FVec F S16 .f32 := mulf (broadcast S16 w) x

/-- Output `o` of the second layer on the hidden rows, before the rectifier. -/
def acc2 (w2 : FVec F S16 .f32) (h : Fin 4 → FVec F S16 .f32) (o : Fin 4) : FVec F S16 .f32 :=
  addf (addf (addf (scaled (lane w2 ⟨4 * o.val, by omega⟩) (h 0)) (scaled (lane w2 ⟨4 * o.val + 1, by omega⟩) (h 1)))
    (scaled (lane w2 ⟨4 * o.val + 2, by omega⟩) (h 2))) (scaled (lane w2 ⟨4 * o.val + 3, by omega⟩) (h 3))

/-- The third layer on one quarter of the batch. -/
def acc3 (w2 w3 : FVec F S16 .f32) (h : Fin 4 → FVec F S16 .f32) : FVec F S16 .f32 :=
  addf (addf (addf (scaled (lane w3 0) (leaky (acc2 w2 h 0))) (scaled (lane w3 1) (leaky (acc2 w2 h 1))))
    (scaled (lane w3 2) (leaky (acc2 w2 h 2)))) (scaled (lane w3 3) (leaky (acc2 w2 h 3)))

end Cert.Proof.Mlp
end
-- ==== Proof.Setup.lean ====
/-
  The launch's set-up: the program as the launch theorem sees it, the resource algebra, the buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.WriteMode
public import Idealize.ShloMosaic.Lib.Batch
public import Idealize.ShloMosaic.Lib.Tactic
public import proofs.«01_k».proof.Proof.Compact

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The handshakes' rounds, the write mode's cells, the transfers' counters. -/
abbrev UU (F : FTy → Type) : Type := UH × (WmRA nD τ sig (Elt F) × Counters)

abbrev MM (F : FTy → Type) := MT nD τ sig (HIx 1) (Elt F) ℕ (UU F) ℕ
local notation "𝕄" => MM F

abbrev EH : Emb UH (MM F) := embL
abbrev EW : UEmb (WmRA nD τ sig (Elt F)) (UU F) := (UEmb.inl : UEmb (WmRA nD τ sig (Elt F)) (WmRA nD τ sig (Elt F) × Counters)).trans UEmb.inr

end Cert.Proof.Mlp
end
-- ==== Proof.Bounds.lean ====
/-
  The offsets of a row as numbers, and their bounds.
-/
module

public import proofs.«01_k».proof.Proof.Compact

@[expose] public section

noncomputable section

namespace Cert.Proof.Mlp

open Cert.KernelIdeal Cert.KernelIdeal.Gen
open Idealize.ShloMosaic

theorem and_one_toNat (g : BitVec 32) : (Scalar.andi g 1#32).toNat = g.toNat % 2 := by
  show (g &&& 1#32).toNat = _
  rw [BitVec.toNat_and]
  exact Nat.and_one_is_mod _

theorem hOwn_eq (g : BitVec 32) (q : ℕ) : hOwn g q = ![g.toNat % 2, q, 0] := by
  unfold hOwn Scalar.indexCast; rw [and_one_toNat]

theorem hOther_eq (g : BitVec 32) (q : ℕ) : hOther g q = ![(g.toNat + 1) % 2, q, 0] := by
  have h : (Scalar.subi 1#32 (Scalar.andi g 1#32)).toNat = (g.toNat + 1) % 2 := by
    show (1#32 - Scalar.andi g 1#32).toNat = _
    rw [BitVec.toNat_sub, and_one_toNat]
    show (2 ^ 32 - g.toNat % 2 + 1) % 2 ^ 32 = _
    omega
  unfold hOther Scalar.indexCast; rw [h]

theorem w2Off_eq (g : BitVec 32) (h : g.toNat ≤ 392) : w2Off g = ![16 * g.toNat] := by
  have h : (Scalar.muli g 16#32).toNat = 16 * g.toNat := by
    show (g * 16#32).toNat = _
    rw [BitVec.toNat_mul]
    show g.toNat * 16 % 2 ^ 32 = _
    omega
  unfold w2Off Scalar.indexCast; rw [h]

theorem w3Off_eq (g : BitVec 32) (h : g.toNat ≤ 392) : w3Off g = ![4 * g.toNat] := by
  have h : (Scalar.muli g 4#32).toNat = 4 * g.toNat := by
    show (g * 4#32).toNat = _
    rw [BitVec.toNat_mul]
    show g.toNat * 4 % 2 ^ 32 = _
    omega
  unfold w3Off Scalar.indexCast; rw [h]

theorem oOff_eq (g : BitVec 32) (b : ℕ) : oOff g b = ![g.toNat, b] := rfl

theorem eOff_eq (g : BitVec 32) (h : g.toNat ≤ 392) (i : ℕ) (hi : i < 4) : eOff g i = ![64 * g.toNat + 16 * i] := by
  have h : (Scalar.muli (Scalar.addi (Scalar.muli g 4#32) (BitVec.ofNat 32 i)) 16#32).toNat = 64 * g.toNat + 16 * i := by
    show ((g * 4#32 + BitVec.ofNat 32 i) * 16#32).toNat = _
    rw [BitVec.toNat_mul, BitVec.toNat_add, BitVec.toNat_mul, BitVec.toNat_ofNat]
    show ((g.toNat * 4 % 2 ^ 32 + i % 2 ^ 32) % 2 ^ 32) * 16 % 2 ^ 32 = _
    omega
  unfold eOff Scalar.indexCast; rw [h]

theorem okOut_of (g : BitVec 32) (h : g.toNat ≤ 392) : OkOut g where
  h q a := by
    rw [hOther_eq]
    have := q.isLt
    match a with
    | 0 => show (g.toNat + 1) % 2 + 1 ≤ 2; omega
    | 1 => show q.val + 1 ≤ 16; omega
    | 2 => exact le_refl 16
  w2 a := by
    rw [w2Off_eq g h]
    match a with
    | 0 => show 16 * g.toNat + 16 ≤ 6288; omega
  w3 a := by
    rw [w3Off_eq g h]
    match a with
    | 0 => show 4 * g.toNat + 16 ≤ 1584; omega
  o b a := by
    rw [oOff_eq]
    have := b.isLt
    match a with
    | 0 => show g.toNat + 1 ≤ 393; omega
    | 1 => show 16 * b.val + 16 ≤ 64; omega

theorem okIn_of (g : BitVec 32) (h : g.toNat < 392) : OkIn g where
  h q a := by
    rw [hOwn_eq]
    have := q.isLt
    match a with
    | 0 => show g.toNat % 2 + 1 ≤ 2; omega
    | 1 => show q.val + 1 ≤ 16; omega
    | 2 => exact le_refl 16
  e i a := by
    have := i.isLt
    rw [eOff_eq g (by omega) i this]
    match a with
    | 0 => show 64 * g.toNat + 16 * i.val + 16 ≤ 25088; omega

theorem iv1_toNat (k : Fin k0_t1_loop.trips) : (Scf.iv 0#32 1#32 k).toNat = k.val := by
  have hk : k.val < 196 := lt_of_lt_of_eq k.isLt (by decide)
  show (0#32 + BitVec.ofNat 32 k.val * 1#32).toNat = _
  rw [BitVec.toNat_add, BitVec.toNat_mul, BitVec.toNat_ofNat]
  show (0 + (k.val % 2 ^ 32) * 1 % 2 ^ 32) % 2 ^ 32 = _
  omega

theorem iv2_toNat (k : Fin k0_t2_loop.trips) : (Scf.iv 196#32 1#32 k).toNat = 196 + k.val := by
  have hk : k.val < 196 := lt_of_lt_of_eq k.isLt (by decide)
  show (196#32 + BitVec.ofNat 32 k.val * 1#32).toNat = _
  rw [BitVec.toNat_add, BitVec.toNat_mul, BitVec.toNat_ofNat]
  show (196 + (k.val % 2 ^ 32) * 1 % 2 ^ 32) % 2 ^ 32 = _
  omega

theorem okOut_t1 (k : Fin k0_t1_loop.trips) : OkOut (Scf.iv 0#32 1#32 k) :=
  okOut_of _ (by rw [iv1_toNat]; have : k.val < 196 := lt_of_lt_of_eq k.isLt (by decide); omega)
theorem okIn_t1 (k : Fin k0_t1_loop.trips) : OkIn (Scf.iv 0#32 1#32 k) :=
  okIn_of _ (by rw [iv1_toNat]; have : k.val < 196 := lt_of_lt_of_eq k.isLt (by decide); omega)
theorem okOut_t2 (k : Fin k0_t2_loop.trips) : OkOut (Scf.iv 196#32 1#32 k) :=
  okOut_of _ (by rw [iv2_toNat]; have : k.val < 196 := lt_of_lt_of_eq k.isLt (by decide); omega)
theorem okIn_t2 (k : Fin k0_t2_loop.trips) : OkIn (Scf.iv 196#32 1#32 k) :=
  okIn_of _ (by rw [iv2_toNat]; have : k.val < 196 := lt_of_lt_of_eq k.isLt (by decide); omega)

/-- The last row's word, as the program computes it. -/
def gLast (i : grid0.Coords) : BitVec 32 := Scalar.addi (Scalar.muli (BitVec.ofNat 32 (i 0).val) 0#32) 392#32

theorem gLast_eq (i : grid0.Coords) : gLast i = 392#32 := by
  unfold gLast
  show BitVec.ofNat 32 (i 0).val * 0#32 + 392#32 = _
  simp

theorem okOut_last (i : grid0.Coords) : OkOut (gLast i) := okOut_of _ (by rw [gLast_eq]; decide)

end Cert.Proof.Mlp
end
-- ==== Proof.Row.lean ====
/-
  The stages of one row, run: what each leaves in the tile's buffers.
-/
module

public import proofs.«01_k».proof.Proof.Setup
public import proofs.«01_k».proof.Proof.Bounds

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MM F

/-! ## Programs that return one value and move one resource to another -/

section Calc
variable {d : Dev nD} {c : Fin τ.nSC} {s : Fin τ.nSub} {α β : Type}

/-- From `R` the program returns `v`, leaving `R'`. -/
def Run (d : Dev nD) (R : sProp 𝕄) (p : TP F c s α) (v : α) (R' : sProp 𝕄) : Prop :=
  ∀ Q : α → sProp 𝕄, iprop(R ∗ (R' -∗ Q v)) ⊢ wp frame (wpE (defs₀ (F := F)) 𝒱₀ (V d c s) none) Set.univ p Q

theorem Run.pure (R : sProp 𝕄) (v : α) : Run (F := F) (c := c) (s := s) d R (Pure.pure v) v R := by
  intro Q
  rw [wp_pure]
  iintro ⟨H, HQ⟩
  imodintro
  iapply HQ; iexact H

theorem Run.bind {R R' R'' : sProp 𝕄} {p : TP F c s α} {v : α} {k : α → TP F c s β} {w : β}
    (h : Run d R p v R') (h' : Run d R' (k v) w R'') : Run d R (p >>= k) w R'' := by
  intro Q
  rw [wp_bind]
  refine BIBase.Entails.trans ?_ (h _)
  iintro ⟨H, HQ⟩
  isplitl [H]; · iexact H
  iintro H
  iapply (h' Q)
  isplitl [H]; · iexact H
  iexact HQ

theorem Run.frame' {R R' : sProp 𝕄} (A : sProp 𝕄) {p : TP F c s α} {v : α} (h : Run d R p v R') : Run d iprop(R ∗ A) p v iprop(R' ∗ A) := by
  intro Q
  refine BIBase.Entails.trans ?_ (h Q)
  iintro ⟨⟨H, HA⟩, HQ⟩
  isplitl [H]; · iexact H
  iintro H
  iapply HQ
  isplitl [H] <;> iassumption

theorem Run.conseq {R₀ R R' R₁ : sProp 𝕄} {p : TP F c s α} {v : α} (h : Run d R p v R') (h₀ : R₀ ⊢ R) (h₁ : R' ⊢ R₁) : Run d R₀ p v R₁ := by
  intro Q
  refine BIBase.Entails.trans ?_ (h Q)
  iintro ⟨H, HQ⟩
  isplitl [H]; · iapply h₀; iexact H
  iintro H
  iapply HQ; iapply h₁; iexact H

/-- A program that opens with a step, unfolded to it. -/
theorem Run.opened {R R' : sProp 𝕄} {p : TP F c s β} {k : β → TP F c s α} {v : α} (h : Run d R (p >>= k) v R') : Run d R (p >>= k) v R' := h

/-- A program that opens with one operation. -/
theorem Run.lifted {R R' : sProp 𝕄} {e : TpuEff nD τ sig (Elt F) Λ₀ (.scVector c s) β} {k : β → TP F c s α} {v : α}
    (h : Run d R (Prog.lift e >>= k) v R') : Run d R (Prog.lift e >>= k) v R' := h

/-- A program that is one operation. -/
theorem Run.single {R R' : sProp 𝕄} {e : TpuEff nD τ sig (Elt F) Λ₀ (.scVector c s) α} {v : α}
    (h : Run d R (Prog.lift e >>= Pure.pure) v R') : Run d R (Prog.lift e) v R' := by rwa [bind_pure] at h

theorem Run.loop {w : ℕ} (L : Scf.Loop w) (ok : L.OK) (body : Fin L.trips → PUnit → TP F c s PUnit) (I : ℕ → sProp 𝕄)
    (h : ∀ k, Run d (I k.val) (body k PUnit.unit) PUnit.unit (I (k.val + 1))) :
    Run d (I 0) (Scf.Loop.for L ok PUnit.unit body) PUnit.unit (I L.trips) := by
  intro Q
  refine BIBase.Entails.trans ?_ (Scf.wp_for _ _ _ L.lb L.ub L.st ok PUnit.unit body (fun n _ => I n) (fun k u => ?_))
  · iintro ⟨H, HQ⟩
    isplitl [H]; · iexact H
    iintro %_ H
    iapply HQ; iexact H
  · refine BIBase.Entails.trans ?_ (h k _)
    iintro H
    isplitl [H]; · iexact H
    iintro H
    iexact H

theorem Run.load {sp : CoreSpace} {sh : Shape} {e : EltTy} {m : Memref sig .scVector sp sh e} {r : Rect sh} {hl : m.view.LoadsAt r.toLoadRect}
    {R : sProp 𝕄} {S : Finset (Idx ((m.access r).loc (V d c s)))} {q : PosShare TreeShare} {f : Buf (Elt F) ((m.access r).loc (V d c s))}
    (hS : (m.access r).set ⊆ S)
    (hR : R ⊢ iprop(((m.access r).loc (V d c s) ↦[S]{q} f) ∗ (((m.access r).loc (V d c s) ↦[S]{q} f) -∗ R))) :
    Run (c := c) (s := s) d R (Prog.lift (.load m r.toLoadRect hl)) ((m.access r).read (Elt F) f) R := by
  intro Q
  iintro ⟨H, HQ⟩
  ihave H' := hR $$ H
  icases H' with ⟨Hp, Hback⟩
  iapply (wp_load_rect 𝒱₀ (V d c s) none Set.univ (r := r) hS) $$ Hp
  iintro Hp
  iapply (Entails.of_eq (wp_pure _ _ _ _ _).symm)
  imodintro
  iapply HQ; iapply Hback; iexact Hp

theorem Run.store {sp : CoreSpace} {sh : Shape} {e : EltTy} {m : Memref sig .scVector sp sh e} {r : Rect sh} {w : r.shape.Idx → Elt F e}
    {hx : (m.access r).Stores Finset.univ} {hm : (Finset.univ : Finset r.shape.Idx) = Finset.univ ∨ ∀ a, r.stride a = 1}
    {R R' : sProp 𝕄} {S : Finset (Idx ((m.access r).loc (V d c s)))} {f : Buf (Elt F) ((m.access r).loc (V d c s))}
    (hS : (m.access r).setOn Finset.univ ⊆ S)
    (hR : R ⊢ iprop(((m.access r).loc (V d c s) ↦[S]{fullShare} f)
      ∗ (((m.access r).loc (V d c s) ↦[S]{fullShare} ((m.access r).write (Elt F) f w Finset.univ)) -∗ R'))) :
    Run (c := c) (s := s) d R (Prog.lift (.store m r w Finset.univ hx hm)) ⟨⟩ R' := by
  intro Q
  iintro ⟨H, HQ⟩
  ihave H' := hR $$ H
  icases H' with ⟨Hp, Hback⟩
  iapply (wp_store 𝒱₀ (V d c s) none Set.univ (r := r) hS) $$ Hp
  iintro Hp
  iapply (Entails.of_eq (wp_pure _ _ _ _ _).symm)
  imodintro
  iapply HQ; iapply Hback; iexact Hp

theorem Run.assume {R : sProp 𝕄} {A : Prop} {dA : Decidable A} (h : A) :
    Run (c := c) (s := s) d R (Prog.lift (TpuEff.assume A dA)) ⟨h⟩ R := by
  intro Q
  refine BIBase.Entails.trans ?_ (wp_assume 𝒱₀ (V d c s) none Set.univ h)
  iintro ⟨H, HQ⟩
  iapply (Entails.of_eq (wp_pure _ _ _ _ _).symm)
  imodintro
  iapply HQ; iexact H

end Calc

/-! ## Reading and writing buffers by coordinates -/

/-- The index of a shape with given coordinates (each taken modulo its axis). -/
def ix {sh : Shape} (hs : ∀ a, 0 < sh.size a) (p : Fin sh.rank → ℕ) : sh.Idx := fun a => ⟨p a % sh.size a, Nat.mod_lt _ (hs a)⟩

theorem ix_eq {sh : Shape} (hs : ∀ a, 0 < sh.size a) (p : Fin sh.rank → ℕ) (i : sh.Idx) (h : ∀ a, (i a).val = p a) : ix hs p = i :=
  funext fun a => Fin.ext (by show p a % _ = _; rw [← h a, Nat.mod_eq_of_lt (i a).isLt])

theorem posX : ∀ a, 0 < S512x64.size a := by decide
theorem posI : ∀ a, 0 < S25088.size a := by decide
theorem posW2 : ∀ a, 0 < S6288.size a := by decide
theorem posW3 : ∀ a, 0 < S1584.size a := by decide
theorem posO : ∀ a, 0 < S393x64.size a := by decide
theorem posH : ∀ a, 0 < S2x16x16.size a := by decide
theorem posL : ∀ a, 0 < S16.size a := by decide

section Values
variable {α : Type}

/-- Sixteen numbers of row `v` of the features, from column `b`. -/
def rowX (X : S512x64.Idx → α) (v b : ℕ) : S16.Idx → α := fun j => X (ix posX ![v, b + (j 0).val])
/-- Sixteen numbers of a vector, from position `o`. -/
def ld1 {n : ℕ} (hp : ∀ a, 0 < (⟨1, ![n]⟩ : Shape).size a) (A : (⟨1, ![n]⟩ : Shape).Idx → α) (o : ℕ) : S16.Idx → α :=
  fun j => A (ix hp ![o + (j 0).val])
/-- Hidden row `q` of half `p`. -/
def rowH (H : S2x16x16.Idx → α) (p q : ℕ) : S16.Idx → α := fun j => H (ix posH ![p, q, (j 0).val])

/-- The output buffer with the first `n` quarters of row `p` replaced. -/
def setRow (O : S393x64.Idx → α) (p : ℕ) (v : Fin 4 → S16.Idx → α) (n : ℕ) : S393x64.Idx → α :=
  fun i => if (i 0).val = p ∧ (i 1).val < 16 * n then v (Fin.ofNat 4 ((i 1).val / 16)) (ix posL ![(i 1).val % 16]) else O i
/-- The hidden buffer with the first `n` rows of half `p` replaced. -/
def setHid (H : S2x16x16.Idx → α) (p : ℕ) (v : Fin 4 → Fin 4 → S16.Idx → α) (n : ℕ) : S2x16x16.Idx → α :=
  fun i => if (i 0).val = p ∧ (i 1).val < n then v (Fin.ofNat 4 ((i 1).val / 4)) (Fin.ofNat 4 ((i 1).val % 4)) (ix posL ![(i 2).val]) else H i

end Values

theorem lane_ld1 {α : Type} {n : ℕ} (hp : ∀ a, 0 < (⟨1, ![n]⟩ : Shape).size a) (A : (⟨1, ![n]⟩ : Shape).Idx → α) (o : ℕ) (k : Fin 16) :
    lane (ld1 hp A o) k = A (ix hp ![o + k.val]) := by
  unfold lane extractAt extractStridedSlice ld1
  simp

/-! ### The values -/

def termV (X : S512x64.Idx → F .f32) (iv : IVec S16 32) (wv : FVec F S16 .f32) (k : Fin 16) (q : Fin 4) : FVec F S16 .f32 :=
  scaled (lane wv k) (rowX X (lane iv k).toNat (16 * q.val))

def accV (X : S512x64.Idx → F .f32) (iv : IVec S16 32) (wv : FVec F S16 .f32) :
    List (Fin 8) → (Fin 4 → FVec F S16 .f32) → (Fin 4 → FVec F S16 .f32) → Fin 4 → FVec F S16 .f32
  | [], a, b => fun q => leaky (addf (a q) (b q))
  | k :: l, a, b => accV X iv wv l (fun q => addf (a q) (termV X iv wv ⟨2 * k.val, by omega⟩ q))
      (fun q => addf (b q) (termV X iv wv ⟨2 * k.val + 1, by omega⟩ q))

/-- One hidden feature from its sixteen indices and weights. -/
def featV (X : S512x64.Idx → F .f32) (iv : IVec S16 32) (wv : FVec F S16 .f32) : Fin 4 → FVec F S16 .f32 :=
  accV X iv wv [1, 2, 3, 4, 5, 6, 7] (termV X iv wv 0) (termV X iv wv 1)

/-- The four hidden features of row `n`. -/
def hidV (X : S512x64.Idx → F .f32) (I : S25088.Idx → BitVec 32) (W1 : S25088.Idx → F .f32) (n : ℕ) (i : Fin 4) : Fin 4 → FVec F S16 .f32 :=
  featV X (ld1 posI I (64 * n + 16 * i.val)) (ld1 posI W1 (64 * n + 16 * i.val))

/-- A row's output from the hidden features before it. -/
def outV (W2 : S6288.Idx → F .f32) (W3 : S1584.Idx → F .f32) (n : ℕ) (h : Fin 4 → Fin 4 → FVec F S16 .f32) (q : Fin 4) : FVec F S16 .f32 :=
  acc3 (ld1 posW2 W2 (16 * n)) (ld1 posW3 W3 (4 * n)) fun i => h i q

/-! ## What the tile holds while it computes -/

/-- The buffers a tile computes in. -/
abbrev xV : Memref Cert.KernelIdeal.sig Kind.scVector Space.vmem Cert.KernelIdeal.S512x64 EltTy.f32 := Memref.whole Cert.KernelIdeal.cc0_scratch0
abbrev iV : Memref Cert.KernelIdeal.sig Kind.scVector Space.vmem Cert.KernelIdeal.S25088 EltTy.i32 := Memref.whole Cert.KernelIdeal.cc0_scratch1
abbrev w1V : Memref Cert.KernelIdeal.sig Kind.scVector Space.vmem Cert.KernelIdeal.S25088 EltTy.f32 := Memref.whole Cert.KernelIdeal.cc0_scratch2
abbrev w2V : Memref Cert.KernelIdeal.sig Kind.scVector Space.vmem Cert.KernelIdeal.S6288 EltTy.f32 := Memref.whole Cert.KernelIdeal.cc0_scratch3
abbrev w3V : Memref Cert.KernelIdeal.sig Kind.scVector Space.vmem Cert.KernelIdeal.S1584 EltTy.f32 := Memref.whole Cert.KernelIdeal.cc0_scratch4
abbrev oV : Memref Cert.KernelIdeal.sig Kind.scVector Space.vmem Cert.KernelIdeal.S393x64 EltTy.f32 := Memref.whole Cert.KernelIdeal.cc0_scratch5
abbrev hV : Memref Cert.KernelIdeal.sig Kind.scVector Space.vmem Cert.KernelIdeal.S2x16x16 EltTy.f32 := Memref.whole Cert.KernelIdeal.cc0_scratch6

section State
variable (d : Dev nD) (c : Fin τ.nSC) (s : Fin τ.nSub)
variable (X : S512x64.Idx → F .f32) (I : S25088.Idx → BitVec 32) (W1 : S25088.Idx → F .f32) (W2 : S6288.Idx → F .f32) (W3 : S1584.Idx → F .f32)
variable (SI : Finset S25088.Idx) (A : sProp (MM F))

/-- The tile's buffers: the inputs (of the indices and first weights, the elements `SI`), the output and the hidden rows, and what else it holds. -/
def St (O : S393x64.Idx → F .f32) (H : S2x16x16.Idx → F .f32) : sProp 𝕄 :=
  iprop(((xV).view.loc (V d c s) ↦{fullShare} X) ∗ ((iV).view.loc (V d c s) ↦[SI]{fullShare} I) ∗ ((w1V).view.loc (V d c s) ↦[SI]{fullShare} W1)
    ∗ ((w2V).view.loc (V d c s) ↦{fullShare} W2) ∗ ((w3V).view.loc (V d c s) ↦{fullShare} W3)
    ∗ ((oV).view.loc (V d c s) ↦{fullShare} O) ∗ ((hV).view.loc (V d c s) ↦{fullShare} H) ∗ A)

variable {d c s X I W1 W2 W3 SI A} {O : S393x64.Idx → F .f32} {H : S2x16x16.Idx → F .f32}

theorem rm1 (j : S16.Idx) : (S16.rowMajor j).val = (j 0).val := by
  show (Shape.rowMajorPi S16.size j).val = _
  rw [Shape.rowMajorPi_succ_val]
  simp [Shape.rowMajorPi, Shape.rankPi]

theorem rm2 (j : S1x16.Idx) : (S1x16.rowMajor j).val = (j 1).val := by
  have h : (j 0).val = 0 := by have : (j 0).val < 1 := (j 0).isLt; omega
  show (Shape.rowMajorPi S1x16.size j).val = _
  rw [Shape.rowMajorPi_succ_val, Shape.rowMajorPi_succ_val, h]
  simp [Shape.rowMajorPi, Shape.rankPi]

theorem rm3 (j : S1x1x16.Idx) : (S1x1x16.rowMajor j).val = (j 2).val := by
  have h : (j 0).val = 0 := by have : (j 0).val < 1 := (j 0).isLt; omega
  have h' : (j 1).val = 0 := by have : (j 1).val < 1 := (j 1).isLt; omega
  show (Shape.rowMajorPi S1x1x16.size j).val = _
  rw [Shape.rowMajorPi_succ_val, Shape.rowMajorPi_succ_val, Shape.rowMajorPi_succ_val, h]
  show 0 * _ + ((j 1).val * _ + _) = _
  rw [h']
  simp [Shape.rowMajorPi, Shape.rankPi]

theorem cast1 {α : Type} (v : S16.Idx → α) (h : S16.ShapeCasts S16) (j : S16.Idx) : shapeCast S16 v h j = v j :=
  congrFun (shapeCast_self v h) j
theorem cast3 {α : Type} (v : S1x1x16.Idx → α) (h : S1x1x16.ShapeCasts S16) (j : S16.Idx) :
    shapeCast S16 v h j = v (ix (by decide) ![0, 0, (j 0).val]) := by
  refine shapeCast_apply v h j _ ?_
  rw [rm1, rm3]
  exact Nat.mod_eq_of_lt (j 0).isLt
theorem cast3' {α : Type} (v : S16.Idx → α) (h : S16.ShapeCasts S1x1x16) (j : S1x1x16.Idx) :
    shapeCast S1x1x16 v h j = v (ix posL ![(j 2).val]) := by
  refine shapeCast_apply v h j _ ?_
  rw [rm1, rm3]
  exact Nat.mod_eq_of_lt (j 2).isLt
theorem cast2 {α : Type} (v : S1x16.Idx → α) (h : S1x16.ShapeCasts S16) (j : S16.Idx) :
    shapeCast S16 v h j = v (ix (by decide) ![0, (j 0).val]) := by
  refine shapeCast_apply v h j _ ?_
  rw [rm1, rm2]
  exact Nat.mod_eq_of_lt (j 0).isLt
theorem cast2' {α : Type} (v : S16.Idx → α) (h : S16.ShapeCasts S1x16) (j : S1x16.Idx) :
    shapeCast S1x16 v h j = v (ix posL ![(j 1).val]) := by
  refine shapeCast_apply v h j _ ?_
  rw [rm1, rm2]
  exact Nat.mod_eq_of_lt (j 1).isLt

/-! ### Each load and store -/

variable {α : Type} {w : α} {R' : sProp (MM F)}

theorem stepX {off : Fin 2 → ℕ} {v : BitVec 32} {b : ℕ} (ho : off = xOff v b) {hb : ∀ a, off a + S1x16.size a ≤ S512x64.size a}
    {hl : (xV).view.LoadsAt (Rect.unit (s := S512x64) off S1x16.size hb).toLoadRect} {k : Vec F S1x16 .f32 → TP F c s α}
    (h : Run d (St d c s X I W1 W2 W3 SI A O H) (k (shapeCast S1x16 (rowX X v.toNat b) shapeCasts_S16_S1x16)) w R') :
    Run d (St d c s X I W1 W2 W3 SI A O H) (Prog.lift (.load xV (Rect.unit (s := S512x64) off S1x16.size hb).toLoadRect hl) >>= k) w R' := by
  subst ho
  refine Run.bind (Run.load (d := d) (c := c) (s := s) (m := xV) (r := Rect.unit (s := S512x64) (xOff v b) S1x16.size hb) (f := X)
    (S := Finset.univ) (q := fullShare) (Finset.subset_univ _) ?_) ?_
  · unfold St
    iintro ⟨HX, HR⟩
    isplitl [HX]; · iexact HX
    iintro HX
    isplitl [HX]; · iexact HX
    iexact HR
  · rw [show ((xV).access (Rect.unit (s := S512x64) (xOff v b) S1x16.size hb)).read (Elt F) X
      = shapeCast S1x16 (rowX X v.toNat b) shapeCasts_S16_S1x16 from ?_]
    · exact h
    · funext j
      rw [cast2']
      have h0 : (j 0).val < 1 := (j 0).isLt
      have h1 : (j 1).val < 16 := (j 1).isLt
      refine congrArg X (ix_eq _ _ _ fun a => ?_).symm
      match a with
      | 0 => show v.toNat + 1 * (j 0).val = v.toNat; omega
      | 1 => show b + 1 * (j 1).val = b + (j 1).val % 16; omega

theorem stepI {off : Fin 1 → ℕ} {n : ℕ} (ho : off = ![n]) (hS : ∀ j : S25088.Idx, n ≤ (j 0).val → (j 0).val < n + 16 → j ∈ SI) {hb : ∀ a, off a + S16.size a ≤ S25088.size a}
    {hl : (iV).view.LoadsAt (Rect.unit (s := S25088) off S16.size hb).toLoadRect}
    {k : Vec F S16 .i32 → TP F c s α} (h : Run d (St d c s X I W1 W2 W3 SI A O H) (k (ld1 posI I n)) w R') :
    Run d (St d c s X I W1 W2 W3 SI A O H) (Prog.lift (.load iV (Rect.unit (s := S25088) off S16.size hb).toLoadRect hl) >>= k) w R' := by
  subst ho
  refine Run.bind (Run.load (d := d) (c := c) (s := s) (m := iV) (r := Rect.unit (s := S25088) ![n] S16.size hb) (f := I) (S := SI) (q := fullShare) ?_ ?_) ?_
  · intro j hj
    obtain ⟨x, -, rfl⟩ := Finset.mem_map.mp hj
    have : (x 0).val < 16 := (x 0).isLt
    exact hS _ (show n ≤ n + 1 * (x 0).val by omega) (show n + 1 * (x 0).val < n + 16 by omega)
  · unfold St
    iintro ⟨HX, HI, HR⟩
    isplitl [HI]; · iexact HI
    iintro HI
    isplitl [HX]; · iexact HX
    isplitl [HI]; · iexact HI
    iexact HR
  · rw [show ((iV).access (Rect.unit (s := S25088) ![n] S16.size hb)).read (Elt F) I = ld1 posI I n from ?_]
    · exact h
    · funext j
      refine congrArg I (ix_eq _ _ _ fun a => ?_).symm
      match a with
      | 0 => show n + 1 * (j 0).val = n + (j 0).val; omega

theorem stepW1 {off : Fin 1 → ℕ} {n : ℕ} (ho : off = ![n]) (hS : ∀ j : S25088.Idx, n ≤ (j 0).val → (j 0).val < n + 16 → j ∈ SI) {hb : ∀ a, off a + S16.size a ≤ S25088.size a}
    {hl : (w1V).view.LoadsAt (Rect.unit (s := S25088) off S16.size hb).toLoadRect}
    {k : Vec F S16 .f32 → TP F c s α} (h : Run d (St d c s X I W1 W2 W3 SI A O H) (k (ld1 posI W1 n)) w R') :
    Run d (St d c s X I W1 W2 W3 SI A O H) (Prog.lift (.load w1V (Rect.unit (s := S25088) off S16.size hb).toLoadRect hl) >>= k) w R' := by
  subst ho
  refine Run.bind (Run.load (d := d) (c := c) (s := s) (m := w1V) (r := Rect.unit (s := S25088) ![n] S16.size hb) (f := W1) (S := SI) (q := fullShare) ?_ ?_) ?_
  · intro j hj
    obtain ⟨x, -, rfl⟩ := Finset.mem_map.mp hj
    have : (x 0).val < 16 := (x 0).isLt
    exact hS _ (show n ≤ n + 1 * (x 0).val by omega) (show n + 1 * (x 0).val < n + 16 by omega)
  · unfold St
    iintro ⟨HX, HI, HW, HR⟩
    isplitl [HW]; · iexact HW
    iintro HW
    isplitl [HX]; · iexact HX
    isplitl [HI]; · iexact HI
    isplitl [HW]; · iexact HW
    iexact HR
  · rw [show ((w1V).access (Rect.unit (s := S25088) ![n] S16.size hb)).read (Elt F) W1 = ld1 posI W1 n from ?_]
    · exact h
    · funext j
      refine congrArg W1 (ix_eq _ _ _ fun a => ?_).symm
      match a with
      | 0 => show n + 1 * (j 0).val = n + (j 0).val; omega

theorem stepW2 {off : Fin 1 → ℕ} {n : ℕ} (ho : off = ![n]) {hb : ∀ a, off a + S16.size a ≤ S6288.size a}
    {hl : (w2V).view.LoadsAt (Rect.unit (s := S6288) off S16.size hb).toLoadRect}
    {k : Vec F S16 .f32 → TP F c s α} (h : Run d (St d c s X I W1 W2 W3 SI A O H) (k (ld1 posW2 W2 n)) w R') :
    Run d (St d c s X I W1 W2 W3 SI A O H) (Prog.lift (.load w2V (Rect.unit (s := S6288) off S16.size hb).toLoadRect hl) >>= k) w R' := by
  subst ho
  refine Run.bind (Run.load (d := d) (c := c) (s := s) (m := w2V) (r := Rect.unit (s := S6288) ![n] S16.size hb) (f := W2) (S := Finset.univ) (q := fullShare)
    (Finset.subset_univ _) ?_) ?_
  · unfold St
    iintro ⟨HX, HI, HW, H2, HR⟩
    isplitl [H2]; · iexact H2
    iintro H2
    isplitl [HX]; · iexact HX
    isplitl [HI]; · iexact HI
    isplitl [HW]; · iexact HW
    isplitl [H2]; · iexact H2
    iexact HR
  · rw [show ((w2V).access (Rect.unit (s := S6288) ![n] S16.size hb)).read (Elt F) W2 = ld1 posW2 W2 n from ?_]
    · exact h
    · funext j
      refine congrArg W2 (ix_eq _ _ _ fun a => ?_).symm
      match a with
      | 0 => show n + 1 * (j 0).val = n + (j 0).val; omega

theorem stepW3 {off : Fin 1 → ℕ} {n : ℕ} (ho : off = ![n]) {hb : ∀ a, off a + S16.size a ≤ S1584.size a}
    {hl : (w3V).view.LoadsAt (Rect.unit (s := S1584) off S16.size hb).toLoadRect}
    {k : Vec F S16 .f32 → TP F c s α} (h : Run d (St d c s X I W1 W2 W3 SI A O H) (k (ld1 posW3 W3 n)) w R') :
    Run d (St d c s X I W1 W2 W3 SI A O H) (Prog.lift (.load w3V (Rect.unit (s := S1584) off S16.size hb).toLoadRect hl) >>= k) w R' := by
  subst ho
  refine Run.bind (Run.load (d := d) (c := c) (s := s) (m := w3V) (r := Rect.unit (s := S1584) ![n] S16.size hb) (f := W3) (S := Finset.univ) (q := fullShare)
    (Finset.subset_univ _) ?_) ?_
  · unfold St
    iintro ⟨HX, HI, HW, H2, H3, HR⟩
    isplitl [H3]; · iexact H3
    iintro H3
    isplitl [HX]; · iexact HX
    isplitl [HI]; · iexact HI
    isplitl [HW]; · iexact HW
    isplitl [H2]; · iexact H2
    isplitl [H3]; · iexact H3
    iexact HR
  · rw [show ((w3V).access (Rect.unit (s := S1584) ![n] S16.size hb)).read (Elt F) W3 = ld1 posW3 W3 n from ?_]
    · exact h
    · funext j
      refine congrArg W3 (ix_eq _ _ _ fun a => ?_).symm
      match a with
      | 0 => show n + 1 * (j 0).val = n + (j 0).val; omega

theorem St_h (H' : S2x16x16.Idx → F .f32) : St d c s X I W1 W2 W3 SI A O H ⊢ iprop(((hV).view.loc (V d c s) ↦{fullShare} H)
    ∗ (((hV).view.loc (V d c s) ↦{fullShare} H') -∗ St d c s X I W1 W2 W3 SI A O H')) := by
  unfold St
  iintro ⟨HX, HI, HW, H2, H3, HO, HH, HA⟩
  isplitl [HH]; · iexact HH
  iintro HH
  isplitl [HX]; · iexact HX
  isplitl [HI]; · iexact HI
  isplitl [HW]; · iexact HW
  isplitl [H2]; · iexact H2
  isplitl [H3]; · iexact H3
  isplitl [HO]; · iexact HO
  isplitl [HH]; · iexact HH
  iexact HA

theorem St_o (O' : S393x64.Idx → F .f32) : St d c s X I W1 W2 W3 SI A O H ⊢ iprop(((oV).view.loc (V d c s) ↦{fullShare} O)
    ∗ (((oV).view.loc (V d c s) ↦{fullShare} O') -∗ St d c s X I W1 W2 W3 SI A O' H)) := by
  unfold St
  iintro ⟨HX, HI, HW, H2, H3, HO, HH⟩
  isplitl [HO]; · iexact HO
  iintro HO
  isplitl [HX]; · iexact HX
  isplitl [HI]; · iexact HI
  isplitl [HW]; · iexact HW
  isplitl [H2]; · iexact H2
  isplitl [H3]; · iexact H3
  isplitl [HO]; · iexact HO
  iexact HH

theorem stepH {off : Fin 3 → ℕ} {p q : ℕ} (ho : off = ![p, q, 0]) {hb : ∀ a, off a + S1x1x16.size a ≤ S2x16x16.size a}
    {hl : (hV).view.LoadsAt (Rect.unit (s := S2x16x16) off S1x1x16.size hb).toLoadRect} {k : Vec F S1x1x16 .f32 → TP F c s α}
    (h : Run d (St d c s X I W1 W2 W3 SI A O H) (k (shapeCast S1x1x16 (rowH H p q) shapeCasts_S16_S1x1x16)) w R') :
    Run d (St d c s X I W1 W2 W3 SI A O H) (Prog.lift (.load hV (Rect.unit (s := S2x16x16) off S1x1x16.size hb).toLoadRect hl) >>= k) w R' := by
  subst ho
  refine Run.bind (Run.load (d := d) (c := c) (s := s) (m := hV) (r := Rect.unit (s := S2x16x16) ![p, q, 0] S1x1x16.size hb) (f := H)
    (S := Finset.univ) (q := fullShare) (Finset.subset_univ _) (St_h H)) ?_
  rw [show ((hV).access (Rect.unit (s := S2x16x16) ![p, q, 0] S1x1x16.size hb)).read (Elt F) H
    = shapeCast S1x1x16 (rowH H p q) shapeCasts_S16_S1x1x16 from ?_]
  · exact h
  · funext j
    rw [cast3']
    refine congrArg H (ix_eq _ _ _ fun a => ?_).symm
    have h0 : (j 0).val < 1 := (j 0).isLt
    have h1 : (j 1).val < 1 := (j 1).isLt
    have h2 : (j 2).val < 16 := (j 2).isLt
    match a with
    | 0 => show p + 1 * (j 0).val = p; omega
    | 1 => show q + 1 * (j 1).val = q; omega
    | 2 => show 0 + 1 * (j 2).val = (j 2).val % 16; omega

/-- The output buffer's old contents are loaded before each store and not used. -/
theorem stepO {r : Rect S393x64} {hl : (oV).view.LoadsAt r.toLoadRect} {k : Vec F r.shape .f32 → TP F c s α}
    (h : Run d (St d c s X I W1 W2 W3 SI A O H) (k (((oV).access r).read (Elt F) O)) w R') :
    Run d (St d c s X I W1 W2 W3 SI A O H) (Prog.lift (.load oV r.toLoadRect hl) >>= k) w R' :=
  Run.bind (Run.load (d := d) (c := c) (s := s) (m := oV) (r := r) (f := O) (S := Finset.univ) (q := fullShare) (Finset.subset_univ _) (St_o O)) h

theorem storeH {off : Fin 3 → ℕ} {p q : ℕ} (hq : q < 16) (ho : off = ![p, q, 0]) {v : Fin 4 → Fin 4 → FVec F S16 .f32} {hb : ∀ a, off a + S1x1x16.size a ≤ S2x16x16.size a} {x : FVec F S16 .f32}
    (hx : x = v (Fin.ofNat 4 (q / 4)) (Fin.ofNat 4 (q % 4))) {hc : S16.ShapeCasts S1x1x16}
    {hs : ((hV).access (Rect.unit (s := S2x16x16) off S1x1x16.size hb)).Stores Finset.univ}
    {hm : (Finset.univ : Finset (Rect.unit (s := S2x16x16) off S1x1x16.size hb).shape.Idx) = Finset.univ ∨ ∀ a, (Rect.unit (s := S2x16x16) off S1x1x16.size hb).stride a = 1} :
    Run (c := c) (s := s) d (St d c s X I W1 W2 W3 SI A O (setHid H p v q))
      (Prog.lift (.store hV (Rect.unit (s := S2x16x16) off S1x1x16.size hb) (shapeCast S1x1x16 x hc) Finset.univ hs hm)) ⟨⟩
      (St d c s X I W1 W2 W3 SI A O (setHid H p v (q + 1))) := by
  subst ho
  refine Run.store (d := d) (c := c) (s := s) (m := hV) (r := Rect.unit (s := S2x16x16) ![p, q, 0] S1x1x16.size hb) (f := setHid H p v q) (S := Finset.univ) (Finset.subset_univ _) ?_
  rw [show ((hV).access (Rect.unit (s := S2x16x16) ![p, q, 0] S1x1x16.size hb)).write (Elt F) (setHid H p v q) (shapeCast S1x1x16 x shapeCasts_S16_S1x1x16)
    Finset.univ = setHid H p v (q + 1) from ?_]
  · exact St_h _
  · funext i
    by_cases hi : (i 0).val = p ∧ (i 1).val = q
    · have e : i = ((hV).access (Rect.unit (s := S2x16x16) ![p, q, 0] S1x1x16.size hb)).emb (ix (sh := S1x1x16) (by decide) ![0, 0, (i 2).val]) := by
        have : (i 2).val < 16 := (i 2).isLt
        funext a
        refine Fin.ext ?_
        match a with
        | 0 => show (i 0).val = p + 1 * (0 % 1); omega
        | 1 => show (i 1).val = q + 1 * (0 % 1); omega
        | 2 => show (i 2).val = 0 + 1 * ((i 2).val % 16); omega
      have h2 : setHid H p v (q + 1) i = x (ix posL ![(i 2).val]) := by
        unfold setHid
        rw [if_pos ⟨hi.1, by omega⟩, hi.2, hx]
      rw [h2]
      conv_lhs => rw [e]
      rw [View.write_emb_of_mem _ _ (Finset.mem_univ _)]
      show shapeCast S1x1x16 x _ _ = _
      rw [cast3']
      refine congrArg x (congrArg (ix posL) ?_)
      have : (i 2).val < 16 := (i 2).isLt
      show ![(i 2).val % 16] = _
      rw [Nat.mod_eq_of_lt this]
    · rw [View.write_of_not_mem _ _ _ ?_]
      · unfold setHid
        refine if_congr ?_ rfl rfl
        constructor
        · rintro ⟨a, b⟩; exact ⟨a, by omega⟩
        · rintro ⟨a, b⟩; refine ⟨a, ?_⟩; rcases Nat.lt_succ_iff_lt_or_eq.mp b with b | b; exacts [b, absurd ⟨a, b⟩ hi]
      · intro h
        obtain ⟨y, -, rfl⟩ := Finset.mem_map.mp h
        refine hi ⟨?_, ?_⟩
        · have : (y 0).val < 1 := (y 0).isLt
          show p + 1 * (y 0).val = p; omega
        · have : (y 1).val < 1 := (y 1).isLt
          show q + 1 * (y 1).val = q; omega

theorem storeO {off : Fin 2 → ℕ} {p q : ℕ} (hq : q < 4) (ho : off = ![p, 16 * q]) {v : Fin 4 → FVec F S16 .f32} {hb : ∀ a, off a + S1x16.size a ≤ S393x64.size a} {x : FVec F S16 .f32}
    (hx : x = v ⟨q, hq⟩) {hc : S16.ShapeCasts S1x16}
    {hs : ((oV).access (Rect.unit (s := S393x64) off S1x16.size hb)).Stores Finset.univ}
    {hm : (Finset.univ : Finset (Rect.unit (s := S393x64) off S1x16.size hb).shape.Idx) = Finset.univ ∨ ∀ a, (Rect.unit (s := S393x64) off S1x16.size hb).stride a = 1} :
    Run (c := c) (s := s) d (St d c s X I W1 W2 W3 SI A (setRow O p v q) H)
      (Prog.lift (.store oV (Rect.unit (s := S393x64) off S1x16.size hb) (shapeCast S1x16 x hc) Finset.univ hs hm)) ⟨⟩
      (St d c s X I W1 W2 W3 SI A (setRow O p v (q + 1)) H) := by
  subst ho hx
  refine Run.store (d := d) (c := c) (s := s) (m := oV) (r := Rect.unit (s := S393x64) ![p, 16 * q] S1x16.size hb) (f := setRow O p v q) (S := Finset.univ) (Finset.subset_univ _) ?_
  rw [show ((oV).access (Rect.unit (s := S393x64) ![p, 16 * q] S1x16.size hb)).write (Elt F) (setRow O p v q)
    (shapeCast S1x16 (v ⟨q, hq⟩) shapeCasts_S16_S1x16) Finset.univ = setRow O p v (q + 1) from ?_]
  · exact St_o _
  · funext i
    by_cases hi : (i 0).val = p ∧ (i 1).val / 16 = q
    · have e : i = ((oV).access (Rect.unit (s := S393x64) ![p, 16 * q] S1x16.size hb)).emb (ix (sh := S1x16) (by decide) ![0, (i 1).val % 16]) := by
        funext a
        refine Fin.ext ?_
        match a with
        | 0 => show (i 0).val = p + 1 * (0 % 1); omega
        | 1 => show (i 1).val = 16 * q + 1 * ((i 1).val % 16 % 16); omega
      have h2 : setRow O p v (q + 1) i = v ⟨q, hq⟩ (ix posL ![(i 1).val % 16]) := by
        unfold setRow
        rw [if_pos ⟨hi.1, by omega⟩, hi.2, show Fin.ofNat 4 q = ⟨q, hq⟩ from Fin.ext (Nat.mod_eq_of_lt hq)]
      rw [h2]
      conv_lhs => rw [e]
      rw [View.write_emb_of_mem _ _ (Finset.mem_univ _)]
      show shapeCast S1x16 (v ⟨q, hq⟩) _ _ = _
      rw [cast2']
      refine congrArg (v ⟨q, hq⟩) (congrArg (ix posL) ?_)
      show ![(i 1).val % 16 % 16] = _
      rw [Nat.mod_mod]
    · rw [View.write_of_not_mem _ _ _ ?_]
      · unfold setRow
        refine if_congr ?_ rfl rfl
        constructor
        · rintro ⟨a, b⟩; exact ⟨a, by omega⟩
        · rintro ⟨a, b⟩; exact ⟨a, by by_contra hb; exact hi ⟨a, by omega⟩⟩
      · intro h
        obtain ⟨y, -, rfl⟩ := Finset.mem_map.mp h
        have h1 : (y 1).val < 16 := (y 1).isLt
        refine hi ⟨?_, ?_⟩
        · have : (y 0).val < 1 := (y 0).isLt
          show p + 1 * (y 0).val = p; omega
        · show (16 * q + 1 * (y 1).val) / 16 = q; omega

theorem chk_of {v : BitVec 32} (h : v.toNat < 512) : k0_chk1 v := by
  refine ⟨?_, ?_, ?_, ?_⟩ <;> intro a
  · match a with
    | 0 => show v.toNat + 1 ≤ 512; omega
    | 1 => show 0 + 16 ≤ 64; omega
  · match a with
    | 0 => show v.toNat + 1 ≤ 512; omega
    | 1 => show 16 + 16 ≤ 64; omega
  · match a with
    | 0 => show v.toNat + 1 ≤ 512; omega
    | 1 => show 32 + 16 ≤ 64; omega
  · match a with
    | 0 => show v.toNat + 1 ≤ 512; omega
    | 1 => show 48 + 16 ≤ 64; omega

/-- The elements of the index and weight buffers that row `n` reads. -/
def rowEdges (n : ℕ) : Finset S25088.Idx := Finset.univ.filter fun j => 64 * n ≤ (j 0).val ∧ (j 0).val < 64 * n + 64

theorem idx_lt {n : ℕ} (hn : n < 392) (hI : ∀ j ∈ rowEdges n, (I j).toNat < 512) {i k : ℕ} (hi : i < 4) {hs : S16.Slices ![k] S1} {hp} {hc : S16.ShapeCasts S16} :
    (extractAt ![0] (extractStridedSlice S1 ![k] (shapeCast S16 (ld1 posI I (64 * n + 16 * i)) hc) hs) hp : BitVec 32).toNat < 512 := by
  have hk : k + 1 ≤ 16 := hs.2 0
  rw [shapeCast_self]
  show (lane (ld1 posI I (64 * n + 16 * i)) ⟨k, by omega⟩).toNat < 512
  rw [lane_ld1]
  have e : (ix posI ![64 * n + 16 * i + k] 0).val = 64 * n + 16 * i + k := Nat.mod_eq_of_lt (show 64 * n + 16 * i + k < 25088 by omega)
  exact hI _ (Finset.mem_filter.mpr ⟨Finset.mem_univ _, by rw [e]; omega, by rw [e]; omega⟩)

theorem castX {α : Type} (x : S16.Idx → α) (h : S16.ShapeCasts S1x16) (h' : S1x16.ShapeCasts S16) :
    shapeCast S16 (shapeCast S1x16 x h) h' = x := shapeCast_shapeCast x h h'
theorem castH {α : Type} (x : S16.Idx → α) (h : S16.ShapeCasts S1x1x16) (h' : S1x1x16.ShapeCasts S16) :
    shapeCast S16 (shapeCast S1x1x16 x h) h' = x := shapeCast_shapeCast x h h'
theorem castS {α : Type} (x : S16.Idx → α) (h : S16.ShapeCasts S16) : shapeCast S16 x h = x := shapeCast_self x h

/-! ### The same at a row's word -/

section Word
variable {n : ℕ} {g : BitVec 32}

theorem stepE {off : Fin 1 → ℕ} {i : ℕ} (hn : g.toNat = n) (hn' : n < 392) (hS : rowEdges n ⊆ SI) (hi : i < 4) (ho : off = eOff g i)
    {hb : ∀ a, off a + S16.size a ≤ S25088.size a} {hl : (iV).view.LoadsAt (Rect.unit (s := S25088) off S16.size hb).toLoadRect}
    {k : Vec F S16 .i32 → TP F c s α} (h : Run d (St d c s X I W1 W2 W3 SI A O H) (k (ld1 posI I (64 * n + 16 * i))) w R') :
    Run d (St d c s X I W1 W2 W3 SI A O H) (Prog.lift (.load iV (Rect.unit (s := S25088) off S16.size hb).toLoadRect hl) >>= k) w R' :=
  stepI (n := 64 * n + 16 * i) (by rw [ho, eOff_eq g (by omega) i hi, hn])
    (fun j h1 h2 => hS (Finset.mem_filter.mpr ⟨Finset.mem_univ _, by omega, by omega⟩)) h

theorem stepF {off : Fin 1 → ℕ} {i : ℕ} (hn : g.toNat = n) (hn' : n < 392) (hS : rowEdges n ⊆ SI) (hi : i < 4) (ho : off = eOff g i)
    {hb : ∀ a, off a + S16.size a ≤ S25088.size a} {hl : (w1V).view.LoadsAt (Rect.unit (s := S25088) off S16.size hb).toLoadRect}
    {k : Vec F S16 .f32 → TP F c s α} (h : Run d (St d c s X I W1 W2 W3 SI A O H) (k (ld1 posI W1 (64 * n + 16 * i))) w R') :
    Run d (St d c s X I W1 W2 W3 SI A O H) (Prog.lift (.load w1V (Rect.unit (s := S25088) off S16.size hb).toLoadRect hl) >>= k) w R' :=
  stepW1 (n := 64 * n + 16 * i) (by rw [ho, eOff_eq g (by omega) i hi, hn])
    (fun j h1 h2 => hS (Finset.mem_filter.mpr ⟨Finset.mem_univ _, by omega, by omega⟩)) h

theorem stepV2 {off : Fin 1 → ℕ} (hn : g.toNat = n) (hn' : n ≤ 392) (ho : off = w2Off g)
    {hb : ∀ a, off a + S16.size a ≤ S6288.size a} {hl : (w2V).view.LoadsAt (Rect.unit (s := S6288) off S16.size hb).toLoadRect}
    {k : Vec F S16 .f32 → TP F c s α} (h : Run d (St d c s X I W1 W2 W3 SI A O H) (k (ld1 posW2 W2 (16 * n))) w R') :
    Run d (St d c s X I W1 W2 W3 SI A O H) (Prog.lift (.load w2V (Rect.unit (s := S6288) off S16.size hb).toLoadRect hl) >>= k) w R' :=
  stepW2 (n := 16 * n) (by rw [ho, w2Off_eq g (by omega), hn]) h

theorem stepV3 {off : Fin 1 → ℕ} (hn : g.toNat = n) (hn' : n ≤ 392) (ho : off = w3Off g)
    {hb : ∀ a, off a + S16.size a ≤ S1584.size a} {hl : (w3V).view.LoadsAt (Rect.unit (s := S1584) off S16.size hb).toLoadRect}
    {k : Vec F S16 .f32 → TP F c s α} (h : Run d (St d c s X I W1 W2 W3 SI A O H) (k (ld1 posW3 W3 (4 * n))) w R') :
    Run d (St d c s X I W1 W2 W3 SI A O H) (Prog.lift (.load w3V (Rect.unit (s := S1584) off S16.size hb).toLoadRect hl) >>= k) w R' :=
  stepW3 (n := 4 * n) (by rw [ho, w3Off_eq g (by omega), hn]) h

theorem stepOther {off : Fin 3 → ℕ} {q : ℕ} (hn : g.toNat = n) (ho : off = hOther g q)
    {hb : ∀ a, off a + S1x1x16.size a ≤ S2x16x16.size a} {hl : (hV).view.LoadsAt (Rect.unit (s := S2x16x16) off S1x1x16.size hb).toLoadRect}
    {k : Vec F S1x1x16 .f32 → TP F c s α}
    (h : Run d (St d c s X I W1 W2 W3 SI A O H) (k (shapeCast S1x1x16 (rowH H ((n + 1) % 2) q) shapeCasts_S16_S1x1x16)) w R') :
    Run d (St d c s X I W1 W2 W3 SI A O H) (Prog.lift (.load hV (Rect.unit (s := S2x16x16) off S1x1x16.size hb).toLoadRect hl) >>= k) w R' :=
  stepH (p := (n + 1) % 2) (q := q) (by rw [ho, hOther_eq, hn]) h

/-- The hidden buffer's old contents are loaded before each store and not used. -/
theorem stepOwn {off : Fin 3 → ℕ} {q : ℕ} (ho : off = hOwn g q) {hb : ∀ a, off a + S1x1x16.size a ≤ S2x16x16.size a}
    {hl : (hV).view.LoadsAt (Rect.unit (s := S2x16x16) off S1x1x16.size hb).toLoadRect} {k : Vec F S1x1x16 .f32 → TP F c s α}
    (h : Run d (St d c s X I W1 W2 W3 SI A O H) (k (((hV).access (Rect.unit (s := S2x16x16) off S1x1x16.size hb)).read (Elt F) H)) w R') :
    Run d (St d c s X I W1 W2 W3 SI A O H) (Prog.lift (.load hV (Rect.unit (s := S2x16x16) off S1x1x16.size hb).toLoadRect hl) >>= k) w R' :=
  Run.bind (Run.load (d := d) (c := c) (s := s) (m := hV) (r := Rect.unit (s := S2x16x16) off S1x1x16.size hb) (f := H) (S := Finset.univ) (q := fullShare)
    (Finset.subset_univ _) (St_h H)) h

theorem stepChk {P : Prop} {dP : Decidable P} (hP : P) {R : sProp (MM F)} {k : PLift P → TP F c s α} (h : Run d R (k ⟨hP⟩) w R') :
    Run d R (Prog.lift (TpuEff.assume P dP) >>= k) w R' := Run.bind (Run.assume hP) h

theorem storeOwn {off : Fin 3 → ℕ} {q : ℕ} {v : Fin 4 → Fin 4 → FVec F S16 .f32} (hn : g.toNat = n) (hq : q < 16) (ho : off = hOwn g q)
    {hb : ∀ a, off a + S1x1x16.size a ≤ S2x16x16.size a} {x : FVec F S16 .f32}
    (hx : x = v (Fin.ofNat 4 (q / 4)) (Fin.ofNat 4 (q % 4))) {hc : S16.ShapeCasts S1x1x16}
    {hs : ((hV).access (Rect.unit (s := S2x16x16) off S1x1x16.size hb)).Stores Finset.univ}
    {hm : (Finset.univ : Finset (Rect.unit (s := S2x16x16) off S1x1x16.size hb).shape.Idx) = Finset.univ ∨ ∀ a, (Rect.unit (s := S2x16x16) off S1x1x16.size hb).stride a = 1}
    {k : PUnit → TP F c s α} (h : Run d (St d c s X I W1 W2 W3 SI A O (setHid H (n % 2) v (q + 1))) (k ⟨⟩) w R') :
    Run (c := c) (s := s) d (St d c s X I W1 W2 W3 SI A O (setHid H (n % 2) v q))
      (Prog.lift (.store hV (Rect.unit (s := S2x16x16) off S1x1x16.size hb) (shapeCast S1x1x16 x hc) Finset.univ hs hm) >>= k) w R' :=
  Run.bind (storeH hq (by rw [ho, hOwn_eq, hn]) hx) h

theorem storeOwn0 {off : Fin 3 → ℕ} (v : Fin 4 → Fin 4 → FVec F S16 .f32) (hn : g.toNat = n) (ho : off = hOwn g 0)
    {hb : ∀ a, off a + S1x1x16.size a ≤ S2x16x16.size a} {x : FVec F S16 .f32}
    (hx : x = v 0 0) {hc : S16.ShapeCasts S1x1x16}
    {hs : ((hV).access (Rect.unit (s := S2x16x16) off S1x1x16.size hb)).Stores Finset.univ}
    {hm : (Finset.univ : Finset (Rect.unit (s := S2x16x16) off S1x1x16.size hb).shape.Idx) = Finset.univ ∨ ∀ a, (Rect.unit (s := S2x16x16) off S1x1x16.size hb).stride a = 1}
    {k : PUnit → TP F c s α} (h : Run d (St d c s X I W1 W2 W3 SI A O (setHid H (n % 2) v 1)) (k ⟨⟩) w R') :
    Run (c := c) (s := s) d (St d c s X I W1 W2 W3 SI A O H)
      (Prog.lift (.store hV (Rect.unit (s := S2x16x16) off S1x1x16.size hb) (shapeCast S1x1x16 x hc) Finset.univ hs hm) >>= k) w R' := by
  have e0 : setHid H (n % 2) v 0 = H := by
    funext i; unfold setHid; exact if_neg (by omega)
  have := storeOwn (d := d) (c := c) (s := s) (X := X) (I := I) (W1 := W1) (W2 := W2) (W3 := W3) (SI := SI) (A := A) (O := O) (H := H)
    (q := 0) (v := v) hn (by omega) ho (hb := hb) (x := x) hx (hc := hc) (hs := hs) (hm := hm) h
  rwa [e0] at this

theorem storeOut {off : Fin 2 → ℕ} {q : ℕ} {v : Fin 4 → FVec F S16 .f32} (hn : g.toNat = n) (hq : q < 4) (ho : off = oOff g (16 * q))
    {hb : ∀ a, off a + S1x16.size a ≤ S393x64.size a} {x : FVec F S16 .f32}
    (hx : x = v ⟨q, hq⟩) {hc : S16.ShapeCasts S1x16}
    {hs : ((oV).access (Rect.unit (s := S393x64) off S1x16.size hb)).Stores Finset.univ}
    {hm : (Finset.univ : Finset (Rect.unit (s := S393x64) off S1x16.size hb).shape.Idx) = Finset.univ ∨ ∀ a, (Rect.unit (s := S393x64) off S1x16.size hb).stride a = 1}
    {k : PUnit → TP F c s α} (h : Run d (St d c s X I W1 W2 W3 SI A (setRow O n v (q + 1)) H) (k ⟨⟩) w R') :
    Run (c := c) (s := s) d (St d c s X I W1 W2 W3 SI A (setRow O n v q) H)
      (Prog.lift (.store oV (Rect.unit (s := S393x64) off S1x16.size hb) (shapeCast S1x16 x hc) Finset.univ hs hm) >>= k) w R' :=
  Run.bind (storeO hq (by rw [ho, oOff_eq, hn]) hx) h

theorem storeOut0 {off : Fin 2 → ℕ} (v : Fin 4 → FVec F S16 .f32) (hn : g.toNat = n) (ho : off = oOff g 0)
    {hb : ∀ a, off a + S1x16.size a ≤ S393x64.size a} {x : FVec F S16 .f32}
    (hx : x = v 0) {hc : S16.ShapeCasts S1x16}
    {hs : ((oV).access (Rect.unit (s := S393x64) off S1x16.size hb)).Stores Finset.univ}
    {hm : (Finset.univ : Finset (Rect.unit (s := S393x64) off S1x16.size hb).shape.Idx) = Finset.univ ∨ ∀ a, (Rect.unit (s := S393x64) off S1x16.size hb).stride a = 1}
    {k : PUnit → TP F c s α} (h : Run d (St d c s X I W1 W2 W3 SI A (setRow O n v 1) H) (k ⟨⟩) w R') :
    Run (c := c) (s := s) d (St d c s X I W1 W2 W3 SI A O H)
      (Prog.lift (.store oV (Rect.unit (s := S393x64) off S1x16.size hb) (shapeCast S1x16 x hc) Finset.univ hs hm) >>= k) w R' := by
  have e0 : setRow O n v 0 = O := by
    funext i; unfold setRow; exact if_neg (by omega)
  have := storeOut (d := d) (c := c) (s := s) (X := X) (I := I) (W1 := W1) (W2 := W2) (W3 := W3) (SI := SI) (A := A) (O := O) (H := H)
    (q := 0) (v := v) hn (by omega) ho (hb := hb) (x := x) hx (hc := hc) (hs := hs) (hm := hm) h
  rwa [e0] at this

end Word

/-- The hidden rows the half `p` holds. -/
def hidOf (H : S2x16x16.Idx → F .f32) (p : ℕ) (i q : Fin 4) : FVec F S16 .f32 := rowH H p (4 * i.val + q.val)

end State
end Cert.Proof.Mlp
end
-- ==== Proof.Dma.lean ====
/-
  A tile's copies and their waits, run.
-/
module

public import proofs.«01_k».proof.Proof.Row

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MM F

section
variable {d : Dev nD} {c : Fin τ.nSC} {s : Fin τ.nSub} {α : Type}

/-- What the tile owes the launch, with the waits it has recorded since `W`. -/
def OW (d : Dev nD) (c : Fin τ.nSC) (s : Fin τ.nSub) (O : CellTallies nD τ sig (HIx 1)) (W : Waits sig (HIx 1)) : sProp 𝕄 :=
  iprop(Transfers.MayWaits (V d c s) (default : HIx 1) O ∗ ∃ W', ⌜∀ p ∈ W', p ∈ W ∨ p.2 = none⌝ ∗ owes (V d c s) O W')

/-- A step on the first of the slots after `B`. -/
theorem Run.inL {B a a' R : sProp (MM F)} {p : TP F c s α} {v : α} (h : Run d iprop(B ∗ a) p v iprop(B ∗ a')) :
    Run d iprop(B ∗ a ∗ R) p v iprop(B ∗ a' ∗ R) :=
  (h.frame' R).conseq (by iintro ⟨HB, Ha, HR⟩; isplitl [HB Ha]; (· isplitl [HB] <;> iassumption); iexact HR)
    (by iintro ⟨⟨HB, Ha⟩, HR⟩; isplitl [HB]; (· iexact HB); isplitl [Ha] <;> iassumption)

/-- A step on the slots after the first. -/
theorem Run.inR {B a R R' : sProp (MM F)} {p : TP F c s α} {v : α} (h : Run d iprop(B ∗ R) p v iprop(B ∗ R')) :
    Run d iprop(B ∗ a ∗ R) p v iprop(B ∗ a ∗ R') :=
  (h.frame' a).conseq (by iintro ⟨HB, Ha, HR⟩; isplitl [HB HR]; (· isplitl [HB] <;> iassumption); iexact Ha)
    (by iintro ⟨⟨HB, HR⟩, Ha⟩; isplitl [HB]; (· iexact HB); isplitl [Ha] <;> iassumption)

variable {sp sp' : Space} {sh : Shape} {e : EltTy}
  {src : Memref sig .scVector sp sh e} {dst : Memref sig .scVector sp' sh e} {sem : DmaSem sig}
  {hsrc : src.view.WordExact} {hdst : dst.view.WordExact} {hsem : DmaTarget.Typed (nD := nD) sp (.dma sem) (DmaTarget.here dst : DmaTarget nD τ sig (Proc.scVector c s) sp' sh e)}
  {q : PosShare TreeShare} {fs : Buf (Elt F) (src.view.loc (V d c s))} {fd : Buf (Elt F) (dst.view.loc (V d c s))} {B : sProp (MM F)}

/-- A copy issued alone on its semaphore. -/
theorem enq (N : ℕ) (hN : dst.view.amount (.dma sem) = N) (hN0 : 0 < N) :
    Run (c := c) (s := s) d iprop(B ∗ (src.view.loc (V d c s) ↦[src.view.set]{q} fs) ∗ (dst.view.loc (V d c s) ↦[dst.view.set]{fullShare} fd)
        ∗ semVal (V d c s, .dma sem) 0)
      (Prog.lift (.enqueueDma src (.here dst) (.dma sem) hsrc hdst hsem)) PUnit.unit
      iprop(B ∗ Transfers.Flight countersEmb (V d c s) (.dma sem) (default : HIx 1) N
        iprop((dst.view.loc (V d c s) ↦[dst.view.set]{fullShare} (dst.view.write (Elt F) fd (src.view.read (Elt F) fs) Finset.univ))
          ∗ (src.view.loc (V d c s) ↦[src.view.set]{q} fs))) := by
  intro Q
  iintro ⟨⟨HB, Hs, Hd, Hv⟩, HQ⟩
  iapply (Transfers.wp_dmaLocal countersEmb 𝒱₀ (V d c s) none (default : HIx 1) N hN hN0 (Finset.Subset.refl _)) $$ [Hs Hd Hv]
  · isplitl [Hs]; · iexact Hs
    isplitl [Hd]; · iexact Hd
    iexact Hv
  iintro Hf
  iapply (Entails.of_eq (wp_pure _ _ _ _ _).symm)
  imodintro
  iapply HQ
  isplitl [HB]; · iexact HB
  iexact Hf

/-- The wait for a copy alone on its semaphore. -/
theorem wt {sp₁ sp₂ : Space} {s₁ s₂ : Shape} {e₁ e₂ : EltTy} {srcw : Memref sig .scVector sp₁ s₁ e₁} {dstw : Memref sig .scVector sp₂ s₂ e₂}
    {hsrc : srcw.view.WordExact} {hdst : dstw.view.WordExact}
    {N : ℕ} {D D' : sProp (MM F)} {O : CellTallies nD τ sig (HIx 1)} {W : Waits sig (HIx 1)} (hN : dstw.view.dmaCredit = N) (hD : D ⊢ D') :
    Run (c := c) (s := s) d iprop(OW d c s O W ∗ Transfers.Flight countersEmb (V d c s) (.dma sem) (default : HIx 1) N D)
      (Prog.lift (.waitDma2 sem srcw dstw hsrc hdst)) PUnit.unit iprop(OW d c s O W ∗ D' ∗ semVal (V d c s, .dma sem) 0) := by
  intro Q
  unfold OW
  iintro ⟨⟨⟨#Hmw, %W', %hW, HO⟩, Hf⟩, HQ⟩
  iapply (Transfers.wp_waitLocalO countersEmb 𝒱₀ (V d c s) none (default : HIx 1) hN) $$ [Hf HO]
  · isplitl [Hf]; · iexact Hf
    isplitl [HO]; · iexact HO
    iapply (Transfers.MayWaits.elim (SemLoc.dma sem)); iexact Hmw
  iintro ⟨HD, Hv, HO⟩
  iapply (Entails.of_eq (wp_pure _ _ _ _ _).symm)
  imodintro
  iapply HQ
  isplitl [HO]
  · isplitr; · iexact Hmw
    iexists _; isplitr
    swap; · iexact HO
    ipureintro; intro p hp
    rcases Finset.mem_insert.mp hp with hp | hp; · exact .inr (hp ▸ rfl)
    exact hW p hp
  isplitl [HD]; · iapply hD; iexact HD
  iexact Hv

/-- A copy issued on a semaphore that two copies use. -/
theorem enqB {D : Fin 2 → sProp (MM F)} {j : ℕ} (N : ℕ) (hN : dst.view.amount (.dma sem) = N) (hj : j < 2)
    (hD : iprop((dst.view.loc (V d c s) ↦[dst.view.set]{fullShare} (dst.view.write (Elt F) fd (src.view.read (Elt F) fs) Finset.univ))
          ∗ (src.view.loc (V d c s) ↦[src.view.set]{q} fs)) ⊢ D ⟨j, hj⟩) :
    Run (c := c) (s := s) d iprop(B ∗ ((src.view.loc (V d c s) ↦[src.view.set]{q} fs) ∗ (dst.view.loc (V d c s) ↦[dst.view.set]{fullShare} fd))
        ∗ Transfers.Batch countersEmb (V d c s) (.dma sem) (default : HIx 1) N D j 0)
      (Prog.lift (.enqueueDma src (.here dst) (.dma sem) hsrc hdst hsem)) PUnit.unit
      iprop(B ∗ Transfers.Batch countersEmb (V d c s) (.dma sem) (default : HIx 1) N D (j + 1) 0) := by
  intro Q
  iintro ⟨⟨HB, ⟨Hs, Hd⟩, Hv⟩, HQ⟩
  iapply (Transfers.wp_dmaBatch countersEmb 𝒱₀ (V d c s) none (via := .same) (D := D) (j := j) (u := 0) (default : HIx 1) N hN (Finset.Subset.refl _) hj (Nat.zero_le _) hD) $$ [Hs Hd Hv]
  · isplitl [Hs]; · iexact Hs
    isplitl [Hd]; · iexact Hd
    iexact Hv
  iintro Hf
  iapply (Entails.of_eq (wp_pure _ _ _ _ _).symm)
  imodintro
  iapply HQ
  isplitl [HB]; · iexact HB
  iexact Hf

/-- The first of the two waits. -/
theorem wtB {sp₁ sp₂ : Space} {s₁ s₂ : Shape} {e₁ e₂ : EltTy} {srcw : Memref sig .scVector sp₁ s₁ e₁} {dstw : Memref sig .scVector sp₂ s₂ e₂}
    {hsrc : srcw.view.WordExact} {hdst : dstw.view.WordExact}
    {N : ℕ} {D : Fin 2 → sProp (MM F)} {O : CellTallies nD τ sig (HIx 1)} {W : Waits sig (HIx 1)} (hN : dstw.view.dmaCredit = N) (hN0 : 0 < N) :
    Run (c := c) (s := s) d iprop(OW d c s O W ∗ Transfers.Batch countersEmb (V d c s) (.dma sem) (default : HIx 1) N D 2 0)
      (Prog.lift (.waitDma2 sem srcw dstw hsrc hdst)) PUnit.unit
      iprop(OW d c s O W ∗ Transfers.Batch countersEmb (V d c s) (.dma sem) (default : HIx 1) N D 2 N) := by
  intro Q
  unfold OW
  iintro ⟨⟨⟨#Hmw, %W', %hW, HO⟩, Hf⟩, HQ⟩
  iapply (Transfers.wp_waitBatchO countersEmb 𝒱₀ (V d c s) none (u := 0) (n := 2) (default : HIx 1) hN (by omega)) $$ [Hf HO]
  · isplitl [Hf]; · iexact Hf
    isplitl [HO]; · iexact HO
    iapply (Transfers.MayWaits.elim (SemLoc.dma sem)); iexact Hmw
  rw [Nat.zero_add]
  iintro ⟨HD, HO⟩
  iapply (Entails.of_eq (wp_pure _ _ _ _ _).symm)
  imodintro
  iapply HQ
  isplitl [HO]
  · isplitr; · iexact Hmw
    iexists _; isplitr
    swap; · iexact HO
    ipureintro; intro p hp
    rcases Finset.mem_insert.mp hp with hp | hp; · exact .inr (hp ▸ rfl)
    exact hW p hp
  iexact HD

/-- The second of the two waits. -/
theorem wtB' {sp₁ sp₂ : Space} {s₁ s₂ : Shape} {e₁ e₂ : EltTy} {srcw : Memref sig .scVector sp₁ s₁ e₁} {dstw : Memref sig .scVector sp₂ s₂ e₂}
    {hsrc : srcw.view.WordExact} {hdst : dstw.view.WordExact}
    {N : ℕ} {D : Fin 2 → sProp (MM F)} {O : CellTallies nD τ sig (HIx 1)} {W : Waits sig (HIx 1)} (hN : dstw.view.dmaCredit = N) (hN0 : 0 < N) :
    Run (c := c) (s := s) d iprop(OW d c s O W ∗ Transfers.Batch countersEmb (V d c s) (.dma sem) (default : HIx 1) N D 2 N)
      (Prog.lift (.waitDma2 sem srcw dstw hsrc hdst)) PUnit.unit
      iprop(OW d c s O W ∗ (D 0 ∗ D 1) ∗ semVal (V d c s, .dma sem) 0) := by
  intro Q
  unfold OW
  iintro ⟨⟨⟨#Hmw, %W', %hW, HO⟩, Hf⟩, HQ⟩
  iapply (Transfers.wp_waitBatchLastO countersEmb 𝒱₀ (V d c s) none (u := N) (n := 2) (default : HIx 1) hN hN0 (by omega)) $$ [Hf HO]
  · isplitl [Hf]; · iexact Hf
    isplitl [HO]; · iexact HO
    iapply (Transfers.MayWaits.elim (SemLoc.dma sem)); iexact Hmw
  iintro ⟨HD, Hv, HO⟩
  ihave HD' := (Entails.of_eq (show bigSep Finset.univ D = iprop(D 0 ∗ D 1) by
    rw [show (Finset.univ : Finset (Fin 2)) = insert 0 {1} by decide, SparseCore.bigSep_insert' (by decide), bigSep_singleton])) $$ HD
  iapply (Entails.of_eq (wp_pure _ _ _ _ _).symm)
  imodintro
  iapply HQ
  isplitl [HO]
  · isplitr; · iexact Hmw
    iexists _; isplitr
    swap; · iexact HO
    ipureintro; intro p hp
    rcases Finset.mem_insert.mp hp with hp | hp; · exact .inr (hp ▸ rfl)
    exact hW p hp
  isplitl [HD']; · iexact HD'
  iexact Hv

/-- A copy into a buffer every tile writes: it marks what it writes. -/
theorem enqW (ιw : ℕ) (N : ℕ) (hN : dst.view.amount (.dma sem) = N) (hN0 : 0 < N) {qd : PosShare TreeShare} {g : Buf (Elt F) (dst.view.loc (V d c s))}
    {W : Finset (Idx (dst.view.loc (V d c s)))} (hw : dst.view.Admitted (Elt F) (fun i => some (g i)) (src.view.read (Elt F) fs) Finset.univ) :
    Run (c := c) (s := s) d iprop(B ∗ wmInv EW ιw ∗ (src.view.loc (V d c s) ↦[src.view.set]{q} fs)
        ∗ (willBeTo EW (dst.view.loc (V d c s)) Finset.univ qd fd (fun i => some (g i)) W) ∗ semVal (V d c s, .dma sem) 0)
      (Prog.lift (.enqueueDma src (.here dst) (.dma sem) hsrc hdst hsem)) PUnit.unit
      iprop(B ∗ Transfers.Flight countersEmb (V d c s) (.dma sem) (default : HIx 1) N
        iprop((willBeTo EW (dst.view.loc (V d c s)) Finset.univ qd fd (fun i => some (g i)) (W ∪ dst.view.set))
          ∗ (src.view.loc (V d c s) ↦[src.view.set]{q} fs))) := by
  intro Q
  iintro ⟨⟨HB, Hw, Hs, Hd, Hv⟩, HQ⟩
  imod (Transfers.flight_alloc countersEmb hN0 iprop((willBeTo EW (dst.view.loc (V d c s)) Finset.univ qd fd (fun i => some (g i)) (W ∪ dst.view.set))
          ∗ (src.view.loc (V d c s) ↦[src.view.set]{q} fs)) (g := (V d c s, SemLoc.dma sem))) $$ Hv with ⟨%γ, %δ, %κ, #Hinv, Hγ, Hδ⟩
  iapply (wp_enqueueDma 𝒱₀ (V d c s) none Set.univ (default : HIx 1) N hN) $$ [Hs Hd Hw] [Hγ]
  · isplitl [Hs]; · iexact Hs
    iapply (willBeTo_writeUpdate (emb := EW) (ιwm := ιw) (V d c s) (Finset.subset_univ _) hw)
    isplitl [Hw] <;> iassumption
  · iapply (Transfers.flight_creditUpdate countersEmb (δ := δ))
    isplitr; · iexact Hinv
    iexact Hγ
  iintro Hcred
  iapply (Entails.of_eq (wp_pure _ _ _ _ _).symm)
  imodintro
  iapply HQ
  isplitl [HB]; · iexact HB
  iapply (Transfers.flight_intro countersEmb (V d c s) (κ := κ))
  isplitr; · iexact Hinv
  isplitl [Hδ] <;> iassumption

end
end Cert.Proof.Mlp
end
-- ==== Proof.Values.lean ====
/-
  What a tile's buffers hold, row by row, and what that is in terms of the whole inputs.
-/
module

public import proofs.«01_k».proof.Proof.Row

@[expose] public section

noncomputable section

namespace Cert.Proof.Mlp

open Cert.KernelIdeal Cert.KernelIdeal.Gen
open Idealize.ShloMosaic

variable {F : FTy → Type} [FloatOps F]

/-- The first gene of a tile. -/
def gene0 (c s : ℕ) : ℕ := 2 * ((2 * s + c) * 6250 / 32)

theorem posXT : ∀ a, 0 < S512x64.size a := posX
theorem posE : ∀ a, 0 < S800000.size a := by decide
theorem posM : ∀ a, 0 < S200000.size a := by decide
theorem posP : ∀ a, 0 < S50016.size a := by decide

/-- The tile's stretch of a vector, from position `b`. -/
def seg {α : Type} {m : ℕ} (n : ℕ) (hp : ∀ a, 0 < (⟨1, ![m]⟩ : Shape).size a) (A : (⟨1, ![m]⟩ : Shape).Idx → α) (b : ℕ) :
    (⟨1, ![n]⟩ : Shape).Idx → α := fun j => A (ix hp ![b + (j 0).val])

/-- The second weights as the tile holds them: sixteen words of what was there, then its stretch of the whole. -/
def w2L {α : Type} (f : S6288.Idx → α) (A : S200000.Idx → α) (b : ℕ) : S6288.Idx → α :=
  fun j => if (j 0).val < 16 then f j else A (ix posM ![b + (j 0).val - 16])

theorem ld1_seg {α : Type} {m n : ℕ} (hp : ∀ a, 0 < (⟨1, ![m]⟩ : Shape).size a) (hn : ∀ a, 0 < (⟨1, ![n]⟩ : Shape).size a)
    (A : (⟨1, ![m]⟩ : Shape).Idx → α) (b o : ℕ) (h : o + 16 ≤ n) : ld1 hn (seg n hp A b) o = ld1 hp A (b + o) := by
  funext j
  have hj : (j 0).val < 16 := (j 0).isLt
  refine congrArg A (congrArg (ix hp) ?_)
  show ![b + (o + (j 0).val) % n] = ![b + o + (j 0).val]
  rw [Nat.mod_eq_of_lt (by omega), Nat.add_assoc]

theorem ld1_w2L {α : Type} (f : S6288.Idx → α) (A : S200000.Idx → α) (b o : ℕ) (h0 : 16 ≤ o) (h : o + 16 ≤ 6288) :
    ld1 posW2 (w2L f A b) o = ld1 posM A (b + o - 16) := by
  funext j
  have hj : (j 0).val < 16 := (j 0).isLt
  have e : ((ix posW2 ![o + (j 0).val]) 0).val = o + (j 0).val := by
    show (o + (j 0).val) % 6288 = _
    exact Nat.mod_eq_of_lt (by omega)
  show w2L f A b (ix posW2 ![o + (j 0).val]) = _
  unfold w2L
  rw [e, if_neg (by omega)]
  refine congrArg A (congrArg (ix posM) ?_)
  rw [show b + (o + (j 0).val) - 16 = b + o - 16 + (j 0).val by omega]

/-- The output of gene `G`, a quarter of its lanes. -/
def resV (X : S512x64.Idx → F .f32) (I : S800000.Idx → BitVec 32) (W1 : S800000.Idx → F .f32) (W2 : S200000.Idx → F .f32) (W3 : S50016.Idx → F .f32)
    (G : ℕ) (q : Fin 4) : FVec F S16 .f32 :=
  acc3 (ld1 posM W2 (16 * G)) (ld1 posP W3 (4 * (G + 1))) fun i => featV X (ld1 posE I (64 * G + 16 * i.val)) (ld1 posE W1 (64 * G + 16 * i.val)) q

/-- The whole output: a row per gene. -/
def resF (X : S512x64.Idx → F .f32) (I : S800000.Idx → BitVec 32) (W1 : S800000.Idx → F .f32) (W2 : S200000.Idx → F .f32) (W3 : S50016.Idx → F .f32) :
    S12500x64.Idx → F .f32 := fun j => resV X I W1 W2 W3 (j 0).val (Fin.ofNat 4 ((j 1).val / 16)) (ix posL ![(j 1).val % 16])

section Rows
variable (X : S512x64.Idx → F .f32) (I : S25088.Idx → BitVec 32) (W1 : S25088.Idx → F .f32) (W2 : S6288.Idx → F .f32) (W3 : S1584.Idx → F .f32)
variable (O : S393x64.Idx → F .f32) (H : S2x16x16.Idx → F .f32)

/-- The hidden buffer after `n` rows. -/
def hAt : ℕ → S2x16x16.Idx → F .f32
  | 0 => H
  | n + 1 => setHid (hAt n) (n % 2) (hidV X I W1 n) 16

/-- The output buffer after `n` rows. -/
def oAt : ℕ → S393x64.Idx → F .f32
  | 0 => O
  | n + 1 => setRow (oAt n) n (outV W2 W3 n (hidOf (hAt X I W1 H n) ((n + 1) % 2))) 4

theorem hidOf_hAt (n : ℕ) (i q : Fin 4) : hidOf (hAt X I W1 H (n + 1)) ((n + 2) % 2) i q = hidV X I W1 n i q := by
  funext j
  have hj : (j 0).val < 16 := (j 0).isLt
  have hi := i.isLt
  have hq := q.isLt
  show setHid _ (n % 2) _ 16 (ix posH ![(n + 2) % 2, 4 * i.val + q.val, (j 0).val]) = _
  unfold setHid
  have e0 : ((ix posH ![(n + 2) % 2, 4 * i.val + q.val, (j 0).val]) 0).val = n % 2 := by
    show (n + 2) % 2 % 2 = _
    omega
  have e1 : ((ix posH ![(n + 2) % 2, 4 * i.val + q.val, (j 0).val]) 1).val = 4 * i.val + q.val := by
    show (4 * i.val + q.val) % 16 = _
    omega
  have e2 : ((ix posH ![(n + 2) % 2, 4 * i.val + q.val, (j 0).val]) 2).val = (j 0).val := by
    show (j 0).val % 16 = _
    omega
  rw [if_pos ⟨e0, by omega⟩, e1, e2]
  rw [show Fin.ofNat 4 ((4 * i.val + q.val) / 4) = i from Fin.ext (by show (4 * i.val + q.val) / 4 % 4 = _; omega),
    show Fin.ofNat 4 ((4 * i.val + q.val) % 4) = q from Fin.ext (by show (4 * i.val + q.val) % 4 % 4 = _; omega)]
  exact congrArg _ (ix_eq _ _ _ fun a => by
    match a with
    | 0 => rfl)

theorem oAt_row (r : ℕ) (i : S393x64.Idx) (hr : (i 0).val = r + 1) : ∀ n, r + 1 < n →
    oAt X I W1 W2 W3 O H n i = outV W2 W3 (r + 1) (hidV X I W1 r) (Fin.ofNat 4 ((i 1).val / 16)) (ix posL ![(i 1).val % 16])
  | 0, h => absurd h (Nat.not_lt_zero _)
  | n + 1, h => by
    have h1 : (i 1).val < 64 := (i 1).isLt
    show setRow _ n _ 4 i = _
    unfold setRow
    by_cases e : r + 1 = n
    · subst e
      rw [if_pos ⟨hr, by omega⟩]
      rw [show hidOf (hAt X I W1 H (r + 1)) ((r + 1 + 1) % 2) = hidV X I W1 r from funext fun a => funext fun b => hidOf_hAt X I W1 H r a b]
    · rw [if_neg (fun x => e (hr.symm.trans x.1)), oAt_row r i hr n (by omega)]

end Rows

/-- A tile's row is its gene's output. -/
theorem outV_seg (X : S512x64.Idx → F .f32) (I : S800000.Idx → BitVec 32) (W1 : S800000.Idx → F .f32) (W2 : S200000.Idx → F .f32) (W3 : S50016.Idx → F .f32)
    (f : S6288.Idx → F .f32) (g r : ℕ) (hr : r < 392) (q : Fin 4) :
    outV (w2L f W2 (16 * g)) (seg 1584 posP W3 (4 * g)) (r + 1) (hidV X (seg 25088 posE I (64 * g)) (seg 25088 posE W1 (64 * g)) r) q
      = resV X I W1 W2 W3 (g + r) q := by
  unfold outV resV
  rw [ld1_w2L f W2 _ _ (by omega) (by omega), ld1_seg posP posW3 W3 _ _ (by omega)]
  rw [show 16 * g + 16 * (r + 1) - 16 = 16 * (g + r) by omega, show 4 * g + 4 * (r + 1) = 4 * (g + r + 1) by omega]
  refine congrArg (acc3 _ _) (funext fun i => ?_)
  have hi := i.isLt
  unfold hidV
  rw [ld1_seg posE posI I _ _ (by omega), ld1_seg posE posI W1 _ _ (by omega),
    show 64 * g + (64 * r + 16 * i.val) = 64 * (g + r) + 16 * i.val by omega]

end Cert.Proof.Mlp
end
-- ==== Proof.Tile.lean ====
/-
  The task of one tile: its copies in, its rows, its copy out.
-/
module

public import proofs.«01_k».proof.Proof.Dma
public import proofs.«01_k».proof.Proof.Values

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MM F

/-! ## The buffers and their stretches -/

abbrev bX : Memref sig .scVector .vmem S512x64 .f32 := Memref.whole cc0_scratch0
abbrev bI : Memref sig .scVector .vmem S25088 .i32 := Memref.whole cc0_scratch1
abbrev bW1 : Memref sig .scVector .vmem S25088 .f32 := Memref.whole cc0_scratch2
abbrev bW2 : Memref sig .scVector .vmem S6288 .f32 := Memref.whole cc0_scratch3
abbrev bW3 : Memref sig .scVector .vmem S1584 .f32 := Memref.whole cc0_scratch4
abbrev bO : Memref sig .scVector .vmem S393x64 .f32 := Memref.whole cc0_scratch5
abbrev bH : Memref sig .scVector .vmem S2x16x16 .f32 := Memref.whole cc0_scratch6
abbrev mX : Memref sig .scVector .hbm S512x64 .f32 := Memref.whole main_v0_scv
abbrev mI : Memref sig .scVector .hbm S800000 .i32 := Memref.whole main_arg2_scv
abbrev mW1 : Memref sig .scVector .hbm S800000 .f32 := Memref.whole main_arg7_scv
abbrev mW2 : Memref sig .scVector .hbm S200000 .f32 := Memref.whole main_arg9_scv
abbrev mW3 : Memref sig .scVector .hbm S50016 .f32 := Memref.whole main_v1_scv
abbrev mO : Memref sig .scVector .hbm S12500x64 .f32 := Memref.whole main_v2_scv

section
variable (i : grid0.Coords)

abbrev sI1 : Memref sig .scVector .hbm S12544 .i32 := mI.slice (Rect.unit (s := S800000) (k0_off1 i) S12544.size (k0_off1_inb i)) (fun _ => rfl)
abbrev sI2 : Memref sig .scVector .hbm S12544 .i32 := mI.slice (Rect.unit (s := S800000) (k0_off4 i) S12544.size (k0_off4_inb i)) (fun _ => rfl)
abbrev sW1 : Memref sig .scVector .hbm S12544 .f32 := mW1.slice (Rect.unit (s := S800000) (k0_off1 i) S12544.size (k0_off1_inb i)) (fun _ => rfl)
abbrev sW1' : Memref sig .scVector .hbm S12544 .f32 := mW1.slice (Rect.unit (s := S800000) (k0_off4 i) S12544.size (k0_off4_inb i)) (fun _ => rfl)
abbrev sW2 : Memref sig .scVector .hbm S6272 .f32 := mW2.slice (Rect.unit (s := S200000) (k0_off2 i) S6272.size (k0_off2_inb i)) (fun _ => rfl)
abbrev sW3 : Memref sig .scVector .hbm S1584 .f32 := mW3.slice (Rect.unit (s := S50016) (k0_off3 i) S1584.size (k0_off3_inb i)) (fun _ => rfl)
abbrev sO : Memref sig .scVector .vmem S392x64 .f32 := bO.slice (Rect.unit (s := S393x64) ![1, 0] S392x64.size inb_S393x64_S392x64_1_0) (fun _ => rfl)
abbrev tI1 : Memref sig .scVector .vmem S12544 .i32 := bI.slice (Rect.unit (s := S25088) ![0] S12544.size inb_S25088_S12544_0) (fun _ => rfl)
abbrev tI2 : Memref sig .scVector .vmem S12544 .i32 := bI.slice (Rect.unit (s := S25088) ![12544] S12544.size inb_S25088_S12544_12544) (fun _ => rfl)
abbrev tW1 : Memref sig .scVector .vmem S12544 .f32 := bW1.slice (Rect.unit (s := S25088) ![0] S12544.size inb_S25088_S12544_0) (fun _ => rfl)
abbrev tW1' : Memref sig .scVector .vmem S12544 .f32 := bW1.slice (Rect.unit (s := S25088) ![12544] S12544.size inb_S25088_S12544_12544) (fun _ => rfl)
abbrev tW2 : Memref sig .scVector .vmem S6272 .f32 := bW2.slice (Rect.unit (s := S6288) ![16] S6272.size inb_S6288_S6272_16) (fun _ => rfl)
abbrev tO : Memref sig .scVector .hbm S392x64 .f32 := mO.slice (Rect.unit (s := S12500x64) (k0_off623 i) S392x64.size (k0_off623_inb i)) (fun _ => rfl)

theorem off1_eq : ∀ i : grid0.Coords, k0_off1 i 0 = 64 * gene0 (i 0).val (i 1).val := by decide +kernel
theorem off2_eq : ∀ i : grid0.Coords, k0_off2 i 0 = 16 * gene0 (i 0).val (i 1).val := by decide +kernel
theorem off3_eq : ∀ i : grid0.Coords, k0_off3 i 0 = 4 * gene0 (i 0).val (i 1).val := by decide +kernel
theorem off4_eq : ∀ i : grid0.Coords, k0_off4 i 0 = 64 * gene0 (i 0).val (i 1).val + 12544 := by decide +kernel
theorem offO_eq : ∀ i : grid0.Coords, k0_off623 i 0 = gene0 (i 0).val (i 1).val ∧ k0_off623 i 1 = 0 := by decide +kernel

/-- The first half of the indices. -/
def half : Finset S25088.Idx := Finset.univ.filter fun j => (j 0).val < 12544

theorem set_tI1 : tI1.view.set = half := by
  refine (View.set_slice_whole _ _).trans ?_
  ext j
  simp only [half, Finset.mem_filter, Finset.mem_univ, true_and]
  constructor
  · intro h
    obtain ⟨x, -, rfl⟩ := Finset.mem_map.mp ((Rect.map_emb_univ _).symm ▸ h)
    have : (x 0).val < 12544 := (x 0).isLt
    show 0 + 1 * (x 0).val < 12544
    omega
  · intro h
    rw [← Rect.map_emb_univ]
    refine Finset.mem_map.mpr ⟨fun a => ⟨(j 0).val, by match a with | 0 => exact h⟩, Finset.mem_univ _, ?_⟩
    funext a
    refine Fin.ext ?_
    match a with
    | 0 => show 0 + 1 * (j 0).val = (j 0).val; omega

theorem set_tI2 : tI2.view.set = Finset.univ \ half := by
  refine (View.set_slice_whole _ _).trans ?_
  ext j
  simp only [half, Finset.mem_sdiff, Finset.mem_filter, Finset.mem_univ, true_and, not_lt]
  constructor
  · intro h
    obtain ⟨x, -, rfl⟩ := Finset.mem_map.mp ((Rect.map_emb_univ _).symm ▸ h)
    show 12544 ≤ 12544 + 1 * (x 0).val
    omega
  · intro h
    have hj : (j 0).val < 25088 := (j 0).isLt
    rw [← Rect.map_emb_univ]
    refine Finset.mem_map.mpr ⟨fun a => ⟨(j 0).val - 12544, by match a with | 0 => show (j 0).val - 12544 < 12544; omega⟩, Finset.mem_univ _, ?_⟩
    funext a
    refine Fin.ext ?_
    match a with
    | 0 => show 12544 + 1 * ((j 0).val - 12544) = (j 0).val; omega

theorem set_tW1 : tW1.view.set = half := (View.set_slice_whole _ _).trans ((View.set_slice_whole _ _).symm.trans set_tI1)
theorem set_tW1' : tW1'.view.set = Finset.univ \ half := (View.set_slice_whole _ _).trans ((View.set_slice_whole _ _).symm.trans set_tI2)

end

/-! ## What each copy leaves -/

section
variable {d : Dev nD} {c : Fin τ.nSC} {s : Fin τ.nSub}
variable {sp sp' : Space} {sh : Shape} {e : EltTy} {src : Memref sig .scVector sp sh e} {dst : Memref sig .scVector sp' sh e}

/-- A copy's destination, known by what it reads. -/
theorem written {q : PosShare TreeShare} {fs : Buf (Elt F) (src.view.loc (V d c s))} {fd : Buf (Elt F) (dst.view.loc (V d c s))}
    (g : Buf (Elt F) (dst.view.loc (V d c s))) (h : ∀ x, src.view.read (Elt F) fs x = dst.view.read (Elt F) g x) :
    iprop((dst.view.loc (V d c s) ↦[dst.view.set]{fullShare} (dst.view.write (Elt F) fd (src.view.read (Elt F) fs) Finset.univ))
        ∗ (src.view.loc (V d c s) ↦[src.view.set]{q} fs))
      ⊢ (dst.view.loc (V d c s) ↦[dst.view.set]{fullShare} g : sProp 𝕄) := by
  iintro ⟨H, -⟩
  iapply (Entails.of_eq (pointsTo_congr (f := dst.view.write (Elt F) fd (src.view.read (Elt F) fs) Finset.univ) (g := g) ?_)) $$ H
  intro j hj
  obtain ⟨x, -, rfl⟩ := Finset.mem_map.mp hj
  rw [View.write_emb_of_mem _ _ (Finset.mem_univ _), h x, View.read_apply, cast_cast, cast_eq]

end

section
variable (i : grid0.Coords)

theorem read_I1 (A : S800000.Idx → BitVec 32) (x : S12544.Idx) :
    (sI1 i).view.read (Elt F) A x = tI1.view.read (Elt F) (seg 25088 posE A (64 * gene0 (i 0).val (i 1).val)) x := by
  refine congrArg A (ix_eq _ _ _ fun a => ?_).symm
  match a with
  | 0 => show k0_off1 i 0 + 1 * (x 0).val = 64 * gene0 (i 0).val (i 1).val + (0 + 1 * (x 0).val); rw [off1_eq]; omega

theorem read_I2 (A : S800000.Idx → BitVec 32) (x : S12544.Idx) :
    (sI2 i).view.read (Elt F) A x = tI2.view.read (Elt F) (seg 25088 posE A (64 * gene0 (i 0).val (i 1).val)) x := by
  refine congrArg A (ix_eq _ _ _ fun a => ?_).symm
  match a with
  | 0 => show k0_off4 i 0 + 1 * (x 0).val = 64 * gene0 (i 0).val (i 1).val + (12544 + 1 * (x 0).val); rw [off4_eq]; omega

theorem read_W1 (A : S800000.Idx → F .f32) (x : S12544.Idx) :
    (sW1 i).view.read (Elt F) A x = tW1.view.read (Elt F) (seg 25088 posE A (64 * gene0 (i 0).val (i 1).val)) x := by
  refine congrArg A (ix_eq _ _ _ fun a => ?_).symm
  match a with
  | 0 => show k0_off1 i 0 + 1 * (x 0).val = 64 * gene0 (i 0).val (i 1).val + (0 + 1 * (x 0).val); rw [off1_eq]; omega

theorem read_W1' (A : S800000.Idx → F .f32) (x : S12544.Idx) :
    (sW1' i).view.read (Elt F) A x = tW1'.view.read (Elt F) (seg 25088 posE A (64 * gene0 (i 0).val (i 1).val)) x := by
  refine congrArg A (ix_eq _ _ _ fun a => ?_).symm
  match a with
  | 0 => show k0_off4 i 0 + 1 * (x 0).val = 64 * gene0 (i 0).val (i 1).val + (12544 + 1 * (x 0).val); rw [off4_eq]; omega

theorem read_W2 (f : S6288.Idx → F .f32) (A : S200000.Idx → F .f32) (x : S6272.Idx) :
    (sW2 i).view.read (Elt F) A x = tW2.view.read (Elt F) (w2L f A (16 * gene0 (i 0).val (i 1).val)) x := by
  show _ = w2L f A (16 * gene0 (i 0).val (i 1).val) (tW2.view.emb x)
  unfold w2L
  rw [if_neg (show ¬((tW2.view.emb x 0).val < 16) by show ¬(16 + 1 * (x 0).val < 16); omega)]
  refine congrArg A (ix_eq _ _ _ fun a => ?_).symm
  match a with
  | 0 => show k0_off2 i 0 + 1 * (x 0).val = 16 * gene0 (i 0).val (i 1).val + (16 + 1 * (x 0).val) - 16; rw [off2_eq]; omega

theorem read_W3 (A : S50016.Idx → F .f32) (x : S1584.Idx) :
    (sW3 i).view.read (Elt F) A x = bW3.view.read (Elt F) (seg 1584 posP A (4 * gene0 (i 0).val (i 1).val)) x := by
  refine congrArg A (ix_eq _ _ _ fun a => ?_).symm
  match a with
  | 0 => show k0_off3 i 0 + 1 * (x 0).val = 4 * gene0 (i 0).val (i 1).val + (x 0).val; rw [off3_eq]; omega

/-- What the tile copies out is its stretch of the whole output. -/
theorem read_O (X : S512x64.Idx → F .f32) (I : S800000.Idx → BitVec 32) (W1 : S800000.Idx → F .f32) (W2 : S200000.Idx → F .f32) (W3 : S50016.Idx → F .f32)
    (f : S6288.Idx → F .f32) (O : S393x64.Idx → F .f32) (H : S2x16x16.Idx → F .f32) :
    (tO i).view.Admitted (Elt F) (fun j => some (resF X I W1 W2 W3 j))
      (sO.view.read (Elt F) (oAt X (seg 25088 posE I (64 * gene0 (i 0).val (i 1).val)) (seg 25088 posE W1 (64 * gene0 (i 0).val (i 1).val))
        (w2L f W2 (16 * gene0 (i 0).val (i 1).val)) (seg 1584 posP W3 (4 * gene0 (i 0).val (i 1).val)) O H 393)) Finset.univ := by
  intro x _ u hu
  have hu' : some (resF X I W1 W2 W3 ((tO i).view.emb x)) = some u := hu
  rw [← Option.some.inj hu']
  show oAt X _ _ _ _ O H 393 (sO.view.emb x) = _
  have h0 : (x 0).val < 392 := (x 0).isLt
  have h1 : (x 1).val < 64 := (x 1).isLt
  have a0 : (sO.view.emb x 0).val = (x 0).val + 1 := by show 1 + 1 * (x 0).val = _; omega
  have a1 : (sO.view.emb x 1).val = (x 1).val := by show 0 + 1 * (x 1).val = _; omega
  have b0 : ((tO i).view.emb x 0).val = gene0 (i 0).val (i 1).val + (x 0).val := by
    show k0_off623 i 0 + 1 * (x 0).val = _; rw [(offO_eq i).1]; omega
  have b1 : ((tO i).view.emb x 1).val = (x 1).val := by
    show k0_off623 i 1 + 1 * (x 1).val = _; rw [(offO_eq i).2]; omega
  rw [oAt_row X _ _ _ _ O H (x 0).val _ a0 393 (by omega), outV_seg X I W1 W2 W3 f _ _ h0]
  unfold resF
  rw [b0, b1, a1]

end
end Cert.Proof.Mlp
end
-- ==== Proof.Loop.lean ====
/-
  One trip of the first loop, run.
-/
module

public import proofs.«01_k».proof.Proof.Row

@[expose] public section

set_option maxRecDepth 100000

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (i : grid0.Coords) (arg2 : Memref sig .scVector .hbm S512x64 .f32) (harg2 : arg2.IsWhole)
  (arg3 : Memref sig .scVector .hbm S800000 .i32) (harg3 : arg3.IsWhole) (arg4 : Memref sig .scVector .hbm S800000 .f32) (harg4 : arg4.IsWhole)
  (arg5 : Memref sig .scVector .hbm S200000 .f32) (harg5 : arg5.IsWhole) (arg6 : Memref sig .scVector .hbm S50016 .f32) (harg6 : arg6.IsWhole)
  (arg7 : Memref sig .scVector .hbm S12500x64 .f32) (harg7 : arg7.IsWhole) (arg15 arg16 arg17 arg18 arg19 v503_r0 : DmaSems sig S_)
variable {d : Dev nD} {X : S512x64.Idx → F .f32} {I : S25088.Idx → BitVec 32} {W1 : S25088.Idx → F .f32} {W2 : S6288.Idx → F .f32} {W3 : S1584.Idx → F .f32}
variable {SI : Finset S25088.Idx} {A : sProp (MM F)} {O : S393x64.Idx → F .f32} {H : S2x16x16.Idx → F .f32}

set_option maxHeartbeats 2000000 in
theorem loop1_run (k0_t1 : Fin k0_t1_loop.trips) (hS : rowEdges k0_t1.val ⊆ SI) (hI : ∀ j ∈ rowEdges k0_t1.val, (I j).toNat < 512) :
    Run (c := (i 0).castLE hcore0) (s := (i 1).castLE hsub0) d (St d ((i 0).castLE hcore0) ((i 1).castLE hsub0) X I W1 W2 W3 SI A O H) (do
      let ⟨v2779, v2783, v2787, v2788⟩ : Σ' (v2779 : FVec F S16 .f32) (v2783 : FVec F S16 .f32) (v2787 : FVec F S16 .f32), BitVec 32 ← k0_part48 i arg2 harg2 arg3 harg3 arg4 harg4 arg5 harg5 arg6 harg6 arg7 harg7 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) arg15 arg16 arg17 arg18 arg19 v503_r0 0#32 1#32 k0_t1
      have v2858 : FVec F S1x1x16 .f32 := shapeCast S1x1x16 v2779 shapeCasts_S16_S1x1x16
      Prog.lift (.store (Memref.whole cc0_scratch6) (Rect.unit (s := S2x16x16) (k0_off300 k0_t1) S1x1x16.size (k0_off300_inb k0_t1)) v2858 Finset.univ (View.stores_vmem_bits_univ h_S1x1x16 rfl) (.inl rfl))
      let c14_i32_503 : BitVec 32 := 14#32
      let v2859 : Index := Scalar.indexCast v2788
      let v2860 : Index := Scalar.indexCast c14_i32_503
      let c0_504 : Index := 0#32
      let v2861 : Vec F S1x1x16 .f32 ← Prog.lift (.load (Memref.whole cc0_scratch6) (Rect.unit (s := S2x16x16) (k0_off301 k0_t1) S1x1x16.size (k0_off301_inb k0_t1)).toLoadRect (View.loadsAt_vmem h_S1x1x16))
      have v2862 : FVec F S16 .f32 := shapeCast S16 v2861 shapeCasts_S1x1x16_S16
      have v2863 : FVec F S1x1x16 .f32 := shapeCast S1x1x16 v2783 shapeCasts_S16_S1x1x16
      Prog.lift (.store (Memref.whole cc0_scratch6) (Rect.unit (s := S2x16x16) (k0_off301 k0_t1) S1x1x16.size (k0_off301_inb k0_t1)) v2863 Finset.univ (View.stores_vmem_bits_univ h_S1x1x16 rfl) (.inl rfl))
      let c15_i32_505 : BitVec 32 := 15#32
      let v2864 : Index := Scalar.indexCast v2788
      let v2865 : Index := Scalar.indexCast c15_i32_505
      let c0_506 : Index := 0#32
      let v2866 : Vec F S1x1x16 .f32 ← Prog.lift (.load (Memref.whole cc0_scratch6) (Rect.unit (s := S2x16x16) (k0_off302 k0_t1) S1x1x16.size (k0_off302_inb k0_t1)).toLoadRect (View.loadsAt_vmem h_S1x1x16))
      have v2867 : FVec F S16 .f32 := shapeCast S16 v2866 shapeCasts_S1x1x16_S16
      have v2868 : FVec F S1x1x16 .f32 := shapeCast S1x1x16 v2787 shapeCasts_S16_S1x1x16
      Prog.lift (.store (Memref.whole cc0_scratch6) (Rect.unit (s := S2x16x16) (k0_off302 k0_t1) S1x1x16.size (k0_off302_inb k0_t1)) v2868 Finset.univ (View.stores_vmem_bits_univ h_S1x1x16 rfl) (.inl rfl))) PUnit.unit
    (St d ((i 0).castLE hcore0) ((i 1).castLE hsub0) X I W1 W2 W3 SI A (setRow O k0_t1.val (outV W2 W3 k0_t1.val (hidOf H ((k0_t1.val + 1) % 2))) 4)
      (setHid H (k0_t1.val % 2) (hidV X I W1 k0_t1.val) 16)) := by
  have hn := iv1_toNat k0_t1
  have hk : k0_t1.val < 196 := lt_of_lt_of_eq k0_t1.isLt (by decide)
  repeat (first
    | with_reducible apply Run.pure
    | ((with_reducible apply stepOther hn); (case ho => exact rfl))
    | ((with_reducible apply stepE hn); (case hn' => omega); (case hS => exact hS); (case ho => exact rfl); (case hi => decide))
    | ((with_reducible apply stepF hn); (case hn' => omega); (case hS => exact hS); (case ho => exact rfl); (case hi => decide))
    | ((with_reducible apply stepV2 hn); (case hn' => omega); (case ho => exact rfl))
    | ((with_reducible apply stepV3 hn); (case hn' => omega); (case ho => exact rfl))
    | ((with_reducible apply stepChk); (case hP => exact (chk_of (idx_lt (by omega) hI (by decide)))))
    | ((with_reducible apply stepX); (case ho => exact rfl))
    | (with_reducible apply stepO)
    | ((with_reducible apply stepOwn (g := Scf.iv 0#32 1#32 k0_t1)); (case ho => exact rfl))
    | ((with_reducible apply storeOut hn); (case hq => decide); (case ho => exact rfl); case hx => simp only [castH, castS, castX]; exact rfl)
    | ((with_reducible apply storeOut0 (outV W2 W3 k0_t1.val (hidOf H ((k0_t1.val + 1) % 2))) hn); (case ho => exact rfl); case hx => simp only [castH, castS, castX]; exact rfl)
    | ((with_reducible apply storeOwn hn); (case hq => decide); (case ho => exact rfl); case hx => simp only [castH, castS, castX]; exact rfl)
    | ((with_reducible apply storeOwn0 (hidV X I W1 k0_t1.val) hn); (case ho => exact rfl); case hx => simp only [castH, castS, castX]; exact rfl)
    | with_reducible apply Run.single
    | ((fail_if_success (with_reducible apply Run.lifted)); with_reducible apply Run.bind)
    | delta k0_part4
    | delta k0_part5
    | delta k0_part6
    | delta k0_part7
    | delta k0_part8
    | delta k0_part52
    | delta k0_part53
    | delta k0_part54
    | delta k0_part55
    | delta k0_part56
    | delta k0_part103
    | delta k0_part104
    | delta k0_part105
    | delta k0_part106
    | ((fail_if_success (with_reducible apply Run.lifted)); apply Run.opened)
    )

end
end Cert.Proof.Mlp
end
-- ==== Proof.Loop2.lean ====
/-
  One trip of the second loop, run.
-/
module

public import proofs.«01_k».proof.Proof.Row

@[expose] public section

set_option maxRecDepth 100000

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (i : grid0.Coords) (arg2 : Memref sig .scVector .hbm S512x64 .f32) (harg2 : arg2.IsWhole)
  (arg3 : Memref sig .scVector .hbm S800000 .i32) (harg3 : arg3.IsWhole) (arg4 : Memref sig .scVector .hbm S800000 .f32) (harg4 : arg4.IsWhole)
  (arg5 : Memref sig .scVector .hbm S200000 .f32) (harg5 : arg5.IsWhole) (arg6 : Memref sig .scVector .hbm S50016 .f32) (harg6 : arg6.IsWhole)
  (arg7 : Memref sig .scVector .hbm S12500x64 .f32) (harg7 : arg7.IsWhole) (arg15 arg16 arg17 arg18 arg19 v503_r0 : DmaSems sig S_)
variable {d : Dev nD} {X : S512x64.Idx → F .f32} {I : S25088.Idx → BitVec 32} {W1 : S25088.Idx → F .f32} {W2 : S6288.Idx → F .f32} {W3 : S1584.Idx → F .f32}
variable {SI : Finset S25088.Idx} {A : sProp (MM F)} {O : S393x64.Idx → F .f32} {H : S2x16x16.Idx → F .f32}

set_option maxHeartbeats 2000000 in
theorem loop2_run (k0_t2 : Fin k0_t2_loop.trips) (hS : rowEdges (196 + k0_t2.val) ⊆ SI) (hI : ∀ j ∈ rowEdges (196 + k0_t2.val), (I j).toNat < 512) :
    Run (c := (i 0).castLE hcore0) (s := (i 1).castLE hsub0) d (St d ((i 0).castLE hcore0) ((i 1).castLE hsub0) X I W1 W2 W3 SI A O H) (do
      let ⟨v2779, v2783, v2787, v2788⟩ : Σ' (v2779 : FVec F S16 .f32) (v2783 : FVec F S16 .f32) (v2787 : FVec F S16 .f32), BitVec 32 ← k0_part96 i arg2 harg2 arg3 harg3 arg4 harg4 arg5 harg5 arg6 harg6 arg7 harg7 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) arg15 arg16 arg17 arg18 arg19 v503_r0 196#32 1#32 k0_t2
      have v2858 : FVec F S1x1x16 .f32 := shapeCast S1x1x16 v2779 shapeCasts_S16_S1x1x16
      Prog.lift (.store (Memref.whole cc0_scratch6) (Rect.unit (s := S2x16x16) (k0_off598 k0_t2) S1x1x16.size (k0_off598_inb k0_t2)) v2858 Finset.univ (View.stores_vmem_bits_univ h_S1x1x16 rfl) (.inl rfl))
      let c14_i32_503 : BitVec 32 := 14#32
      let v2859 : Index := Scalar.indexCast v2788
      let v2860 : Index := Scalar.indexCast c14_i32_503
      let c0_504 : Index := 0#32
      let v2861 : Vec F S1x1x16 .f32 ← Prog.lift (.load (Memref.whole cc0_scratch6) (Rect.unit (s := S2x16x16) (k0_off599 k0_t2) S1x1x16.size (k0_off599_inb k0_t2)).toLoadRect (View.loadsAt_vmem h_S1x1x16))
      have v2862 : FVec F S16 .f32 := shapeCast S16 v2861 shapeCasts_S1x1x16_S16
      have v2863 : FVec F S1x1x16 .f32 := shapeCast S1x1x16 v2783 shapeCasts_S16_S1x1x16
      Prog.lift (.store (Memref.whole cc0_scratch6) (Rect.unit (s := S2x16x16) (k0_off599 k0_t2) S1x1x16.size (k0_off599_inb k0_t2)) v2863 Finset.univ (View.stores_vmem_bits_univ h_S1x1x16 rfl) (.inl rfl))
      let c15_i32_505 : BitVec 32 := 15#32
      let v2864 : Index := Scalar.indexCast v2788
      let v2865 : Index := Scalar.indexCast c15_i32_505
      let c0_506 : Index := 0#32
      let v2866 : Vec F S1x1x16 .f32 ← Prog.lift (.load (Memref.whole cc0_scratch6) (Rect.unit (s := S2x16x16) (k0_off600 k0_t2) S1x1x16.size (k0_off600_inb k0_t2)).toLoadRect (View.loadsAt_vmem h_S1x1x16))
      have v2867 : FVec F S16 .f32 := shapeCast S16 v2866 shapeCasts_S1x1x16_S16
      have v2868 : FVec F S1x1x16 .f32 := shapeCast S1x1x16 v2787 shapeCasts_S16_S1x1x16
      Prog.lift (.store (Memref.whole cc0_scratch6) (Rect.unit (s := S2x16x16) (k0_off600 k0_t2) S1x1x16.size (k0_off600_inb k0_t2)) v2868 Finset.univ (View.stores_vmem_bits_univ h_S1x1x16 rfl) (.inl rfl))
      pure ⟨⟩) PUnit.unit
    (St d ((i 0).castLE hcore0) ((i 1).castLE hsub0) X I W1 W2 W3 SI A (setRow O (196 + k0_t2.val) (outV W2 W3 (196 + k0_t2.val) (hidOf H (((196 + k0_t2.val) + 1) % 2))) 4)
      (setHid H ((196 + k0_t2.val) % 2) (hidV X I W1 (196 + k0_t2.val)) 16)) := by
  have hn := iv2_toNat k0_t2
  have hk : k0_t2.val < 196 := lt_of_lt_of_eq k0_t2.isLt (by decide)
  repeat (first
    | with_reducible apply Run.pure
    | ((with_reducible apply stepOther hn); (case ho => exact rfl))
    | ((with_reducible apply stepE hn); (case hn' => omega); (case hS => exact hS); (case ho => exact rfl); (case hi => decide))
    | ((with_reducible apply stepF hn); (case hn' => omega); (case hS => exact hS); (case ho => exact rfl); (case hi => decide))
    | ((with_reducible apply stepV2 hn); (case hn' => omega); (case ho => exact rfl))
    | ((with_reducible apply stepV3 hn); (case hn' => omega); (case ho => exact rfl))
    | ((with_reducible apply stepChk); (case hP => exact (chk_of (idx_lt (by omega) hI (by decide)))))
    | ((with_reducible apply stepX); (case ho => exact rfl))
    | (with_reducible apply stepO)
    | ((with_reducible apply stepOwn (g := Scf.iv 196#32 1#32 k0_t2)); (case ho => exact rfl))
    | ((with_reducible apply storeOut hn); (case hq => decide); (case ho => exact rfl); case hx => simp only [castH, castS, castX]; exact rfl)
    | ((with_reducible apply storeOut0 (outV W2 W3 (196 + k0_t2.val) (hidOf H (((196 + k0_t2.val) + 1) % 2))) hn); (case ho => exact rfl); case hx => simp only [castH, castS, castX]; exact rfl)
    | ((with_reducible apply storeOwn hn); (case hq => decide); (case ho => exact rfl); case hx => simp only [castH, castS, castX]; exact rfl)
    | ((with_reducible apply storeOwn0 (hidV X I W1 (196 + k0_t2.val)) hn); (case ho => exact rfl); case hx => simp only [castH, castS, castX]; exact rfl)
    | with_reducible apply Run.single
    | ((fail_if_success (with_reducible apply Run.lifted)); with_reducible apply Run.bind)
    | delta k0_part4
    | delta k0_part5
    | delta k0_part6
    | delta k0_part7
    | delta k0_part8
    | delta k0_part52
    | delta k0_part53
    | delta k0_part54
    | delta k0_part55
    | delta k0_part56
    | delta k0_part103
    | delta k0_part104
    | delta k0_part105
    | delta k0_part106
    | ((fail_if_success (with_reducible apply Run.lifted)); apply Run.opened)
    )

end
end Cert.Proof.Mlp
end
-- ==== Proof.Task.lean ====
/-
  The task of one tile, run from start to end.
-/
module

public import proofs.«01_k».proof.Proof.Tile
public import proofs.«01_k».proof.Proof.Loop
public import proofs.«01_k».proof.Proof.Loop2

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MM F

section
variable (d : Dev nD) (i : grid0.Coords)

abbrev cV (L : grid0.Coords) : Fin τ.nSC := (L 0).castLE hcore0
abbrev jV (L : grid0.Coords) : Fin τ.nSub := (L 1).castLE hsub0

variable (X : S512x64.Idx → F .f32) (I : S800000.Idx → BitVec 32) (W1 : S800000.Idx → F .f32) (W2 : S200000.Idx → F .f32) (W3 : S50016.Idx → F .f32)
variable (f2 : S6288.Idx → F .f32) (O : CellTallies nD τ sig (HIx 1)) (W : Waits sig (HIx 1)) (ιw : ℕ) (qo : PosShare TreeShare) (fo : S12500x64.Idx → F .f32)

/-- The tile's own stretches of the inputs. -/
abbrev tI : S25088.Idx → BitVec 32 := seg 25088 posE I (64 * gene0 (i 0).val (i 1).val)
abbrev tW : S25088.Idx → F .f32 := seg 25088 posE W1 (64 * gene0 (i 0).val (i 1).val)
abbrev t2 : S6288.Idx → F .f32 := w2L f2 W2 (16 * gene0 (i 0).val (i 1).val)
abbrev t3 : S1584.Idx → F .f32 := seg 1584 posP W3 (4 * gene0 (i 0).val (i 1).val)

/-- What the two copies of the first halves deliver. -/
def del1 : Fin 2 → sProp 𝕄 := fun t => match t with
  | 0 => tI1.view.loc (V d (cV i) (jV i)) ↦[tI1.view.set]{fullShare} (tI i I)
  | 1 => tW1.view.loc (V d (cV i) (jV i)) ↦[tW1.view.set]{fullShare} (tW i W1)
/-- What the two copies of the second halves deliver. -/
def del2 : Fin 2 → sProp 𝕄 := fun t => match t with
  | 0 => tI2.view.loc (V d (cV i) (jV i)) ↦[tI2.view.set]{fullShare} (tI i I)
  | 1 => tW1'.view.loc (V d (cV i) (jV i)) ↦[tW1'.view.set]{fullShare} (tW i W1)

instance : ∀ t, BI.Storable (upEmb : UEmb _ 𝕄) (del1 d i I W1 t)
  | 0 => (inferInstance : BI.Storable (upEmb : UEmb _ 𝕄) (tI1.view.loc (V d (cV i) (jV i)) ↦[tI1.view.set]{fullShare} (tI i I)))
  | 1 => (inferInstance : BI.Storable (upEmb : UEmb _ 𝕄) (tW1.view.loc (V d (cV i) (jV i)) ↦[tW1.view.set]{fullShare} (tW i W1)))
instance : ∀ t, BI.Storable (upEmb : UEmb _ 𝕄) (del2 d i I W1 t)
  | 0 => (inferInstance : BI.Storable (upEmb : UEmb _ 𝕄) (tI2.view.loc (V d (cV i) (jV i)) ↦[tI2.view.set]{fullShare} (tI i I)))
  | 1 => (inferInstance : BI.Storable (upEmb : UEmb _ 𝕄) (tW1'.view.loc (V d (cV i) (jV i)) ↦[tW1'.view.set]{fullShare} (tW i W1)))

/-- The write-out's resources before it. -/
def OutB : sProp 𝕄 :=
  iprop(wmInv EW ιw ∗ (willBeTo EW (mO.view.loc (V d (cV i) (jV i))) Finset.univ qo fo (fun j => some (resF X I W1 W2 W3 j)) ∅)
    ∗ semVal (V d (cV i) (jV i), .dma cc0_scoped0.sem) 0)

abbrev B1 (k u : ℕ) : sProp 𝕄 := Transfers.Batch countersEmb (V d (cV i) (jV i)) (.dma cc0_scratch7.sem) (default : HIx 1) tI1.view.dmaCredit (del1 d i I W1) k u
abbrev B2 (k u : ℕ) : sProp 𝕄 := Transfers.Batch countersEmb (V d (cV i) (jV i)) (.dma cc0_scratch8.sem) (default : HIx 1) tI1.view.dmaCredit (del2 d i I W1) k u

section
variable (qX qI qI' qW qW' q2 q3 : PosShare TreeShare)
variable (x0 : S512x64.Idx → F .f32) (i0 : S25088.Idx → BitVec 32) (w0 : S25088.Idx → F .f32) (w3 : S1584.Idx → F .f32)

/-- The slots the copies in start from. -/
def slots (R : sProp 𝕄) : sProp 𝕄 :=
  iprop(OW d (cV i) (jV i) O W
    ∗ ((mX.view.loc (V d (cV i) (jV i)) ↦[mX.view.set]{qX} X) ∗ (bX.view.loc (V d (cV i) (jV i)) ↦[bX.view.set]{fullShare} x0)
        ∗ semVal (V d (cV i) (jV i), .dma cc0_scratch9.sem) 0)
    ∗ ((((sW1 i).view.loc (V d (cV i) (jV i)) ↦[(sW1 i).view.set]{qW} W1) ∗ (tW1.view.loc (V d (cV i) (jV i)) ↦[tW1.view.set]{fullShare} w0))
        ∗ (((sI1 i).view.loc (V d (cV i) (jV i)) ↦[(sI1 i).view.set]{qI} I) ∗ (tI1.view.loc (V d (cV i) (jV i)) ↦[tI1.view.set]{fullShare} i0))
        ∗ B1 d i I W1 0 0)
    ∗ (((sW2 i).view.loc (V d (cV i) (jV i)) ↦[(sW2 i).view.set]{q2} W2) ∗ (tW2.view.loc (V d (cV i) (jV i)) ↦[tW2.view.set]{fullShare} f2)
        ∗ semVal (V d (cV i) (jV i), .dma cc0_scratch10.sem) 0)
    ∗ (((sW3 i).view.loc (V d (cV i) (jV i)) ↦[(sW3 i).view.set]{q3} W3) ∗ (bW3.view.loc (V d (cV i) (jV i)) ↦[bW3.view.set]{fullShare} w3)
        ∗ semVal (V d (cV i) (jV i), .dma cc0_scratch11.sem) 0)
    ∗ ((((sW1' i).view.loc (V d (cV i) (jV i)) ↦[(sW1' i).view.set]{qW'} W1) ∗ (tW1'.view.loc (V d (cV i) (jV i)) ↦[tW1'.view.set]{fullShare} w0))
        ∗ (((sI2 i).view.loc (V d (cV i) (jV i)) ↦[(sI2 i).view.set]{qI'} I) ∗ (tI2.view.loc (V d (cV i) (jV i)) ↦[tI2.view.set]{fullShare} i0))
        ∗ B2 d i I W1 0 0)
    ∗ R)
end

/-- What is not needed for the rows: while the first half's are computed. -/
def A1 : sProp 𝕄 :=
  iprop(OW d (cV i) (jV i) O W ∗ B2 d i I W1 2 0 ∗ semVal (V d (cV i) (jV i), .dma cc0_scratch7.sem) 0 ∗ semVal (V d (cV i) (jV i), .dma cc0_scratch9.sem) 0
    ∗ semVal (V d (cV i) (jV i), .dma cc0_scratch10.sem) 0 ∗ semVal (V d (cV i) (jV i), .dma cc0_scratch11.sem) 0 ∗ OutB d i X I W1 W2 W3 ιw qo fo)

/-- And while the second half's are. -/
def A2 : sProp 𝕄 :=
  iprop(OW d (cV i) (jV i) O W ∗ semVal (V d (cV i) (jV i), .dma cc0_scratch8.sem) 0 ∗ semVal (V d (cV i) (jV i), .dma cc0_scratch7.sem) 0
    ∗ semVal (V d (cV i) (jV i), .dma cc0_scratch9.sem) 0
    ∗ semVal (V d (cV i) (jV i), .dma cc0_scratch10.sem) 0 ∗ semVal (V d (cV i) (jV i), .dma cc0_scratch11.sem) 0 ∗ OutB d i X I W1 W2 W3 ιw qo fo)

variable {d i X I W1 W2 W3 f2 O W ιw qo fo}

theorem to_rows {oo : S393x64.Idx → F .f32} {hh : S2x16x16.Idx → F .f32} :
    iprop(OW d (cV i) (jV i) O W
        ∗ ((bX.view.loc (V d (cV i) (jV i)) ↦[bX.view.set]{fullShare} X) ∗ semVal (V d (cV i) (jV i), .dma cc0_scratch9.sem) 0)
        ∗ ((del1 d i I W1 0 ∗ del1 d i I W1 1) ∗ semVal (V d (cV i) (jV i), .dma cc0_scratch7.sem) 0)
        ∗ ((tW2.view.loc (V d (cV i) (jV i)) ↦[tW2.view.set]{fullShare} (t2 i W2 f2)) ∗ semVal (V d (cV i) (jV i), .dma cc0_scratch10.sem) 0)
        ∗ ((bW3.view.loc (V d (cV i) (jV i)) ↦[bW3.view.set]{fullShare} (t3 i W3)) ∗ semVal (V d (cV i) (jV i), .dma cc0_scratch11.sem) 0)
        ∗ B2 d i I W1 2 0
        ∗ (bW2.view.loc (V d (cV i) (jV i)) ↦[Finset.univ \ tW2.view.set]{fullShare} (t2 i W2 f2))
        ∗ (bO.view.loc (V d (cV i) (jV i)) ↦{fullShare} oo) ∗ (bH.view.loc (V d (cV i) (jV i)) ↦{fullShare} hh) ∗ OutB d i X I W1 W2 W3 ιw qo fo)
      ⊢ St d (cV i) (jV i) X (tI i I) (tW i W1) (t2 i W2 f2) (t3 i W3) half (A1 d i X I W1 W2 W3 O W ιw qo fo) oo hh := by
  unfold St A1 del1
  iintro ⟨HOW, ⟨HX, HsX⟩, ⟨⟨HI, HW⟩, Hs1⟩, ⟨H2, Hs2⟩, ⟨H3, Hs3⟩, HB, H2', HO, HH, HR⟩
  isplitl [HX]; · iapply (Entails.of_eq (by rw [View.set_whole])) $$ HX
  isplitl [HI]; · iapply (Entails.of_eq (by rw [set_tI1])) $$ HI
  isplitl [HW]; · iapply (Entails.of_eq (by rw [set_tW1])) $$ HW
  isplitl [H2 H2']
  · iapply (pointsTo_split_subset (q := fullShare) (f := t2 i W2 f2) (S := Finset.univ) (Finset.subset_univ tW2.view.set)).2
    isplitl [H2] <;> iassumption
  isplitl [H3]; · iapply (Entails.of_eq (by rw [View.set_whole])) $$ H3
  isplitl [HO]; · iexact HO
  isplitl [HH]; · iexact HH
  isplitl [HOW]; · iexact HOW
  isplitl [HB]; · iexact HB
  isplitl [Hs1]; · iexact Hs1
  isplitl [HsX]; · iexact HsX
  isplitl [Hs2]; · iexact Hs2
  isplitl [Hs3]; · iexact Hs3
  iexact HR

/-- Everything but what the second halves' waits need. -/
def St' (oo : S393x64.Idx → F .f32) (hh : S2x16x16.Idx → F .f32) : sProp 𝕄 :=
  iprop((bX.view.loc (V d (cV i) (jV i)) ↦{fullShare} X) ∗ (bI.view.loc (V d (cV i) (jV i)) ↦[half]{fullShare} (tI i I))
    ∗ (bW1.view.loc (V d (cV i) (jV i)) ↦[half]{fullShare} (tW i W1)) ∗ (bW2.view.loc (V d (cV i) (jV i)) ↦{fullShare} (t2 i W2 f2))
    ∗ (bW3.view.loc (V d (cV i) (jV i)) ↦{fullShare} (t3 i W3)) ∗ (bO.view.loc (V d (cV i) (jV i)) ↦{fullShare} oo)
    ∗ (bH.view.loc (V d (cV i) (jV i)) ↦{fullShare} hh) ∗ semVal (V d (cV i) (jV i), .dma cc0_scratch7.sem) 0
    ∗ semVal (V d (cV i) (jV i), .dma cc0_scratch9.sem) 0
    ∗ semVal (V d (cV i) (jV i), .dma cc0_scratch10.sem) 0 ∗ semVal (V d (cV i) (jV i), .dma cc0_scratch11.sem) 0 ∗ OutB d i X I W1 W2 W3 ιw qo fo)

theorem from_first {oo : S393x64.Idx → F .f32} {hh : S2x16x16.Idx → F .f32} :
    St d (cV i) (jV i) X (tI i I) (tW i W1) (t2 i W2 f2) (t3 i W3) half (A1 d i X I W1 W2 W3 O W ιw qo fo) oo hh
      ⊢ iprop(OW d (cV i) (jV i) O W ∗ B2 d i I W1 2 0 ∗ St' (d := d) (i := i) (X := X) (I := I) (W1 := W1) (W2 := W2) (W3 := W3) (f2 := f2) (ιw := ιw) (qo := qo) (fo := fo) oo hh) := by
  unfold St A1 St'
  iintro ⟨HX, HI, HW, H2, H3, HO, HH, HOW, HB, HR⟩
  isplitl [HOW]; · iexact HOW
  isplitl [HB]; · iexact HB
  isplitl [HX]; · iexact HX
  isplitl [HI]; · iexact HI
  isplitl [HW]; · iexact HW
  isplitl [H2]; · iexact H2
  isplitl [H3]; · iexact H3
  isplitl [HO]; · iexact HO
  isplitl [HH]; · iexact HH
  iexact HR

theorem to_second {oo : S393x64.Idx → F .f32} {hh : S2x16x16.Idx → F .f32} :
    iprop(OW d (cV i) (jV i) O W ∗ ((del2 d i I W1 0 ∗ del2 d i I W1 1) ∗ semVal (V d (cV i) (jV i), .dma cc0_scratch8.sem) 0)
        ∗ St' (d := d) (i := i) (X := X) (I := I) (W1 := W1) (W2 := W2) (W3 := W3) (f2 := f2) (ιw := ιw) (qo := qo) (fo := fo) oo hh)
      ⊢ St d (cV i) (jV i) X (tI i I) (tW i W1) (t2 i W2 f2) (t3 i W3) Finset.univ (A2 d i X I W1 W2 W3 O W ιw qo fo) oo hh := by
  unfold St A2 St' del2
  iintro ⟨HOW, ⟨⟨HI', HW'⟩, Hs⟩, HX, HI, HW, H2, H3, HO, HH, HR⟩
  isplitl [HX]; · iexact HX
  isplitl [HI HI']
  · iapply (pointsTo_split_subset (q := fullShare) (f := tI i I) (S := Finset.univ) (Finset.subset_univ half)).2
    isplitl [HI]; · iexact HI
    iapply (Entails.of_eq (by rw [set_tI2])) $$ HI'
  isplitl [HW HW']
  · iapply (pointsTo_split_subset (q := fullShare) (f := tW i W1) (S := Finset.univ) (Finset.subset_univ half)).2
    isplitl [HW]; · iexact HW
    iapply (Entails.of_eq (by rw [set_tW1'])) $$ HW'
  isplitl [H2]; · iexact H2
  isplitl [H3]; · iexact H3
  isplitl [HO]; · iexact HO
  isplitl [HH]; · iexact HH
  isplitl [HOW]; · iexact HOW
  isplitl [Hs]; · iexact Hs
  iexact HR

end

theorem pos1 : 0 < tI1.view.dmaCredit := by decide

section
variable {d : Dev nD} {i : grid0.Coords} {I : S800000.Idx → BitVec 32} {W1 : S800000.Idx → F .f32} {q : PosShare TreeShare}
  {fi : S25088.Idx → BitVec 32} {fw : S25088.Idx → F .f32} {h : 0 < 2} {h' : 1 < 2}

theorem del1_I : iprop((tI1.view.loc (V d (cV i) (jV i)) ↦[tI1.view.set]{fullShare} (tI1.view.write (Elt F) fi ((sI1 i).view.read (Elt F) I) Finset.univ))
    ∗ ((sI1 i).view.loc (V d (cV i) (jV i)) ↦[(sI1 i).view.set]{q} I)) ⊢ (del1 d i I W1 ⟨0, h⟩ : sProp (MM F)) :=
  written (src := sI1 i) (dst := tI1) (fs := I) (fd := fi) (tI i I) (read_I1 i I)

theorem del1_W : iprop((tW1.view.loc (V d (cV i) (jV i)) ↦[tW1.view.set]{fullShare} (tW1.view.write (Elt F) fw ((sW1 i).view.read (Elt F) W1) Finset.univ))
    ∗ ((sW1 i).view.loc (V d (cV i) (jV i)) ↦[(sW1 i).view.set]{q} W1)) ⊢ (del1 d i I W1 ⟨1, h'⟩ : sProp (MM F)) :=
  written (src := sW1 i) (dst := tW1) (fs := W1) (fd := fw) (tW i W1) (read_W1 i W1)

theorem del2_I : iprop((tI2.view.loc (V d (cV i) (jV i)) ↦[tI2.view.set]{fullShare} (tI2.view.write (Elt F) fi ((sI2 i).view.read (Elt F) I) Finset.univ))
    ∗ ((sI2 i).view.loc (V d (cV i) (jV i)) ↦[(sI2 i).view.set]{q} I)) ⊢ (del2 d i I W1 ⟨0, h⟩ : sProp (MM F)) :=
  written (src := sI2 i) (dst := tI2) (fs := I) (fd := fi) (tI i I) (read_I2 i I)

theorem del2_W : iprop((tW1'.view.loc (V d (cV i) (jV i)) ↦[tW1'.view.set]{fullShare} (tW1'.view.write (Elt F) fw ((sW1' i).view.read (Elt F) W1) Finset.univ))
    ∗ ((sW1' i).view.loc (V d (cV i) (jV i)) ↦[(sW1' i).view.set]{q} W1)) ⊢ (del2 d i I W1 ⟨1, h'⟩ : sProp (MM F)) :=
  written (src := sW1' i) (dst := tW1') (fs := W1) (fd := fw) (tW i W1) (read_W1' i W1)
end

/-- The tile's buffers and semaphores once it is done, with the write-out's mark. -/
def After (d : Dev nD) (i : grid0.Coords) (X : S512x64.Idx → F .f32) (I : S800000.Idx → BitVec 32) (W1 : S800000.Idx → F .f32) (W2 : S200000.Idx → F .f32) (W3 : S50016.Idx → F .f32)
    (f2 : S6288.Idx → F .f32) (O : CellTallies nD τ sig (HIx 1)) (W : Waits sig (HIx 1)) (qo : PosShare TreeShare) (fo : S12500x64.Idx → F .f32)
    (oo : S393x64.Idx → F .f32) (hh : S2x16x16.Idx → F .f32) : sProp 𝕄 :=
  iprop(OW d (cV i) (jV i) O W ∗ ((bX.view.loc (V d (cV i) (jV i)) ↦{fullShare} X) ∗ (bI.view.loc (V d (cV i) (jV i)) ↦{fullShare} (tI i I))
    ∗ (bW1.view.loc (V d (cV i) (jV i)) ↦{fullShare} (tW i W1)) ∗ (bW2.view.loc (V d (cV i) (jV i)) ↦{fullShare} (t2 i W2 f2))
    ∗ (bW3.view.loc (V d (cV i) (jV i)) ↦{fullShare} (t3 i W3)) ∗ (bO.view.loc (V d (cV i) (jV i)) ↦{fullShare} oo)
    ∗ (bH.view.loc (V d (cV i) (jV i)) ↦{fullShare} hh))
    ∗ (semVal (V d (cV i) (jV i), .dma cc0_scratch7.sem) 0 ∗ semVal (V d (cV i) (jV i), .dma cc0_scratch8.sem) 0
      ∗ semVal (V d (cV i) (jV i), .dma cc0_scratch9.sem) 0 ∗ semVal (V d (cV i) (jV i), .dma cc0_scratch10.sem) 0
      ∗ semVal (V d (cV i) (jV i), .dma cc0_scratch11.sem) 0 ∗ semVal (V d (cV i) (jV i), .dma cc0_scoped0.sem) 0)
    ∗ (willBeTo EW (mO.view.loc (V d (cV i) (jV i))) Finset.univ qo fo (fun j => some (resF X I W1 W2 W3 j)) (∅ ∪ (tO i).view.set)))

theorem rows1 (k : Fin k0_t1_loop.trips) : rowEdges k.val ⊆ half := by
  intro j hj
  have hk : k.val < 196 := lt_of_lt_of_eq k.isLt (by decide)
  simp only [rowEdges, half, Finset.mem_filter, Finset.mem_univ, true_and] at hj ⊢
  omega

theorem trips1 : k0_t1_loop.trips = 196 := by decide
theorem trips2 : k0_t2_loop.trips = 196 := by decide

section
variable {d : Dev nD} {i : grid0.Coords} {X : S512x64.Idx → F .f32} {I : S800000.Idx → BitVec 32} {W1 : S800000.Idx → F .f32} {W2 : S200000.Idx → F .f32} {W3 : S50016.Idx → F .f32}
variable {f2 : S6288.Idx → F .f32} {O : CellTallies nD τ sig (HIx 1)} {W : Waits sig (HIx 1)} {ιw : ℕ} {qo : PosShare TreeShare} {fo : S12500x64.Idx → F .f32}
variable {oo : S393x64.Idx → F .f32} {hh : S2x16x16.Idx → F .f32}

/-- What the write-out leaves alone. -/
def Rest (d : Dev nD) (i : grid0.Coords) (X : S512x64.Idx → F .f32) (I : S800000.Idx → BitVec 32) (W1 : S800000.Idx → F .f32) (W2 : S200000.Idx → F .f32) (W3 : S50016.Idx → F .f32)
    (f2 : S6288.Idx → F .f32) (oo : S393x64.Idx → F .f32) (hh : S2x16x16.Idx → F .f32) : sProp 𝕄 :=
  iprop((bX.view.loc (V d (cV i) (jV i)) ↦{fullShare} X) ∗ (bI.view.loc (V d (cV i) (jV i)) ↦{fullShare} (tI i I))
    ∗ (bW1.view.loc (V d (cV i) (jV i)) ↦{fullShare} (tW i W1)) ∗ (bW2.view.loc (V d (cV i) (jV i)) ↦{fullShare} (t2 i W2 f2))
    ∗ (bW3.view.loc (V d (cV i) (jV i)) ↦{fullShare} (t3 i W3)) ∗ (bO.view.loc (V d (cV i) (jV i)) ↦[Finset.univ \ sO.view.set]{fullShare} oo)
    ∗ (bH.view.loc (V d (cV i) (jV i)) ↦{fullShare} hh) ∗ semVal (V d (cV i) (jV i), .dma cc0_scratch8.sem) 0
    ∗ semVal (V d (cV i) (jV i), .dma cc0_scratch7.sem) 0 ∗ semVal (V d (cV i) (jV i), .dma cc0_scratch9.sem) 0
    ∗ semVal (V d (cV i) (jV i), .dma cc0_scratch10.sem) 0 ∗ semVal (V d (cV i) (jV i), .dma cc0_scratch11.sem) 0)

theorem first_end : St d (cV i) (jV i) X (tI i I) (tW i W1) (t2 i W2 f2) (t3 i W3) half (A1 d i X I W1 W2 W3 O W ιw qo fo)
        (oAt X (tI i I) (tW i W1) (t2 i W2 f2) (t3 i W3) oo hh k0_t1_loop.trips) (hAt X (tI i I) (tW i W1) hh k0_t1_loop.trips)
    ⊢ iprop(OW d (cV i) (jV i) O W ∗ B2 d i I W1 2 0
      ∗ St' (d := d) (i := i) (X := X) (I := I) (W1 := W1) (W2 := W2) (W3 := W3) (f2 := f2) (ιw := ιw) (qo := qo) (fo := fo)
        (oAt X (tI i I) (tW i W1) (t2 i W2 f2) (t3 i W3) oo hh 196) (hAt X (tI i I) (tW i W1) hh 196)) := by
  rw [trips1]; exact from_first

theorem to_out : St d (cV i) (jV i) X (tI i I) (tW i W1) (t2 i W2 f2) (t3 i W3) Finset.univ (A2 d i X I W1 W2 W3 O W ιw qo fo) oo hh
    ⊢ iprop((OW d (cV i) (jV i) O W ∗ Rest d i X I W1 W2 W3 f2 oo hh) ∗ wmInv EW ιw
      ∗ (sO.view.loc (V d (cV i) (jV i)) ↦[sO.view.set]{fullShare} oo)
      ∗ (willBeTo EW ((tO i).view.loc (V d (cV i) (jV i))) Finset.univ qo fo (fun j => some (resF X I W1 W2 W3 j)) ∅)
      ∗ semVal (V d (cV i) (jV i), .dma cc0_scoped0.sem) 0) := by
  unfold St A2 OutB Rest
  iintro ⟨HX, HI, HW, H2, H3, HO, HH, HOW, Hs8, Hs7, Hs9, Hs10, Hs11, Hw, Hm, Hs⟩
  ihave HO' := (pointsTo_split_subset (q := fullShare) (f := oo) (S := Finset.univ) (Finset.subset_univ sO.view.set)).1 $$ HO
  icases HO' with ⟨HO, HO'⟩
  isplitl [HX HI HW H2 H3 HO' HH HOW Hs8 Hs7 Hs9 Hs10 Hs11]
  · isplitl [HOW]; · iexact HOW
    isplitl [HX]; · iexact HX
    isplitl [HI]; · iexact HI
    isplitl [HW]; · iexact HW
    isplitl [H2]; · iexact H2
    isplitl [H3]; · iexact H3
    isplitl [HO']; · iexact HO'
    isplitl [HH]; · iexact HH
    isplitl [Hs8]; · iexact Hs8
    isplitl [Hs7]; · iexact Hs7
    isplitl [Hs9]; · iexact Hs9
    isplitl [Hs10]; · iexact Hs10
    iexact Hs11
  isplitl [Hw]; · iexact Hw
  isplitl [HO]; · iexact HO
  isplitl [Hm]; · iexact Hm
  iexact Hs

theorem to_wait {A B C : sProp 𝕄} : iprop((A ∗ B) ∗ C) ⊢ iprop(A ∗ C ∗ B) := by
  iintro ⟨⟨HA, HB⟩, HC⟩
  isplitl [HA]; · iexact HA
  isplitl [HC] <;> iassumption

theorem to_after : iprop(OW d (cV i) (jV i) O W
      ∗ (((willBeTo EW ((tO i).view.loc (V d (cV i) (jV i))) Finset.univ qo fo (fun j => some (resF X I W1 W2 W3 j)) (∅ ∪ (tO i).view.set))
        ∗ (sO.view.loc (V d (cV i) (jV i)) ↦[sO.view.set]{fullShare} oo)) ∗ semVal (V d (cV i) (jV i), .dma cc0_scoped0.sem) 0)
      ∗ Rest d i X I W1 W2 W3 f2 oo hh)
    ⊢ After d i X I W1 W2 W3 f2 O W qo fo oo hh := by
  unfold After Rest
  iintro ⟨HOW, ⟨⟨Hm, HO⟩, Hs⟩, HX, HI, HW, H2, H3, HO', HH, Hs8, Hs7, Hs9, Hs10, Hs11⟩
  isplitl [HOW]; · iexact HOW
  isplitl [HX HI HW H2 H3 HO HO' HH]
  · isplitl [HX]; · iexact HX
    isplitl [HI]; · iexact HI
    isplitl [HW]; · iexact HW
    isplitl [H2]; · iexact H2
    isplitl [H3]; · iexact H3
    isplitl [HO HO']
    · iapply (pointsTo_split_subset (q := fullShare) (f := oo) (S := Finset.univ) (Finset.subset_univ sO.view.set)).2
      isplitl [HO] <;> iassumption
    iexact HH
  isplitl [Hs8 Hs7 Hs9 Hs10 Hs11 Hs]
  · isplitl [Hs7]; · iexact Hs7
    isplitl [Hs8]; · iexact Hs8
    isplitl [Hs9]; · iexact Hs9
    isplitl [Hs10]; · iexact Hs10
    isplitl [Hs11] <;> iassumption
  iexact Hm
end

section
variable {i : grid0.Coords} {arg2 : Memref sig .scVector .hbm S512x64 .f32} {harg2 : arg2.IsWhole}
variable {d : Dev nD} {X : S512x64.Idx → F .f32} {I : S800000.Idx → BitVec 32} {W1 : S800000.Idx → F .f32} {W2 : S200000.Idx → F .f32} {W3 : S50016.Idx → F .f32}
variable {f2 : S6288.Idx → F .f32} {O : CellTallies nD τ sig (HIx 1)} {W : Waits sig (HIx 1)} {ιw : ℕ} {qo : PosShare TreeShare} {fo : S12500x64.Idx → F .f32}
variable {qX qI qI' qW qW' q2 q3 : PosShare TreeShare}
variable {x0 : S512x64.Idx → F .f32} {i0 : S25088.Idx → BitVec 32} {w0 : S25088.Idx → F .f32} {w3 : S1584.Idx → F .f32} {oo : S393x64.Idx → F .f32} {hh : S2x16x16.Idx → F .f32}

theorem amountO (i : grid0.Coords) : (tO i).view.amount (.dma cc0_scoped0.sem) = sO.view.dmaCredit := rfl

theorem copy_out {h₂ : S2x16x16.Idx → F .f32} : Run (c := cV i) (s := jV i) d
    (St d (cV i) (jV i) X (tI i I) (tW i W1) (t2 i W2 f2) (t3 i W3) Finset.univ (A2 d i X I W1 W2 W3 O W ιw qo fo)
      (oAt X (tI i I) (tW i W1) (t2 i W2 f2) (t3 i W3) oo hh 393) h₂)
    (Prog.lift (.enqueueDma sO (.here (tO i)) (.dma cc0_scoped0.sem) (View.wordExact_bits rfl) (View.wordExact_bits rfl) ⟨Or.inl rfl, trivial⟩)) PUnit.unit
    iprop(OW d (cV i) (jV i) O W
      ∗ Transfers.Flight countersEmb (V d (cV i) (jV i)) (.dma cc0_scoped0.sem) (default : HIx 1) sO.view.dmaCredit
        iprop((willBeTo EW ((tO i).view.loc (V d (cV i) (jV i))) Finset.univ qo fo (fun j => some (resF X I W1 W2 W3 j)) (∅ ∪ (tO i).view.set))
          ∗ (sO.view.loc (V d (cV i) (jV i)) ↦[sO.view.set]{fullShare} (oAt X (tI i I) (tW i W1) (t2 i W2 f2) (t3 i W3) oo hh 393)))
      ∗ Rest d i X I W1 W2 W3 f2 (oAt X (tI i I) (tW i W1) (t2 i W2 f2) (t3 i W3) oo hh 393) h₂) :=
  Run.conseq (enqW ιw sO.view.dmaCredit (amountO i) (by decide) (read_O i X I W1 W2 W3 f2 oo hh)) to_out to_wait

theorem oAt_succ {X : S512x64.Idx → F .f32} {I : S25088.Idx → BitVec 32} {W1 : S25088.Idx → F .f32} {W2 : S6288.Idx → F .f32} {W3 : S1584.Idx → F .f32} (n : ℕ) :
    oAt X I W1 W2 W3 oo hh (n + 1) = setRow (oAt X I W1 W2 W3 oo hh n) n (outV W2 W3 n (hidOf (hAt X I W1 hh n) ((n + 1) % 2))) 4 := rfl

theorem last_row {A : sProp 𝕄} {h₂ : S2x16x16.Idx → F .f32} :
    St d (cV i) (jV i) X (tI i I) (tW i W1) (t2 i W2 f2) (t3 i W3) Finset.univ A
      (setRow (oAt X (tI i I) (tW i W1) (t2 i W2 f2) (t3 i W3) oo hh 392) 392
        (outV (t2 i W2 f2) (t3 i W3) 392 (hidOf (hAt X (tI i I) (tW i W1) hh 392) ((392 + 1) % 2))) (1 + 1 + 1 + 1)) h₂
    ⊢ St d (cV i) (jV i) X (tI i I) (tW i W1) (t2 i W2 f2) (t3 i W3) Finset.univ A (oAt X (tI i I) (tW i W1) (t2 i W2 f2) (t3 i W3) oo hh 393) h₂ :=
  Entails.of_eq (congrArg (fun o => St d (cV i) (jV i) X (tI i I) (tW i W1) (t2 i W2 f2) (t3 i W3) Finset.univ A o h₂) (oAt_succ 392).symm)

set_option maxHeartbeats 4000000 in
theorem body_run (hI : ∀ j, (I j).toNat < 512) :
    Run (c := cV i) (s := jV i) d
      (slots d i X I W1 W2 W3 f2 O W qX qI qI' qW qW' q2 q3 x0 i0 w0 w3
        iprop((bW2.view.loc (V d (cV i) (jV i)) ↦[Finset.univ \ tW2.view.set]{fullShare} (t2 i W2 f2))
          ∗ (bO.view.loc (V d (cV i) (jV i)) ↦{fullShare} oo) ∗ (bH.view.loc (V d (cV i) (jV i)) ↦{fullShare} hh) ∗ OutB d i X I W1 W2 W3 ιw qo fo))
      (cc0__body i mX (Memref.isWhole_whole _) mI (Memref.isWhole_whole _) mW1 (Memref.isWhole_whole _) mW2 (Memref.isWhole_whole _) mW3 (Memref.isWhole_whole _)
        mO (Memref.isWhole_whole _) bX (Memref.isWhole_whole _) bI (Memref.isWhole_whole _) bW1 (Memref.isWhole_whole _) bW2 (Memref.isWhole_whole _)
        bW3 (Memref.isWhole_whole _) bO (Memref.isWhole_whole _) bH (Memref.isWhole_whole _) cc0_scratch7 cc0_scratch8 cc0_scratch9 cc0_scratch10 cc0_scratch11 cc0_scoped0)
      PUnit.unit
      (After d i X I W1 W2 W3 f2 O W qo fo (oAt X (tI i I) (tW i W1) (t2 i W2 f2) (t3 i W3) oo hh 393) (hAt X (tI i I) (tW i W1) hh 392)) := by
  have hT : ∀ j, (tI i I j).toNat < 512 := fun j => hI _
  unfold slots
  apply Run.opened
  with_reducible apply Run.bind
  · apply Run.opened
    with_reducible apply Run.bind
    · with_reducible apply Run.inL
      with_reducible apply enq
      case hN => exact rfl
      case hN0 => decide
    with_reducible apply Run.bind
    · with_reducible apply Run.inR
      with_reducible apply Run.inL
      with_reducible apply Run.inR
      with_reducible apply enqB
      case hN => exact rfl
      case hj => decide
      case hD => exact del1_I
    with_reducible apply Run.bind
    · with_reducible apply Run.inR
      with_reducible apply Run.inL
      with_reducible apply enqB
      case hN => exact rfl
      case hj => decide
      case hD => exact del1_W
    with_reducible apply Run.pure
  with_reducible apply Run.bind
  · apply Run.opened
    with_reducible apply Run.bind
    · iterate 2 with_reducible apply Run.inR
      with_reducible apply Run.inL
      with_reducible apply enq
      case hN => exact rfl
      case hN0 => decide
    with_reducible apply Run.bind
    · iterate 3 with_reducible apply Run.inR
      with_reducible apply Run.inL
      with_reducible apply enq
      case hN => exact rfl
      case hN0 => decide
    with_reducible apply Run.bind
    · iterate 4 with_reducible apply Run.inR
      with_reducible apply Run.inL
      with_reducible apply Run.inR
      with_reducible apply enqB
      case hN => exact rfl
      case hj => decide
      case hD => exact del2_I
    with_reducible apply Run.bind
    · iterate 4 with_reducible apply Run.inR
      with_reducible apply Run.inL
      with_reducible apply enqB
      case hN => exact rfl
      case hj => decide
      case hD => exact del2_W
    with_reducible apply Run.bind
    · with_reducible apply Run.inL
      with_reducible apply wt
      case hN => exact rfl
      case hD => exact written X (fun _ => rfl)
    with_reducible apply Run.bind
    · with_reducible apply Run.inR
      with_reducible apply Run.inL
      with_reducible apply wtB
      case hN => exact rfl
      case hN0 => decide
    with_reducible apply Run.bind
    · with_reducible apply Run.inR
      with_reducible apply Run.inL
      with_reducible apply wtB'
      case hN => exact rfl
      case hN0 => decide
    with_reducible apply Run.bind
    · iterate 2 with_reducible apply Run.inR
      with_reducible apply Run.inL
      with_reducible apply wt
      case hN => exact rfl
      case hD => exact written (t2 i W2 f2) (read_W2 i f2 W2)
    with_reducible apply Run.bind
    · iterate 3 with_reducible apply Run.inR
      with_reducible apply Run.inL
      with_reducible apply wt
      case hN => exact rfl
      case hD => exact written (t3 i W3) (read_W3 i W3)
    with_reducible apply Run.bind
    · refine Run.conseq (Run.loop k0_t1_loop k0_t1_ok _ (fun n => St d (cV i) (jV i) X (tI i I) (tW i W1) (t2 i W2 f2) (t3 i W3) half (A1 d i X I W1 W2 W3 O W ιw qo fo)
        (oAt X (tI i I) (tW i W1) (t2 i W2 f2) (t3 i W3) oo hh n) (hAt X (tI i I) (tW i W1) hh n)) (fun k => ?_)) to_rows first_end
      exact loop1_run i mX (Memref.isWhole_whole _) mI (Memref.isWhole_whole _) mW1 (Memref.isWhole_whole _) mW2 (Memref.isWhole_whole _) mW3 (Memref.isWhole_whole _)
        mO (Memref.isWhole_whole _) cc0_scratch7 cc0_scratch8 cc0_scratch9 cc0_scratch10 cc0_scratch11 cc0_scoped0 k (rows1 k) (fun j _ => hT j)
    with_reducible apply Run.pure
  with_reducible apply Run.bind
  · apply Run.opened
    with_reducible apply Run.bind
    · with_reducible apply Run.inL
      with_reducible apply wtB
      case hN => exact rfl
      case hN0 => decide
    with_reducible apply Run.bind
    · with_reducible apply Run.inL
      with_reducible apply wtB'
      case hN => exact rfl
      case hN0 => decide
    with_reducible apply Run.bind
    · refine Run.conseq (Run.loop k0_t2_loop k0_t2_ok _ (fun n => St d (cV i) (jV i) X (tI i I) (tW i W1) (t2 i W2 f2) (t3 i W3) Finset.univ (A2 d i X I W1 W2 W3 O W ιw qo fo)
        (oAt X (tI i I) (tW i W1) (t2 i W2 f2) (t3 i W3) oo hh (196 + n)) (hAt X (tI i I) (tW i W1) hh (196 + n))) (fun k => ?_)) to_second
          (R₁ := St d (cV i) (jV i) X (tI i I) (tW i W1) (t2 i W2 f2) (t3 i W3) Finset.univ (A2 d i X I W1 W2 W3 O W ιw qo fo)
            (oAt X (tI i I) (tW i W1) (t2 i W2 f2) (t3 i W3) oo hh 392) (hAt X (tI i I) (tW i W1) hh 392)) (by rw [trips2])
      exact loop2_run i mX (Memref.isWhole_whole _) mI (Memref.isWhole_whole _) mW1 (Memref.isWhole_whole _) mW2 (Memref.isWhole_whole _) mW3 (Memref.isWhole_whole _)
        mO (Memref.isWhole_whole _) cc0_scratch7 cc0_scratch8 cc0_scratch9 cc0_scratch10 cc0_scratch11 cc0_scoped0 k (Finset.subset_univ _) (fun j _ => hT j)
    have hn : (gLast i).toNat = 392 := by rw [gLast_eq]; rfl
    repeat (first
    | with_reducible apply Run.pure
    | ((with_reducible apply stepOther hn); (case ho => exact rfl))
    | ((with_reducible apply stepV2 hn); (case hn' => omega); (case ho => exact rfl))
    | ((with_reducible apply stepV3 hn); (case hn' => omega); (case ho => exact rfl))
    | (with_reducible apply stepO)
    | ((with_reducible apply storeOut hn); (case hq => decide); (case ho => exact rfl); case hx => simp only [castH, castS, castX]; exact rfl)
    | ((with_reducible apply storeOut0 (outV (t2 i W2 f2) (t3 i W3) 392 (hidOf (hAt X (tI i I) (tW i W1) hh 392) ((392 + 1) % 2))) hn); (case ho => exact rfl); case hx => simp only [castH, castS, castX]; exact rfl)
    | with_reducible apply Run.single
    | ((fail_if_success (with_reducible apply Run.lifted)); with_reducible apply Run.bind)
    | delta k0_part103
    | delta k0_part104
    | delta k0_part105
    | delta k0_part106
    | ((fail_if_success (with_reducible apply Run.lifted)); apply Run.opened))
  have hn : (gLast i).toNat = 392 := by rw [gLast_eq]; rfl
  repeat (first
    | with_reducible apply Run.pure
    | ((with_reducible apply stepOther hn); (case ho => exact rfl))
    | ((with_reducible apply stepV2 hn); (case hn' => omega); (case ho => exact rfl))
    | ((with_reducible apply stepV3 hn); (case hn' => omega); (case ho => exact rfl))
    | (with_reducible apply stepO)
    | ((with_reducible apply storeOut hn); (case hq => decide); (case ho => exact rfl); case hx => simp only [castH, castS, castX]; exact rfl)
    | ((with_reducible apply storeOut0 (outV (t2 i W2 f2) (t3 i W3) 392 (hidOf (hAt X (tI i I) (tW i W1) hh 392) ((392 + 1) % 2))) hn); (case ho => exact rfl); case hx => simp only [castH, castS, castX]; exact rfl)
    | with_reducible apply Run.single
    | ((fail_if_success (with_reducible apply Run.lifted)); with_reducible apply Run.bind)
    | delta k0_part103
    | delta k0_part104
    | delta k0_part105
    | delta k0_part106
    | ((fail_if_success (with_reducible apply Run.lifted)); apply Run.opened))
  with_reducible apply Run.bind
  · exact Run.conseq (copy_out (oo := oo) (hh := hh) (h₂ := hAt X (tI i I) (tW i W1) hh 392)) last_row .rfl
  with_reducible apply Run.bind
  · with_reducible apply Run.inL
    with_reducible apply wt
    case hN => exact rfl
    case hD => exact .rfl
  exact (Run.pure _ _).conseq to_after .rfl
end
end Cert.Proof.Mlp
end
-- ==== Proof.Share.lean ====
/-
  One share dealt to many: the j-th piece, what is left after n pieces, and how a buffer held at a share is held at the
  pieces and the rest; the same in write mode, where the pieces come back with what each knows to be written.
-/
module

public import proofs.«01_k».proof.Proof.Task
public import Idealize.SL.BI.BigOpNat

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- What is left of a share after `n` pieces. -/
def remS : ℕ → PosShare TreeShare → PosShare TreeShare
  | 0, q => q
  | n + 1, q => (remS n q).right
/-- The `n`-th piece. -/
def cutS (n : ℕ) (q : PosShare TreeShare) : PosShare TreeShare := (remS n q).left

theorem cut_rem (n : ℕ) (q : PosShare TreeShare) : remS n q ∈ PCS.op (cutS n q) (remS (n + 1) q) := PosShare.mem_left_op_right _

theorem pts_deal {ℓ : Loc nD τ sig} (I : Finset (Idx ℓ)) (q : PosShare TreeShare) (f : Buf (Elt F) ℓ) (n : ℕ) :
    (ℓ ↦[I]{q} f : sProp (MM F)) ⊢ iprop((ℓ ↦[I]{remS n q} f) ∗ bigSep (Finset.range n) fun j => ℓ ↦[I]{cutS j q} f) := by
  induction n with
  | zero => rw [Finset.range_zero, bigSep_empty]; exact Laws.sep_emp.2
  | succ n ih =>
    rw [bigSep_range_succ]
    refine ih.trans ?_
    iintro ⟨H, Hs⟩
    ihave H' := (pointsTo_share (cut_rem n q)).1 $$ H
    icases H' with ⟨Hc, Hr⟩
    isplitl [Hr]; · iexact Hr
    isplitl [Hc]; · iexact Hc
    iexact Hs

theorem wb_share {ℓ : Loc nD τ sig} {q q₁ q₂ : PosShare TreeShare} (h : q ∈ PCS.op q₁ q₂) (I : Finset (Idx ℓ)) (f : Buf (Elt F) ℓ) (g : Tgt (Elt F) ℓ)
    (W₁ W₂ : Finset (Idx ℓ)) :
    (willBeTo EW ℓ I q f g (W₁ ∪ W₂) : sProp (MM F)) ⊣⊢ iprop(willBeTo EW ℓ I q₁ f g W₁ ∗ willBeTo EW ℓ I q₂ f g W₂) :=
  BI.Region.held_share h fun i _ => by
    simp only [Finset.mem_union, Bool.decide_or]; exact RA.Region.WB.mem_mk_op_mk _ _ _ _

theorem wb_halve {ℓ : Loc nD τ sig} {q q₁ q₂ : PosShare TreeShare} (h : q ∈ PCS.op q₁ q₂) (I : Finset (Idx ℓ)) (f : Buf (Elt F) ℓ) (g : Tgt (Elt F) ℓ) :
    (willBeTo EW ℓ I q f g ∅ : sProp (MM F)) ⊢ iprop(willBeTo EW ℓ I q₁ f g ∅ ∗ willBeTo EW ℓ I q₂ f g ∅) := by
  have e := (wb_share h I f g ∅ ∅).1
  rwa [Finset.union_empty] at e

theorem wb_deal {ℓ : Loc nD τ sig} (I : Finset (Idx ℓ)) (q : PosShare TreeShare) (f : Buf (Elt F) ℓ) (g : Tgt (Elt F) ℓ) (n : ℕ) :
    (willBeTo EW ℓ I q f g ∅ : sProp (MM F))
      ⊢ iprop(willBeTo EW ℓ I (remS n q) f g ∅ ∗ bigSep (Finset.range n) fun j => willBeTo EW ℓ I (cutS j q) f g ∅) := by
  induction n with
  | zero => rw [Finset.range_zero, bigSep_empty]; exact Laws.sep_emp.2
  | succ n ih =>
    rw [bigSep_range_succ]
    refine ih.trans ?_
    iintro ⟨H, Hs⟩
    ihave H' := (wb_halve (cut_rem n q) I f g) $$ H
    icases H' with ⟨Hc, Hr⟩
    isplitl [Hr]; · iexact Hr
    isplitl [Hc]; · iexact Hc
    iexact Hs

theorem wb_join {ℓ : Loc nD τ sig} (I : Finset (Idx ℓ)) (q : PosShare TreeShare) (f : Buf (Elt F) ℓ) (g : Tgt (Elt F) ℓ) (Wt : ℕ → Finset (Idx ℓ)) (n : ℕ) :
    iprop(willBeTo EW ℓ I (remS n q) f g ∅ ∗ bigSep (Finset.range n) fun j => willBeTo EW ℓ I (cutS j q) f g (Wt j))
      ⊢ iprop(∃ W, ⌜∀ j < n, Wt j ⊆ W⌝ ∗ (willBeTo EW ℓ I q f g W : sProp (MM F))) := by
  suffices h : ∀ (n : ℕ) (W₀ : Finset (Idx ℓ)),
      iprop(willBeTo EW ℓ I (remS n q) f g W₀ ∗ bigSep (Finset.range n) fun j => willBeTo EW ℓ I (cutS j q) f g (Wt j))
        ⊢ iprop(∃ W, ⌜W₀ ⊆ W ∧ ∀ j < n, Wt j ⊆ W⌝ ∗ (willBeTo EW ℓ I q f g W : sProp (MM F))) by
    refine (h n ∅).trans ?_
    iintro ⟨%W, %hW, H⟩
    iexists W; isplitr
    · ipureintro; exact hW.2
    · iexact H
  intro n
  induction n with
  | zero =>
    intro W₀
    iintro ⟨H, -⟩
    iexists W₀; isplitr
    · ipureintro; exact ⟨subset_rfl, fun j hj => absurd hj (Nat.not_lt_zero j)⟩
    · iexact H
  | succ n ih =>
    intro W₀
    rw [bigSep_range_succ]
    iintro ⟨Hr, Hc, Hs⟩
    ihave H := (wb_share (cut_rem n q) I f g (Wt n) W₀).2 $$ [Hc Hr]
    · isplitl [Hc] <;> iassumption
    ihave H' := (ih (Wt n ∪ W₀)) $$ [H Hs]
    · isplitl [H] <;> iassumption
    icases H' with ⟨%W, %hW, H⟩
    iexists W; isplitr
    · ipureintro
      refine ⟨Finset.subset_union_right.trans hW.1, fun j hj => ?_⟩
      rcases Nat.lt_succ_iff_lt_or_eq.mp hj with h | rfl
      · exact hW.2 j h
      · exact Finset.subset_union_left.trans hW.1
    · iexact H

/-- Numbered pieces, told apart by two coordinates. -/
theorem bigSep_pairs (a b : ℕ) (A : ℕ → sProp (MM F)) :
    bigSep (Finset.range (a * b)) A = bigSep Finset.univ fun c : Fin a => bigSep Finset.univ fun s : Fin b => A (s.val + b * c.val) := by
  have e : Finset.range (a * b) = (Finset.univ : Finset (Fin (a * b))).map Fin.valEmbedding := by
    ext j; simp only [Finset.mem_range, Finset.mem_map, Finset.mem_univ, Fin.valEmbedding_apply, true_and]
    exact ⟨fun h => ⟨⟨j, h⟩, rfl⟩, fun ⟨k, hk⟩ => hk ▸ k.isLt⟩
  rw [e, bigSep_map, bigSep_univ_equiv finProdFinEquiv, bigSep_univ_prod]
  rfl

end Cert.Proof.Mlp
end
-- ==== Proof.TileRun.lean ====
/-
  One tile's task from what the launch gives it: the subcore's own buffers and semaphores, its shares of the arrays, the
  output in write mode.
-/
module

public import proofs.«01_k».proof.Proof.Share

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownBufs ownSems0 ownCells ownRefs mem_ownCells)

variable {F : FTy → Type} [FloatOps F]

abbrev xLoc (d : Dev nD) : Loc nD τ sig := (SparseCore.T d).loc main_v0
abbrev iLoc (d : Dev nD) : Loc nD τ sig := (SparseCore.T d).loc main_arg2
abbrev w1Loc (d : Dev nD) : Loc nD τ sig := (SparseCore.T d).loc main_arg7
abbrev w2Loc (d : Dev nD) : Loc nD τ sig := (SparseCore.T d).loc main_arg9
abbrev w3Loc (d : Dev nD) : Loc nD τ sig := (SparseCore.T d).loc main_v1
abbrev oLoc (d : Dev nD) : Loc nD τ sig := (SparseCore.T d).loc main_v2

/-! ## The subcore's own semaphores and buffers -/

abbrev mySems : Finset (SemLoc sig) :=
  {.dma cc0_scratch7.sem, .dma cc0_scratch8.sem, .dma cc0_scratch9.sem, .dma cc0_scratch10.sem, .dma cc0_scratch11.sem, .dma cc0_scoped0.sem}
abbrev myRefs : Finset (Ref sig .scVector) :=
  {cc0_scratch0, cc0_scratch1, cc0_scratch2, cc0_scratch3, cc0_scratch4, cc0_scratch5, cc0_scratch6}

def cellOf (t : Thread nD τ) : SemLoc sig ↪ GSem nD τ sig := ⟨fun s => (t, s), fun _ _ e => (Prod.mk.inj e).2⟩
def refOf (c : Fin τ.nSC) (s : Fin τ.nSub) : Ref sig .scVector ↪ DevRef τ sig := ⟨(Proc.scVector c s).devRef, Proc.devRef_injective _⟩

section
variable (d : Dev nD) (i : grid0.Coords)

theorem mySems_sub : mySems.map (cellOf (V d (cV i) (jV i))) ⊆ ownCells (V d (cV i) (jV i)) := by
  intro g hg
  obtain ⟨s, hs, rfl⟩ := Finset.mem_map.mp hg
  exact mem_ownCells.mpr ⟨rfl, (show ∀ s ∈ mySems, s.isScoped .scVector = true by decide) s hs⟩

theorem myRefs_sub : myRefs.map (refOf (cV i) (jV i)) ⊆ ownRefs (τ := τ) (.scVector (cV i) (jV i)) := by
  intro g hg
  obtain ⟨b, hb, rfl⟩ := Finset.mem_map.mp hg
  refine SparseCore.Cfg.mem_ownRefs_of_owner (p := Proc.scVector (cV i) (jV i)) ?_
  simp only [myRefs, Finset.mem_insert, Finset.mem_singleton] at hb
  rcases hb with rfl | rfl | rfl | rfl | rfl | rfl | rfl <;> rfl

/-- The rest of the subcore's semaphores, and of its buffers. -/
def semRest : sProp (MM F) := bigSep (ownCells (V d (cV i) (jV i)) \ mySems.map (cellOf (V d (cV i) (jV i)))) fun g => semVal g 0
def bufRest : sProp (MM F) :=
  bigSep (ownRefs (τ := τ) (.scVector (cV i) (jV i)) \ myRefs.map (refOf (cV i) (jV i))) fun b => iprop(∃ f, ((d, b) : Loc nD τ sig) ↦{fullShare} f)

theorem ownSems0_V :
    (ownSems0 (V d (cV i) (jV i)) : sProp (MM F))
      = iprop((semVal (V d (cV i) (jV i), .dma cc0_scratch7.sem) 0 ∗ semVal (V d (cV i) (jV i), .dma cc0_scratch8.sem) 0
        ∗ semVal (V d (cV i) (jV i), .dma cc0_scratch9.sem) 0 ∗ semVal (V d (cV i) (jV i), .dma cc0_scratch10.sem) 0
        ∗ semVal (V d (cV i) (jV i), .dma cc0_scratch11.sem) 0 ∗ semVal (V d (cV i) (jV i), .dma cc0_scoped0.sem) 0) ∗ semRest d i) := by
  unfold SparseCore.Cfg.ownSems0 semRest
  conv_lhs => rw [← Finset.union_sdiff_of_subset (mySems_sub d i), bigSep_union Finset.disjoint_sdiff, bigSep_map]
  unfold mySems
  rw [SparseCore.bigSep_insert' (by decide), SparseCore.bigSep_insert' (by decide), SparseCore.bigSep_insert' (by decide),
    SparseCore.bigSep_insert' (by decide), SparseCore.bigSep_insert' (by decide), bigSep_singleton]
  rfl

theorem ownBufs_V :
    (ownBufs (V d (cV i) (jV i)) : sProp (MM F))
      = iprop(((∃ f, bX.view.loc (V d (cV i) (jV i)) ↦{fullShare} f) ∗ (∃ f, bI.view.loc (V d (cV i) (jV i)) ↦{fullShare} f)
        ∗ (∃ f, bW1.view.loc (V d (cV i) (jV i)) ↦{fullShare} f) ∗ (∃ f, bW2.view.loc (V d (cV i) (jV i)) ↦{fullShare} f)
        ∗ (∃ f, bW3.view.loc (V d (cV i) (jV i)) ↦{fullShare} f) ∗ (∃ f, bO.view.loc (V d (cV i) (jV i)) ↦{fullShare} f)
        ∗ (∃ f, bH.view.loc (V d (cV i) (jV i)) ↦{fullShare} f)) ∗ bufRest d i) := by
  unfold SparseCore.Cfg.ownBufs bufRest
  conv_lhs => rw [← Finset.union_sdiff_of_subset (myRefs_sub i), bigSep_union Finset.disjoint_sdiff, bigSep_map]
  unfold myRefs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

end

/-! ## The task -/

theorem narrow {ℓ : Loc nD τ sig} (J : Finset (Idx ℓ)) {q : PosShare TreeShare} {f : Buf (Elt F) ℓ} :
    (ℓ ↦{q} f : sProp (MM F)) ⊢ ℓ ↦[J]{q} f := by
  refine (pointsTo_split_subset (Finset.subset_univ J)).1.trans ?_
  iintro ⟨H, -⟩; iexact H

/-- Outside the stretch the second weights are copied to, the buffer keeps what it held. -/
theorem t2_off (i : grid0.Coords) (W2 : S200000.Idx → F .f32) (f2 : S6288.Idx → F .f32) (j : S6288.Idx) (hj : j ∉ tW2.view.set) :
    f2 j = t2 i W2 f2 j := by
  have h : (j 0).val < 16 := by
    by_contra hn
    rw [show tW2.view.set = _ from View.set_slice_whole _ _] at hj
    refine hj ?_
    have hj : (j 0).val < 6288 := (j 0).isLt
    rw [← Rect.map_emb_univ]
    refine Finset.mem_map.mpr ⟨fun a => ⟨(j 0).val - 16, by match a with | 0 => show (j 0).val - 16 < 6272; omega⟩, Finset.mem_univ _, ?_⟩
    funext a
    refine Fin.ext ?_
    match a with
    | 0 => show 16 + 1 * ((j 0).val - 16) = (j 0).val; omega
  exact (if_pos h).symm

section
variable (d : Dev nD) (i : grid0.Coords)
variable (X : S512x64.Idx → F .f32) (I : S800000.Idx → BitVec 32) (W1 : S800000.Idx → F .f32) (W2 : S200000.Idx → F .f32) (W3 : S50016.Idx → F .f32)
variable (fo : S12500x64.Idx → F .f32) (q : PosShare TreeShare)

/-- What a task is given: a share of each array read, a share of the output in write mode. -/
def give : sProp (MM F) :=
  iprop((xLoc d ↦{q} X) ∗ (iLoc d ↦{q} I) ∗ (w1Loc d ↦{q} W1) ∗ (w2Loc d ↦{q} W2) ∗ (w3Loc d ↦{q} W3)
    ∗ willBeTo EW (oLoc d) Finset.univ q fo (fun j => some (resF X I W1 W2 W3 j)) ∅)
/-- What it brings back: the share of the output, its rows written. -/
def back : sProp (MM F) :=
  willBeTo EW (oLoc d) Finset.univ q fo (fun j => some (resF X I W1 W2 W3 j)) (∅ ∪ (tO i).view.set)

variable {d i X I W1 W2 W3 fo q}

variable {O : CellTallies nD τ sig (HIx 1)} {W : Waits sig (HIx 1)} {ιw : ℕ}
variable {x0 : S512x64.Idx → F .f32} {i0 : S25088.Idx → BitVec 32} {w0 : S25088.Idx → F .f32} {f2 : S6288.Idx → F .f32} {w3 : S1584.Idx → F .f32}
variable {oo : S393x64.Idx → F .f32} {hh : S2x16x16.Idx → F .f32}

/-- The slots from the pieces, the two batches opened. -/
theorem to_slots :
    iprop(OW d (cV i) (jV i) O W ∗ wmInv EW ιw ∗ give d X I W1 W2 W3 fo q
        ∗ ((bX.view.loc (V d (cV i) (jV i)) ↦{fullShare} x0) ∗ (bI.view.loc (V d (cV i) (jV i)) ↦{fullShare} i0)
          ∗ (bW1.view.loc (V d (cV i) (jV i)) ↦{fullShare} w0) ∗ (bW2.view.loc (V d (cV i) (jV i)) ↦{fullShare} f2)
          ∗ (bW3.view.loc (V d (cV i) (jV i)) ↦{fullShare} w3) ∗ (bO.view.loc (V d (cV i) (jV i)) ↦{fullShare} oo)
          ∗ (bH.view.loc (V d (cV i) (jV i)) ↦{fullShare} hh))
        ∗ semVal (V d (cV i) (jV i), .dma cc0_scratch7.sem) 0 ∗ semVal (V d (cV i) (jV i), .dma cc0_scratch8.sem) 0
        ∗ semVal (V d (cV i) (jV i), .dma cc0_scratch9.sem) 0 ∗ semVal (V d (cV i) (jV i), .dma cc0_scratch10.sem) 0
        ∗ semVal (V d (cV i) (jV i), .dma cc0_scratch11.sem) 0 ∗ semVal (V d (cV i) (jV i), .dma cc0_scoped0.sem) 0)
      ⊢ |={Set.univ}=> slots d i X I W1 W2 W3 f2 O W q q.left q.right q.left q.right q q x0 i0 w0 w3
          iprop((bW2.view.loc (V d (cV i) (jV i)) ↦[Finset.univ \ tW2.view.set]{fullShare} (t2 i W2 f2))
            ∗ (bO.view.loc (V d (cV i) (jV i)) ↦{fullShare} oo) ∗ (bH.view.loc (V d (cV i) (jV i)) ↦{fullShare} hh) ∗ OutB d i X I W1 W2 W3 ιw q fo) := by
  unfold give slots OutB
  iintro ⟨HOW, Hw, ⟨HX, HI, HW1, HW2, HW3, Hout⟩, ⟨HbX, HbI, HbW1, HbW2, HbW3, HbO, HbH⟩, Hs7, Hs8, Hs9, Hs10, Hs11, Hs⟩
  imod (Transfers.batch_alloc' countersEmb (c := V d (cV i) (jV i)) (sm := .dma cc0_scratch7.sem) (default : HIx 1) tI1.view.dmaCredit (del1 d i I W1) (E := Set.univ)) $$ Hs7 with H1
  imod (Transfers.batch_alloc' countersEmb (c := V d (cV i) (jV i)) (sm := .dma cc0_scratch8.sem) (default : HIx 1) tI1.view.dmaCredit (del2 d i I W1) (E := Set.univ)) $$ Hs8 with H2
  imodintro
  ihave HI' := (pointsTo_share (PosShare.mem_left_op_right q)).1 $$ HI
  icases HI' with ⟨HIl, HIr⟩
  ihave HW1' := (pointsTo_share (PosShare.mem_left_op_right q)).1 $$ HW1
  icases HW1' with ⟨HWl, HWr⟩
  ihave HbI' := (pointsTo_split_subset (q := fullShare) (f := i0) (S := Finset.univ) (Finset.subset_univ half)).1 $$ HbI
  icases HbI' with ⟨HbI1, HbI2⟩
  ihave HbW1' := (pointsTo_split_subset (q := fullShare) (f := w0) (S := Finset.univ) (Finset.subset_univ half)).1 $$ HbW1
  icases HbW1' with ⟨HbW11, HbW12⟩
  ihave HbW2' := (pointsTo_split_subset (q := fullShare) (f := f2) (S := Finset.univ) (Finset.subset_univ tW2.view.set)).1 $$ HbW2
  icases HbW2' with ⟨HbW21, HbW22⟩
  isplitl [HOW]; · iexact HOW
  isplitl [HX HbX Hs9]
  · isplitl [HX]; · iapply (narrow mX.view.set) $$ HX
    isplitl [HbX]; · iapply (narrow bX.view.set) $$ HbX
    iexact Hs9
  isplitl [HWl HbW11 HIl HbI1 H1]
  · isplitl [HWl HbW11]
    · isplitl [HWl]; · iapply (narrow (sW1 i).view.set) $$ HWl
      iapply (Entails.of_eq (by rw [set_tW1])) $$ HbW11
    isplitl [HIl HbI1]
    · isplitl [HIl]; · iapply (narrow (sI1 i).view.set) $$ HIl
      iapply (Entails.of_eq (by rw [set_tI1])) $$ HbI1
    iexact H1
  isplitl [HW2 HbW21 Hs10]
  · isplitl [HW2]; · iapply (narrow (sW2 i).view.set) $$ HW2
    isplitl [HbW21]; · iexact HbW21
    iexact Hs10
  isplitl [HW3 HbW3 Hs11]
  · isplitl [HW3]; · iapply (narrow (sW3 i).view.set) $$ HW3
    isplitl [HbW3]; · iapply (narrow bW3.view.set) $$ HbW3
    iexact Hs11
  isplitl [HWr HbW12 HIr HbI2 H2]
  · isplitl [HWr HbW12]
    · isplitl [HWr]; · iapply (narrow (sW1' i).view.set) $$ HWr
      iapply (Entails.of_eq (by rw [set_tW1'])) $$ HbW12
    isplitl [HIr HbI2]
    · isplitl [HIr]; · iapply (narrow (sI2 i).view.set) $$ HIr
      iapply (Entails.of_eq (by rw [set_tI2])) $$ HbI2
    iexact H2
  isplitl [HbW22]
  · iapply (Entails.of_eq (pointsTo_congr fun j hj => (t2_off i W2 f2 j (Finset.mem_sdiff.mp hj).2))) $$ HbW22
  isplitl [HbO]; · iexact HbO
  isplitl [HbH]; · iexact HbH
  isplitl [Hw]; · iexact Hw
  isplitl [Hout]; · iexact Hout
  iexact Hs

/-- Back from the run's end. -/
theorem of_after :
    iprop(After d i X I W1 W2 W3 f2 O W q fo oo hh ∗ semRest d i ∗ bufRest d i)
      ⊢ iprop(back d i X I W1 W2 W3 fo q ∗ ownBufs (V d (cV i) (jV i)) ∗ ownSems0 (V d (cV i) (jV i))
        ∗ ∃ W', ⌜∀ p ∈ W', p ∈ W ∨ p.2 = none⌝ ∗ owes (V d (cV i) (jV i)) O W') := by
  rw [ownSems0_V, ownBufs_V]
  unfold After back OW
  iintro ⟨⟨⟨-, HO⟩, ⟨HbX, HbI, HbW1, HbW2, HbW3, HbO, HbH⟩, Hs, Hout⟩, Hsr, Hbr⟩
  isplitl [Hout]; · iexact Hout
  isplitl [HbX HbI HbW1 HbW2 HbW3 HbO HbH Hbr]
  · isplitr [Hbr]
    · isplitl [HbX]; · iexists _; iexact HbX
      isplitl [HbI]; · iexists _; iexact HbI
      isplitl [HbW1]; · iexists _; iexact HbW1
      isplitl [HbW2]; · iexists _; iexact HbW2
      isplitl [HbW3]; · iexists _; iexact HbW3
      isplitl [HbO]; · iexists _; iexact HbO
      iexists _; iexact HbH
    · iexact Hbr
  isplitl [Hs Hsr]
  · isplitl [Hs] <;> iassumption
  iexact HO

variable (d i X I W1 W2 W3 fo q O W)

theorem tile_body (hF : (K (F := F)).Facts) (hI : ∀ j, (I j).toNat < 512) (hO : ∀ g, O g none = 0) :
    iprop(levAts (K (F := F)).L (K (F := F)).lev ∗ (∃ ι, wmInv EW ι) ∗ give d X I W1 W2 W3 fo q
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__body i mX (Memref.isWhole_whole _) mI (Memref.isWhole_whole _) mW1 (Memref.isWhole_whole _) mW2 (Memref.isWhole_whole _) mW3 (Memref.isWhole_whole _)
            mO (Memref.isWhole_whole _) bX (Memref.isWhole_whole _) bI (Memref.isWhole_whole _) bW1 (Memref.isWhole_whole _) bW2 (Memref.isWhole_whole _)
            bW3 (Memref.isWhole_whole _) bO (Memref.isWhole_whole _) bH (Memref.isWhole_whole _) cc0_scratch7 cc0_scratch8 cc0_scratch9 cc0_scratch10 cc0_scratch11 cc0_scoped0)
          fun _ => iprop(back d i X I W1 W2 W3 fo q
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i)]
  conv_lhs => rw [ownSems0_V, ownBufs_V]
  iintro ⟨#Hlv, ⟨%ι, Hw⟩, Hgive, ⟨⟨⟨%x0, HbX⟩, ⟨%i0, HbI⟩, ⟨%w0, HbW1⟩, ⟨%f2, HbW2⟩, ⟨%w3, HbW3⟩, ⟨%oo, HbO⟩, ⟨%hh, HbH⟩⟩, Hbr⟩, ⟨Hs, Hsr⟩, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave Hst := (to_slots (d := d) (i := i) (X := X) (I := I) (W1 := W1) (W2 := W2) (W3 := W3) (fo := fo) (q := q) (O := O) (W := W) (ιw := ι)
    (x0 := x0) (i0 := i0) (w0 := w0) (f2 := f2) (w3 := w3) (oo := oo) (hh := hh)) $$ [Hmw HO Hw Hgive HbX HbI HbW1 HbW2 HbW3 HbO HbH Hs]
  · isplitl [Hmw HO]
    · unfold OW
      isplitl [Hmw]; · iexact Hmw
      iexists W; isplitr
      · ipureintro; exact fun p hp => .inl hp
      · iexact HO
    isplitl [Hw]; · iexact Hw
    isplitl [Hgive]; · iexact Hgive
    isplitl [HbX HbI HbW1 HbW2 HbW3 HbO HbH]
    · isplitl [HbX]; · iexact HbX
      isplitl [HbI]; · iexact HbI
      isplitl [HbW1]; · iexact HbW1
      isplitl [HbW2]; · iexact HbW2
      isplitl [HbW3]; · iexact HbW3
      isplitl [HbO]; · iexact HbO
      iexact HbH
    iexact Hs
  imod Hst with Hst
  iapply (body_run (d := d) (i := i) (X := X) (I := I) (W1 := W1) (W2 := W2) (W3 := W3) (f2 := f2) (O := O) (W := W) (ιw := ι) (qo := q) (fo := fo)
    (oo := oo) (hh := hh) hI _) $$ [Hst Hsr Hbr]
  isplitl [Hst]; · iexact Hst
  iintro HA
  iapply of_after
  isplitl [HA]; · iexact HA
  isplitl [Hsr] <;> iassumption

end

end Cert.Proof.Mlp
end
-- ==== Proof.Launch.lean ====
/-
  The launch: what each tile is given and brings back, @main around the call, the whole run.
-/
module

public import proofs.«01_k».proof.Proof.TileRun

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]
variable (m : (ℓ : Loc nD τ sig) → Buf (Elt F) ℓ) (ρ : Dev nD → PrngReg)

/-! ## The arrays at the call -/

def inX (d : Dev nD) : S512x64.Idx → F .f32 :=
  transpose S512x64 [1, 0] (m ((SparseCore.T d).loc main_arg0) : S64x512.Idx → F .f32) transposes_S64x512_S512x64_1_0
def inI (d : Dev nD) : S800000.Idx → BitVec 32 := m (iLoc d)
def inW1 (d : Dev nD) : S800000.Idx → F .f32 := m (w1Loc d)
def inW2 (d : Dev nD) : S200000.Idx → F .f32 := m (w2Loc d)
def inW3 (d : Dev nD) : S50016.Idx → F .f32 :=
  pad S50016 ![4] ![12] ![0] (m ((SparseCore.T d).loc main_arg11) : S50000.Idx → F .f32) (sitofp .f32 (constantI S_ 32 0#32) : S_.Idx → F .f32) pads_S50000_S50016_4120 h_S_
def outR (d : Dev nD) : S12500x64.Idx → F .f32 := resF (inX m d) (inI m d) (inW1 m d) (inW2 m d) (inW3 m d)

def coordsV (c : Fin (grid0.bound 0)) (s : Fin (grid0.bound 1)) : grid0.Coords :=
  fun | 0 => c | 1 => s | ⟨_ + 2, h⟩ => absurd h (Nat.not_lt.2 (Nat.le_add_left _ _))

/-- The share a tile gets. -/
abbrev shareOf (c s : ℕ) : PosShare TreeShare := cutS (s + 16 * c) fullShare

abbrev giveT (d : Dev nD) (c : Fin ((K (F := F)).nCore 0)) (s : Fin ((K (F := F)).nSub 0)) : sProp (MM F) :=
  give d (inX m d) (inI m d) (inW1 m d) (inW2 m d) (inW3 m d) (m (oLoc d)) (shareOf c.val s.val)
abbrev backT (d : Dev nD) (c : Fin ((K (F := F)).nCore 0)) (s : Fin ((K (F := F)).nSub 0)) : sProp (MM F) :=
  back d (coordsV ⟨c.val, c.isLt⟩ ⟨s.val, s.isLt⟩) (inX m d) (inI m d) (inW1 m d) (inW2 m d) (inW3 m d) (m (oLoc d)) (shareOf c.val s.val)

def P : (K (F := F)).Pay (nD := nD) (Val := Elt F) (Name := ℕ) (U := UU F) where
  st := fun q d c => match q with | 0 => bigSep Finset.univ fun s => giveT m d c s
  dn := fun q d c => match q with | 0 => bigSep Finset.univ fun s => backT m d c s
  go := fun q d c s => match q with | 0 => giveT m d c s
  td := fun q d c s => match q with | 0 => backT m d c s
  x := fun _ _ => iprop(∃ ι, wmInv EW ι)

instance give_storable (d : Dev nD) (c : Fin ((K (F := F)).nCore 0)) (s : Fin ((K (F := F)).nSub 0)) : BI.Storable (upEmb : UEmb _ (MM F)) (giveT m d c s) := by
  unfold giveT give; infer_instance
instance back_storable (d : Dev nD) (c : Fin ((K (F := F)).nCore 0)) (s : Fin ((K (F := F)).nSub 0)) : BI.Storable (upEmb : UEmb _ (MM F)) (backT m d c s) := by
  unfold backT back; infer_instance

instance P_storable : (P (F := F) m).IsStorable where
  st q d c := match q with
    | 0 => (inferInstance : BI.Storable (upEmb : UEmb _ (MM F)) (bigSep Finset.univ fun s => giveT m d c s))
  dn q d c := match q with
    | 0 => (inferInstance : BI.Storable (upEmb : UEmb _ (MM F)) (bigSep Finset.univ fun s => backT m d c s))
  go q d c s := match q with
    | 0 => give_storable m d c s
  td q d c s := match q with
    | 0 => back_storable m d c s

/-- What the proof asks of the launch memory: every word of the first layer's input indices is below 512. -/
def PreOK : Prop := ∀ (d : Dev nD) (j : S800000.Idx), (inI m d j).toNat < 512

/-! ## The obligations -/

theorem defs₀_vector (c : Fin τ.nSC) (s : Fin τ.nSub) :
    defs₀ (F := F) (.scVector c s) 0 ()
      = SparseCore.onTile hcore0 hsub0 (fun c s => cc0__body (coordsV c s)
          mX (Memref.isWhole_whole _) mI (Memref.isWhole_whole _) mW1 (Memref.isWhole_whole _) mW2 (Memref.isWhole_whole _) mW3 (Memref.isWhole_whole _)
            mO (Memref.isWhole_whole _) bX (Memref.isWhole_whole _) bI (Memref.isWhole_whole _) bW1 (Memref.isWhole_whole _) bW2 (Memref.isWhole_whole _)
            bW3 (Memref.isWhole_whole _) bO (Memref.isWhole_whole _) bH (Memref.isWhole_whole _) cc0_scratch7 cc0_scratch8 cc0_scratch9 cc0_scratch10 cc0_scratch11 cc0_scoped0) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (inX m d) (inI m d) (inW1 m d) (inW2 m d) (inW3 m d) (m (oLoc d)) (shareOf c.val i.val) O W hF (hpre d) hO).trans
    (wp_mono frame _ _ fun _ => obl_post)

theorem vecSplit : (K (F := F)).VecSplit' (P m) 0 := by
  intro d c
  show (bigSep Finset.univ fun s => giveT m d c s) ⊢ |={Set.univ}=> iprop((bigSep Finset.univ fun s => giveT m d c s)
      ∗ ((bigSep Finset.univ fun s => backT m d c s) -∗ bigSep Finset.univ fun s => backT m d c s))
  iintro H; imodintro
  isplitl [H]; · iexact H
  iintro H; iexact H

/-! ## The launch element -/

def u₀ : UU F := (initOf (K (F := F)).hsCells (K (F := F)).hsToks, (wm₀ nD τ sig (Elt F), 1))

theorem own_wm : (BI.own ((embR : Emb (WmRA nD τ sig (Elt F) × Counters) (MM F)) (wm₀ nD τ sig (Elt F), 1)) : sProp (MM F)) ⊢ ownU (EW (wm₀ nD τ sig (Elt F))) := by
  refine (own_pair_emb (embR : Emb (WmRA nD τ sig (Elt F) × Counters) (MM F)) (wm₀ nD τ sig (Elt F)) (1 : Counters)).trans ?_
  iintro ⟨H, -⟩
  iapply (show (BI.own (((Emb.inl : Emb (WmRA nD τ sig (Elt F)) (WmRA nD τ sig (Elt F) × Counters)).trans embR) (wm₀ nD τ sig (Elt F))) : sProp (MM F))
    ⊢ ownU (EW (wm₀ nD τ sig (Elt F))) from Entails.rfl) $$ H

theorem hu₀ (ρ : Dev nD → PrngReg) : (ownU (u₀ (F := F)) : sProp (MM F))
    ⊢ |={Set.univ}=> iprop(BI.own (EH (F := F) (initOf (K (F := F)).hsCells (K (F := F)).hsToks)) ∗ (bigSep Finset.univ fun _ : Dev nD => iprop(∃ ι, wmInv EW ι))
        ∗ bigSep Finset.univ fun thr : Thread nD τ => bigSep Finset.univ fun q : Fin 1 => (P m).x q thr) := by
  unfold u₀
  iintro Hu
  ihave H := (ownU_pair (initOf (K (F := F)).hsCells (K (F := F)).hsToks) ((wm₀ nD τ sig (Elt F), 1) : WmRA nD τ sig (Elt F) × Counters)) $$ Hu
  icases H with ⟨HH, HR⟩
  ihave HR' := (own_wm (F := F)) $$ HR
  imod (wmInv_alloc (emb := EW (F := F)) ⟨m, fun _ => 0, ρ⟩) $$ HR' with ⟨%ι, -, #Hw⟩
  imodintro
  isplitl [HH]; · iexact HH
  isplitr
  · iapply (bigSep_intro_persistent (R := wmInv EW ι) fun _ _ => by iintro H; iexists ι; iexact H) $$ Hw
  · iapply (bigSep_intro_persistent (R := wmInv EW ι) fun thr _ => bigSep_intro_persistent fun q _ => by
      show _ ⊢ iprop(∃ ι, wmInv EW ι)
      iintro H; iexists ι; iexact H) $$ Hw

/-! ## @main on the TensorCore -/

abbrev dr (b : Ref sig .tc) : DevRef τ sig := Proc.devRef .tc b

/-- The arrays the call reads or writes, and the others. -/
abbrev callBufs : Finset (DevRef τ sig) := {dr main_v0, dr main_arg2, dr main_arg7, dr main_arg9, dr main_v1, dr main_v2}
abbrev restBufs : Finset (DevRef τ sig) :=
  {dr main_arg0, dr main_arg1, dr main_arg3, dr main_arg4, dr main_arg5, dr main_arg6, dr main_arg8, dr main_arg10, dr main_arg11, dr main_arg12,
    dr main_c, dr main_call0_v0, dr main_v3}
abbrev allBufs : Finset (DevRef τ sig) := callBufs ∪ restBufs
abbrev endBufs : Finset (DevRef τ sig) := insert (dr main_v2) restBufs

theorem uc_eq : Pipeline.ucRefs τ sig = allBufs := by decide

abbrev opT : HloOp τ sig (Elt F) :=
  StableHlo.unary main_arg0 main_v0 ((transpose S512x64 [1, 0] · transposes_S64x512_S512x64_1_0) : (⟨S64x512, .f32⟩ : BufTy).Contents (Elt F) → (⟨S512x64, .f32⟩ : BufTy).Contents (Elt F))
abbrev opC : HloOp τ sig (Elt F) := StableHlo.nullary main_c (constantI S_ 32 0#32)
abbrev opF : HloOp τ sig (Elt F) := StableHlo.unary main_c main_call0_v0 (sitofp .f32)
abbrev opP : HloOp τ sig (Elt F) :=
  StableHlo.binary main_arg11 main_call0_v0 main_v1 (fun x v => pad S50016 ![4] ![12] ![0] x v pads_S50000_S50016_4120 h_S_)
abbrev opR : HloOp τ sig (Elt F) :=
  StableHlo.unary main_v2 main_v3 ((transpose S64x12500 [1, 0] · transposes_S12500x64_S64x12500_1_0) : (⟨S12500x64, .f32⟩ : BufTy).Contents (Elt F) → (⟨S64x12500, .f32⟩ : BufTy).Contents (Elt F))

theorem hT : (opT (F := F)).bufs ⊆ allBufs := show ({dr main_arg0, dr main_v0} : Finset (DevRef τ sig)) ⊆ allBufs by decide
theorem hC : (opC (F := F)).bufs ⊆ allBufs := show ({dr main_c} : Finset (DevRef τ sig)) ⊆ allBufs by decide
theorem hFl : (opF (F := F)).bufs ⊆ allBufs := show ({dr main_c, dr main_call0_v0} : Finset (DevRef τ sig)) ⊆ allBufs by decide
theorem hP : (opP (F := F)).bufs ⊆ allBufs := show ({dr main_arg11, dr main_call0_v0, dr main_v1} : Finset (DevRef τ sig)) ⊆ allBufs by decide
theorem hR : (opR (F := F)).bufs ⊆ endBufs := show ({dr main_v2, dr main_v3} : Finset (DevRef τ sig)) ⊆ endBufs by decide

/-- The buffers at the launch, before the call, after it, at the end. -/
def V0 (d : Dev nD) : Valuation τ sig (Elt F) := fun b => m (d, b)
def V4 (d : Dev nD) : Valuation τ sig (Elt F) := (opP (F := F)).result ((opF (F := F)).result ((opC (F := F)).result ((opT (F := F)).result (V0 m d))))
def V5 (d : Dev nD) : Valuation τ sig (Elt F) := Function.update (V4 m d) (dr main_v2) (outR m d)
def V6 (d : Dev nD) : Valuation τ sig (Elt F) := (opR (F := F)).result (V5 m d)

theorem V4_kept (d : Dev nD) (b : DevRef τ sig) (hb : b ∉ ({dr main_v0, dr main_c, dr main_call0_v0, dr main_v1} : Finset (DevRef τ sig))) :
    V4 m d b = m (d, b) := by
  simp only [Finset.mem_insert, Finset.mem_singleton, not_or] at hb
  unfold V4
  rw [(opP (F := F)).result_of_not_mem _ (show b ∉ ({dr main_v1} : Finset (DevRef τ sig)) from fun h => hb.2.2.2 (Finset.mem_singleton.mp h)),
    (opF (F := F)).result_of_not_mem _ (show b ∉ ({dr main_call0_v0} : Finset (DevRef τ sig)) from fun h => hb.2.2.1 (Finset.mem_singleton.mp h)),
    (opC (F := F)).result_of_not_mem _ (show b ∉ ({dr main_c} : Finset (DevRef τ sig)) from fun h => hb.2.1 (Finset.mem_singleton.mp h)),
    (opT (F := F)).result_of_not_mem _ (show b ∉ ({dr main_v0} : Finset (DevRef τ sig)) from fun h => hb.1 (Finset.mem_singleton.mp h))]
  rfl

theorem V4_X (d : Dev nD) : V4 m d (dr main_v0) = inX m d := by
  unfold V4
  rw [(opP (F := F)).result_of_not_mem _ (show dr main_v0 ∉ ({dr main_v1} : Finset (DevRef τ sig)) by decide),
    (opF (F := F)).result_of_not_mem _ (show dr main_v0 ∉ ({dr main_call0_v0} : Finset (DevRef τ sig)) by decide),
    (opC (F := F)).result_of_not_mem _ (show dr main_v0 ∉ ({dr main_c} : Finset (DevRef τ sig)) by decide)]
  exact StableHlo.unary_result _ _ _ _ _ _

theorem V4_W3 (d : Dev nD) : V4 m d (dr main_v1) = inW3 m d := by
  unfold V4
  refine (StableHlo.binary_result _ _ _ _ _ _ _ _).trans ?_
  have e1 : (opF (F := F)).result ((opC (F := F)).result ((opT (F := F)).result (V0 m d))) (dr main_arg11) = m (d, dr main_arg11) := by
    rw [(opF (F := F)).result_of_not_mem _ (show dr main_arg11 ∉ ({dr main_call0_v0} : Finset (DevRef τ sig)) by decide),
      (opC (F := F)).result_of_not_mem _ (show dr main_arg11 ∉ ({dr main_c} : Finset (DevRef τ sig)) by decide),
      (opT (F := F)).result_of_not_mem _ (show dr main_arg11 ∉ ({dr main_v0} : Finset (DevRef τ sig)) by decide)]
    rfl
  have e2 : (opF (F := F)).result ((opC (F := F)).result ((opT (F := F)).result (V0 m d))) (dr main_call0_v0) = (sitofp .f32 (constantI S_ 32 0#32) : S_.Idx → F .f32) := by
    refine (StableHlo.unary_result _ _ _ _ _ _).trans ?_
    exact congrArg (sitofp .f32) (StableHlo.nullary_result _ _ _ _)
  rw [e1, e2]; rfl

/-- What @main leaves for the claim. -/
def FIN (d : Dev nD) : sProp (MM F) :=
  iprop(held (SparseCore.T d) endBufs (V6 m d) ∗ (iLoc d ↦{remS 32 fullShare} inI m d) ∗ (w1Loc d ↦{remS 32 fullShare} inW1 m d) ∗ (w2Loc d ↦{remS 32 fullShare} inW2 m d))

theorem held_all (d : Dev nD) (W : Valuation τ sig (Elt F)) :
    (held (SparseCore.T d) allBufs W : sProp (MM F))
      = iprop(((xLoc d ↦{fullShare} W (dr main_v0)) ∗ (iLoc d ↦{fullShare} W (dr main_arg2)) ∗ (w1Loc d ↦{fullShare} W (dr main_arg7))
        ∗ (w2Loc d ↦{fullShare} W (dr main_arg9)) ∗ (w3Loc d ↦{fullShare} W (dr main_v1)) ∗ (oLoc d ↦{fullShare} W (dr main_v2))) ∗ held (SparseCore.T d) restBufs W) := by
  unfold held
  rw [show (allBufs : Finset (DevRef τ sig)) = callBufs ∪ restBufs from rfl, bigSep_union (by decide)]
  congr 1
  rw [SparseCore.bigSep_insert' (by decide), SparseCore.bigSep_insert' (by decide), SparseCore.bigSep_insert' (by decide),
    SparseCore.bigSep_insert' (by decide), SparseCore.bigSep_insert' (by decide), bigSep_singleton]

theorem held_end (d : Dev nD) :
    iprop((oLoc d ↦{fullShare} outR m d) ∗ held (SparseCore.T d) restBufs (V4 m d)) ⊢ (held (SparseCore.T d) endBufs (V5 m d) : sProp (MM F)) := by
  unfold held
  rw [show (endBufs : Finset (DevRef τ sig)) = insert (dr main_v2) restBufs from rfl,
    SparseCore.bigSep_insert' (s := restBufs) (show dr main_v2 ∉ restBufs by decide), show V5 m d (dr main_v2) = outR m d from Function.update_self _ _ _]
  iintro ⟨Ho, H⟩
  isplitl [Ho]; · iexact Ho
  iapply (Entails.of_eq (bigSep_congr fun b hb => by
    rw [show V5 m d b = V4 m d b from Function.update_of_ne (fun e => absurd (e ▸ hb) (by decide)) _ _])) $$ H

/-- The pieces of six arrays, taken together tile by tile. -/
theorem give_all (d : Dev nD) :
    iprop((bigSep (Finset.range (2 * 16)) fun j => (xLoc d ↦{cutS j fullShare} inX m d)) ∗ (bigSep (Finset.range (2 * 16)) fun j => (iLoc d ↦{cutS j fullShare} inI m d))
        ∗ (bigSep (Finset.range (2 * 16)) fun j => (w1Loc d ↦{cutS j fullShare} inW1 m d)) ∗ (bigSep (Finset.range (2 * 16)) fun j => (w2Loc d ↦{cutS j fullShare} inW2 m d))
        ∗ (bigSep (Finset.range (2 * 16)) fun j => (w3Loc d ↦{cutS j fullShare} inW3 m d))
        ∗ (bigSep (Finset.range (2 * 16)) fun j => willBeTo EW (oLoc d) Finset.univ (cutS j fullShare) (m (oLoc d)) (fun j => some (outR m d j)) ∅))
      ⊢ (bigSep Finset.univ fun c : Fin ((K (F := F)).nCore 0) => (P m).st 0 d c : sProp (MM F)) := by
  rw [← bigSep_sep', ← bigSep_sep', ← bigSep_sep', ← bigSep_sep', ← bigSep_sep', bigSep_pairs]
  exact Entails.rfl

end Cert.Proof.Mlp
end
-- ==== Proof.Main.lean ====
/-
  @main on the TensorCore around the call, and the program's run.
-/
module

public import proofs.«01_k».proof.Proof.Launch

@[expose] public section

noncomputable section

namespace Cert.Proof.Mlp

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]
variable (m : (ℓ : Loc nD τ sig) → Buf (Elt F) ℓ) (ρ : Dev nD → PrngReg)

/-! ## The tiles' rows cover the output -/

/-- The rows from `g` on that one tile writes. -/
def rowsFrom (g : ℕ) : Finset S12500x64.Idx := Finset.univ.filter fun x => g ≤ (x 0).val ∧ (x 0).val < g + 392

theorem set_tO (L : grid0.Coords) : (tO L).view.set = rowsFrom (gene0 (L 0).val (L 1).val) := by
  refine (View.set_slice_whole _ _).trans ?_
  have h0 := (offO_eq L).1
  have h1 := (offO_eq L).2
  ext j
  simp only [rowsFrom, Finset.mem_filter, Finset.mem_univ, true_and]
  constructor
  · intro h
    obtain ⟨x, -, rfl⟩ := Finset.mem_map.mp ((Rect.map_emb_univ _).symm ▸ h)
    have hx : (x 0).val < 392 := (x 0).isLt
    have e : (((Rect.unit (s := S12500x64) (k0_off623 L) S392x64.size (k0_off623_inb L)).emb x) 0).val = k0_off623 L 0 + 1 * (x 0).val := rfl
    rw [e, h0]; omega
  · intro h
    have hj : (j 1).val < 64 := (j 1).isLt
    rw [← Rect.map_emb_univ]
    refine Finset.mem_map.mpr ⟨fun a => match a with
      | 0 => ⟨(j 0).val - gene0 (L 0).val (L 1).val, by show _ < 392; omega⟩
      | 1 => ⟨(j 1).val, hj⟩, Finset.mem_univ _, ?_⟩
    funext a
    refine Fin.ext ?_
    match a with
    | 0 => show k0_off623 L 0 + 1 * ((j 0).val - gene0 (L 0).val (L 1).val) = (j 0).val; rw [h0]; omega
    | 1 => show k0_off623 L 1 + 1 * (j 1).val = (j 1).val; rw [h1]; omega

/-- The rows of tile number `j`. -/
def rowsOf (j : ℕ) : Finset S12500x64.Idx := rowsFrom (gene0 (j / 16) (j % 16))

theorem rows_cover (W : Finset S12500x64.Idx) (h : ∀ j < 2 * 16, rowsOf j ⊆ W) : W = Finset.univ := by
  refine Finset.eq_univ_of_forall fun x => ?_
  have hx : (x 0).val < 12500 := (x 0).isLt
  obtain ⟨w, hw⟩ : ∃ w, w = (32 * ((x 0).val / 2) + 31) / 6250 := ⟨_, rfl⟩
  have hw' : w < 32 := by omega
  refine h (w / 2 + 16 * (w % 2)) (by omega) ?_
  refine Finset.mem_filter.mpr ⟨Finset.mem_univ _, ?_⟩
  unfold gene0
  rw [show (w / 2 + 16 * (w % 2)) / 16 = w % 2 by omega, show (w / 2 + 16 * (w % 2)) % 16 = w / 2 by omega, show 2 * (w / 2) + w % 2 = w by omega]
  omega

theorem back_all (d : Dev nD) :
    (bigSep Finset.univ fun c : Fin ((K (F := F)).nCore 0) => (P m).dn 0 d c : sProp (MM F))
      ⊢ bigSep (Finset.range (2 * 16)) fun j => willBeTo EW (oLoc d) Finset.univ (cutS j fullShare) (m (oLoc d)) (fun j => some (outR m d j)) (rowsOf j) := by
  rw [bigSep_pairs]
  refine Entails.of_eq (bigSep_congr fun c _ => ?_)
  show (bigSep Finset.univ fun s => backT m d c s) = _
  refine bigSep_congr fun s _ => ?_
  have hs : s.val < 16 := s.isLt
  unfold backT back
  rw [Finset.empty_union, set_tO]
  unfold rowsOf
  rw [show (s.val + 16 * c.val) / 16 = c.val by omega, show (s.val + 16 * c.val) % 16 = s.val by omega]
  rfl

/-! ## @main -/

theorem call_in (d : Dev nD) (ι : ℕ) :
    iprop(wmInv EW ι ∗ held (SparseCore.T d) allBufs (V4 m d))
      ⊢ |={Set.univ}=> iprop((bigSep Finset.univ fun c : Fin ((K (F := F)).nCore 0) => (P m).st 0 d c : sProp (MM F))
        ∗ (willBeTo EW (oLoc d) Finset.univ (remS 32 fullShare) (m (oLoc d)) (fun j => some (outR m d j)) ∅)
        ∗ (iLoc d ↦{remS 32 fullShare} inI m d) ∗ (w1Loc d ↦{remS 32 fullShare} inW1 m d) ∗ (w2Loc d ↦{remS 32 fullShare} inW2 m d)
        ∗ held (SparseCore.T d) restBufs (V4 m d)) := by
  rw [held_all, V4_X, V4_W3, V4_kept m d (dr main_arg2) (by decide), V4_kept m d (dr main_arg7) (by decide), V4_kept m d (dr main_arg9) (by decide),
    V4_kept m d (dr main_v2) (by decide)]
  iintro ⟨Hw, ⟨HX, HI, HW1, HW2, HW3, HO⟩, HR⟩
  imod (pointsTo_castIn (emb := EW (F := F)) (ℓ := oLoc d) (I := Finset.univ) (f := m (oLoc d)) (E := Set.univ) (fun j => some (outR m d j))) $$ [Hw HO] with HO
  · isplitl [Hw] <;> iassumption
  imodintro
  ihave HX' := (pts_deal Finset.univ fullShare (inX m d) (2 * 16)) $$ HX
  icases HX' with ⟨-, HX⟩
  ihave HI' := (pts_deal Finset.univ fullShare (inI m d) (2 * 16)) $$ HI
  icases HI' with ⟨HIr, HI⟩
  ihave HW1' := (pts_deal Finset.univ fullShare (inW1 m d) (2 * 16)) $$ HW1
  icases HW1' with ⟨HW1r, HW1⟩
  ihave HW2' := (pts_deal Finset.univ fullShare (inW2 m d) (2 * 16)) $$ HW2
  icases HW2' with ⟨HW2r, HW2⟩
  ihave HW3' := (pts_deal Finset.univ fullShare (inW3 m d) (2 * 16)) $$ HW3
  icases HW3' with ⟨-, HW3⟩
  ihave HO' := (wb_deal Finset.univ fullShare (m (oLoc d)) (fun j => some (outR m d j)) (2 * 16)) $$ HO
  icases HO' with ⟨HOr, HO⟩
  isplitl [HX HI HW1 HW2 HW3 HO]
  · iapply (give_all m d)
    isplitl [HX]; · iexact HX
    isplitl [HI]; · iexact HI
    isplitl [HW1]; · iexact HW1
    isplitl [HW2]; · iexact HW2
    isplitl [HW3]; · iexact HW3
    iexact HO
  isplitl [HOr]; · iexact HOr
  isplitl [HIr]; · iexact HIr
  isplitl [HW1r]; · iexact HW1r
  isplitl [HW2r]; · iexact HW2r
  iexact HR

theorem call_out (d : Dev nD) (ι : ℕ) :
    iprop(wmInv EW ι ∗ (bigSep Finset.univ fun c : Fin ((K (F := F)).nCore 0) => (P m).dn 0 d c : sProp (MM F))
        ∗ (willBeTo EW (oLoc d) Finset.univ (remS 32 fullShare) (m (oLoc d)) (fun j => some (outR m d j)) ∅) ∗ held (SparseCore.T d) restBufs (V4 m d))
      ⊢ |={Set.univ}=> (held (SparseCore.T d) endBufs (V5 m d)) := by
  iintro ⟨Hw, Hdn, HOr, HR⟩
  ihave Hdn' := (back_all m d) $$ Hdn
  ihave Hj := (wb_join Finset.univ fullShare (m (oLoc d)) (fun j => some (outR m d j)) rowsOf (2 * 16)) $$ [HOr Hdn']
  · isplitl [HOr] <;> iassumption
  icases Hj with ⟨%W, %hW, HO⟩
  obtain rfl := rows_cover W hW
  imod (willBeTo_castOut_some (emb := EW (F := F)) (ℓ := oLoc d) (I := Finset.univ) (f := m (oLoc d)) (g := outR m d) (W := Finset.univ) (E := Set.univ)) $$ [Hw HO] with HO
  · isplitl [Hw] <;> iassumption
  imodintro
  iapply (held_end m d)
  isplitl [HO]
  · iapply (Entails.of_eq (by rw [Finset.piecewise_univ])) $$ HO
  · iexact HR

theorem unscoped_held (d : Dev nD) : (unscopedBufs d (fun b => m ((SparseCore.T d).loc b)) : sProp (MM F)) = held (SparseCore.T d) allBufs (V0 m d) := by
  rw [← uc_eq]; exact Pipeline.unscopedBufs_held d (V0 m d)

set_option maxRecDepth 16384 in
theorem hmain (κ : GSem nD τ sig → ℕ) (d : Dev nD) :
    iprop((K (F := F)).ctx EH (P m) κ ∗ (K (F := F)).tcSt EH d 0 ∗ (K (F := F)).tcRes m ρ d ∗ ∃ ι, wmInv EW ι)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, %ι, #Hw⟩
  iapply (wp_hlo_within 𝒱 (SparseCore.T d) none Set.univ (op := opT) (S := allBufs) hT (V := V0 m d)) $$ [Hb Hheld]
  · isplitl [Hb] <;> iassumption
  iintro ⟨Hb, Hheld⟩
  rw [wp_ret]; imodintro
  iapply (wp_hlo_within 𝒱 (SparseCore.T d) none Set.univ (op := opC) (S := allBufs) hC (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opF) (S := allBufs) hFl (V := (opC (F := F)).result ((opT (F := F)).result (V0 m d)))) $$ [Hb Hheld]
  · isplitl [Hb] <;> iassumption
  iintro ⟨Hb, Hheld⟩
  rw [wp_ret]; imodintro
  iapply (wp_hlo_within 𝒱 (SparseCore.T d) none Set.univ (op := opP) (S := allBufs) hP (V := (opF (F := F)).result ((opC (F := F)).result ((opT (F := F)).result (V0 m d))))) $$ [Hb Hheld]
  · isplitl [Hb] <;> iassumption
  iintro ⟨Hb, Hheld⟩
  rw [wp_ret]; imodintro
  imod (call_in m d ι) $$ [Hheld] with ⟨Hgo, HOr, HIr, HW1r, HW2r, HR⟩
  · isplitr; · iexact Hw
    iexact Hheld
  iapply ((K (F := F)).wp_run (D (F := F)) 𝒱 (EH := EH) (P := P m) κ d 0) $$ [Hst Hgo HOr HIr HW1r HW2r HR Hb Hts]
  isplitr; · iexact Hctx
  isplitl [Hst]; · iexact Hst
  isplitl [Hgo]; · iexact Hgo
  iintro ⟨Hst, Hdn⟩
  imod (call_out m d ι) $$ [Hdn HOr HR] with Hheld
  · isplitr; · iexact Hw
    isplitl [Hdn]; · iexact Hdn
    isplitl [HOr]; · iexact HOr
    iexact HR
  iapply (wp_hlo_within 𝒱 (SparseCore.T d) none Set.univ (op := opR) (S := endBufs) hR (V := V5 m d)) $$ [Hb Hheld]
  · isplitl [Hb] <;> iassumption
  iintro ⟨Hb, Hheld⟩
  rw [wp_ret]; imodintro
  imodintro
  isplitl [Hst]; · iexact Hst
  isplitr [Hb Hts]
  · unfold FIN V6
    isplitl [Hheld]; · iexact Hheld
    isplitl [HIr]; · iexact HIr
    isplitl [HW1r] <;> iassumption
  isplitl [Hb] <;> iassumption

/-! ## What the run ends in -/

def fq (d : Dev nD) (s' : Phys nD τ sig (Elt F)) : Prop :=
  (∀ b ∈ endBufs, s'.mem.mem (d, b) = V6 m d b) ∧ s'.mem.mem (iLoc d) = m (iLoc d) ∧ s'.mem.mem (w1Loc d) = m (w1Loc d) ∧ s'.mem.mem (w2Loc d) = m (w2Loc d)

theorem pure_all {Pp : sProp (MM F)} {α : Type} {φ : α → Prop} (h : ∀ x, Pp ⊢ ⌜φ x⌝) : Pp ⊢ ⌜∀ x, φ x⌝ :=
  (forall_intro h).trans pure_forall.2

theorem held_agree (d : Dev nD) (s' : Phys nD τ sig (Elt F)) (S : Finset (DevRef τ sig)) (W : Valuation τ sig (Elt F)) :
    iprop(SI s' ∗ held (SparseCore.T d) S W) ⊢ (⌜∀ b, b ∈ S → s'.mem.mem (d, b) = W b⌝ : sProp (MM F)) := by
  refine pure_all fun b => ?_
  by_cases hb : b ∈ S
  · unfold held
    rw [SparseCore.bigSep_erase' hb]
    iintro ⟨HSI, H, -⟩
    ihave H := (SI_pointsTo_agree (st := s') (ℓ := (d, b)) (I := Finset.univ) (q := fullShare) (f := W b)) $$ [HSI H]
    · isplitl [HSI] <;> iassumption
    icases H with %h
    ipureintro; exact fun _ => funext fun i => h i (Finset.mem_univ i)
  · iintro -
    ipureintro; exact fun h => absurd h hb

theorem whole_agree (s' : Phys nD τ sig (Elt F)) {ℓ : Loc nD τ sig} {q : PosShare TreeShare} {f : Buf (Elt F) ℓ} :
    iprop(SI s' ∗ ℓ ↦{q} f) ⊢ (⌜s'.mem.mem ℓ = f⌝ : sProp (MM F)) :=
  SI_pointsTo_agree.trans (Laws.pure_mono fun h => funext fun i => h i (Finset.mem_univ i))

set_option maxRecDepth 16384 in
theorem hfin (d : Dev nD) (s' : Phys nD τ sig (Elt F)) : iprop(FIN m d ∗ SI s') ⊢ (⌜fq m d s'⌝ : sProp (MM F)) := by
  unfold FIN
  iintro ⟨⟨Hh, HI, HW1, HW2⟩, HSI⟩
  ihave H := (persistent_entails_right (held_agree d s' endBufs (V6 m d))) $$ [HSI Hh]
  · isplitl [HSI] <;> iassumption
  icases H with ⟨%h0, HSI, -⟩
  ihave H := (persistent_entails_right (whole_agree s' (ℓ := iLoc d))) $$ [HSI HI]
  · isplitl [HSI] <;> iassumption
  icases H with ⟨%h1, HSI, -⟩
  ihave H := (persistent_entails_right (whole_agree s' (ℓ := w1Loc d))) $$ [HSI HW1]
  · isplitl [HSI] <;> iassumption
  icases H with ⟨%h2, HSI, -⟩
  ihave H := (whole_agree s' (ℓ := w2Loc d)) $$ [HSI HW2]
  · isplitl [HSI] <;> iassumption
  icases H with %h3
  ipureintro; exact ⟨h0, h1, h2, h3⟩

def QC : PUnit × MemSt nD τ sig (Elt F) → Prop := fun r =>
  (∀ d : Dev nD, (∀ b ∈ endBufs, r.2.mem (d, b) = V6 m d b) ∧ r.2.mem (iLoc d) = m (iLoc d) ∧ r.2.mem (w1Loc d) = m (w1Loc d) ∧ r.2.mem (w2Loc d) = m (w2Loc d))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(∃ ι, wmInv EW ι)) (FIN m) (u₀ (F := F)) (sep_elim_left.trans (hu₀ m ρ)) (hmain m ρ) (fq m) (hfin m) (QC m) (fun _ h hz => ⟨h, hz⟩)

end Cert.Proof.Mlp
end
-- ==== Proof.Pre.lean ====
/-
  What the precondition says of the arrays, entry by entry, and from it that the gather of the first layer reads inside
  the features.
-/
module

public import proofs.«01_k».proof.Proof.Main
public import proofs.«01_k».proof.Proof.Gen.Pre_connectivity
public import proofs.«01_k».proof.Defs
public import Idealize.ShloMosaic.Lib.ReduceAll

@[expose] public section

noncomputable section

namespace Cert.Proof.Mlp

open Idealize.ShloMosaic

/-- Bitwise `and` of two truth words. -/
theorem and_word (p q : Bool) : IntOp.andi (BitVec.ofBool p) (BitVec.ofBool q) = BitVec.ofBool (p && q) := by
  cases p <;> cases q <;> decide

theorem and_one {a b : BitVec 1} (h : IntOp.andi a b = 1#1) : a = 1#1 ∧ b = 1#1 := by
  revert a b; decide

theorem word_one (p : Bool) : (BitVec.ofBool p = 1#1) ↔ p = true := by cases p <;> decide

theorem eq_of_cmp {w : ℕ} {a b : BitVec w} (h : IntOp.cmpi .eq a b = 1#1) : a = b := by
  simpa [IntOp.cmpi, word_one] using h

theorem range_of_cmp {a : BitVec 32} (h : IntOp.andi (IntOp.cmpi .sge a 0#32) (IntOp.cmpi .slt a 512#32) = 1#1) : a.toNat < 512 := by
  simp only [IntOp.cmpi, and_word, word_one, Bool.and_eq_true, BitVec.sle_eq_decide, BitVec.slt_eq_decide, decide_eq_true_eq,
    BitVec.toInt_eq_toNat_cond, BitVec.toNat_ofNat, Nat.reducePow, Nat.reduceMod] at h
  omega

/-- The connectivity, entry by entry: where each edge of the three layers starts and ends; and the biases. -/
structure Wired {F : FTy → Type} [FloatOps F] (e1o e1i : Cert.Pre_connectivity.S800000.Idx → BitVec 32)
    (e2o e2i : Cert.Pre_connectivity.S200000.Idx → BitVec 32) (e3o e3i : Cert.Pre_connectivity.S50000.Idx → BitVec 32)
    (b1 b2 : Cert.Pre_connectivity.S50000.Idx → F .f32) (b3 : Cert.Pre_connectivity.S12500.Idx → F .f32) : Prop where
  out1 : ∀ j, e1o j = IntOp.divsi .host (BitVec.ofNat 32 (j 0).val) 16#32
  in1 : ∀ j, (e1i j).toNat < 512
  out2 : ∀ j, e2o j = IntOp.divsi .host (BitVec.ofNat 32 (j 0).val) 4#32
  in2 : ∀ j, e2i j = IntOp.addi (IntOp.muli (IntOp.divsi .host (BitVec.ofNat 32 (j 0).val) 16#32) 4#32) (IntOp.remsi .host (BitVec.ofNat 32 (j 0).val) 4#32)
  out3 : ∀ j, e3o j = IntOp.divsi .host (BitVec.ofNat 32 (j 0).val) 4#32
  in3 : ∀ j, e3i j = BitVec.ofNat 32 (j 0).val
  bias1 : ∀ j, FloatOps.cmpf .oeq (b1 j) (FloatOps.ofBits .f32 0x00000000#32) = 1#1
  bias2 : ∀ j, FloatOps.cmpf .oeq (b2 j) (FloatOps.ofBits .f32 0x00000000#32) = 1#1
  bias3 : ∀ j, FloatOps.cmpf .oeq (b3 j) (FloatOps.ofBits .f32 0x00000000#32) = 1#1

instance : Subsingleton Cert.Pre_connectivity.S_.Idx := ⟨fun a b => funext fun i => absurd i.isLt (Nat.not_lt_zero _)⟩

theorem wired_of_pre {F : FTy → Type} [FloatOps F] [Cert.Pre_connectivity.Facts] {x e1o e1i e2o e2i e3o e3i w1 b1 w2 b2 w3 b3}
    (h : Cert.Pre_connectivity.fn (F := F) x e1o e1i e2o e2i e3o e3i w1 b1 w2 b2 w3 b3 = fun _ => 1#1) :
    Wired (F := F) e1o e1i e2o e2i e3o e3i b1 b2 b3 := by
  have e := congrFun h fun i => absurd i.isLt (Nat.not_lt_zero _)
  dsimp only [Cert.Pre_connectivity.fn, Cert.Pre_connectivity.fn_part1, Cert.Pre_connectivity.fn_part2] at e
  simp only [andi] at e
  obtain ⟨e, h9⟩ := and_one e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨h1, h2⟩ := and_one e
  exact {
    out1 := fun j => eq_of_cmp (Host.reduce_andi_all _ _ _ _ _ h1 j)
    in1 := fun j => range_of_cmp (Host.reduce_andi_all _ _ _ _ _ h2 j)
    out2 := fun j => eq_of_cmp (Host.reduce_andi_all _ _ _ _ _ h3 j)
    in2 := fun j => eq_of_cmp (Host.reduce_andi_all _ _ _ _ _ h4 j)
    out3 := fun j => eq_of_cmp (Host.reduce_andi_all _ _ _ _ _ h5 j)
    in3 := fun j => eq_of_cmp (Host.reduce_andi_all _ _ _ _ _ h6 j)
    bias1 := fun j => Host.reduce_andi_all _ _ _ _ _ h7 j
    bias2 := fun j => Host.reduce_andi_all _ _ _ _ _ h8 j
    bias3 := fun j => Host.reduce_andi_all _ _ _ _ _ h9 j }

instance range_facts : Cert.Pre_in_range.Facts := ⟨by decide, by decide, by decide⟩

instance : Subsingleton Cert.Pre_in_range.S_.Idx := ⟨fun a b => funext fun i => absurd i.isLt (Nat.not_lt_zero _)⟩

/-- The weaker precondition, entry by entry. -/
theorem range_of_pre {F : FTy → Type} [FloatOps F] [Cert.Pre_in_range.Facts] {x e1o e1i e2o e2i e3o e3i w1 b1 w2 b2 w3 b3}
    (h : Cert.Pre_in_range.fn (F := F) x e1o e1i e2o e2i e3o e3i w1 b1 w2 b2 w3 b3 = fun _ => 1#1) (j : Cert.Pre_in_range.S800000.Idx) :
    (e1i j).toNat < 512 := by
  have e := congrFun h fun i => absurd i.isLt (Nat.not_lt_zero _)
  dsimp only [Cert.Pre_in_range.fn] at e
  exact range_of_cmp (Host.reduce_andi_all _ _ _ _ _ e j)

end Cert.Proof.Mlp
end
-- ==== Proof.Frame.lean ====
/-
  The frames: the kernel, at either reading of its floats, and the reference run, leave their arguments as they were,
  and end with every semaphore at zero.
-/
module

public import proofs.«01_k».proof.Proof.Pre
public import proofs.«01_k».proof.Proof.Gen.Kernel
public import proofs.«01_k».proof.Proof.Gen.KernelIdeal
public import proofs.«01_k».proof.Proof.Gen.ReferenceIdeal.Run

@[expose] public section

set_option maxRecDepth 16384

noncomputable section

namespace Cert.Proof.Mlp

open Cert.KernelIdeal Cert.KernelIdeal.Gen
open Idealize.ShloMosaic Idealize.SL.Sem

/-- The arguments. -/
abbrev argRefs : List (Ref sig .tc) :=
  [main_arg0, main_arg1, main_arg2, main_arg3, main_arg4, main_arg5, main_arg6, main_arg7, main_arg8, main_arg9, main_arg10, main_arg11, main_arg12]

section Kept
variable {F : FTy → Type} [FloatOps F]
variable (m : (ℓ : Loc nD τ sig) → Buf (Elt F) ℓ)

/-- A buffer that nothing in @main writes ends as it started. -/
theorem V6_kept (d : Dev nD) (b : DevRef τ sig) (h3 : b ∉ ({dr main_v3} : Finset (DevRef τ sig))) (h2 : b ≠ dr main_v2)
    (h : b ∉ ({dr main_v0, dr main_c, dr main_call0_v0, dr main_v1} : Finset (DevRef τ sig))) : V6 m d b = m (d, b) := by
  unfold V6
  rw [opR.result_of_not_mem _ h3]
  unfold V5
  rw [Function.update_of_ne h2, V4_kept m d b h]

theorem V6_out (d : Dev nD) : V6 m d (dr main_v3) = transpose S64x12500 [1, 0] (outR m d) transposes_S12500x64_S64x12500_1_0 := by
  unfold V6 opR
  rw [StableHlo.unary_result]
  unfold V5
  rw [Function.update_self]

/-- What a run of the kernel ends in, read at the result and the arguments. -/
theorem args_of_QC (r : PUnit × MemSt nD τ sig (Elt F)) (h : QC m r) (d : Dev nD) :
    r.2.mem ((SparseCore.T d).loc main_v3) = transpose S64x12500 [1, 0] (outR m d) transposes_S12500x64_S64x12500_1_0
      ∧ ∀ b ∈ argRefs,
          r.2.mem ((SparseCore.T d).loc b) = m ((SparseCore.T d).loc b) := by
  obtain ⟨h, -⟩ := h
  obtain ⟨h0, h1, h2, h3⟩ := h d
  refine ⟨(h0 (dr main_v3) (by decide)).trans (V6_out m d), fun b hb => ?_⟩
  have key : ∀ b ∈ argRefs,
      b = main_arg2 ∨ b = main_arg7 ∨ b = main_arg9 ∨
        (dr b ∈ endBufs ∧ dr b ∉ ({dr main_v3} : Finset (DevRef τ sig)) ∧ dr b ≠ dr main_v2 ∧ dr b ∉ ({dr main_v0, dr main_c, dr main_call0_v0, dr main_v1} : Finset (DevRef τ sig))) := by
    decide
  rcases key b hb with rfl | rfl | rfl | ⟨k0, k1, k2, k3⟩
  · exact h1
  · exact h2
  · exact h3
  · exact (h0 _ k0).trans (V6_kept m d _ k1 k2 k3)

end Kept

theorem ok_of_wired {F : FTy → Type} [FloatOps F] (m : (ℓ : Loc nD τ sig) → Buf (Elt F) ℓ) [Cert.Pre_connectivity.Facts]
    (h : ∀ c : Dev nD, (Cert.Pre_connectivity.fn (F := F) (m ((SparseCore.T c).loc main_arg0)) (m ((SparseCore.T c).loc main_arg1)) (m ((SparseCore.T c).loc main_arg2)) (m ((SparseCore.T c).loc main_arg3))
      (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9))
      (m ((SparseCore.T c).loc main_arg10)) (m ((SparseCore.T c).loc main_arg11)) (m ((SparseCore.T c).loc main_arg12))) = fun _ => 1#1) : PreOK m :=
  fun d j => (wired_of_pre (h d)).in1 j

theorem ok_of_range {F : FTy → Type} [FloatOps F] (m : (ℓ : Loc nD τ sig) → Buf (Elt F) ℓ) [Cert.Pre_in_range.Facts]
    (h : ∀ c : Dev nD, (Cert.Pre_in_range.fn (F := F) (m ((SparseCore.T c).loc main_arg0)) (m ((SparseCore.T c).loc main_arg1)) (m ((SparseCore.T c).loc main_arg2)) (m ((SparseCore.T c).loc main_arg3))
      (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9))
      (m ((SparseCore.T c).loc main_arg10)) (m ((SparseCore.T c).loc main_arg11)) (m ((SparseCore.T c).loc main_arg12))) = fun _ => 1#1) : PreOK m :=
  fun d j => range_of_pre (h d) j

theorem thirteen {α : Type} {p : α → Prop} {a0 a1 a2 a3 a4 a5 a6 a7 a8 a9 a10 a11 a12 : α}
    (h : ∀ b ∈ [a0, a1, a2, a3, a4, a5, a6, a7, a8, a9, a10, a11, a12], p b) :
    p a0 ∧ p a1 ∧ p a2 ∧ p a3 ∧ p a4 ∧ p a5 ∧ p a6 ∧ p a7 ∧ p a8 ∧ p a9 ∧ p a10 ∧ p a11 ∧ p a12 := by
  simpa using h

instance pre_facts : Cert.Pre_connectivity.Facts := Cert.Pre_connectivity.Gen.facts

theorem frame_ideal : Cert.quiescent_KernelIdeal := fun m ρ hpre =>
  (θ_run Cert.KernelIdeal.defs _ _).mono (fun r h => ⟨fun c => thirteen (p := fun b => r.2.mem ((SparseCore.T c).loc b) = m ((SparseCore.T c).loc b)) (args_of_QC m r h c).2, h.2⟩)
    (run_main (F := Ideal) m ρ (ok_of_range m hpre))

/-- The same under the stronger precondition of the value claim. -/
theorem frame_ideal_pre : Cert.quiescent_KernelIdeal_pre_connectivity := fun m ρ hpre =>
  (θ_run Cert.KernelIdeal.defs _ _).mono (fun r h => ⟨fun c => thirteen (p := fun b => r.2.mem ((SparseCore.T c).loc b) = m ((SparseCore.T c).loc b)) (args_of_QC m r h c).2, h.2⟩)
    (run_main (F := Ideal) m ρ (ok_of_wired m hpre))

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Mlp
end
-- ==== Proof.Same.lean ====
/-
  The kernel read at its bits is the same program as the kernel read at the extended reals: its frame is the same run.
-/
module

public import proofs.«01_k».proof.Proof.Frame

@[expose] public section

set_option maxRecDepth 16384
noncomputable section

namespace Cert.Proof.Mlp

open Idealize.ShloMosaic Idealize.SL.Sem
attribute [local instance] Cert.Kernel.Gen.facts Cert.KernelIdeal.Gen.facts
set_option maxHeartbeats 40000000 in
theorem frame_kernel : Cert.quiescent_Kernel := fun m ρ hpre =>
  (θ_run Cert.Kernel.defs _ _).mono (fun r h => ⟨fun c => thirteen (p := fun b => r.2.mem ((SparseCore.T c).loc b) = m ((SparseCore.T c).loc b)) (args_of_QC (F := Bits) m r h c).2, h.2⟩)
    (run_main (F := Bits) m ρ (ok_of_range m hpre))
end Cert.Proof.Mlp
end
-- ==== Proof.Layer.lean ====
/-
  A sparse layer as the reference writes it, at any extents: gather the columns the edges start at, scale by the weights,
  add up where the edges end, add the bias. When edge `e` ends at `e / k`, an output is the sum of its own `k` edges.
-/
module

public import Idealize.ShloMosaic.Lib.Routing.Ops
public import Idealize.ShloMosaic.Lib.Routing.OpsPair
public import Idealize.ShloMosaic.Lib.ValueLayout
public import Idealize.ShloMosaic.PureOps.Ideal

@[expose] public section

noncomputable section

namespace Cert.Proof.Mlp

open Idealize.ShloMosaic Idealize.ShloMosaic.ValueIdx Idealize.ShloMosaic.Routing

/-- The gather of whole columns. -/
abbrev colDims (B C E : ℕ) (wf : GatherDims.WF (shape2 B C) (shape2 E 1) (shape2 B E) [0] [1] [] [1] [] 1 ![B, 1]) :
    GatherDims (shape2 B C) (shape2 E 1) (shape2 B E) where
  offsetDims := [0]
  collapsedSliceDims := [1]
  operandBatchingDims := []
  startIndicesBatchingDims := []
  startIndexMap := [1]
  indexVectorDim := 1
  sliceSizes := ![B, 1]
  wf := wf

theorem gather_col {α : Type} {B C E w : ℕ} (wf : GatherDims.WF (shape2 B C) (shape2 E 1) (shape2 B E) [0] [1] [] [1] [] 1 ![B, 1])
    (x : (shape2 B C).Idx → α) (idx : IVec (shape2 E 1) w) (b : Fin B) (e : Fin E) (v : Fin C) (h : (idx (ix2 e 0)).toInt = v.val) :
    Host.gather (colDims B C E wf) x idx (ix2 b e) = x (ix2 b v) := by
  unfold Host.gather
  refine congrArg x (funext fun a => Fin.ext ?_)
  show (colDims B C E wf).start (ix2 b e) idx a + (colDims B C E wf).batchCoord (ix2 b e) a + (colDims B C E wf).offCoord (ix2 b e) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (fun q => absurd (show (0 : Fin 2) ∈ ([1] : List (Fin 2)) from q) (by decide)),
      dif_pos (show (0 : Fin 2) ∈ (colDims B C E wf).sKept from (List.mem_singleton.mpr rfl : (0 : Fin 2) ∈ ([0] : List (Fin 2))))]
    exact (Nat.zero_add _).trans rfl
  · rw [GatherDims.offCoord_eq_zero _ _ _ (fun q => ((GatherDims.mem_sKept _ _).mp q).1 (List.mem_singleton.mpr rfl))]
    unfold GatherDims.start
    rw [dif_pos (show (1 : Fin 2) ∈ (colDims B C E wf).startIndexMap from List.mem_singleton.mpr rfl)]
    have hsi : (colDims B C E wf).siIdx (ix2 b e) ⟨List.idxOf (1 : Fin 2) (colDims B C E wf).startIndexMap,
        List.idxOf_lt_length_iff.2 (List.mem_singleton.mpr rfl)⟩ = ix2 e 0 := by
      funext c
      refine Fin.ext ?_
      match c with
      | ⟨0, _⟩ => rfl
      | ⟨1, _⟩ => rfl
    have hv := v.isLt
    show min (idx _).toInt.toNat (C - 1) + 0 + 0 = v.val
    erw [hsi]
    rw [h]
    show min v.val (C - 1) = v.val
    omega

/-- The scatter of whole rows. -/
abbrev rowDims (N E B : ℕ) (wf : ScatterDims.WF (shape2 N B) (shape2 E 1) (shape2 E B) [1] [0] [0] 1) :
    ScatterDims (shape2 N B) (shape2 E 1) (shape2 E B) where
  updateWindowDims := [1]
  insertedWindowDims := [0]
  scatterDimsToOperandDims := [0]
  indexVectorDim := 1
  wf := wf

theorem row_lands {N E B w : ℕ} (wf : ScatterDims.WF (shape2 N B) (shape2 E 1) (shape2 E B) [1] [0] [0] 1) (idx : IVec (shape2 E 1) w)
    (e : Fin E) (b b' : Fin B) (f : Fin N) :
    (rowDims N E B wf).resultIdx? (ix2 e b) idx = some (ix2 f b') ↔ (idx (ix2 e 0)).toInt = f.val ∧ b = b' := by
  have hs0 : (rowDims N E B wf).start (ix2 e b) idx 0 = (idx (ix2 e 0)).toInt := by
    unfold ScatterDims.start
    rw [dif_pos (show (0 : Fin 2) ∈ (rowDims N E B wf).scatterDimsToOperandDims from List.mem_singleton.mpr rfl)]
    have hsi : (rowDims N E B wf).siIdx (ix2 e b) ⟨List.idxOf (0 : Fin 2) (rowDims N E B wf).scatterDimsToOperandDims,
        List.idxOf_lt_length_iff.2 (List.mem_singleton.mpr rfl)⟩ = ix2 e 0 := by
      funext c
      refine Fin.ext ?_
      match c with
      | ⟨0, _⟩ => rfl
      | ⟨1, _⟩ => rfl
    exact congrArg (fun q => (idx q).toInt) hsi
  have hs1 : (rowDims N E B wf).start (ix2 e b) idx 1 = 0 := by
    unfold ScatterDims.start
    exact dif_neg fun q => absurd (show (1 : Fin 2) ∈ ([0] : List (Fin 2)) from q) (by decide)
  have hw0 : (rowDims N E B wf).window (ix2 e b) 0 = 0 := by
    unfold ScatterDims.window
    exact dif_neg fun q => absurd (show (0 : Fin 2) ∈ ([1] : List (Fin 2)) from q) (by decide)
  have hw1 : (rowDims N E B wf).window (ix2 e b) 1 = b.val := by
    unfold ScatterDims.window
    rw [dif_pos (show (1 : Fin 2) ∈ (rowDims N E B wf).sKept from (List.mem_singleton.mpr rfl : (1 : Fin 2) ∈ ([1] : List (Fin 2))))]
    rfl
  have hf := f.isLt
  have hb := b.isLt
  unfold ScatterDims.resultIdx?
  constructor
  · intro h
    split at h
    · rename_i hr
      have h0 := congrArg Fin.val (congrFun (Option.some.inj h) 0)
      have h1 := congrArg Fin.val (congrFun (Option.some.inj h) 1)
      have r0 := (hr 0).1
      simp only [hs0, hw0, hs1, hw1] at h0 h1 r0
      refine ⟨?_, Fin.ext ?_⟩
      · change ((idx (ix2 e 0)).toInt + 0).toNat = f.val at h0
        omega
      · change ((0 : ℤ) + b.val).toNat = b'.val at h1
        omega
    · exact absurd h (by simp)
  · rintro ⟨h, rfl⟩
    rw [dif_pos]
    · refine congrArg some (funext fun a => Fin.ext ?_)
      match a with
      | ⟨0, _⟩ =>
        show ((rowDims N E B wf).start (ix2 e b) idx 0 + (rowDims N E B wf).window (ix2 e b) 0).toNat = f.val
        rw [hs0, hw0, h]
        omega
      | ⟨1, _⟩ =>
        show ((rowDims N E B wf).start (ix2 e b) idx 1 + (rowDims N E B wf).window (ix2 e b) 1).toNat = b.val
        rw [hs1, hw1]
        omega
    · intro a
      match a with
      | ⟨0, _⟩ =>
        show 0 ≤ (rowDims N E B wf).start (ix2 e b) idx 0 + (rowDims N E B wf).window (ix2 e b) 0
          ∧ (rowDims N E B wf).start (ix2 e b) idx 0 + (rowDims N E B wf).window (ix2 e b) 0 < (N : ℤ)
        rw [hs0, hw0, h]
        omega
      | ⟨1, _⟩ =>
        show 0 ≤ (rowDims N E B wf).start (ix2 e b) idx 1 + (rowDims N E B wf).window (ix2 e b) 1
          ∧ (rowDims N E B wf).start (ix2 e b) idx 1 + (rowDims N E B wf).window (ix2 e b) 1 < (B : ℤ)
        rw [hs1, hw1]
        omega

theorem edge_lt {N E k f t : ℕ} (hE : E = N * k) (hf : f < N) (ht : t < k) : f * k + t < E := by
  subst hE
  calc f * k + t < f * k + k := by omega
    _ = (f + 1) * k := (Nat.succ_mul f k).symm
    _ ≤ N * k := Nat.mul_le_mul_right k hf

/-- The sum over the edges that end at `f` is the sum over its own `k` edges. -/
theorem sum_rows {M : Type} [AddCommMonoid M] {N E B k w : ℕ} (hk : 0 < k) (hE : E = N * k)
    (wf : ScatterDims.WF (shape2 N B) (shape2 E 1) (shape2 E B) [1] [0] [0] 1) (idx : IVec (shape2 E 1) w)
    (hidx : ∀ e : Fin E, (idx (ix2 e 0)).toInt = (e.val / k : ℕ)) (upd : (shape2 E B).Idx → M) (f : Fin N) (b : Fin B) :
    ∑ j ∈ Finset.univ.filter (fun j => (rowDims N E B wf).resultIdx? j idx = some (ix2 f b)), upd j
      = ∑ t : Fin k, upd (ix2 ⟨f.val * k + t.val, edge_lt hE f.isLt t.isLt⟩ b) := by
  have hq : ∀ t : Fin k, (f.val * k + t.val) / k = f.val := fun t => by
    rw [Nat.mul_comm, Nat.mul_add_div hk, Nat.div_eq_of_lt t.isLt, Nat.add_zero]
  symm
  refine Finset.sum_bij (fun t _ => ix2 ⟨f.val * k + t.val, edge_lt hE f.isLt t.isLt⟩ b) ?_ ?_ ?_ ?_
  · intro t _
    rw [Finset.mem_filter]
    refine ⟨Finset.mem_univ _, (row_lands wf idx _ _ _ _).2 ⟨?_, rfl⟩⟩
    rw [hidx]
    exact congrArg Nat.cast (hq t)
  · intro t _ t' _ h
    have h0 : f.val * k + t.val = f.val * k + t'.val := congrArg (fun j : (shape2 E B).Idx => (j 0).val) h
    exact Fin.ext (by omega)
  · intro j hj
    obtain ⟨_, hj⟩ := Finset.mem_filter.1 hj
    obtain ⟨e, b', rfl⟩ : ∃ (e : Fin E) (b' : Fin B), j = ix2 e b' := ⟨j 0, j 1, by
      funext a
      match a with
      | ⟨0, _⟩ => rfl
      | ⟨1, _⟩ => rfl⟩
    obtain ⟨h, rfl⟩ := (row_lands wf idx _ _ _ _).1 hj
    rw [hidx] at h
    have h : e.val / k = f.val := by exact_mod_cast h
    refine ⟨⟨e.val % k, Nat.mod_lt _ hk⟩, Finset.mem_univ _, ?_⟩
    refine congrArg (fun q => ix2 q b') (Fin.ext ?_)
    show f.val * k + e.val % k = e.val
    rw [← h, Nat.mul_comm]
    exact Nat.div_add_mod _ _
  · intro _ _
    rfl

section Layer
variable {F : FTy → Type} [FloatOps F] {B C E N : ℕ}

/-- What the shapes of a layer must satisfy for its operations. -/
structure LayerOK (B C E N : ℕ) : Prop where
  gat : GatherDims.WF (shape2 B C) (shape2 E 1) (shape2 B E) [0] [1] [] [1] [] 1 ![B, 1]
  sca : ScatterDims.WF (shape2 N B) (shape2 E 1) (shape2 E B) [1] [0] [0] 1
  z : shape0.BroadcastsInDim (shape2 N B) (![] : Fin 0 → Fin (shape2 N B).rank)
  c : shape0.BroadcastsInDim (shape1 E) (![] : Fin 0 → Fin (shape1 E).rank)
  e1 : (shape1 E).BroadcastsInDim (shape2 E 1) (![0] : Fin 1 → Fin (shape2 E 1).rank)
  w1 : (shape1 E).BroadcastsInDim (shape2 1 E) (![1] : Fin 1 → Fin (shape2 1 E).rank)
  w2 : (shape2 1 E).BroadcastsInDim (shape2 B E) (![0, 1] : Fin 2 → Fin (shape2 B E).rank)
  b1 : (shape1 N).BroadcastsInDim (shape2 1 N) (![1] : Fin 1 → Fin (shape2 1 N).rank)
  b2 : (shape2 1 N).BroadcastsInDim (shape2 B N) (![0, 1] : Fin 2 → Fin (shape2 B N).rank)
  tE : (shape2 B E).Transposes [1, 0] (shape2 E B)
  tN : (shape2 N B).Transposes [1, 0] (shape2 B N)

/-- A sparse layer. -/
def layer (ok : LayerOK B C E N) (n : BitVec 32) (x : (shape2 B C).Idx → F .f32) (eo ei : (shape1 E).Idx → BitVec 32)
    (w : (shape1 E).Idx → F .f32) (b : (shape1 N).Idx → F .f32) : (shape2 B N).Idx → F .f32 :=
  addf (transpose (shape2 B N) [1, 0]
      (Host.scatterAdd (rowDims N E B ok.sca) (broadcastInDim (shape2 N B) ![] ok.z (constant shape0 .f32 0x00000000#32)) (broadcastInDim (shape2 E 1) ![0] ok.e1 eo)
        (transpose (shape2 E B) [1, 0]
          (mulf (Host.gather (colDims B C E ok.gat) x (broadcastInDim (shape2 E 1) ![0] ok.e1
              (select (cmpi .slt ei (broadcastInDim (shape1 E) ![] ok.c (constantI shape0 32 0#32)))
                (addi ei (broadcastInDim (shape1 E) ![] ok.c (constantI shape0 32 n))) ei)))
            (broadcastInDim (shape2 B E) ![0, 1] ok.w2 (broadcastInDim (shape2 1 E) ![1] ok.w1 w))) ok.tE)) ok.tN)
    (broadcastInDim (shape2 B N) ![0, 1] ok.b2 (broadcastInDim (shape2 1 N) ![1] ok.b1 b))

/-- The reference's rectifier. -/
def rect (h : shape0.BroadcastsInDim (shape2 B N) (![] : Fin 0 → Fin (shape2 B N).rank)) (v : (shape2 B N).Idx → F .f32) : (shape2 B N).Idx → F .f32 :=
  select (cmpf .oge v (broadcastInDim (shape2 B N) ![] h (constant shape0 .f32 0x00000000#32))) v
    (mulf (broadcastInDim (shape2 B N) ![] h (constant shape0 .f32 0x3C23D70A#32)) v)

end Layer

/-- A layer at the extended reals: an output is the sum of its `k` scaled inputs. -/
theorem layer_apply {B C E N k : ℕ} (ok : LayerOK B C E N) (n : BitVec 32) (x : (shape2 B C).Idx → Ideal .f32) (eo ei : (shape1 E).Idx → BitVec 32)
    (w : (shape1 E).Idx → Ideal .f32) (b : (shape1 N).Idx → Ideal .f32) (hk : 0 < k) (hE : E = N * k)
    (ho : ∀ e : Fin E, (eo (ix1 e)).toInt = (e.val / k : ℕ)) (col : Fin E → Fin C) (hi : ∀ e, (ei (ix1 e)).toNat = (col e).val)
    (hC : C ≤ 2 ^ 31) (hb : ∀ f, b (ix1 f) = (0 : EReal)) (p : Fin B) (f : Fin N) :
    layer ok n x eo ei w b (ix2 p f)
      = ∑ t : Fin k, (x (ix2 p (col ⟨f.val * k + t.val, edge_lt hE f.isLt t.isLt⟩)) * w (ix1 ⟨f.val * k + t.val, edge_lt hE f.isLt t.isLt⟩) : EReal) := by
  unfold layer
  show (transpose _ _ _ _ (ix2 p f) : EReal) + (broadcastInDim _ _ _ _ (ix2 p f) : EReal) = _
  rw [bcCols ok.b1 ok.b2, hb, add_zero, transpose_ix2_apply]
  show (broadcastInDim _ _ _ _ (ix2 f p) : EReal) + ∑ j ∈ Finset.univ.filter _, (_ : EReal) = _
  rw [bc0]
  show (Ideal.ofBits .f32 0x00000000#32 : EReal) + _ = _
  rw [show (Ideal.ofBits .f32 0x00000000#32 : EReal) = 0 by simp [Ideal.ofBits, Ideal.ieee], zero_add]
  refine (sum_rows hk hE ok.sca _ (fun e => ?_) _ f p).trans (Finset.sum_congr rfl fun t _ => ?_)
  · rw [bcCol]
    exact ho e
  · rw [transpose_ix2_apply]
    show (Host.gather _ _ _ (ix2 p _) : EReal) * (broadcastInDim _ _ _ _ (ix2 p _) : EReal) = _
    rw [bcCols ok.w1 ok.w2]
    refine congrArg (fun q : EReal => q * _) (gather_col ok.gat x _ p _ _ ?_)
    rw [bcCol]
    have hc := (col ⟨f.val * k + t.val, edge_lt hE f.isLt t.isLt⟩).isLt
    have hn := hi ⟨f.val * k + t.val, edge_lt hE f.isLt t.isLt⟩
    show (Scalar.select (IntOp.cmpi .slt (ei (ix1 _)) (broadcastInDim _ _ _ _ (ix1 _))) _ (ei (ix1 _))).toInt = _
    rw [bc0]
    erw [wrap_of_lt _ _ (by rw [hn]; exact lt_of_lt_of_le hc hC)]
    rw [BitVec.toInt_eq_toNat_of_lt (by rw [hn]; have := lt_of_lt_of_le hc hC; omega), hn]

end Cert.Proof.Mlp
end
-- ==== Proof.Words.lean ====
/-
  The words of the connectivity as numbers, and the rectifier at the extended reals.
-/
module

public import proofs.«01_k».proof.Proof.Layer

@[expose] public section

noncomputable section

namespace Cert.Proof.Mlp

open Idealize.ShloMosaic Idealize.ShloMosaic.ValueIdx Idealize.ShloMosaic.Routing

theorem toNat_ofNat_of_lt {n : ℕ} (h : n < 2 ^ 31) : (BitVec.ofNat 32 n).toNat = n := by
  rw [BitVec.toNat_ofNat]
  exact Nat.mod_eq_of_lt (by omega)

theorem msb_ofNat_of_lt {n : ℕ} (h : n < 2 ^ 31) : (BitVec.ofNat 32 n).msb = false := by
  rw [BitVec.msb_eq_false_iff_two_mul_lt, toNat_ofNat_of_lt h]
  omega

theorem no_corner {n k : ℕ} (hn : n < 2 ^ 31) (hk : 0 < k) (h : k < 2 ^ 31) : ¬ IntOp.SDivCorner (BitVec.ofNat 32 n) (BitVec.ofNat 32 k) := by
  have hm := msb_ofNat_of_lt hn
  rintro (e | ⟨e, _⟩)
  · have := congrArg BitVec.toNat e
    rw [toNat_ofNat_of_lt h] at this
    exact absurd this (by simp; omega)
  · rw [e] at hm
    exact absurd hm (by decide)

/-- The quotient of two small numbers. -/
theorem div_word {n k : ℕ} (hn : n < 2 ^ 31) (hk : 0 < k) (h : k < 2 ^ 31) :
    IntOp.divsi .host (BitVec.ofNat 32 n) (BitVec.ofNat 32 k) = BitVec.ofNat 32 (n / k) := by
  unfold IntOp.divsi
  rw [if_neg (no_corner hn hk h), BitVec.sdiv_eq, msb_ofNat_of_lt hn, msb_ofNat_of_lt h]
  refine BitVec.eq_of_toNat_eq ?_
  show (BitVec.udiv _ _).toNat = _
  rw [BitVec.udiv_eq, BitVec.toNat_udiv, toNat_ofNat_of_lt hn, toNat_ofNat_of_lt h,
    toNat_ofNat_of_lt (lt_of_le_of_lt (Nat.div_le_self n k) hn)]

/-- The remainder of two small numbers. -/
theorem rem_word {n k : ℕ} (hn : n < 2 ^ 31) (hk : 0 < k) (h : k < 2 ^ 31) :
    IntOp.remsi .host (BitVec.ofNat 32 n) (BitVec.ofNat 32 k) = BitVec.ofNat 32 (n % k) := by
  unfold IntOp.remsi
  rw [if_neg (no_corner hn hk h), BitVec.srem_eq, msb_ofNat_of_lt hn, msb_ofNat_of_lt h]
  refine BitVec.eq_of_toNat_eq ?_
  show (BitVec.umod _ _).toNat = _
  rw [BitVec.umod_eq, BitVec.toNat_umod, toNat_ofNat_of_lt hn, toNat_ofNat_of_lt h,
    toNat_ofNat_of_lt (lt_of_le_of_lt (Nat.mod_le n k) hn)]

theorem toInt_ofNat_of_lt {n : ℕ} (h : n < 2 ^ 31) : (BitVec.ofNat 32 n).toInt = n := by
  rw [BitVec.toInt_eq_toNat_of_lt (by rw [toNat_ofNat_of_lt h]; omega), toNat_ofNat_of_lt h]

/-- The slope of the rectifier below zero. -/
def slope : EReal := Ideal.ofBits .f32 0x3C23D70A#32

theorem slope_eq : slope = ((10737418 / 1073741824 : ℝ) : EReal) := by
  unfold slope
  simp [Ideal.ofBits, Ideal.ieee, -EReal.coe_mul]
  norm_num

/-- The rectifier. -/
def leak (v : EReal) : EReal := max v (slope * v)

theorem leak_eq (v : EReal) : leak v = if 0 ≤ v then v else slope * v := by
  unfold leak
  rw [slope_eq]
  induction v using EReal.rec with
  | bot => rw [EReal.coe_mul_bot_of_pos (by norm_num), if_neg (by simp), max_self]
  | top => rw [EReal.coe_mul_top_of_pos (by norm_num), if_pos le_top, max_self]
  | coe r =>
    rw [← EReal.coe_mul]
    split
    · rename_i h
      have h : 0 ≤ r := by exact_mod_cast h
      exact max_eq_left (by exact_mod_cast (by nlinarith : (10737418 / 1073741824 : ℝ) * r ≤ r))
    · rename_i h
      have h : r < 0 := by
        rw [not_le] at h
        exact_mod_cast h
      exact max_eq_right (by exact_mod_cast (by nlinarith : r ≤ (10737418 / 1073741824 : ℝ) * r))

theorem bits_zero : (Ideal.ofBits .f32 0x00000000#32 : EReal) = 0 := by simp [Ideal.ofBits, Ideal.ieee]

theorem rect_apply {B N : ℕ} (h : shape0.BroadcastsInDim (shape2 B N) (![] : Fin 0 → Fin (shape2 B N).rank)) (v : (shape2 B N).Idx → Ideal .f32)
    (j : (shape2 B N).Idx) : rect h v j = leak (v j) := by
  rw [leak_eq]
  unfold rect
  show Scalar.select (Ideal.cmp .oge (v j) (broadcastInDim _ _ _ _ j)) (v j) ((broadcastInDim _ _ _ _ j : EReal) * (v j : EReal)) = _
  rw [bc0, bc0]
  show Scalar.select (Ideal.cmp .oge (v j) (Ideal.ofBits .f32 0x00000000#32)) (v j) (slope * v j) = _
  rw [bits_zero]
  unfold Scalar.select Ideal.cmp
  by_cases hv : (0 : EReal) ≤ v j
  · rw [if_pos hv]
    simp [hv]
  · rw [if_neg hv]
    simp [hv]

theorem zero_of_cmp {x : Ideal .f32} (h : FloatOps.cmpf .oeq x (FloatOps.ofBits .f32 0x00000000#32) = 1#1) : (x : EReal) = 0 := by
  change Ideal.cmp .oeq x (Ideal.ofBits .f32 0x00000000#32) = 1#1 at h
  rw [bits_zero] at h
  unfold Ideal.cmp at h
  by_contra hx
  simp [hx] at h

end Cert.Proof.Mlp
end
-- ==== Proof.Ref.lean ====
/-
  The reference's result, entry by entry: three sparse layers with a rectifier after each of the first two.
-/
module

public import proofs.«01_k».proof.Proof.Words
public import proofs.«01_k».proof.Proof.Pre
public import proofs.«01_k».proof.Proof.Gen.ReferenceIdeal.Run

@[expose] public section

set_option maxRecDepth 16384

noncomputable section

namespace Cert.Proof.Mlp

open Idealize.ShloMosaic Idealize.ShloMosaic.ValueIdx Idealize.ShloMosaic.Routing

open Cert.ReferenceIdeal.Gen in
theorem ok1 : LayerOK 64 512 800000 50000 :=
  ⟨gather_S64x512_S800000x1_S64x800000_0_1_n_n_1_1_641_wf, scatter_S50000x64_S800000x1_S800000x64_1_0_0_1_wf, bcast_S_S50000x64, bcast_S_S800000,
    bcast_S800000_S800000x1_0, bcast_S800000_S1x800000_1, bcast_S1x800000_S64x800000_0_1, bcast_S50000_S1x50000_1, bcast_S1x50000_S64x50000_0_1,
    transposes_S64x800000_S800000x64_1_0, transposes_S50000x64_S64x50000_1_0⟩

open Cert.ReferenceIdeal.Gen in
theorem ok2 : LayerOK 64 50000 200000 50000 :=
  ⟨gather_S64x50000_S200000x1_S64x200000_0_1_n_n_1_1_641_wf, scatter_S50000x64_S200000x1_S200000x64_1_0_0_1_wf, bcast_S_S50000x64, bcast_S_S200000,
    bcast_S200000_S200000x1_0, bcast_S200000_S1x200000_1, bcast_S1x200000_S64x200000_0_1, bcast_S50000_S1x50000_1, bcast_S1x50000_S64x50000_0_1,
    transposes_S64x200000_S200000x64_1_0, transposes_S50000x64_S64x50000_1_0⟩

open Cert.ReferenceIdeal.Gen in
theorem ok3 : LayerOK 64 50000 50000 12500 :=
  ⟨gather_S64x50000_S50000x1_S64x50000_0_1_n_n_1_1_641_wf, scatter_S12500x64_S50000x1_S50000x64_1_0_0_1_wf, bcast_S_S12500x64, bcast_S_S50000,
    bcast_S50000_S50000x1_0, bcast_S50000_S1x50000_1, bcast_S1x50000_S64x50000_0_1, bcast_S12500_S1x12500_1, bcast_S1x12500_S64x12500_0_1,
    transposes_S64x50000_S50000x64_1_0, transposes_S12500x64_S64x12500_1_0⟩

section Net
variable {F : FTy → Type} [FloatOps F]
variable (x : (shape2 64 512).Idx → F .f32) (e1o e1i : (shape1 800000).Idx → BitVec 32) (e2o e2i : (shape1 200000).Idx → BitVec 32)
  (e3o e3i : (shape1 50000).Idx → BitVec 32) (w1 : (shape1 800000).Idx → F .f32) (b1 : (shape1 50000).Idx → F .f32)
  (w2 : (shape1 200000).Idx → F .f32) (b2 : (shape1 50000).Idx → F .f32) (w3 : (shape1 50000).Idx → F .f32) (b3 : (shape1 12500).Idx → F .f32)

/-- The first hidden features. -/
def net1 : (shape2 64 50000).Idx → F .f32 := rect Cert.ReferenceIdeal.Gen.bcast_S_S64x50000 (layer ok1 512#32 x e1o e1i w1 b1)
/-- The second hidden features. -/
def net2 : (shape2 64 50000).Idx → F .f32 :=
  rect Cert.ReferenceIdeal.Gen.bcast_S_S64x50000 (layer ok2 50000#32 (net1 x e1o e1i w1 b1) e2o e2i w2 b2)
/-- The network. -/
def net : (shape2 64 12500).Idx → F .f32 := layer ok3 50000#32 (net2 x e1o e1i e2o e2i w1 b1 w2 b2) e3o e3i w3 b3

end Net

section Run
open Cert.ReferenceIdeal Cert.ReferenceIdeal.Gen
variable {F : FTy → Type} [FloatOps F]

set_option maxHeartbeats 4000000 in
theorem res_eq (m : (ℓ : Loc nD τ sig) → Buf (Elt F) ℓ) (c : Dev nD) :
    Value.res_main_v63 m c = (net (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) : (shape2 64 12500).Idx → F .f32) := by
  unfold Value.res_main_v63 net net2 net1 rect layer
  rfl

end Run

section Sums
variable {x : (shape2 64 512).Idx → Ideal .f32} {e1o e1i : (shape1 800000).Idx → BitVec 32} {e2o e2i : (shape1 200000).Idx → BitVec 32}
  {e3o e3i : (shape1 50000).Idx → BitVec 32} {w1 : (shape1 800000).Idx → Ideal .f32} {b1 : (shape1 50000).Idx → Ideal .f32}
  {w2 : (shape1 200000).Idx → Ideal .f32} {b2 : (shape1 50000).Idx → Ideal .f32} {w3 : (shape1 50000).Idx → Ideal .f32} {b3 : (shape1 12500).Idx → Ideal .f32}

theorem out_word {E k : ℕ} (hE : E < 2 ^ 31) (hk : 0 < k) (h : k < 2 ^ 31) (e : Fin E) :
    (IntOp.divsi .host (BitVec.ofNat 32 e.val) (BitVec.ofNat 32 k)).toInt = (e.val / k : ℕ) := by
  have he := e.isLt
  rw [div_word (by omega) hk h, toInt_ofNat_of_lt (lt_of_le_of_lt (Nat.div_le_self _ _) (by omega))]

theorem in2_word (e : Fin 200000) : (IntOp.addi (IntOp.muli (IntOp.divsi .host (BitVec.ofNat 32 e.val) 16#32) 4#32)
    (IntOp.remsi .host (BitVec.ofNat 32 e.val) 4#32)).toNat = e.val / 16 * 4 + e.val % 4 := by
  have he := e.isLt
  rw [show (16#32 : BitVec 32) = BitVec.ofNat 32 16 from rfl, show (4#32 : BitVec 32) = BitVec.ofNat 32 4 from rfl,
    div_word (by omega) (by norm_num) (by norm_num), rem_word (by omega) (by norm_num) (by norm_num)]
  show (BitVec.ofNat 32 _ * BitVec.ofNat 32 4 + BitVec.ofNat 32 _ : BitVec 32).toNat = _
  rw [← BitVec.ofNat_mul, ← BitVec.ofNat_add]
  exact toNat_ofNat_of_lt (by omega)

theorem net1_apply (h : Wired (F := Ideal) e1o e1i e2o e2i e3o e3i b1 b2 b3) (p : Fin 64) (f : Fin 50000) :
    net1 x e1o e1i w1 b1 (ix2 p f) = leak (∑ t : Fin 16, (x (ix2 p ⟨(e1i (ix1 ⟨f.val * 16 + t.val, edge_lt rfl f.isLt t.isLt⟩)).toNat, h.in1 _⟩)
      * w1 (ix1 ⟨f.val * 16 + t.val, edge_lt rfl f.isLt t.isLt⟩) : EReal)) := by
  unfold net1
  rw [rect_apply]
  refine congrArg leak (layer_apply ok1 _ x e1o e1i w1 b1 (by norm_num) rfl (fun e => ?_) (fun e => ⟨(e1i (ix1 e)).toNat, h.in1 _⟩) (fun e => rfl)
    (by norm_num) (fun q => zero_of_cmp (h.bias1 _)) p f)
  rw [h.out1]
  exact out_word (by norm_num) (by norm_num) (by norm_num) e

theorem net2_apply (h : Wired (F := Ideal) e1o e1i e2o e2i e3o e3i b1 b2 b3) (p : Fin 64) (f : Fin 50000) :
    net2 x e1o e1i e2o e2i w1 b1 w2 b2 (ix2 p f) = leak (∑ t : Fin 4, (net1 x e1o e1i w1 b1
        (ix2 p ⟨(f.val * 4 + t.val) / 16 * 4 + (f.val * 4 + t.val) % 4, by have := f.isLt; have := t.isLt; omega⟩)
      * w2 (ix1 ⟨f.val * 4 + t.val, edge_lt rfl f.isLt t.isLt⟩) : EReal)) := by
  unfold net2
  rw [rect_apply]
  refine congrArg leak (layer_apply ok2 _ _ e2o e2i w2 b2 (by norm_num) rfl (fun e => ?_)
    (fun e => ⟨e.val / 16 * 4 + e.val % 4, by have := e.isLt; omega⟩) (fun e => ?_) (by norm_num) (fun q => zero_of_cmp (h.bias2 _)) p f)
  · rw [h.out2]
    exact out_word (by norm_num) (by norm_num) (by norm_num) e
  · rw [h.in2]
    exact in2_word e

theorem net_apply (h : Wired (F := Ideal) e1o e1i e2o e2i e3o e3i b1 b2 b3) (p : Fin 64) (f : Fin 12500) :
    net x e1o e1i e2o e2i e3o e3i w1 b1 w2 b2 w3 b3 (ix2 p f) = ∑ t : Fin 4, (net2 x e1o e1i e2o e2i w1 b1 w2 b2
        (ix2 p ⟨f.val * 4 + t.val, edge_lt rfl f.isLt t.isLt⟩) * w3 (ix1 ⟨f.val * 4 + t.val, edge_lt rfl f.isLt t.isLt⟩) : EReal) := by
  unfold net
  refine layer_apply ok3 _ _ e3o e3i w3 b3 (by norm_num) rfl (fun e => ?_) id (fun e => ?_) (by norm_num) (fun q => zero_of_cmp (h.bias3 _)) p f
  · rw [h.out3]
    exact out_word (by norm_num) (by norm_num) (by norm_num) e
  · have he := e.isLt
    rw [h.in3]
    exact toNat_ofNat_of_lt (by show e.val < _; omega)

end Sums

end Cert.Proof.Mlp
end
-- ==== Proof.Value.lean ====
/-
  The kernel's result, entry by entry, at the extended reals, and that it is the reference's.
-/
module

public import proofs.«01_k».proof.Proof.Ref
public import proofs.«01_k».proof.Proof.Values
public import proofs.«01_k».proof.Proof.Launch

@[expose] public section

set_option maxRecDepth 16384

noncomputable section

namespace Cert.Proof.Mlp

open Cert.KernelIdeal Cert.KernelIdeal.Gen
open Idealize.ShloMosaic Idealize.ShloMosaic.ValueIdx Idealize.ShloMosaic.Routing

theorem leaky_apply (x : FVec Ideal S16 .f32) (j : S16.Idx) : leaky x j = leak (x j) := rfl

theorem scaled_apply (w : Ideal .f32) (x : FVec Ideal S16 .f32) (j : S16.Idx) : (scaled w x j : EReal) = (x j : EReal) * (w : EReal) :=
  mul_comm (w : EReal) (x j : EReal)

theorem acc2_apply (w : FVec Ideal S16 .f32) (h : Fin 4 → FVec Ideal S16 .f32) (o : Fin 4) (j : S16.Idx) :
    (acc2 w h o j : EReal) = ∑ t : Fin 4, ((h t j : EReal) * (lane w ⟨4 * o.val + t.val, by omega⟩ : EReal)) := by
  show (((scaled _ (h 0) j : EReal) + (scaled _ (h 1) j : EReal)) + (scaled _ (h 2) j : EReal)) + (scaled _ (h 3) j : EReal) = _
  rw [Fin.sum_univ_four]
  simp only [scaled_apply]
  rfl

theorem acc3_apply (w2 w3 : FVec Ideal S16 .f32) (h : Fin 4 → FVec Ideal S16 .f32) (j : S16.Idx) :
    (acc3 w2 w3 h j : EReal) = ∑ t : Fin 4, (leak (acc2 w2 h t j) * (lane w3 ⟨t.val, by omega⟩ : EReal)) := by
  show (((scaled _ (leaky (acc2 w2 h 0)) j : EReal) + (scaled _ (leaky (acc2 w2 h 1)) j : EReal)) + (scaled _ (leaky (acc2 w2 h 2)) j : EReal))
    + (scaled _ (leaky (acc2 w2 h 3)) j : EReal) = _
  rw [Fin.sum_univ_four]
  simp only [scaled_apply, leaky_apply]
  rfl

theorem sum_halves {M : Type} [AddCommMonoid M] (g : Fin 16 → M) :
    (((((((g 0 + g 2) + g 4) + g 6) + g 8) + g 10) + g 12) + g 14) + (((((((g 1 + g 3) + g 5) + g 7) + g 9) + g 11) + g 13) + g 15) = ∑ t, g t := by
  have e : ∑ t, g t = ((((((((((((((g 0 + g 1) + g 2) + g 3) + g 4) + g 5) + g 6) + g 7) + g 8) + g 9) + g 10) + g 11) + g 12) + g 13) + g 14) + g 15 := by
    simp only [Fin.sum_univ_castSucc, Fin.sum_univ_zero, zero_add]
    rfl
  rw [e]
  abel

theorem featV_apply (X : S512x64.Idx → Ideal .f32) (iv : IVec S16 32) (wv : FVec Ideal S16 .f32) (q : Fin 4) (j : S16.Idx) :
    (featV X iv wv q j : EReal)
      = leak (∑ t : Fin 16, ((rowX X (lane iv t).toNat (16 * q.val) j : EReal) * (lane wv t : EReal))) := by
  have e : ∀ k, (termV X iv wv k q j : EReal) = (rowX X (lane iv k).toNat (16 * q.val) j : EReal) * (lane wv k : EReal) := fun k => scaled_apply _ _ _
  rw [← Finset.sum_congr rfl fun t _ => e t, ← sum_halves]
  rfl

/-- The position of a vector. -/
theorem ix_one {n p : ℕ} (hp : ∀ a, 0 < (⟨1, ![n]⟩ : Shape).size a) (h : p < n) : ix hp ![p] = ix1 ⟨p, h⟩ :=
  ix_eq hp _ _ fun a => by
    match a with
    | ⟨0, _⟩ => rfl

theorem ix_two {p q : ℕ} (hp : p < 512) (hq : q < 64) : ix posX ![p, q] = ix2 ⟨p, hp⟩ ⟨q, hq⟩ :=
  ix_eq posX _ _ fun a => by
    match a with
    | ⟨0, _⟩ => rfl
    | ⟨1, _⟩ => rfl

section Eq
variable {x : (shape2 64 512).Idx → Ideal .f32} {e1o e1i : (shape1 800000).Idx → BitVec 32} {e2o e2i : (shape1 200000).Idx → BitVec 32}
  {e3o e3i : (shape1 50000).Idx → BitVec 32} {w1 : (shape1 800000).Idx → Ideal .f32} {b1 : (shape1 50000).Idx → Ideal .f32}
  {w2 : (shape1 200000).Idx → Ideal .f32} {b2 : (shape1 50000).Idx → Ideal .f32} {w3 : (shape1 50000).Idx → Ideal .f32} {b3 : (shape1 12500).Idx → Ideal .f32}
variable {X : S512x64.Idx → Ideal .f32} {W3 : S50016.Idx → Ideal .f32}

/-- A hidden feature, as the kernel and as the reference compute it. -/
theorem feat_eq (h : Wired (F := Ideal) e1o e1i e2o e2i e3o e3i b1 b2 b3) (hX : ∀ v p, X (ix2 v p) = x (ix2 p v)) (p : Fin 64) (f : Fin 50000) (o : ℕ)
    (ho : o = 16 * f.val) :
    featV X (ld1 posE e1i o) (ld1 posE w1 o) (Fin.ofNat 4 (p.val / 16)) (ix posL ![p.val % 16]) = net1 x e1o e1i w1 b1 (ix2 p f) := by
  subst ho
  have hp := p.isLt
  have hf := f.isLt
  rw [net1_apply h]
  refine (featV_apply _ _ _ _ _).trans (congrArg leak (Finset.sum_congr rfl fun t _ => ?_))
  have ht := t.isLt
  rw [lane_ld1, lane_ld1, ix_one posE (by omega : 16 * f.val + t.val < 800000)]
  have ee : (⟨16 * f.val + t.val, by omega⟩ : Fin 800000) = ⟨f.val * 16 + t.val, edge_lt rfl f.isLt t.isLt⟩ := Fin.ext (by show 16 * f.val + t.val = f.val * 16 + t.val; omega)
  rw [ee]
  refine congrArg (fun q : EReal => q * _) ?_
  unfold rowX
  have hv := h.in1 (ix1 ⟨f.val * 16 + t.val, edge_lt rfl f.isLt t.isLt⟩)
  have hc : 16 * (Fin.ofNat 4 (p.val / 16)).val + ((ix posL ![p.val % 16]) 0).val = p.val := by
    show 16 * (p.val / 16 % 4) + p.val % 16 % 16 = p.val
    omega
  rw [hc, ix_two hv hp]
  exact hX _ _

/-- An entry of the output, as the kernel and as the reference compute it. -/
theorem resF_eq (h : Wired (F := Ideal) e1o e1i e2o e2i e3o e3i b1 b2 b3) (hX : ∀ v p, X (ix2 v p) = x (ix2 p v))
    (hW : ∀ (n : ℕ) (hn : n < 50000), W3 (ix posP ![4 + n]) = w3 (ix1 ⟨n, hn⟩)) (p : Fin 64) (g : Fin 12500) :
    resF X e1i w1 w2 W3 (ix2 g p) = net x e1o e1i e2o e2i e3o e3i w1 b1 w2 b2 w3 b3 (ix2 p g) := by
  have hp := p.isLt
  have hg := g.isLt
  rw [net_apply h]
  unfold resF resV
  refine (acc3_apply _ _ _ _).trans (Finset.sum_congr rfl fun i _ => ?_)
  have hi := i.isLt
  rw [net2_apply h, acc2_apply, lane_ld1]
  have e3 : W3 (ix posP ![4 * (g.val + 1) + i.val]) = w3 (ix1 ⟨g.val * 4 + i.val, edge_lt rfl g.isLt i.isLt⟩) := by
    rw [show 4 * (g.val + 1) + i.val = 4 + (g.val * 4 + i.val) by omega]
    exact hW _ _
  refine congrArg₂ (fun a b : EReal => a * b) (congrArg leak (Finset.sum_congr rfl fun t _ => ?_)) e3
  have ht := t.isLt
  rw [lane_ld1]
  refine congrArg₂ (fun a b : EReal => a * b) (feat_eq h hX p _ _ ?_) ?_
  · show 64 * g.val + 16 * t.val = 16 * (((g.val * 4 + i.val) * 4 + t.val) / 16 * 4 + ((g.val * 4 + i.val) * 4 + t.val) % 4)
    omega
  · rw [ix_one posM (by show 16 * g.val + (4 * i.val + t.val) < 200000; omega)]
    exact congrArg (fun q => w2 (ix1 q)) (Fin.ext (by show 16 * g.val + (4 * i.val + t.val) = (g.val * 4 + i.val) * 4 + t.val; omega))

end Eq

end Cert.Proof.Mlp
end
-- ==== Proof.Equal.lean ====
/-
  The kernel and the reference end with the same array.
-/
module

public import proofs.«01_k».proof.Proof.Value
public import proofs.«01_k».proof.Proof.Frame

@[expose] public section

set_option maxRecDepth 16384

noncomputable section

namespace Cert.Proof.Mlp

open Cert.KernelIdeal Cert.KernelIdeal.Gen
open Idealize.ShloMosaic Idealize.ShloMosaic.ValueIdx Idealize.ShloMosaic.Routing Idealize.SL.Sem

section Result
variable (m : (ℓ : Loc nD τ sig) → Buf (Elt Ideal) ℓ)

theorem inX_apply (d : Dev nD) (v : Fin 512) (p : Fin 64) : inX m d (ix2 v p) = (m ((SparseCore.T d).loc main_arg0) : S64x512.Idx → Ideal .f32) (ix2 p v) :=
  transpose_ix2_apply _ _ v p

theorem inW3_apply (d : Dev nD) (n : ℕ) (hn : n < 50000) :
    inW3 m d (ix posP ![4 + n]) = (m ((SparseCore.T d).loc main_arg11) : S50000.Idx → Ideal .f32) (ix1 ⟨n, hn⟩) := by
  rw [ix_one posP (by omega : 4 + n < 50016)]
  unfold inW3
  refine (pad1 _ _ _ _ _).trans ?_
  rw [dif_pos (by show 4 ≤ 4 + n ∧ 4 + n - 4 < 50000; omega)]
  exact congrArg (fun q => (m ((SparseCore.T d).loc main_arg11) : S50000.Idx → Ideal .f32) (ix1 q)) (Fin.ext (by show 4 + n - 4 = n; omega))

/-- The kernel's result is the reference's network of its arguments. -/
theorem out_eq (hpre : Cert.Pre_KernelIdeal_connectivity m) (d : Dev nD) :
    transpose S64x12500 [1, 0] (outR m d) transposes_S12500x64_S64x12500_1_0
      = net (m ((SparseCore.T d).loc main_arg0)) (m ((SparseCore.T d).loc main_arg1)) (m ((SparseCore.T d).loc main_arg2))
      (m ((SparseCore.T d).loc main_arg3)) (m ((SparseCore.T d).loc main_arg4)) (m ((SparseCore.T d).loc main_arg5))
      (m ((SparseCore.T d).loc main_arg6)) (m ((SparseCore.T d).loc main_arg7)) (m ((SparseCore.T d).loc main_arg8))
      (m ((SparseCore.T d).loc main_arg9)) (m ((SparseCore.T d).loc main_arg10)) (m ((SparseCore.T d).loc main_arg11))
      (m ((SparseCore.T d).loc main_arg12)) := by
  funext j
  obtain ⟨p, g, rfl⟩ : ∃ (p : Fin 64) (g : Fin 12500), j = ix2 p g := ⟨j 0, j 1, by
    funext a
    match a with
    | ⟨0, _⟩ => rfl
    | ⟨1, _⟩ => rfl⟩
  refine (transpose_ix2_apply _ _ p g).trans ?_
  exact resF_eq (wired_of_pre (hpre d)) (inX_apply m d) (inW3_apply m d) p g

end Result

theorem same_value : Cert.algebraic_KernelIdeal_ReferenceIdeal_pre_connectivity (hReferenceIdeal := Cert.ReferenceIdeal.Gen.facts) := by
  intro m g m' g' hpre hargs
  refine ⟨fun c => transpose S64x12500 [1, 0] (outR m c) transposes_S12500x64_S64x12500_1_0, ?_, ?_⟩
  · exact (θ_run Cert.KernelIdeal.defs _ _).mono
      (fun r h c => ⟨(args_of_QC m r h c).1, thirteen (p := fun b => r.2.mem ((SparseCore.T c).loc b) = m ((SparseCore.T c).loc b)) (args_of_QC m r h c).2⟩)
      (run_main (F := Ideal) m g (ok_of_wired m hpre))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10, h11, h12⟩ := hargs c
    refine (res_eq m' c).trans ?_
    rw [h0, h1, h2, h3, h4, h5, h6, h7, h8, h9, h10, h11, h12]
    exact (out_eq m hpre c).symm

/-- The reference's frame holds under the kernel's precondition as it does without. -/
theorem frame_ref_pre : Cert.quiescent_ReferenceIdeal_pre_connectivity (hReferenceIdeal := Cert.ReferenceIdeal.Gen.facts) :=
  fun m ρ _ => frame_ref m ρ trivial

end Cert.Proof.Mlp
end
-- ==== Proof.lean ====
/-
  The proof of `Cert.Claim`.
-/
module

public import proofs.«01_k».proof.Proof.Same
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Mlp.range_facts, Cert.Pre_connectivity.Gen.facts,
    Mlp.frame_kernel, Mlp.frame_ideal, Mlp.frame_ideal_pre, Mlp.frame_ref, Mlp.frame_ref_pre, trivial, Mlp.same_value⟩

end Cert.Proof
end
